-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v178) = v2 c
          ∧ r.2.mem ((c.tc : Thread Cert.ReferenceIdeal.nD Cert.ReferenceIdeal.τ).loc Cert.ReferenceIdeal.main_v184) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S16384x3072 : Shape := ⟨2, ![16384, 3072]⟩
abbrev S16384x512 : Shape := ⟨2, ![16384, 512]⟩
abbrev S1x512 : Shape := ⟨2, ![1, 512]⟩
abbrev S16384x2048 : Shape := ⟨2, ![16384, 2048]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S1x512 : S_.BroadcastsInDim S1x512 (![] : Fin 0 → Fin S1x512.rank)
  reducesTo_S1x512_S_d0_1 : S1x512.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_arg4 : FVec F S16384x2048 .bf16) (main_v14 : IVec S_ 1) (main_v15 : FVec F S1x512 .f32) (main_v16 : FVec F S1x512 .f32) : IVec S_ 1 :=
  let main_v17 : IVec S1x512 1 := cmpf .olt main_v15 main_v16
  let main_c_5 : IVec S_ 1 := constantI S_ 1 1#1
  let main_v18 : IVec S_ 1 := (fun x v => Host.reduce IntOp.andi x v reducesTo_S1x512_S_d0_1 h_S_) main_v17 main_c_5
  let main_v19 : IVec S_ 1 := andi main_v14 main_v18
  let main_v20 : FVec F S16384x2048 .f32 := (extf .f32 · bitsLt_bf16_f32) main_arg4
  let main_v21 : FVec F S16384x2048 .f32 := Host.absf main_v20
  let main_cst_6 : FVec F S_ .f32 := constant S_ .f32 0x7F800000#32
  let main_v22 : FVec F S16384x2048 .f32 := broadcastInDim S16384x2048 ![] bcast_S_S16384x2048 main_cst_6
  let main_v23 : IVec S16384x2048 1 := cmpf .olt main_v21 main_v22
  let main_c_7 : IVec S_ 1 := constantI S_ 1 1#1
  let main_v24 : IVec S_ 1 := (fun x v => Host.reduce IntOp.andi x v reducesTo_S16384x2048_S_d0_1 h_S_) main_v23 main_c_7
  let main_v25 : IVec S_ 1 := andi main_v19 main_v24
  main_v25

def fn {F : FTy → Type} [FloatOps F] (main_arg0 : FVec F S16384x3072 .bf16) (main_arg1 : FVec F S16384x512 .f32) (main_arg2 : FVec F S1x512 .f32) (main_arg3 : FVec F S1x512 .f32) (main_arg4 : FVec F S16384x2048 .bf16) : IVec S_ 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_c : IVec S_ 1 := constantI S_ 1 1#1
  let main_v4 : IVec S_ 1 := (fun x v => Host.reduce IntOp.andi x v reducesTo_S16384x3072_S_d0_1 h_S_) main_v3 main_c
  let main_v5 : FVec F S16384x512 .f32 := Host.absf main_arg1
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_c_1 : IVec S_ 1 := constantI S_ 1 1#1
  let main_v8 : IVec S_ 1 := (fun x v => Host.reduce IntOp.andi x v reducesTo_S16384x512_S_d0_1 h_S_) main_v7 main_c_1
  let main_v9 : IVec S_ 1 := andi main_v4 main_v8
  let main_v10 : FVec F S1x512 .f32 := Host.absf main_arg2
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  let main_v15 : FVec F S1x512 .f32 := Host.absf main_arg3
  let main_cst_4 : FVec F S_ .f32 := constant S_ .f32 0x7F800000#32
  let main_v16 : FVec F S1x512 .f32 := broadcastInDim S1x512 ![] bcast_S_S1x512 main_cst_4
  fn_part1 (F := F) main_arg4 main_v14 main_v15 main_v16
-- ==== Kernel.lean ====
abbrev S16384x3072 : Shape := ⟨2, ![16384, 3072]⟩
abbrev S16384x512 : Shape := ⟨2, ![16384, 512]⟩
abbrev S1x512 : Shape := ⟨2, ![1, 512]⟩
abbrev S16384x2048 : Shape := ⟨2, ![16384, 2048]⟩
abbrev S128x128x4x768 : Shape := ⟨4, ![128, 128, 4, 768]⟩
abbrev S128x128x4x512 : Shape := ⟨4, ![128, 128, 4, 512]⟩
abbrev S128x128x4x8x64 : Shape := ⟨5, ![128, 128, 4, 8, 64]⟩
abbrev S128x128x4x128 : Shape := ⟨4, ![128, 128, 4, 128]⟩
abbrev S128x128x4x8 : Shape := ⟨4, ![128, 128, 4, 8]⟩
abbrev S4x128 : Shape := ⟨2, ![4, 128]⟩
abbrev S4x8 : Shape := ⟨2, ![4, 8]⟩
abbrev S1x1x4x8 : Shape := ⟨4, ![1, 1, 4, 8]⟩
abbrev S_ : Shape := ⟨0, ![]⟩
abbrev S128x128x4x8x1 : Shape := ⟨5, ![128, 128, 4, 8, 1]⟩
abbrev S4x8x128x128 : Shape := ⟨4, ![4, 8, 128, 128]⟩
abbrev S4x8x128x1 : Shape := ⟨4, ![4, 8, 128, 1]⟩
abbrev S128x4x8x64x128 : Shape := ⟨5, ![128, 4, 8, 64, 128]⟩
abbrev S4x8x128 : Shape := ⟨3, ![4, 8, 128]⟩
abbrev S4x8x1x128 : Shape := ⟨4, ![4, 8, 1, 128]⟩
abbrev S128x128 : Shape := ⟨2, ![128, 128]⟩
abbrev S4x8x64x128x128 : Shape := ⟨5, ![4, 8, 64, 128, 128]⟩
abbrev S128x128x2048 : Shape := ⟨3, ![128, 128, 2048]⟩
abbrev S128x3072 : Shape := ⟨2, ![128, 3072]⟩
abbrev S128x512 : Shape := ⟨2, ![128, 512]⟩
abbrev S128x2048 : Shape := ⟨2, ![128, 2048]⟩
abbrev S1x128x2048 : Shape := ⟨3, ![1, 128, 2048]⟩
abbrev S512x128 : Shape := ⟨2, ![512, 128]⟩
abbrev S128x768 : Shape := ⟨2, ![128, 768]⟩
abbrev S1x128 : Shape := ⟨2, ![1, 128]⟩
abbrev S128x384 : Shape := ⟨2, ![128, 384]⟩
abbrev S384x128 : Shape := ⟨2, ![384, 128]⟩
abbrev S384x512 : Shape := ⟨2, ![384, 512]⟩
abbrev S1x128x512 : Shape := ⟨3, ![1, 128, 512]⟩
abbrev S128x1 : Shape := ⟨2, ![128, 1]⟩
abbrev S256x128 : Shape := ⟨2, ![256, 128]⟩
abbrev S128x256 : Shape := ⟨2, ![128, 256]⟩
abbrev S1x1 : Shape := ⟨2, ![1, 1]⟩
abbrev S512 : Shape := ⟨1, ![512]⟩
abbrev S8x512 : Shape := ⟨2, ![8, 512]⟩
abbrev S400x512 : Shape := ⟨2, ![400, 512]⟩
abbrev S400x128 : Shape := ⟨2, ![400, 128]⟩
abbrev S128 : Shape := ⟨1, ![128]⟩

abbrev nBuf : Space → Nat
  | .hbm => 97
  | .vmem => 17
  | .smem => 0
  | _ => 0

abbrev bufTy : (tb : Table) → Fin (tcTables nBuf tb) → BufTy
  | .hbm, ⟨0, _⟩ => ⟨S16384x3072, .bf16⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S16384x2048, .bf16⟩
  | .hbm, ⟨5, _⟩ => ⟨S16384x3072, .f32⟩
  | .hbm, ⟨6, _⟩ => ⟨S128x128x4x768, .f32⟩
  | .hbm, ⟨7, _⟩ => ⟨S128x128x4x512, .f32⟩
  | .hbm, ⟨8, _⟩ => ⟨S128x128x4x8x64, .f32⟩
  | .hbm, ⟨9, _⟩ => ⟨S128x128x4x128, .f32⟩
  | .hbm, ⟨10, _⟩ => ⟨S128x128x4x128, .f32⟩
  | .hbm, ⟨11, _⟩ => ⟨S128x128x4x128, .f32⟩
  | .hbm, ⟨12, _⟩ => ⟨S128x128x4x8, .f32⟩
  | .hbm, ⟨13, _⟩ => ⟨S4x128, .f32⟩
  | .hbm, ⟨14, _⟩ => ⟨S4x8, .f32⟩
  | .hbm, ⟨15, _⟩ => ⟨S1x1x4x8, .f32⟩
  | .hbm, ⟨16, _⟩ => ⟨S128x128x4x8, .f32⟩
  | .hbm, ⟨17, _⟩ => ⟨S128x128x4x8, .f32⟩
  | .hbm, ⟨18, _⟩ => ⟨S_, .f32⟩
  | .hbm, ⟨19, _⟩ => ⟨S128x128x4x8, .f32⟩
  | .hbm, ⟨20, _⟩ => ⟨S128x128x4x8, .f32⟩
  | .hbm, ⟨21, _⟩ => ⟨S128x128x4x8, .f32⟩
  | .hbm, ⟨22, _⟩ => ⟨S128x128x4x8, .f32⟩
  | .hbm, ⟨23, _⟩ => ⟨S128x128x4x8, .i1⟩
  | .hbm, ⟨24, _⟩ => ⟨S128x128x4x8, .f32⟩
  | .hbm, ⟨25, _⟩ => ⟨S128x128x4x8, .f32⟩
  | .hbm, ⟨26, _⟩ => ⟨S128x128x4x8, .f32⟩
  | .hbm, ⟨27, _⟩ => ⟨S128x128x4x8, .f32⟩
  | .hbm, ⟨28, _⟩ => ⟨S128x128x4x8, .f32⟩
  | .hbm, ⟨29, _⟩ => ⟨S128x128x4x8, .f32⟩
  | .hbm, ⟨30, _⟩ => ⟨S128x128x4x8, .f32⟩
  | .hbm, ⟨31, _⟩ => ⟨S128x128x4x8, .f32⟩
  | .hbm, ⟨32, _⟩ => ⟨S4x128, .f32⟩
  | .hbm, ⟨33, _⟩ => ⟨S4x8, .f32⟩
  | .hbm, ⟨34, _⟩ => ⟨S4x8, .f32⟩
  | .hbm, ⟨35, _⟩ => ⟨S4x8, .f32⟩
  | .hbm, ⟨36, _⟩ => ⟨S128x128x4x8x1, .f32⟩
  | .hbm, ⟨37, _⟩ => ⟨S128x128x4x8x64, .f32⟩
  | .hbm, ⟨38, _⟩ => ⟨S128x128x4x8x64, .f32⟩
  | .hbm, ⟨39, _⟩ => ⟨S1x1x4x8, .f32⟩
  | .hbm, ⟨40, _⟩ => ⟨S128x128x4x8, .f32⟩
  | .hbm, ⟨41, _⟩ => ⟨S128x128x4x8, .f32⟩
  | .hbm, ⟨42, _⟩ => ⟨S4x8x128x128, .f32⟩
  | .hbm, ⟨43, _⟩ => ⟨S_, .f32⟩
  | .hbm, ⟨44, _⟩ => ⟨S_, .f32⟩
  | .hbm, ⟨45, _⟩ => ⟨S4x8x128x128, .f32⟩
  | .hbm, ⟨46, _⟩ => ⟨S4x8x128x1, .f32⟩
  | .hbm, ⟨47, _⟩ => ⟨S4x8x128x128, .f32⟩
  | .hbm, ⟨48, _⟩ => ⟨S4x8x128x128, .f32⟩
  | .hbm, ⟨49, _⟩ => ⟨S4x8x128x128, .f32⟩
  | .hbm, ⟨50, _⟩ => ⟨S128x128x4x8, .f32⟩
  | .hbm, ⟨51, _⟩ => ⟨S128x128x4x8x1, .f32⟩
  | .hbm, ⟨52, _⟩ => ⟨S128x128x4x8x64, .f32⟩
  | .hbm, ⟨53, _⟩ => ⟨S128x128x4x8x64, .f32⟩
  | .hbm, ⟨54, _⟩ => ⟨S128x4x8x64x128, .f32⟩
  | .hbm, ⟨55, _⟩ => ⟨S4x8x128x1, .f32⟩
  | .hbm, ⟨56, _⟩ => ⟨S4x8x128, .f32⟩
  | .hbm, ⟨57, _⟩ => ⟨S_, .f32⟩
  | .hbm, ⟨58, _⟩ => ⟨S_, .f32⟩
  | .hbm, ⟨59, _⟩ => ⟨S4x8x128, .f32⟩
  | .hbm, ⟨60, _⟩ => ⟨S4x8x128, .f32⟩
  | .hbm, ⟨61, _⟩ => ⟨S4x8x128x1, .f32⟩
  | .hbm, ⟨62, _⟩ => ⟨S4x8x1x128, .f32⟩
  | .hbm, ⟨63, _⟩ => ⟨S4x8x128x128, .f32⟩
  | .hbm, ⟨64, _⟩ => ⟨S4x8x128x128, .f32⟩
  | .hbm, ⟨65, _⟩ => ⟨S4x8x128x128, .f32⟩
  | .hbm, ⟨66, _⟩ => ⟨S_, .i1⟩
  | .hbm, ⟨67, _⟩ => ⟨S128x128, .i1⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S_, .f32⟩
  | .hbm, ⟨78, _⟩ => ⟨S_, .f32⟩
  | .hbm, ⟨79, _⟩ => ⟨S4x8x128x128, .i1⟩
  | .hbm, ⟨80, _⟩ => ⟨S4x8x128x128, .f32⟩
  | .hbm, ⟨81, _⟩ => ⟨S4x8x128x128, .f32⟩
  | .hbm, ⟨82, _⟩ => ⟨S4x8x128x128, .f32⟩
  | .hbm, ⟨83, _⟩ => ⟨S_, .f32⟩
  | .hbm, ⟨84, _⟩ => ⟨S_, .f32⟩
  | .hbm, ⟨85, _⟩ => ⟨S4x8x128x128, .i1⟩
  | .hbm, ⟨86, _⟩ => ⟨S4x8x128x128, .f32⟩
  | .hbm, ⟨87, _⟩ => ⟨S4x8x128x128, .f32⟩
  | .hbm, ⟨88, _⟩ => ⟨S4x8x64x128x128, .f32⟩
  | .hbm, ⟨89, _⟩ => ⟨S128x4x8x64x128, .f32⟩
  | .hbm, ⟨90, _⟩ => ⟨S128x128x4x8x64, .f32⟩
  | .hbm, ⟨91, _⟩ => ⟨S128x128x2048, .f32⟩
  | .hbm, ⟨92, _⟩ => ⟨S128x128x2048, .bf16⟩
  | .hbm, ⟨93, _⟩ => ⟨S16384x3072, .bf16⟩
  | .hbm, ⟨94, _⟩ => ⟨S16384x512, .f32⟩
  | .hbm, ⟨95, _⟩ => ⟨S1x512, .f32⟩
  | .hbm, ⟨96, _⟩ => ⟨S1x512, .f32⟩
  | .local _ .vmem, ⟨0, _⟩ => ⟨S128x3072, .bf16⟩
  | .local _ .vmem, ⟨1, _⟩ => ⟨S128x3072, .bf16⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S128x2048, .bf16⟩
  | .local _ .vmem, ⟨7, _⟩ => ⟨S128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S128x3072, .bf16⟩
  | .local _ .vmem, ⟨11, _⟩ => ⟨S128x3072, .bf16⟩
  | .local _ .vmem, ⟨12, _⟩ => ⟨S128x512, .f32⟩
  | .local _ .vmem, ⟨13, _⟩ => ⟨S128x512, .f32⟩
  | .local _ .vmem, ⟨14, _⟩ => ⟨S1x512, .f32⟩
  | .local _ .vmem, ⟨15, _⟩ => ⟨S1x512, .f32⟩
  | .local _ .vmem, ⟨16, _⟩ => ⟨S128x2048, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_call0_cst : Ref sig .tc := ⟨.hbm, 43, rfl⟩
abbrev main_call1_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_call0_cst : Ref sig .tc := ⟨.hbm, 57, rfl⟩
abbrev main_call2_call0_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_c_0 : Ref sig .tc := ⟨.hbm, 74, rfl⟩
abbrev main_call3_v5 : Ref sig .tc := ⟨.hbm, 75, rfl⟩
abbrev main_v45 : Ref sig .tc := ⟨.hbm, 76, rfl⟩
abbrev main_cst : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v46 : Ref sig .tc := ⟨.hbm, 81, rfl⟩
abbrev main_v47 : Ref sig .tc := ⟨.hbm, 82, rfl⟩
abbrev main_cst_0 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54_0 : Ref sig .tc := ⟨.hbm, 93, rfl⟩
abbrev main_v54_1 : Ref sig .tc := ⟨.hbm, 94, rfl⟩
abbrev main_v54_2 : Ref sig .tc := ⟨.hbm, 95, rfl⟩
abbrev main_v54_3 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x3072 : Shape := ⟨2, ![16384, 3072]⟩
abbrev S16384x512 : Shape := ⟨2, ![16384, 512]⟩
abbrev S1x512 : Shape := ⟨2, ![1, 512]⟩
abbrev S16384x2048 : Shape := ⟨2, ![16384, 2048]⟩
abbrev S128x128x4x768 : Shape := ⟨4, ![128, 128, 4, 768]⟩
abbrev S128x128x4x512 : Shape := ⟨4, ![128, 128, 4, 512]⟩
abbrev S128x128x4x8x64 : Shape := ⟨5, ![128, 128, 4, 8, 64]⟩
abbrev S128x128x4x128 : Shape := ⟨4, ![128, 128, 4, 128]⟩
abbrev S128x128x4x8 : Shape := ⟨4, ![128, 128, 4, 8]⟩
abbrev S4x128 : Shape := ⟨2, ![4, 128]⟩
abbrev S4x8 : Shape := ⟨2, ![4, 8]⟩
abbrev S1x1x4x8 : Shape := ⟨4, ![1, 1, 4, 8]⟩
abbrev S_ : Shape := ⟨0, ![]⟩
abbrev S128x128x4x8x1 : Shape := ⟨5, ![128, 128, 4, 8, 1]⟩
abbrev S4x8x128x128 : Shape := ⟨4, ![4, 8, 128, 128]⟩
abbrev S4x8x128x1 : Shape := ⟨4, ![4, 8, 128, 1]⟩
abbrev S128x4x8x64x128 : Shape := ⟨5, ![128, 4, 8, 64, 128]⟩
abbrev S4x8x128 : Shape := ⟨3, ![4, 8, 128]⟩
abbrev S4x8x1x128 : Shape := ⟨4, ![4, 8, 1, 128]⟩
abbrev S128x128 : Shape := ⟨2, ![128, 128]⟩
abbrev S4x8x64x128x128 : Shape := ⟨5, ![4, 8, 64, 128, 128]⟩
abbrev S4x8x128x128x1 : Shape := ⟨5, ![4, 8, 128, 128, 1]⟩
abbrev S4x8x128x1x128 : Shape := ⟨5, ![4, 8, 128, 1, 128]⟩
abbrev S4x8x128x128x128 : Shape := ⟨5, ![4, 8, 128, 128, 128]⟩
abbrev S4x128x128x128 : Shape := ⟨4, ![4, 128, 128, 128]⟩
abbrev S4x1x128x128x128 : Shape := ⟨5, ![4, 1, 128, 128, 128]⟩
abbrev S128x4x128x128 : Shape := ⟨4, ![128, 4, 128, 128]⟩
abbrev S128x4x8x128x128 : Shape := ⟨5, ![128, 4, 8, 128, 128]⟩

abbrev nBuf : Space → Nat
  | .hbm => 332
  | .vmem => 0
  | .smem => 0
  | _ => 0

abbrev hbmTy0_0 (i : Nat) : BufTy := match i % 128 with
  | 0 => ⟨S16384x3072, .bf16⟩
  | 1 => ⟨S16384x512, .f32⟩
  | 2 => ⟨S1x512, .f32⟩
  | 3 => ⟨S1x512, .f32⟩
  | 4 => ⟨S16384x2048, .bf16⟩
  | 5 => ⟨S16384x3072, .f32⟩
  | 6 => ⟨S128x128x4x768, .f32⟩
  | 7 => ⟨S128x128x4x512, .f32⟩
  | 8 => ⟨S128x128x4x8x64, .f32⟩
  | 9 => ⟨S128x128x4x128, .f32⟩
  | 10 => ⟨S128x128x4x128, .f32⟩
  | 11 => ⟨S128x128x4x128, .f32⟩
  | 12 => ⟨S128x128x4x8, .f32⟩
  | 13 => ⟨S4x128, .f32⟩
  | 14 => ⟨S4x8, .f32⟩
  | 15 => ⟨S1x1x4x8, .f32⟩
  | 16 => ⟨S128x128x4x8, .f32⟩
  | 17 => ⟨S128x128x4x8, .f32⟩
  | 18 => ⟨S_, .f32⟩
  | 19 => ⟨S128x128x4x8, .f32⟩
  | 20 => ⟨S128x128x4x8, .f32⟩
  | 21 => ⟨S128x128x4x8, .f32⟩
  | 22 => ⟨S128x128x4x8, .f32⟩
  | 23 => ⟨S128x128x4x8, .i1⟩
  | 24 => ⟨S128x128x4x8, .f32⟩
  | 25 => ⟨S128x128x4x8, .f32⟩
  | 26 => ⟨S128x128x4x8, .f32⟩
  | 27 => ⟨S128x128x4x8, .f32⟩
  | 28 => ⟨S128x128x4x8, .f32⟩
  | 29 => ⟨S128x128x4x8, .f32⟩
  | 30 => ⟨S128x128x4x8, .f32⟩
  | 31 => ⟨S128x128x4x8, .f32⟩
  | 32 => ⟨S_, .f32⟩
  | 33 => ⟨S128x128x4x8, .f32⟩
  | 34 => ⟨S128x128x4x8, .i1⟩
  | 35 => ⟨S_, .f32⟩
  | 36 => ⟨S128x128x4x8, .f32⟩
  | 37 => ⟨S128x128x4x8, .f32⟩
  | 38 => ⟨S_, .f32⟩
  | 39 => ⟨S128x128x4x8, .f32⟩
  | 40 => ⟨S128x128x4x8, .i1⟩
  | 41 => ⟨S_, .f32⟩
  | 42 => ⟨S128x128x4x8, .f32⟩
  | 43 => ⟨S128x128x4x8, .f32⟩
  | 44 => ⟨S128x128x4x8, .f32⟩
  | 45 => ⟨S128x128x4x8, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S128x128x4x8, .f32⟩
  | 54 => ⟨S128x128x4x8, .i1⟩
  | 55 => ⟨S_, .f32⟩
  | 56 => ⟨S128x128x4x8, .f32⟩
  | 57 => ⟨S128x128x4x8, .f32⟩
  | 58 => ⟨S128x128x4x8, .f32⟩
  | 59 => ⟨S128x128x4x8, .f32⟩
  | 60 => ⟨S128x128x4x8, .f32⟩
  | 61 => ⟨S_, .f32⟩
  | 62 => ⟨S128x128x4x8, .f32⟩
  | 63 => ⟨S128x128x4x8, .f32⟩
  | 64 => ⟨S4x128, .f32⟩
  | 65 => ⟨S4x8, .f32⟩
  | 66 => ⟨S4x8, .f32⟩
  | 67 => ⟨S4x8, .f32⟩
  | 68 => ⟨S128x128x4x8x1, .f32⟩
  | 69 => ⟨S128x128x4x8x64, .f32⟩
  | 70 => ⟨S128x128x4x8x64, .f32⟩
  | 71 => ⟨S1x1x4x8, .f32⟩
  | 72 => ⟨S128x128x4x8, .f32⟩
  | 73 => ⟨S128x128x4x8, .f32⟩
  | 74 => ⟨S4x8x128x128, .f32⟩
  | 75 => ⟨S_, .f32⟩
  | 76 => ⟨S_, .f32⟩
  | 77 => ⟨S4x8x128x128, .f32⟩
  | 78 => ⟨S4x8x128x1, .f32⟩
  | 79 => ⟨S4x8x128x128, .f32⟩
  | 80 => ⟨S4x8x128x128, .f32⟩
  | 81 => ⟨S4x8x128x128, .f32⟩
  | 82 => ⟨S128x128x4x8, .f32⟩
  | 83 => ⟨S128x128x4x8x1, .f32⟩
  | 84 => ⟨S128x128x4x8x64, .f32⟩
  | 85 => ⟨S128x128x4x8x64, .f32⟩
  | 86 => ⟨S128x4x8x64x128, .f32⟩
  | 87 => ⟨S4x8x128x1, .f32⟩
  | 88 => ⟨S4x8x128, .f32⟩
  | 89 => ⟨S_, .f32⟩
  | 90 => ⟨S_, .f32⟩
  | 91 => ⟨S4x8x128, .f32⟩
  | 92 => ⟨S4x8x128, .f32⟩
  | 93 => ⟨S4x8x128x1, .f32⟩
  | 94 => ⟨S4x8x1x128, .f32⟩
  | 95 => ⟨S4x8x128x128, .f32⟩
  | 96 => ⟨S4x8x128x128, .f32⟩
  | 97 => ⟨S4x8x128x128, .f32⟩
  | 98 => ⟨S_, .i1⟩
  | 99 => ⟨S128x128, .i1⟩
  | 100 => ⟨S128x128, .i32⟩
  | 101 => ⟨S_, .i32⟩
  | 102 => ⟨S128x128, .i32⟩
  | 103 => ⟨S128x128, .i32⟩
  | 104 => ⟨S128x128, .i32⟩
  | 105 => ⟨S128x128, .i1⟩
  | 106 => ⟨S_, .i1⟩
  | 107 => ⟨S128x128, .i1⟩
  | 108 => ⟨S128x128, .i1⟩
  | 109 => ⟨S_, .f32⟩
  | 110 => ⟨S_, .f32⟩
  | 111 => ⟨S4x8x128x128, .i1⟩
  | 112 => ⟨S4x8x128x128, .f32⟩
  | 113 => ⟨S4x8x128x128, .f32⟩
  | 114 => ⟨S_, .f32⟩
  | 115 => ⟨S4x8x128x128, .f32⟩
  | 116 => ⟨S4x8x128x128, .f32⟩
  | 117 => ⟨S_, .f32⟩
  | 118 => ⟨S_, .f32⟩
  | 119 => ⟨S4x8x128x128, .i1⟩
  | 120 => ⟨S4x8x128x128, .f32⟩
  | 121 => ⟨S4x8x128x128, .f32⟩
  | 122 => ⟨S_, .f32⟩
  | 123 => ⟨S4x8x128x128, .f32⟩
  | 124 => ⟨S4x8x64x128x128, .f32⟩
  | 125 => ⟨S128x4x8x64x128, .f32⟩
  | 126 => ⟨S4x8x128x128x1, .f32⟩
  | 127 => ⟨S4x8x128x1x128, .f32⟩
  | _ => ⟨S16384x3072, .bf16⟩

abbrev hbmTy0_1 (i : Nat) : BufTy := match i % 128 with
  | 0 => ⟨S4x8x128x128x128, .f32⟩
  | 1 => ⟨S4x8x128x128x128, .f32⟩
  | 2 => ⟨S4x8x128x128x128, .f32⟩
  | 3 => ⟨S_, .i1⟩
  | 4 => ⟨S128x128, .i1⟩
  | 5 => ⟨S128x128, .i32⟩
  | 6 => ⟨S_, .i32⟩
  | 7 => ⟨S128x128, .i32⟩
  | 8 => ⟨S128x128, .i32⟩
  | 9 => ⟨S128x128, .i32⟩
  | 10 => ⟨S128x128, .i1⟩
  | 11 => ⟨S_, .i1⟩
  | 12 => ⟨S128x128, .i1⟩
  | 13 => ⟨S128x128, .i1⟩
  | 14 => ⟨S_, .f32⟩
  | 15 => ⟨S_, .f32⟩
  | 16 => ⟨S4x8x128x128x128, .i1⟩
  | 17 => ⟨S4x8x128x128x128, .f32⟩
  | 18 => ⟨S4x8x128x128x128, .f32⟩
  | 19 => ⟨S_, .f32⟩
  | 20 => ⟨S4x8x128x128x128, .f32⟩
  | 21 => ⟨S4x8x128x128x128, .f32⟩
  | 22 => ⟨S_, .f32⟩
  | 23 => ⟨S_, .f32⟩
  | 24 => ⟨S4x8x128x128x128, .i1⟩
  | 25 => ⟨S4x8x128x128x128, .f32⟩
  | 26 => ⟨S4x8x128x128x128, .f32⟩
  | 27 => ⟨S_, .f32⟩
  | 28 => ⟨S4x8x128x128x128, .f32⟩
  | 29 => ⟨S4x128x128x128, .f32⟩
  | 30 => ⟨S4x1x128x128x128, .f32⟩
  | 31 => ⟨S4x8x128x128x128, .f32⟩
  | 32 => ⟨S4x8x128x128x128, .f32⟩
  | 33 => ⟨S128x4x8x64x128, .f32⟩
  | 34 => ⟨S128x128x4x8x64, .f32⟩
  | 35 => ⟨S128x4x8x64x128, .f32⟩
  | 36 => ⟨S128x128x4x8x64, .f32⟩
  | 37 => ⟨S4x8x128x128, .f32⟩
  | 38 => ⟨S128x128x4x8, .f32⟩
  | 39 => ⟨S128x128x4x8x1, .f32⟩
  | 40 => ⟨S128x128x4x8x64, .f32⟩
  | 41 => ⟨S128x128x4x8x64, .f32⟩
  | 42 => ⟨S128x128x4x8x64, .f32⟩
  | 43 => ⟨S16384x2048, .f32⟩
  | 44 => ⟨S16384x2048, .bf16⟩
  | 45 => ⟨S16384x2048, .f32⟩
  | 46 => ⟨S128x128x4x8x64, .f32⟩
  | 47 => ⟨S128x128x4x8x64, .f32⟩
  | 48 => ⟨S_, .f32⟩
  | 49 => ⟨S128x128x4x8, .f32⟩
  | 50 => ⟨S128x128x4x8x1, .f32⟩
  | 51 => ⟨S128x128x4x8x64, .f32⟩
  | 52 => ⟨S128x128x4x8x64, .f32⟩
  | 53 => ⟨S_, .f32⟩
  | 54 => ⟨S128x128x4x8, .f32⟩
  | 55 => ⟨S4x8x128x128, .f32⟩
  | 56 => ⟨S4x8x128x128, .f32⟩
  | 57 => ⟨S128x4x8x64x128, .f32⟩
  | 58 => ⟨S128x4x128x128, .f32⟩
  | 59 => ⟨S128x128x4x128, .f32⟩
  | 60 => ⟨S128x4x8x64x128, .f32⟩
  | 61 => ⟨S128x4x8x64x128, .f32⟩
  | 62 => ⟨S128x4x8x128x128, .f32⟩
  | 63 => ⟨S4x8x128x128x128, .f32⟩
  | 64 => ⟨S128x4x8x64x128, .f32⟩
  | 65 => ⟨S128x128x4x8x64, .f32⟩
  | 66 => ⟨S4x8x128x128x128, .f32⟩
  | 67 => ⟨S4x8x128x128x128, .f32⟩
  | 68 => ⟨S4x8x128x128x128, .f32⟩
  | 69 => ⟨S_, .f32⟩
  | 70 => ⟨S4x128x128x128, .f32⟩
  | 71 => ⟨S4x1x128x128x128, .f32⟩
  | 72 => ⟨S_, .f32⟩
  | 73 => ⟨S4x128x128x128, .f32⟩
  | 74 => ⟨S4x128x128x128, .f32⟩
  | 75 => ⟨S128x128x4x128, .f32⟩
  | 76 => ⟨S4x128x128x128, .f32⟩
  | 77 => ⟨S128x128x4x128, .f32⟩
  | 78 => ⟨S128x128x4x128, .f32⟩
  | 79 => ⟨S_, .f32⟩
  | 80 => ⟨S4x8x128x128x128, .f32⟩
  | 81 => ⟨S4x8x128x128x128, .f32⟩
  | 82 => ⟨S4x8x128x128x128, .f32⟩
  | 83 => ⟨S_, .f32⟩
  | 84 => ⟨S4x8x128x128x128, .f32⟩
  | 85 => ⟨S4x8x128x128x128, .f32⟩
  | 86 => ⟨S_, .f32⟩
  | 87 => ⟨S4x8x128x128, .f32⟩
  | 88 => ⟨S4x8x128x128x1, .f32⟩
  | 89 => ⟨S4x8x128x128x128, .f32⟩
  | 90 => ⟨S_, .f32⟩
  | 91 => ⟨S4x8x128x128, .f32⟩
  | 92 => ⟨S4x8x128x1x128, .f32⟩
  | 93 => ⟨S_, .f32⟩
  | 94 => ⟨S4x8x128x128, .f32⟩
  | 95 => ⟨S4x8x128x128, .f32⟩
  | 96 => ⟨S_, .f32⟩
  | 97 => ⟨S4x8x128x128, .f32⟩
  | 98 => ⟨S4x8x128x128, .f32⟩
  | 99 => ⟨S4x8x64x128x128, .f32⟩
  | 100 => ⟨S4x8x128x128, .f32⟩
  | 101 => ⟨S4x8x64x128x128, .f32⟩
  | 102 => ⟨S128x4x8x64x128, .f32⟩
  | 103 => ⟨S_, .f32⟩
  | 104 => ⟨S4x8x128x128, .f32⟩
  | 105 => ⟨S4x8x128x128, .f32⟩
  | 106 => ⟨S4x8x128x128, .f32⟩
  | 107 => ⟨S_, .f32⟩
  | 108 => ⟨S4x8x128x128, .f32⟩
  | 109 => ⟨S4x8x128x128, .f32⟩
  | 110 => ⟨S_, .f32⟩
  | 111 => ⟨S4x8x128, .f32⟩
  | 112 => ⟨S4x8x128x1, .f32⟩
  | 113 => ⟨S4x8x128x128, .f32⟩
  | 114 => ⟨S_, .f32⟩
  | 115 => ⟨S4x8x128, .f32⟩
  | 116 => ⟨S4x8x1x128, .f32⟩
  | 117 => ⟨S_, .f32⟩
  | 118 => ⟨S4x8x128, .f32⟩
  | 119 => ⟨S_, .f32⟩
  | 120 => ⟨S4x8x128, .f32⟩
  | 121 => ⟨S4x8x128, .f32⟩
  | 122 => ⟨S4x8x128, .f32⟩
  | 123 => ⟨S_, .f32⟩
  | 124 => ⟨S_, .f32⟩
  | 125 => ⟨S4x8x128, .f32⟩
  | 126 => ⟨S4x8x128, .f32⟩
  | 127 => ⟨S4x8x128x1, .f32⟩
  | _ => ⟨S16384x3072, .bf16⟩

abbrev hbmTy0_2 (i : Nat) : BufTy := match i % 128 with
  | 0 => ⟨S_, .f32⟩
  | 1 => ⟨S4x8x128x128, .f32⟩
  | 2 => ⟨S4x8x128x128, .f32⟩
  | 3 => ⟨S128x4x128x128, .f32⟩
  | 4 => ⟨S128x128x4x128, .f32⟩
  | 5 => ⟨S128x128x4x128, .f32⟩
  | 6 => ⟨S128x4x8x64x128, .f32⟩
  | 7 => ⟨S128x128x4x8x64, .f32⟩
  | 8 => ⟨S128x128x4x8x64, .f32⟩
  | 9 => ⟨S_, .f32⟩
  | 10 => ⟨S128x128x4x8, .f32⟩
  | 11 => ⟨S128x128x4x8x1, .f32⟩
  | 12 => ⟨S128x128x4x8x64, .f32⟩
  | 13 => ⟨S128x128x4x8x64, .f32⟩
  | 14 => ⟨S128x128x4x8x64, .f32⟩
  | 15 => ⟨S_, .f32⟩
  | 16 => ⟨S128x128x4x8, .f32⟩
  | 17 => ⟨S4x8x128x128, .f32⟩
  | 18 => ⟨S4x8x128x128, .f32⟩
  | 19 => ⟨S_, .f32⟩
  | 20 => ⟨S4x8x128, .f32⟩
  | 21 => ⟨S4x8x128x1, .f32⟩
  | 22 => ⟨S4x8x128x128, .f32⟩
  | 23 => ⟨S4x8x128x128, .f32⟩
  | 24 => ⟨S_, .f32⟩
  | 25 => ⟨S4x8x128x128, .f32⟩
  | 26 => ⟨S4x8x128x128, .f32⟩
  | 27 => ⟨S_, .f32⟩
  | 28 => ⟨S_, .f32⟩
  | 29 => ⟨S4x8x128x128, .f32⟩
  | 30 => ⟨S128x128x4x8, .f32⟩
  | 31 => ⟨S128x128x4x8, .f32⟩
  | 32 => ⟨S_, .f32⟩
  | 33 => ⟨S4x8, .f32⟩
  | 34 => ⟨S1x1x4x8, .f32⟩
  | 35 => ⟨S128x128x4x8, .f32⟩
  | 36 => ⟨S128x128x4x8, .f32⟩
  | 37 => ⟨S_, .f32⟩
  | 38 => ⟨S4x8, .f32⟩
  | 39 => ⟨S128x128x4x8x64, .f32⟩
  | 40 => ⟨S_, .f32⟩
  | 41 => ⟨S128x128x4x8, .f32⟩
  | 42 => ⟨S128x128x4x8x1, .f32⟩
  | 43 => ⟨S128x128x4x8x64, .f32⟩
  | 44 => ⟨S128x128x4x8x64, .f32⟩
  | 45 => ⟨S_, .f32⟩
  | 46 => ⟨S128x128x4x8, .f32⟩
  | 47 => ⟨S128x128x4x8, .f32⟩
  | 48 => ⟨S4x8, .f32⟩
  | 49 => ⟨S4x8, .f32⟩
  | 50 => ⟨S_, .f32⟩
  | 51 => ⟨S4x128, .f32⟩
  | 52 => ⟨S1x512, .f32⟩
  | 53 => ⟨S128x128x4x8, .f32⟩
  | 54 => ⟨S_, .f32⟩
  | 55 => ⟨S4x8, .f32⟩
  | 56 => ⟨S1x1x4x8, .f32⟩
  | 57 => ⟨S_, .f32⟩
  | 58 => ⟨S4x8, .f32⟩
  | 59 => ⟨S_, .f32⟩
  | 60 => ⟨S4x128, .f32⟩
  | 61 => ⟨S1x512, .f32⟩
  | 62 => ⟨S_, .f32⟩
  | 63 => ⟨S128x128x4x128, .f32⟩
  | 64 => ⟨S16384x512, .f32⟩
  | 65 => ⟨S_, .f32⟩
  | 66 => ⟨S128x128x4x768, .f32⟩
  | 67 => ⟨S_, .f32⟩
  | 68 => ⟨S128x128x4x768, .f32⟩
  | 69 => ⟨S128x128x4x768, .f32⟩
  | 70 => ⟨S128x128x4x512, .f32⟩
  | 71 => ⟨S_, .f32⟩
  | 72 => ⟨S128x128x4x768, .f32⟩
  | 73 => ⟨S128x128x4x768, .f32⟩
  | 74 => ⟨S16384x3072, .f32⟩
  | 75 => ⟨S16384x3072, .bf16⟩
  | _ => ⟨S16384x3072, .bf16⟩

abbrev hbmTy (i : Nat) : BufTy := match i / 128 with
  | 0 => hbmTy0_0 i
  | 1 => hbmTy0_1 i
  | 2 => hbmTy0_2 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v13_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v13_2 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_call1_call0_cst : Ref sig .tc := ⟨.hbm, 75, rfl⟩
abbrev main_call1_call0_v0 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_call2_call0_cst : Ref sig .tc := ⟨.hbm, 89, rfl⟩
abbrev main_call2_call0_v0 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c : Ref sig .tc := ⟨.hbm, 98, rfl⟩
abbrev main_v44 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_0 : Ref sig .tc := ⟨.hbm, 106, rfl⟩
abbrev main_call3_v5 : Ref sig .tc := ⟨.hbm, 107, rfl⟩
abbrev main_v45 : Ref sig .tc := ⟨.hbm, 108, rfl⟩
abbrev main_cst : Ref sig .tc := ⟨.hbm, 109, rfl⟩
abbrev main_call4_v0 : Ref sig .tc := ⟨.hbm, 110, rfl⟩
abbrev main_v46_1 : Ref sig .tc := ⟨.hbm, 111, rfl⟩
abbrev main_call4_v2 : Ref sig .tc := ⟨.hbm, 112, rfl⟩
abbrev main_v46_0 : Ref sig .tc := ⟨.hbm, 113, rfl⟩
abbrev main_call4_cst : Ref sig .tc := ⟨.hbm, 114, rfl⟩
abbrev main_v46_2 : Ref sig .tc := ⟨.hbm, 115, rfl⟩
abbrev main_v47 : Ref sig .tc := ⟨.hbm, 116, rfl⟩
abbrev main_cst_0 : Ref sig .tc := ⟨.hbm, 117, rfl⟩
abbrev main_call5_v0 : Ref sig .tc := ⟨.hbm, 118, rfl⟩
abbrev main_v48_1 : Ref sig .tc := ⟨.hbm, 119, rfl⟩
abbrev main_call5_v2 : Ref sig .tc := ⟨.hbm, 120, rfl⟩
abbrev main_v48_0 : Ref sig .tc := ⟨.hbm, 121, rfl⟩
abbrev main_call5_cst : Ref sig .tc := ⟨.hbm, 122, rfl⟩
abbrev main_v48_2 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_c_1 : Ref sig .tc := ⟨.hbm, 131, rfl⟩
abbrev main_v56 : Ref sig .tc := ⟨.hbm, 132, rfl⟩
abbrev main_call6_v0 : Ref sig .tc := ⟨.hbm, 133, rfl⟩
abbrev main_call6_c : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_call6_c_0 : Ref sig .tc := ⟨.hbm, 139, rfl⟩
abbrev main_call6_v5 : Ref sig .tc := ⟨.hbm, 140, rfl⟩
abbrev main_v57 : Ref sig .tc := ⟨.hbm, 141, rfl⟩
abbrev main_cst_2 : Ref sig .tc := ⟨.hbm, 142, rfl⟩
abbrev main_call7_v0 : Ref sig .tc := ⟨.hbm, 143, rfl⟩
abbrev main_v58_1 : Ref sig .tc := ⟨.hbm, 144, rfl⟩
abbrev main_call7_v2 : Ref sig .tc := ⟨.hbm, 145, rfl⟩
abbrev main_v58_0 : Ref sig .tc := ⟨.hbm, 146, rfl⟩
abbrev main_call7_cst : Ref sig .tc := ⟨.hbm, 147, rfl⟩
abbrev main_v58_2 : Ref sig .tc := ⟨.hbm, 148, rfl⟩
abbrev main_v59 : Ref sig .tc := ⟨.hbm, 149, rfl⟩
abbrev main_cst_3 : Ref sig .tc := ⟨.hbm, 150, rfl⟩
abbrev main_call8_v0 : Ref sig .tc := ⟨.hbm, 151, rfl⟩
abbrev main_v60_1 : Ref sig .tc := ⟨.hbm, 152, rfl⟩
abbrev main_call8_v2 : Ref sig .tc := ⟨.hbm, 153, rfl⟩
abbrev main_v60_0 : Ref sig .tc := ⟨.hbm, 154, rfl⟩
abbrev main_call8_cst : Ref sig .tc := ⟨.hbm, 155, rfl⟩
abbrev main_v60_2 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_cst_4 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_cst_5 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_cst_6 : Ref sig .tc := ⟨.hbm, 197, rfl⟩
abbrev main_v99 : Ref sig .tc := ⟨.hbm, 198, rfl⟩
abbrev main_v100 : Ref sig .tc := ⟨.hbm, 199, rfl⟩
abbrev main_cst_7 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_call9_cst : Ref sig .tc := ⟨.hbm, 207, rfl⟩
abbrev main_call9_v0 : Ref sig .tc := ⟨.hbm, 208, rfl⟩
abbrev main_v107 : Ref sig .tc := ⟨.hbm, 209, rfl⟩
abbrev main_v108 : Ref sig .tc := ⟨.hbm, 210, rfl⟩
abbrev main_call10_cst : Ref sig .tc := ⟨.hbm, 211, rfl⟩
abbrev main_call10_v0 : Ref sig .tc := ⟨.hbm, 212, rfl⟩
abbrev main_v109 : Ref sig .tc := ⟨.hbm, 213, rfl⟩
abbrev main_cst_8 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_cst_9 : Ref sig .tc := ⟨.hbm, 218, rfl⟩
abbrev main_v113 : Ref sig .tc := ⟨.hbm, 219, rfl⟩
abbrev main_v114 : Ref sig .tc := ⟨.hbm, 220, rfl⟩
abbrev main_cst_10 : Ref sig .tc := ⟨.hbm, 221, rfl⟩
abbrev main_v115 : Ref sig .tc := ⟨.hbm, 222, rfl⟩
abbrev main_v116 : Ref sig .tc := ⟨.hbm, 223, rfl⟩
abbrev main_cst_11 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩
abbrev main_call11_cst : Ref sig .tc := ⟨.hbm, 231, rfl⟩
abbrev main_call11_v0 : Ref sig .tc := ⟨.hbm, 232, rfl⟩
abbrev main_v123 : Ref sig .tc := ⟨.hbm, 233, rfl⟩
abbrev main_v124 : Ref sig .tc := ⟨.hbm, 234, rfl⟩
abbrev main_call12_cst : Ref sig .tc := ⟨.hbm, 235, rfl⟩
abbrev main_call12_v0 : Ref sig .tc := ⟨.hbm, 236, rfl⟩
abbrev main_v125 : Ref sig .tc := ⟨.hbm, 237, rfl⟩
abbrev main_cst_12 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_cst_13 : Ref sig .tc := ⟨.hbm, 242, rfl⟩
abbrev main_v129 : Ref sig .tc := ⟨.hbm, 243, rfl⟩
abbrev main_v130 : Ref sig .tc := ⟨.hbm, 244, rfl⟩
abbrev main_cst_14 : Ref sig .tc := ⟨.hbm, 245, rfl⟩
abbrev main_v131 : Ref sig .tc := ⟨.hbm, 246, rfl⟩
abbrev main_cst_15 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_call13_call0_cst : Ref sig .tc := ⟨.hbm, 251, rfl⟩
abbrev main_call13_call0_v0 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_cst_16 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_cst_17 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_cst_18 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_cst_19 : Ref sig .tc := ⟨.hbm, 275, rfl⟩
abbrev main_v154 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_cst_20 : Ref sig .tc := ⟨.hbm, 280, rfl⟩
abbrev main_v158 : Ref sig .tc := ⟨.hbm, 281, rfl⟩
abbrev main_v159 : Ref sig .tc := ⟨.hbm, 282, rfl⟩
abbrev main_call14_call0_cst : Ref sig .tc := ⟨.hbm, 283, rfl⟩
abbrev main_call14_call0_v0 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_21 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_cst_22 : Ref sig .tc := ⟨.hbm, 293, rfl⟩
abbrev main_v167 : Ref sig .tc := ⟨.hbm, 294, rfl⟩
abbrev main_v168 : Ref sig .tc := ⟨.hbm, 295, rfl⟩
abbrev main_cst_23 : Ref sig .tc := ⟨.hbm, 296, rfl⟩
abbrev main_v169 : Ref sig .tc := ⟨.hbm, 297, rfl⟩
abbrev main_v170 : Ref sig .tc := ⟨.hbm, 298, rfl⟩
abbrev main_v171 : Ref sig .tc := ⟨.hbm, 299, rfl⟩
abbrev main_v172 : Ref sig .tc := ⟨.hbm, 300, rfl⟩
abbrev main_cst_24 : Ref sig .tc := ⟨.hbm, 301, rfl⟩
abbrev main_v173 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_cst_25 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_cst_26 : Ref sig .tc := ⟨.hbm, 310, rfl⟩
abbrev main_v180 : Ref sig .tc := ⟨.hbm, 311, rfl⟩
abbrev main_v181 : Ref sig .tc := ⟨.hbm, 312, rfl⟩
abbrev main_cst_27 : Ref sig .tc := ⟨.hbm, 313, rfl⟩
abbrev main_v182 : Ref sig .tc := ⟨.hbm, 314, rfl⟩
abbrev main_cst_28 : Ref sig .tc := ⟨.hbm, 315, rfl⟩
abbrev main_v183 : Ref sig .tc := ⟨.hbm, 316, rfl⟩
abbrev main_v184 : Ref sig .tc := ⟨.hbm, 317, rfl⟩
abbrev main_cst_29 : Ref sig .tc := ⟨.hbm, 318, rfl⟩
abbrev main_v185 : Ref sig .tc := ⟨.hbm, 319, rfl⟩
abbrev main_v186 : Ref sig .tc := ⟨.hbm, 320, rfl⟩
abbrev main_cst_30 : Ref sig .tc := ⟨.hbm, 321, rfl⟩
abbrev main_v187 : Ref sig .tc := ⟨.hbm, 322, rfl⟩
abbrev main_cst_31 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_cst_32 : Ref sig .tc := ⟨.hbm, 327, rfl⟩
abbrev main_v191 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩

abbrev nD : Nat := 1
abbrev τ : Topo := Topo.v7x

variable {F : FTy → Type} [FloatOps F]
-- ==== Kernel2.lean ====
abbrev S16384x6144 : Shape := ⟨2, ![16384, 6144]⟩
abbrev S1024x6144 : Shape := ⟨2, ![1024, 6144]⟩
abbrev S16384x1024 : Shape := ⟨2, ![16384, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference2Ideal.lean ====
abbrev S16384x6144 : Shape := ⟨2, ![16384, 6144]⟩
abbrev S1024x6144 : Shape := ⟨2, ![1024, 6144]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x6144, .f32⟩
  | .hbm, ⟨25, _⟩ => ⟨S16384x6144, .f32⟩
  | .hbm, ⟨26, _⟩ => ⟨S16384x6144, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S16384x5120 : Shape := ⟨2, ![16384, 5120]⟩
abbrev S5120x1024 : Shape := ⟨2, ![5120, 1024]⟩
abbrev S16384x512 : Shape := ⟨2, ![16384, 512]⟩
abbrev S512x1024 : Shape := ⟨2, ![512, 1024]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x5120, .bf16⟩
  | .hbm, ⟨1, _⟩ => ⟨S5120x1024, .bf16⟩
  | .hbm, ⟨2, _⟩ => ⟨S16384x512, .f32⟩
  | .hbm, ⟨3, _⟩ => ⟨S512x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![16, 1, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v16 : BitVec 32 := Scalar.extui v0
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference3Ideal.lean ====
abbrev S16384x5120 : Shape := ⟨2, ![16384, 5120]⟩
abbrev S5120x1024 : Shape := ⟨2, ![5120, 1024]⟩
abbrev S16384x512 : Shape := ⟨2, ![16384, 512]⟩
abbrev S512x1024 : Shape := ⟨2, ![512, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x5120 : Shape := ⟨2, ![1024, 5120]⟩
abbrev S1024x512 : Shape := ⟨2, ![1024, 512]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S5120x1024, .bf16⟩
  | .hbm, ⟨2, _⟩ => ⟨S16384x512, .f32⟩
  | .hbm, ⟨3, _⟩ => ⟨S512x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S5120x1024, .f32⟩
  | .hbm, ⟨27, _⟩ => ⟨S1024x5120, .f32⟩
  | .hbm, ⟨28, _⟩ => ⟨S16384x5120, .f32⟩
  | .hbm, ⟨29, _⟩ => ⟨S512x1024, .f32⟩
  | .hbm, ⟨30, _⟩ => ⟨S1024x512, .f32⟩
  | .hbm, ⟨31, _⟩ => ⟨S16384x512, .f32⟩
  | .hbm, ⟨32, _⟩ => ⟨S16384x5120, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S16384x1024 : Shape := ⟨2, ![16384, 1024]⟩
abbrev S16384x6144 : Shape := ⟨2, ![16384, 6144]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S1024x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x6144 : Shape := ⟨2, ![16384, 6144]⟩
abbrev S6144x1024 : Shape := ⟨2, ![6144, 1024]⟩
abbrev S1024x6144 : Shape := ⟨2, ![1024, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S16384x1024, .f32⟩
  | .hbm, ⟨3, _⟩ => ⟨S16384x6144, .f32⟩
  | .hbm, ⟨4, _⟩ => ⟨S6144x1024, .f32⟩
  | .hbm, ⟨5, _⟩ => ⟨S1024x6144, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x5120 : Shape := ⟨2, ![16384, 5120]⟩
abbrev S16384x1024 : Shape := ⟨2, ![16384, 1024]⟩
abbrev S5120x1024 : Shape := ⟨2, ![5120, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x5120, .bf16⟩
  | .hbm, ⟨1, _⟩ => ⟨S16384x1024, .bf16⟩
  | .hbm, ⟨2, _⟩ => ⟨S5120x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x5120 : Shape := ⟨2, ![16384, 5120]⟩
abbrev S16384x1024 : Shape := ⟨2, ![16384, 1024]⟩
abbrev S5120x1024 : Shape := ⟨2, ![5120, 1024]⟩
abbrev S1024x5120 : Shape := ⟨2, ![1024, 5120]⟩

abbrev nBuf : Space → Nat
  | .hbm => 7
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S16384x1024, .bf16⟩
  | .hbm, ⟨2, _⟩ => ⟨S16384x1024, .f32⟩
  | .hbm, ⟨3, _⟩ => ⟨S16384x5120, .f32⟩
  | .hbm, ⟨4, _⟩ => ⟨S5120x1024, .f32⟩
  | .hbm, ⟨5, _⟩ => ⟨S1024x5120, .f32⟩
  | .hbm, ⟨6, _⟩ => ⟨S5120x1024, .f32⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x2048 : Shape := ⟨2, ![16384, 2048]⟩
abbrev S16384x1024 : Shape := ⟨2, ![16384, 1024]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S16384x2048, .f32⟩
  | .hbm, ⟨3, _⟩ => ⟨S1024x2048, .f32⟩
  | .hbm, ⟨4, _⟩ => ⟨S2048x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S16384x1024 : Shape := ⟨2, ![16384, 1024]⟩
abbrev S2048x1024 : Shape := ⟨2, ![2048, 1024]⟩
abbrev S16384x2048 : Shape := ⟨2, ![16384, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S2048x1024, .bf16⟩
  | .hbm, ⟨2, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S2048x1024 : Shape := ⟨2, ![2048, 1024]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .bf16⟩
  | .hbm, ⟨2, _⟩ => ⟨S2048x1024, .f32⟩
  | .hbm, ⟨3, _⟩ => ⟨S16384x2048, .f32⟩
  | .hbm, ⟨4, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S16384x1024 : Shape := ⟨2, ![16384, 1024]⟩
abbrev S1024x6144 : Shape := ⟨2, ![1024, 6144]⟩
abbrev S16384x6144 : Shape := ⟨2, ![16384, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x6144 : Shape := ⟨2, ![1024, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x6144, .bf16⟩
  | .hbm, ⟨2, _⟩ => ⟨S16384x1024, .f32⟩
  | .hbm, ⟨3, _⟩ => ⟨S1024x6144, .f32⟩
  | .hbm, ⟨4, _⟩ => ⟨S16384x6144, .f32⟩
  | .hbm, ⟨5, _⟩ => ⟨S16384x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x1024 : Shape := ⟨2, ![16384, 1024]⟩
abbrev S5120x1024 : Shape := ⟨2, ![5120, 1024]⟩
abbrev S16384x5120 : Shape := ⟨2, ![16384, 5120]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S5120x1024, .bf16⟩
  | .hbm, ⟨2, _⟩ => ⟨S16384x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S5120x1024 : Shape := ⟨2, ![5120, 1024]⟩
abbrev S1024x5120 : Shape := ⟨2, ![1024, 5120]⟩
abbrev S16384x5120 : Shape := ⟨2, ![16384, 5120]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S5120x1024, .bf16⟩
  | .hbm, ⟨2, _⟩ => ⟨S16384x1024, .f32⟩
  | .hbm, ⟨3, _⟩ => ⟨S5120x1024, .f32⟩
  | .hbm, ⟨4, _⟩ => ⟨S1024x5120, .f32⟩
  | .hbm, ⟨5, _⟩ => ⟨S16384x5120, .f32⟩
  | .hbm, ⟨6, _⟩ => ⟨S16384x5120, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S512x1024 : Shape := ⟨2, ![512, 1024]⟩
abbrev S1024x512 : Shape := ⟨2, ![1024, 512]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x1024, .f32⟩
  | .hbm, ⟨3, _⟩ => ⟨S512x1024, .f32⟩
  | .hbm, ⟨4, _⟩ => ⟨S1024x512, .f32⟩
  | .hbm, ⟨5, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S16384x1024, .f32⟩
  | .hbm, ⟨3, _⟩ => ⟨S512x1024, .f32⟩
  | .hbm, ⟨4, _⟩ => ⟨S1024x512, .f32⟩
  | .hbm, ⟨5, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Scan.Finite.lean ====
/- What the precondition says: every element of every argument is a real number. -/
module

public import proofs.«01_k».proof.Pre_finite
public import Idealize.ShloMosaic.PureOps.Ideal.Laws
public import Idealize.ShloMosaic.Lib.ValueIdx

@[expose] public section

noncomputable section

namespace Cert.Scan.Finite

open Idealize.ShloMosaic Cert.Pre_finite

instance facts : Cert.Pre_finite.Facts where
  bitsLt_bf16_f32 := by decide
  bcast_S_S16384x3072 := by decide
  reducesTo_S16384x3072_S_d0_1 := by decide
  h_S_ := by decide
  bcast_S_S16384x512 := by decide
  reducesTo_S16384x512_S_d0_1 := by decide
  bcast_S_S1x512 := by decide
  reducesTo_S1x512_S_d0_1 := by decide
  bcast_S_S16384x2048 := by decide
  reducesTo_S16384x2048_S_d0_1 := by decide

theorem both (x y : BitVec 1) (h : IntOp.andi x y = 1#1) : x = 1#1 ∧ y = 1#1 := by
  revert x y; decide

theorem each {α : Type} (f : α → BitVec 1) : ∀ (l : List α) (v : BitVec 1), l.foldl (fun r n => IntOp.andi r (f n)) v = 1#1 → v = 1#1 ∧ ∀ n ∈ l, f n = 1#1
  | [], v, h => ⟨h, fun n hn => absurd hn (List.not_mem_nil)⟩
  | a :: l, v, h => by
    obtain ⟨h1, h2⟩ := each f l _ h
    obtain ⟨h3, h4⟩ := both _ _ h1
    refine ⟨h3, fun n hn => ?_⟩
    rcases List.mem_cons.mp hn with e | e
    · rw [e]; exact h4
    · exact h2 n e

theorem every {s : Shape} {axes : List (Fin s.rank)} (x : s.Idx → BitVec 1) (v : S_.Idx → BitVec 1) (h : s.ReducesTo axes S_) (hu : 0 < S_.numel) (j : S_.Idx)
    (hj : Host.reduce IntOp.andi x v h hu j = 1#1) (i : s.Idx) : x i = 1#1 := by
  have h1 := (each (fun n => x (s.rowMajor.symm n)) _ _ hj).2 (s.rowMajor i) (List.mem_filter.mpr ⟨List.mem_finRange _, decide_eq_true (Subsingleton.elim (α := S_.Idx) _ _)⟩)
  rwa [Equiv.symm_apply_apply] at h1

theorem real (x : EReal) (h : Ideal.cmp .olt (max x (-x)) (Ideal.ofBits .f32 0x7F800000#32) = 1#1) : x ≠ ⊤ ∧ x ≠ ⊥ := by
  have htop : Ideal.ofBits .f32 0x7F800000#32 = (⊤ : EReal) := by simp [Ideal.ofBits, Ideal.ieee]
  rw [htop] at h
  refine ⟨fun e => ?_, fun e => ?_⟩ <;> subst e <;> simp [Ideal.cmp] at h

variable {x0 : FVec Ideal S16384x3072 .bf16} {x1 : FVec Ideal S16384x512 .f32} {x2 x3 : FVec Ideal S1x512 .f32} {x4 : FVec Ideal S16384x2048 .bf16}

theorem all (h : fn (F := Ideal) x0 x1 x2 x3 x4 = fun _ => 1#1) :
    (∀ i, (x0 i : EReal) ≠ ⊤ ∧ (x0 i : EReal) ≠ ⊥) ∧ (∀ i, (x1 i : EReal) ≠ ⊤ ∧ (x1 i : EReal) ≠ ⊥) ∧ (∀ i, (x2 i : EReal) ≠ ⊤ ∧ (x2 i : EReal) ≠ ⊥)
      ∧ (∀ i, (x3 i : EReal) ≠ ⊤ ∧ (x3 i : EReal) ≠ ⊥) ∧ (∀ i, (x4 i : EReal) ≠ ⊤ ∧ (x4 i : EReal) ≠ ⊥) := by
  have hj := congrFun h (fun a => a.elim0)
  unfold fn fn_part1 at hj
  obtain ⟨h1, h5⟩ := both _ _ hj
  obtain ⟨h2, h4⟩ := both _ _ h1
  obtain ⟨h3, hc⟩ := both _ _ h2
  obtain ⟨ha, hb⟩ := both _ _ h3
  exact ⟨fun i => real _ (every _ _ _ _ _ ha i), fun i => real _ (every _ _ _ _ _ hb i), fun i => real _ (every _ _ _ _ _ hc i),
    fun i => real _ (every _ _ _ _ _ h4 i), fun i => real _ (every _ _ _ _ _ h5 i)⟩

end Cert.Scan.Finite
-- ==== Proof.Scan.Host.lean ====
/- The states the kernel is given are the reference's: the host computes them by the same operations. -/
module

public import proofs.«01_k».proof.Proof.Gen.KernelIdeal.Frame
public import proofs.«01_k».proof.Proof.Gen.ReferenceIdeal.Read

@[expose] public section

noncomputable section

namespace Cert.Scan.Host

open Idealize.ShloMosaic Idealize.ShloMosaic.TcCoe Idealize.ShloMosaic.StableHlo Cert.KernelIdeal Cert.KernelIdeal.Gen Cert.ReferenceIdeal.Read

variable {F : FTy → Type} [FloatOps F]

theorem after_two (l₁ l₂ : List (HloOp τ sig (Elt F))) (V : Valuation τ sig (Elt F)) : after (l₁ ++ l₂) V = after l₂ (after l₁ V) := by
  induction l₁ generalizing V with
  | nil => rfl
  | cons o l ih => exact ih _

variable (V : Valuation τ sig (Elt F)) {x0 : (⟨Cert.ReferenceIdeal.S16384x3072, .bf16⟩ : BufTy).Contents (Elt F)}
  {x1 : (⟨Cert.ReferenceIdeal.S16384x512, .f32⟩ : BufTy).Contents (Elt F)} {x2 x3 : (⟨Cert.ReferenceIdeal.S1x512, .f32⟩ : BufTy).Contents (Elt F)}

/-- What a stretch's operations leave, one buffer at a time. -/
theorem s0_v3 (h : V (Proc.devRef .tc main_arg0) = x0) : after hostOps0 V (Proc.devRef .tc main_v3) = val_main_v3 (F := F) x0 := by
  simp only [hostOps0]; after_results_simp; rw [h]; rfl
theorem s0_v4 (h : V (Proc.devRef .tc main_arg0) = x0) : after hostOps0 V (Proc.devRef .tc main_v4) = val_main_v4 (F := F) x0 := by
  simp only [hostOps0]; after_results_simp; rw [h]; rfl
theorem s0_v12 (h : V (Proc.devRef .tc main_arg1) = x1) (h' : V (Proc.devRef .tc main_arg2) = x2) :
    after hostOps0 V (Proc.devRef .tc main_v12) = val_main_v12 (F := F) x1 x2 := by
  simp only [hostOps0]; after_results_simp; rw [h, h']; rfl
theorem s0_a3 : after hostOps0 V (Proc.devRef .tc main_arg3) = V (Proc.devRef .tc main_arg3) := by
  simp only [hostOps0]; after_results_simp

theorem s1_v13 (h : V (Proc.devRef .tc main_v12) = val_main_v12 (F := F) x1 x2) :
    after hostOps0_1 V (Proc.devRef .tc main_v13) = val_main_v13_0 (F := F) x1 x2 := by
  simp only [hostOps0_1, TRef.binary, TRef.nullary, TRef.unary, TRef.ternary, TRef.toBuf, TRef.ofBuf, cast_eq]
  after_results_simp; rw [h]; rfl
theorem s1_v3 : after hostOps0_1 V (Proc.devRef .tc main_v3) = V (Proc.devRef .tc main_v3) := by
  simp only [hostOps0_1, TRef.binary, TRef.nullary, TRef.unary, TRef.ternary]; after_results_simp
theorem s1_v4 : after hostOps0_1 V (Proc.devRef .tc main_v4) = V (Proc.devRef .tc main_v4) := by
  simp only [hostOps0_1, TRef.binary, TRef.nullary, TRef.unary, TRef.ternary]; after_results_simp
theorem s1_a3 : after hostOps0_1 V (Proc.devRef .tc main_arg3) = V (Proc.devRef .tc main_arg3) := by
  simp only [hostOps0_1, TRef.binary, TRef.nullary, TRef.unary, TRef.ternary]; after_results_simp

theorem s2_v20 (h : V (Proc.devRef .tc main_v3) = val_main_v3 (F := F) x0) (h' : V (Proc.devRef .tc main_v13) = val_main_v13_0 (F := F) x1 x2) :
    after hostOps0_2 V (Proc.devRef .tc main_v20) = val_main_v20 (F := F) x0 x1 x2 := by
  simp only [hostOps0_2]; after_results_simp; rw [h, h']; rfl
theorem s2_v24 (h : V (Proc.devRef .tc main_arg3) = x3) (h' : V (Proc.devRef .tc main_v13) = val_main_v13_0 (F := F) x1 x2) :
    after hostOps0_2 V (Proc.devRef .tc main_v24) = val_main_v24 (F := F) x1 x2 x3 := by
  simp only [hostOps0_2]; after_results_simp; rw [h, h']; rfl
theorem s2_v4 : after hostOps0_2 V (Proc.devRef .tc main_v4) = V (Proc.devRef .tc main_v4) := by
  simp only [hostOps0_2]; after_results_simp

theorem s3_v25 (h : V (Proc.devRef .tc main_v24) = val_main_v24 (F := F) x1 x2 x3) :
    after hostOps0_3 V (Proc.devRef .tc main_v25) = val_main_v25 (F := F) x1 x2 x3 := by
  simp only [hostOps0_3, TRef.binary, TRef.nullary, TRef.unary, TRef.toBuf, TRef.ofBuf, cast_eq]
  after_results_simp; rw [h]; rfl
theorem s3_v20 : after hostOps0_3 V (Proc.devRef .tc main_v20) = V (Proc.devRef .tc main_v20) := by
  simp only [hostOps0_3, TRef.binary, TRef.nullary, TRef.unary]; after_results_simp
theorem s3_v4 : after hostOps0_3 V (Proc.devRef .tc main_v4) = V (Proc.devRef .tc main_v4) := by
  simp only [hostOps0_3, TRef.binary, TRef.nullary, TRef.unary]; after_results_simp

theorem s4_v34 (h : V (Proc.devRef .tc main_v25) = val_main_v25 (F := F) x1 x2 x3) (h' : V (Proc.devRef .tc main_v20) = val_main_v20 (F := F) x0 x1 x2)
    (h4 : V (Proc.devRef .tc main_v4) = val_main_v4 (F := F) x0) :
    after hostOps0_4 V (Proc.devRef .tc main_v34) = val_main_v34 (F := F) x0 x1 x2 x3 := by
  simp only [hostOps0_4]; after_results_simp; rw [h, h', h4]; rfl
theorem s4_v36 (h : V (Proc.devRef .tc main_v25) = val_main_v25 (F := F) x1 x2 x3) :
    after hostOps0_4 V (Proc.devRef .tc main_v36) = val_main_v36 (F := F) x1 x2 x3 := by
  simp only [hostOps0_4]; after_results_simp; rw [h]; rfl

theorem s5_v37 (h : V (Proc.devRef .tc main_v36) = val_main_v36 (F := F) x1 x2 x3) :
    after hostOps0_5 V (Proc.devRef .tc main_v37) = val_main_v37 (F := F) x1 x2 x3 := by
  simp only [hostOps0_5, TRef.binary, TRef.nullary, TRef.unary, TRef.toBuf, TRef.ofBuf, cast_eq]
  after_results_simp; rw [h]; rfl
theorem s5_v36 : after hostOps0_5 V (Proc.devRef .tc main_v36) = V (Proc.devRef .tc main_v36) := by
  simp only [hostOps0_5, TRef.binary, TRef.nullary, TRef.unary]; after_results_simp
theorem s5_v34 : after hostOps0_5 V (Proc.devRef .tc main_v34) = V (Proc.devRef .tc main_v34) := by
  simp only [hostOps0_5, TRef.binary, TRef.nullary, TRef.unary]; after_results_simp

theorem s6_v43 (h : V (Proc.devRef .tc main_v37) = val_main_v37 (F := F) x1 x2 x3) (h' : V (Proc.devRef .tc main_v36) = val_main_v36 (F := F) x1 x2 x3) :
    after hostOps0_6 V (Proc.devRef .tc main_v43) = val_main_v43 (F := F) x1 x2 x3 := by
  simp only [hostOps0_6]; after_results_simp; rw [h, h']; rfl
theorem s6_v44 : after hostOps0_6 V (Proc.devRef .tc main_v44) = val_main_v44 (F := F) := by
  simp only [hostOps0_6]; after_results_simp; rfl
theorem s6_v34 : after hostOps0_6 V (Proc.devRef .tc main_v34) = V (Proc.devRef .tc main_v34) := by
  simp only [hostOps0_6]; after_results_simp

theorem s7_v45 (h : V (Proc.devRef .tc main_v44) = val_main_v44 (F := F)) : after hostOps0_7 V (Proc.devRef .tc main_v45) = val_main_v45 (F := F) := by
  simp only [hostOps0_7, TRef.binary, TRef.nullary, TRef.unary, TRef.ternary, TRef.toBuf, TRef.ofBuf, cast_eq]
  after_results_simp; rw [h]; rfl
theorem s7_v43 : after hostOps0_7 V (Proc.devRef .tc main_v43) = V (Proc.devRef .tc main_v43) := by
  simp only [hostOps0_7, TRef.binary, TRef.nullary, TRef.unary, TRef.ternary]; after_results_simp
theorem s7_v34 : after hostOps0_7 V (Proc.devRef .tc main_v34) = V (Proc.devRef .tc main_v34) := by
  simp only [hostOps0_7, TRef.binary, TRef.nullary, TRef.unary, TRef.ternary]; after_results_simp

theorem s9_v46 (h : V (Proc.devRef .tc main_v45) = val_main_v45 (F := F)) (h' : V (Proc.devRef .tc main_v43) = val_main_v43 (F := F) x1 x2 x3) :
    after hostOps0_9 (after hostOps0_8 V) (Proc.devRef .tc main_v46) = val_main_v46_0 (F := F) x1 x2 x3 := by
  simp only [hostOps0_8, hostOps0_9, TRef.unary, TRef.ternary, TRef.toBuf, TRef.ofBuf, cast_eq]
  after_results_simp; rw [h, h']; rfl
theorem s9_v45 : after hostOps0_9 (after hostOps0_8 V) (Proc.devRef .tc main_v45) = V (Proc.devRef .tc main_v45) := by
  simp only [hostOps0_8, hostOps0_9, TRef.unary, TRef.ternary]; after_results_simp
theorem s9_v34 : after hostOps0_9 (after hostOps0_8 V) (Proc.devRef .tc main_v34) = V (Proc.devRef .tc main_v34) := by
  simp only [hostOps0_8, hostOps0_9, TRef.unary, TRef.ternary]; after_results_simp

theorem s11_v48 (h : V (Proc.devRef .tc main_v45) = val_main_v45 (F := F)) (h' : V (Proc.devRef .tc main_v46) = val_main_v46_0 (F := F) x1 x2 x3) :
    after hostOps0_11 (after hostOps0_10 V) (Proc.devRef .tc main_v48) = val_main_v48_0 (F := F) x1 x2 x3 := by
  simp only [hostOps0_10, hostOps0_11, TRef.unary, TRef.ternary, TRef.toBuf, TRef.ofBuf, cast_eq]
  after_results_simp; rw [h, h']; rfl
theorem s11_v34 : after hostOps0_11 (after hostOps0_10 V) (Proc.devRef .tc main_v34) = V (Proc.devRef .tc main_v34) := by
  simp only [hostOps0_10, hostOps0_11, TRef.unary, TRef.ternary]; after_results_simp

theorem s12_v53 (h : V (Proc.devRef .tc main_v34) = val_main_v34 (F := F) x0 x1 x2 x3) (h' : V (Proc.devRef .tc main_v48) = val_main_v48_0 (F := F) x1 x2 x3) :
    after hostOps0_12 V (Proc.devRef .tc main_v53)
      = truncf .bf16 (shapeCast S128x128x2048 (transpose S128x128x4x8x64 [0, 4, 1, 2, 3] (val_main_v50 (F := F) x0 x1 x2 x3) transposes_S128x4x8x64x128_S128x128x4x8x64_0_4_1_2_3)
          shapeCasts_S128x128x4x8x64_S128x128x2048) bitsLt_bf16_f32 := by
  simp only [hostOps0_12]; after_results_simp; rw [h, h']; rfl

theorem states (m : (ℓ : Loc nD τ sig) → Buf (Elt F) ℓ) (c : Dev nD)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    Cert.KernelIdeal.Gen.V m c main_v53
      = truncf .bf16 (shapeCast S128x128x2048 (transpose S128x128x4x8x64 [0, 4, 1, 2, 3] (val_main_v50 (F := F) x0 x1 x2 x3) transposes_S128x4x8x64x128_S128x128x4x8x64_0_4_1_2_3)
          shapeCasts_S128x128x4x8x64_S128x128x2048) bitsLt_bf16_f32 := by
  unfold Cert.KernelIdeal.Gen.V
  rw [List.flatten_cons, List.flatten_cons, List.flatten_cons, List.flatten_cons, List.flatten_cons, List.flatten_cons, List.flatten_cons, List.flatten_cons, List.flatten_cons,
    List.flatten_cons, List.flatten_cons, List.flatten_cons, List.flatten_cons, List.flatten_nil, List.append_nil, after_two, after_two, after_two, after_two, after_two, after_two,
    after_two, after_two, after_two, after_two, after_two, after_two]
  have a13 := s1_v13 (after hostOps0 (fun b => m (c, b))) (s0_v12 _ h1 h2)
  have a3 := (s1_v3 (after hostOps0 (fun b => m (c, b)))).trans (s0_v3 _ h0)
  have a4 := (s1_v4 (after hostOps0 (fun b => m (c, b)))).trans (s0_v4 _ h0)
  have aa := (s1_a3 (after hostOps0 (fun b => m (c, b)))).trans ((s0_a3 _).trans h3)
  generalize after hostOps0_1 (after hostOps0 (fun b => m (c, b))) = V1 at *
  have b20 := (s3_v20 _).trans (s2_v20 V1 a3 a13)
  have b25 := s3_v25 _ (s2_v24 V1 aa a13)
  have b4 := (s3_v4 _).trans ((s2_v4 V1).trans a4)
  generalize after hostOps0_3 (after hostOps0_2 V1) = V3 at *
  have c34 := (s6_v34 _).trans ((s5_v34 _).trans (s4_v34 V3 b25 b20 b4))
  have c36 := s4_v36 V3 b25
  have c43 := s6_v43 _ (s5_v37 _ c36) ((s5_v36 _).trans c36)
  have c44 := s6_v44 (after hostOps0_5 (after hostOps0_4 V3))
  generalize after hostOps0_6 (after hostOps0_5 (after hostOps0_4 V3)) = V6 at *
  have d45 := s7_v45 V6 c44
  have d43 := (s7_v43 V6).trans c43
  have d34 := (s7_v34 V6).trans c34
  generalize after hostOps0_7 V6 = V7 at *
  have e46 := s9_v46 V7 d45 d43
  have e45 := (s9_v45 V7).trans d45
  have e34 := (s9_v34 V7).trans d34
  generalize after hostOps0_9 (after hostOps0_8 V7) = V9 at *
  exact s12_v53 _ ((s11_v34 V9).trans e34) (s11_v48 V9 e45 e46)

end Cert.Scan.Host
-- ==== Proof.Scan.Lift.lean ====
/- Matrices of real numbers as values of the ideal instance, and what each operation that the kernel uses does to them.
   A matrix is a function of two naturals; `L2 f` is the array of extended reals that it gives. -/
module

public import proofs.«01_k».proof.Proof.Gen.KernelIdeal
public import Idealize.ShloMosaic.PureOps.Ideal.Laws
public import Idealize.ShloMosaic.Lib.ValueIdx
public import Idealize.ShloMosaic.Lib.IdealHost
public import Idealize.ShloMosaic.Lib.MatmulPlain
public import Idealize.ShloMosaic.Lib.Pipeline.Value
public import Idealize.ShloMosaic.Lib.ValueLayout
public import Idealize.ShloMosaic.Lib.Pointwise.SelectCore

@[expose] public section

noncomputable section

namespace Cert.Scan

open Idealize.ShloMosaic Idealize.ShloMosaic.ValueIdx
open scoped BigOperators

/-- The vector that a function of one natural gives. -/
def L1 {a : ℕ} (f : ℕ → ℝ) : (⟨1, ![a]⟩ : Shape).Idx → EReal := fun i => ((f (i 0).val : ℝ) : EReal)
/-- The matrix that a function of two naturals gives. -/
def L2 {a b : ℕ} (f : ℕ → ℕ → ℝ) : (⟨2, ![a, b]⟩ : Shape).Idx → EReal :=
  fun i => ((f (i 0).val (i 1).val : ℝ) : EReal)
/-- The array of rank three that a function of three naturals gives. -/
def L3 {a b c : ℕ} (f : ℕ → ℕ → ℕ → ℝ) : (⟨3, ![a, b, c]⟩ : Shape).Idx → EReal :=
  fun i => ((f (i 0).val (i 1).val (i 2).val : ℝ) : EReal)
/-- The mask that a predicate of two naturals gives. -/
def B2 {a b : ℕ} (p : ℕ → ℕ → Bool) : (⟨2, ![a, b]⟩ : Shape).Idx → BitVec 1 :=
  fun i => BitVec.ofBool (p (i 0).val (i 1).val)
/-- The matrix of 32-bit words that a function of two naturals gives. -/
def I2 {a b : ℕ} (f : ℕ → ℕ → ℕ) : (⟨2, ![a, b]⟩ : Shape).Idx → BitVec 32 :=
  fun i => BitVec.ofNat 32 (f (i 0).val (i 1).val)

theorem L2_congr {a b : ℕ} {f g : ℕ → ℕ → ℝ} (h : ∀ r < a, ∀ c < b, f r c = g r c) :
    (L2 f : (⟨2, ![a, b]⟩ : Shape).Idx → EReal) = L2 g := by
  funext i
  unfold L2
  rw [h (i 0).val (i 0).isLt (i 1).val (i 1).isLt]

section Elementwise
variable {a b : ℕ} {φ : FTy} (f g : ℕ → ℕ → ℝ)

theorem addf_L2 : addf (F := Ideal) (φ := φ) (L2 f : (⟨2, ![a, b]⟩ : Shape).Idx → EReal) (L2 g) = L2 (fun r c => f r c + g r c) := by
  funext i; exact (EReal.coe_add _ _).symm
theorem subf_L2 : subf (F := Ideal) (φ := φ) (L2 f : (⟨2, ![a, b]⟩ : Shape).Idx → EReal) (L2 g) = L2 (fun r c => f r c - g r c) := by
  funext i; exact (EReal.coe_sub _ _).symm
theorem mulf_L2 : mulf (F := Ideal) (φ := φ) (L2 f : (⟨2, ![a, b]⟩ : Shape).Idx → EReal) (L2 g) = L2 (fun r c => f r c * g r c) := by
  funext i; exact (EReal.coe_mul _ _).symm
theorem maximumf_L2 : maximumf (F := Ideal) (φ := φ) (L2 f : (⟨2, ![a, b]⟩ : Shape).Idx → EReal) (L2 g) = L2 (fun r c => max (f r c) (g r c)) := by
  funext i; exact (EReal.coe_strictMono.monotone.map_max).symm
theorem absf_L2 : absf (F := Ideal) (φ := φ) (L2 f : (⟨2, ![a, b]⟩ : Shape).Idx → EReal) = L2 (fun r c => |f r c|) := by
  funext i
  show max ((f _ _ : ℝ) : EReal) (-((f _ _ : ℝ) : EReal)) = _
  rw [← EReal.coe_neg]
  exact (EReal.coe_strictMono.monotone.map_max).symm
theorem exp_L2 : exp (F := Ideal) (φ := φ) (L2 f : (⟨2, ![a, b]⟩ : Shape).Idx → EReal) = L2 (fun r c => Real.exp (f r c)) := rfl
theorem truncf_L2 {ψ : FTy} (h : ψ.bits < φ.bits) :
    truncf (F := Ideal) ψ (L2 f : (⟨2, ![a, b]⟩ : Shape).Idx → EReal) h = L2 f := rfl
theorem extf_L2 {ψ : FTy} (h : φ.bits < ψ.bits) :
    extf (F := Ideal) ψ (L2 f : (⟨2, ![a, b]⟩ : Shape).Idx → EReal) h = L2 f := rfl
/-- The logarithm where the argument is positive. -/
theorem log_L2 (h : ∀ r c, 0 < f r c) :
    log (F := Ideal) (φ := φ) (L2 f : (⟨2, ![a, b]⟩ : Shape).Idx → EReal) = L2 (fun r c => Real.log (f r c)) := by
  funext i
  show (if f _ _ ≤ 0 then (⊥ : EReal) else ((Real.log (f _ _) : ℝ) : EReal)) = _
  rw [if_neg (not_le.2 (h _ _))]; rfl
/-- The quotient where the divisor is positive. -/
theorem divf_L2 (h : ∀ r c, 0 < g r c) :
    divf (F := Ideal) (φ := φ) (L2 f : (⟨2, ![a, b]⟩ : Shape).Idx → EReal) (L2 g) = L2 (fun r c => f r c / g r c) := by
  funext i
  show Ideal.div ((f _ _ : ℝ) : EReal) ((g _ _ : ℝ) : EReal) = _
  unfold Ideal.div
  rw [if_neg (by rw [EReal.coe_eq_zero]; exact (h _ _).ne'), ← EReal.coe_inv, ← EReal.coe_mul]; rfl
theorem select_L2 (p : ℕ → ℕ → Bool) : select (B2 p : (⟨2, ![a, b]⟩ : Shape).Idx → BitVec 1) (L2 f) (L2 g)
    = L2 (fun r c => if p r c = true then f r c else g r c) := by
  funext i
  show (if BitVec.ofBool (p _ _) = 1 then ((f _ _ : ℝ) : EReal) else ((g _ _ : ℝ) : EReal)) = (((if _ then _ else _ : ℝ)) : EReal)
  cases p (i 0).val (i 1).val <;> rfl
/-- A zero everywhere. -/
theorem zero_L2 : (broadcast (⟨2, ![a, b]⟩ : Shape) (Scalar.ofBits (F := Ideal) .f32 0x00000000#32) : (⟨2, ![a, b]⟩ : Shape).Idx → EReal)
    = L2 (fun _ _ => 0) := by
  funext i; exact Ideal.ofBits_zero_f32.trans EReal.coe_zero.symm
/-- A one everywhere. -/
theorem one_L2 : (broadcast (⟨2, ![a, b]⟩ : Shape) (Scalar.ofBits (F := Ideal) .f32 0x3F800000#32) : (⟨2, ![a, b]⟩ : Shape).Idx → EReal)
    = L2 (fun _ _ => 1) := by
  funext i; exact Ideal.ofBits_one_f32.trans EReal.coe_one.symm

end Elementwise

section Layout
variable {a b a' b' : ℕ} (f : ℕ → ℕ → ℝ)

theorem slice_L2 (o : Fin 2 → ℕ) (h : (⟨2, ![a, b]⟩ : Shape).Slices o ⟨2, ![a', b']⟩) :
    extractStridedSlice ⟨2, ![a', b']⟩ o (L2 f : (⟨2, ![a, b]⟩ : Shape).Idx → EReal) h = L2 (fun r c => f (o 0 + r) (o 1 + c)) := rfl
theorem slice_B2 (o : Fin 2 → ℕ) (p : ℕ → ℕ → Bool) (h : (⟨2, ![a, b]⟩ : Shape).Slices o ⟨2, ![a', b']⟩) :
    extractStridedSlice ⟨2, ![a', b']⟩ o (B2 p : (⟨2, ![a, b]⟩ : Shape).Idx → BitVec 1) h = B2 (fun r c => p (o 0 + r) (o 1 + c)) := rfl
/-- A row repeated. -/
theorem bcastRow_L2 (hb : b ≠ 1) (h : (⟨2, ![1, b]⟩ : Shape).Broadcasts ⟨2, ![a', b]⟩) :
    broadcastTo ⟨2, ![a', b]⟩ (L2 f : (⟨2, ![1, b]⟩ : Shape).Idx → EReal) h = L2 (fun _ c => f 0 c) := by
  funext i
  rw [broadcastTo_apply _ h i (ValueIdx.ix2 0 (i 1)) (fun x => by
    match x with
    | ⟨0, _⟩ => rfl
    | ⟨1, _⟩ => exact (if_neg hb).symm)]
  rfl
/-- A column repeated. -/
theorem bcastCol_L2 (ha : a ≠ 1) (h : (⟨2, ![a, 1]⟩ : Shape).Broadcasts ⟨2, ![a, b']⟩) :
    broadcastTo ⟨2, ![a, b']⟩ (L2 f : (⟨2, ![a, 1]⟩ : Shape).Idx → EReal) h = L2 (fun r _ => f r 0) := by
  funext i
  rw [broadcastTo_apply _ h i (ValueIdx.ix2 (i 0) 0) (fun x => by
    match x with
    | ⟨0, _⟩ => exact (if_neg ha).symm
    | ⟨1, _⟩ => rfl)]
  rfl
/-- One number repeated. -/
theorem bcastOne_L2 (h : (⟨2, ![1, 1]⟩ : Shape).Broadcasts ⟨2, ![a', b']⟩) :
    broadcastTo ⟨2, ![a', b']⟩ (L2 f : (⟨2, ![1, 1]⟩ : Shape).Idx → EReal) h = L2 (fun _ _ => f 0 0) := by
  funext i
  rw [broadcastTo_apply _ h i (ValueIdx.ix2 0 0) (fun x => by
    match x with
    | ⟨0, _⟩ => rfl
    | ⟨1, _⟩ => rfl)]
  rfl
theorem transpose_L2 (h : (⟨2, ![a, b]⟩ : Shape).Transposes [1, 0] ⟨2, ![b, a]⟩) :
    transpose ⟨2, ![b, a]⟩ [1, 0] (L2 f : (⟨2, ![a, b]⟩ : Shape).Idx → EReal) h = L2 (fun r c => f c r) := by
  funext i
  rw [transpose_apply [1, 0] _ h i (ValueIdx.ix2 (i 1) (i 0)) (fun x => by
    match x with
    | ⟨0, _⟩ => rfl
    | ⟨1, _⟩ => rfl)]
  rfl
theorem cast_self_L2 (h : (⟨2, ![a, b]⟩ : Shape).ShapeCasts ⟨2, ![a, b]⟩) :
    shapeCast ⟨2, ![a, b]⟩ (L2 f : (⟨2, ![a, b]⟩ : Shape).Idx → EReal) h = L2 f := shapeCast_self _ _
theorem cast_L3 (f : ℕ → ℕ → ℕ → ℝ) (h : (⟨3, ![1, a, b]⟩ : Shape).ShapeCasts ⟨2, ![a, b]⟩) :
    shapeCast ⟨2, ![a, b]⟩ (L3 f : (⟨3, ![1, a, b]⟩ : Shape).Idx → EReal) h = L2 (fun r c => f 0 r c) := by
  funext i
  rw [shapeCast_dropUnit_apply]
  rfl
theorem cast_L1 (f : ℕ → ℝ) (h : (⟨1, ![b]⟩ : Shape).ShapeCasts ⟨2, ![1, b]⟩) :
    shapeCast ⟨2, ![1, b]⟩ (L1 f : (⟨1, ![b]⟩ : Shape).Idx → EReal) h = L2 (fun _ c => f c) := by
  funext i
  rw [shapeCast_addUnit_apply]
  rfl

end Layout

/-- A finite sum of reals in the extended reals. -/
theorem coe_sum {n : ℕ} (f : ℕ → ℝ) : (∑ k : Fin n, ((f k.val : ℝ) : EReal)) = ((∑ k ∈ Finset.range n, f k : ℝ) : EReal) := by
  rw [Finset.sum_range]
  induction n with
  | zero => simp
  | succ n ih => rw [Fin.sum_univ_castSucc, Fin.sum_univ_castSucc, EReal.coe_add]; exact congrArg (· + _) ih

/-- The sum down the columns. -/
theorem reduce_L2 {a b : ℕ} {φ : FTy} (f : ℕ → ℕ → ℝ) (acc : BitVec φ.bits) (h : (⟨2, ![a, b]⟩ : Shape).Reduces [0] ⟨1, ![b]⟩)
    (hφ : FKind.Formats φ) (hacc : acc = FKind.neutral .add φ hφ) :
    multiReduction (F := Ideal) .add [0] ⟨1, ![b]⟩ (L2 f : (⟨2, ![a, b]⟩ : Shape).Idx → EReal) acc h hφ hacc
      = L1 (fun c => ∑ r ∈ Finset.range a, f r c) := by
  funext j
  rw [Ideal.multiReduction_add_single]
  exact coe_sum (n := a) (fun r => f r (j 0).val)

section Product
variable {M K N : ℕ} {φ₁ φ₂ : FTy} (prec : Option ContractPrecision) (f g : ℕ → ℕ → ℝ)

theorem sum_mul_coe (n : ℕ) (f g : ℕ → ℝ) :
    (∑ k : Fin n, ((f k.val : ℝ) : EReal) * ((g k.val : ℝ) : EReal)) = ((∑ k ∈ Finset.range n, f k * g k : ℝ) : EReal) := by
  rw [← coe_sum]
  exact Finset.sum_congr rfl fun k _ => (EReal.coe_mul _ _).symm

theorem zero_acc {s : Shape} (j : s.Idx) : (constant (F := Ideal) s .f32 0x00000000#32) j = 0 := Ideal.ofBits_zero_f32

/-- A plain product. -/
theorem mm_plain_L2 :
    FloatOps.matmul (F := Ideal) (φ₁ := φ₁) (φ₂ := φ₂) (DotDims.plain M K N) prec (L2 f : (⟨2, ![M, K]⟩ : Shape).Idx → EReal)
      (L2 g : (⟨2, ![K, N]⟩ : Shape).Idx → EReal) (constant ⟨2, ![M, N]⟩ .f32 0x00000000#32)
      = L2 (fun r c => ∑ k ∈ Finset.range K, f r k * g k c) := by
  funext i
  have h := Ideal.matmul_plain_apply (φ₁ := φ₁) (φ₂ := φ₂) prec (L2 f : (⟨2, ![M, K]⟩ : Shape).Idx → EReal)
      (L2 g : (⟨2, ![K, N]⟩ : Shape).Idx → EReal) (constant ⟨2, ![M, N]⟩ .f32 0x00000000#32) (i 0) (i 1)
  rw [zero_acc, zero_add] at h
  rw [ValueIdx.eq_ix2 i]
  exact h.trans (sum_mul_coe K (fun k => f (i 0).val k) (fun k => g k (i 1).val))

/-- A product with the right factor transposed. -/
theorem mm_nt_L2 :
    FloatOps.matmul (F := Ideal) (φ₁ := φ₁) (φ₂ := φ₂) (DotDims.transposedRhs M K N) prec (L2 f : (⟨2, ![M, K]⟩ : Shape).Idx → EReal)
      (L2 g : (⟨2, ![N, K]⟩ : Shape).Idx → EReal) (constant ⟨2, ![M, N]⟩ .f32 0x00000000#32)
      = L2 (fun r c => ∑ k ∈ Finset.range K, f r k * g c k) := by
  funext i
  have h := Ideal.matmul_transposedRhs_apply (φ₁ := φ₁) (φ₂ := φ₂) prec (L2 f : (⟨2, ![M, K]⟩ : Shape).Idx → EReal)
      (L2 g : (⟨2, ![N, K]⟩ : Shape).Idx → EReal) (constant ⟨2, ![M, N]⟩ .f32 0x00000000#32) (i 0) (i 1)
  rw [zero_acc, zero_add] at h
  rw [ValueIdx.eq_ix2 i]
  exact h.trans (sum_mul_coe K (fun k => f (i 0).val k) (fun k => g (i 1).val k))

/-- A product with the left factor transposed (`D`: any dimension numbers that read that way). -/
theorem mm_tn_L2 (D : DotDims ⟨2, ![K, M]⟩ ⟨2, ![K, N]⟩ ⟨2, ![M, N]⟩) (hr : D.contr.rank = 1) (hs : D.contr.size ⟨0, by omega⟩ = K)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val) :
    FloatOps.matmul (F := Ideal) (φ₁ := φ₁) (φ₂ := φ₂) D prec (L2 f : (⟨2, ![K, M]⟩ : Shape).Idx → EReal)
      (L2 g : (⟨2, ![K, N]⟩ : Shape).Idx → EReal) (constant ⟨2, ![M, N]⟩ .f32 0x00000000#32)
      = L2 (fun r c => ∑ k ∈ Finset.range K, f k r * g k c) := by
  funext i
  rw [Ideal.matmul_apply, zero_acc, zero_add, ← Equiv.sum_comp (contrEquiv1 D K hr hs).symm]
  refine Eq.trans (Finset.sum_congr rfl fun k _ => ?_) (sum_mul_coe K (fun k => f k (i 0).val) (fun k => g k (i 1).val))
  have hk := contrEquiv1_symm_val D K hr hs k
  unfold L2
  rw [hl0, hl1, hr0, hr1, hk]

end Product

/-! ### The masks -/

theorem iota0_I2 {a b : ℕ} (h : (⟨2, ![a, b]⟩ : Shape).Iotas .tc 32 [0]) : iota .tc ⟨2, ![a, b]⟩ 32 [0] h = I2 (fun r _ => r) := by
  funext i; exact iota_single_apply .tc _ 32 0 h i
theorem iota1_I2 {a b : ℕ} (h : (⟨2, ![a, b]⟩ : Shape).Iotas .tc 32 [1]) : iota .tc ⟨2, ![a, b]⟩ 32 [1] h = I2 (fun _ c => c) := by
  funext i; exact iota_single_apply .tc _ 32 1 h i
theorem bcast_I2 {a b : ℕ} (n : ℕ) : (broadcast (⟨2, ![a, b]⟩ : Shape) (BitVec.ofNat 32 n) : (⟨2, ![a, b]⟩ : Shape).Idx → BitVec 32) = I2 (fun _ _ => n) := rfl
theorem subi_zero_I2 {a b : ℕ} (f : ℕ → ℕ → ℕ) :
    subi (I2 f : (⟨2, ![a, b]⟩ : Shape).Idx → BitVec 32) (I2 (fun _ _ => 0)) = I2 f := by
  funext i; show (_ - BitVec.ofNat 32 0 : BitVec 32) = _; simp [I2]
theorem muli_I2 {a b : ℕ} (f g : ℕ → ℕ → ℕ) :
    muli (I2 f : (⟨2, ![a, b]⟩ : Shape).Idx → BitVec 32) (I2 g) = I2 (fun r c => f r c * g r c) := by
  funext i; show (_ * _ : BitVec 32) = _; simp [I2, BitVec.ofNat_mul]
theorem addi_I2 {a b : ℕ} (f g : ℕ → ℕ → ℕ) :
    addi (I2 f : (⟨2, ![a, b]⟩ : Shape).Idx → BitVec 32) (I2 g) = I2 (fun r c => f r c + g r c) := by
  funext i; show (_ + _ : BitVec 32) = _; simp [I2, BitVec.ofNat_add]
theorem andi_B2 {a b : ℕ} (p q : ℕ → ℕ → Bool) :
    andi (B2 p : (⟨2, ![a, b]⟩ : Shape).Idx → BitVec 1) (B2 q) = B2 (fun r c => p r c && q r c) := by
  funext i
  have h : ∀ x y : Bool, BitVec.ofBool x &&& BitVec.ofBool y = BitVec.ofBool (x && y) := by decide
  exact h _ _

theorem toInt_small {n : ℕ} (h : n < 2 ^ 31) : (BitVec.ofNat 32 n).toInt = n := by
  rw [BitVec.toInt_eq_toNat_of_lt (by rw [BitVec.toNat_ofNat]; omega), BitVec.toNat_ofNat]; omega
theorem slt_small {m n : ℕ} (hm : m < 2 ^ 31) (hn : n < 2 ^ 31) : (BitVec.ofNat 32 m).slt (BitVec.ofNat 32 n) = decide (m < n) := by
  unfold BitVec.slt; rw [toInt_small hm, toInt_small hn]; simp
theorem sle_small {m n : ℕ} (hm : m < 2 ^ 31) (hn : n < 2 ^ 31) : (BitVec.ofNat 32 m).sle (BitVec.ofNat 32 n) = decide (m ≤ n) := by
  unfold BitVec.sle; rw [toInt_small hm, toInt_small hn]; simp
theorem eq_small {m n : ℕ} (hm : m < 2 ^ 31) (hn : n < 2 ^ 31) : ((BitVec.ofNat 32 m) == (BitVec.ofNat 32 n)) = decide (m = n) := by
  rw [Bool.eq_iff_iff]
  simp only [beq_iff_eq, decide_eq_true_eq]
  constructor
  · intro h
    have := congrArg BitVec.toInt h
    rw [toInt_small hm, toInt_small hn] at this; omega
  · rintro rfl; rfl

section Cmp
variable {a b : ℕ} (f g : ℕ → ℕ → ℕ) (hf : ∀ r < a, ∀ c < b, f r c < 2 ^ 31) (hg : ∀ r < a, ∀ c < b, g r c < 2 ^ 31)
include hf hg
theorem sge_I2 : cmpi .sge (I2 f : (⟨2, ![a, b]⟩ : Shape).Idx → BitVec 32) (I2 g) = B2 (fun r c => decide (g r c ≤ f r c)) := by
  funext i
  exact congrArg BitVec.ofBool (sle_small (hg _ (i 0).isLt _ (i 1).isLt) (hf _ (i 0).isLt _ (i 1).isLt))
theorem sle_I2 : cmpi .sle (I2 f : (⟨2, ![a, b]⟩ : Shape).Idx → BitVec 32) (I2 g) = B2 (fun r c => decide (f r c ≤ g r c)) := by
  funext i
  exact congrArg BitVec.ofBool (sle_small (hf _ (i 0).isLt _ (i 1).isLt) (hg _ (i 0).isLt _ (i 1).isLt))
theorem slt_I2 : cmpi .slt (I2 f : (⟨2, ![a, b]⟩ : Shape).Idx → BitVec 32) (I2 g) = B2 (fun r c => decide (f r c < g r c)) := by
  funext i
  exact congrArg BitVec.ofBool (slt_small (hf _ (i 0).isLt _ (i 1).isLt) (hg _ (i 0).isLt _ (i 1).isLt))
theorem eq_I2 : cmpi .eq (I2 f : (⟨2, ![a, b]⟩ : Shape).Idx → BitVec 32) (I2 g) = B2 (fun r c => decide (f r c = g r c)) := by
  funext i
  exact congrArg BitVec.ofBool (eq_small (hf _ (i 0).isLt _ (i 1).isLt) (hg _ (i 0).isLt _ (i 1).isLt))
end Cmp

/-! ### Concatenations -/

/-- Two blocks side by side. -/
theorem cat2c_L2 {a d w0 w1 : ℕ} (f0 f1 : ℕ → ℕ → ℝ)
    (h : Shape.Concatenates [(⟨2, ![a, w0]⟩ : Shape), (⟨2, ![a, w1]⟩ : Shape)] ⟨2, ![a, d]⟩ 1) :
    concatenate ⟨2, ![a, d]⟩ 1 [⟨(⟨2, ![a, w0]⟩ : Shape), (L2 f0 : (⟨2, ![a, w0]⟩ : Shape).Idx → EReal)⟩, ⟨(⟨2, ![a, w1]⟩ : Shape), (L2 f1 : (⟨2, ![a, w1]⟩ : Shape).Idx → EReal)⟩] h
      = L2 (fun r k => if k < w0 then f0 r (k) else f1 r (k - w0)) := by
  funext i
  refine (concatenate_cons_apply _ _ _ _ _ _ _).trans ?_
  refine (concatenateAt_cons _ _ _ _ _ _ _ _).trans ?_
  by_cases h0 : (i 1).val < w0
  · refine (dif_pos h0).trans ?_
    show _ = ((if (i 1).val < w0 then f0 (i 0).val ((i 1).val) else f1 (i 0).val ((i 1).val - w0) : ℝ) : EReal)
    rw [if_pos h0]; rfl
  · refine (dif_neg h0).trans ?_
    refine (concatenateAt_singleton _ _ _ _ _ _).trans ?_
    show _ = ((if (i 1).val < w0 then f0 (i 0).val ((i 1).val) else f1 (i 0).val ((i 1).val - w0) : ℝ) : EReal)
    rw [if_neg h0]; rfl

/-- Three blocks side by side. -/
theorem cat3c_L2 {a d w0 w1 w2 : ℕ} (f0 f1 f2 : ℕ → ℕ → ℝ)
    (h : Shape.Concatenates [(⟨2, ![a, w0]⟩ : Shape), (⟨2, ![a, w1]⟩ : Shape), (⟨2, ![a, w2]⟩ : Shape)] ⟨2, ![a, d]⟩ 1) :
    concatenate ⟨2, ![a, d]⟩ 1 [⟨(⟨2, ![a, w0]⟩ : Shape), (L2 f0 : (⟨2, ![a, w0]⟩ : Shape).Idx → EReal)⟩, ⟨(⟨2, ![a, w1]⟩ : Shape), (L2 f1 : (⟨2, ![a, w1]⟩ : Shape).Idx → EReal)⟩, ⟨(⟨2, ![a, w2]⟩ : Shape), (L2 f2 : (⟨2, ![a, w2]⟩ : Shape).Idx → EReal)⟩] h
      = L2 (fun r k => if k < w0 then f0 r (k) else if k - w0 < w1 then f1 r (k - w0) else f2 r (k - w0 - w1)) := by
  funext i
  refine (concatenate_cons_apply _ _ _ _ _ _ _).trans ?_
  refine (concatenateAt_cons _ _ _ _ _ _ _ _).trans ?_
  by_cases h0 : (i 1).val < w0
  · refine (dif_pos h0).trans ?_
    show _ = ((if (i 1).val < w0 then f0 (i 0).val ((i 1).val) else if (i 1).val - w0 < w1 then f1 (i 0).val ((i 1).val - w0) else f2 (i 0).val ((i 1).val - w0 - w1) : ℝ) : EReal)
    rw [if_pos h0]; rfl
  · refine (dif_neg h0).trans ?_
    refine (concatenateAt_cons _ _ _ _ _ _ _ _).trans ?_
    by_cases h1 : (i 1).val - w0 < w1
    · refine (dif_pos h1).trans ?_
      show _ = ((if (i 1).val < w0 then f0 (i 0).val ((i 1).val) else if (i 1).val - w0 < w1 then f1 (i 0).val ((i 1).val - w0) else f2 (i 0).val ((i 1).val - w0 - w1) : ℝ) : EReal)
      rw [if_neg h0, if_pos h1]; rfl
    · refine (dif_neg h1).trans ?_
      refine (concatenateAt_singleton _ _ _ _ _ _).trans ?_
      show _ = ((if (i 1).val < w0 then f0 (i 0).val ((i 1).val) else if (i 1).val - w0 < w1 then f1 (i 0).val ((i 1).val - w0) else f2 (i 0).val ((i 1).val - w0 - w1) : ℝ) : EReal)
      rw [if_neg h0, if_neg h1]; rfl

/-- Four blocks side by side. -/
theorem cat4c_L2 {a d w0 w1 w2 w3 : ℕ} (f0 f1 f2 f3 : ℕ → ℕ → ℝ)
    (h : Shape.Concatenates [(⟨2, ![a, w0]⟩ : Shape), (⟨2, ![a, w1]⟩ : Shape), (⟨2, ![a, w2]⟩ : Shape), (⟨2, ![a, w3]⟩ : Shape)] ⟨2, ![a, d]⟩ 1) :
    concatenate ⟨2, ![a, d]⟩ 1 [⟨(⟨2, ![a, w0]⟩ : Shape), (L2 f0 : (⟨2, ![a, w0]⟩ : Shape).Idx → EReal)⟩, ⟨(⟨2, ![a, w1]⟩ : Shape), (L2 f1 : (⟨2, ![a, w1]⟩ : Shape).Idx → EReal)⟩, ⟨(⟨2, ![a, w2]⟩ : Shape), (L2 f2 : (⟨2, ![a, w2]⟩ : Shape).Idx → EReal)⟩, ⟨(⟨2, ![a, w3]⟩ : Shape), (L2 f3 : (⟨2, ![a, w3]⟩ : Shape).Idx → EReal)⟩] h
      = L2 (fun r k => if k < w0 then f0 r (k) else if k - w0 < w1 then f1 r (k - w0) else if k - w0 - w1 < w2 then f2 r (k - w0 - w1) else f3 r (k - w0 - w1 - w2)) := by
  funext i
  refine (concatenate_cons_apply _ _ _ _ _ _ _).trans ?_
  refine (concatenateAt_cons _ _ _ _ _ _ _ _).trans ?_
  by_cases h0 : (i 1).val < w0
  · refine (dif_pos h0).trans ?_
    show _ = ((if (i 1).val < w0 then f0 (i 0).val ((i 1).val) else if (i 1).val - w0 < w1 then f1 (i 0).val ((i 1).val - w0) else if (i 1).val - w0 - w1 < w2 then f2 (i 0).val ((i 1).val - w0 - w1) else f3 (i 0).val ((i 1).val - w0 - w1 - w2) : ℝ) : EReal)
    rw [if_pos h0]; rfl
  · refine (dif_neg h0).trans ?_
    refine (concatenateAt_cons _ _ _ _ _ _ _ _).trans ?_
    by_cases h1 : (i 1).val - w0 < w1
    · refine (dif_pos h1).trans ?_
      show _ = ((if (i 1).val < w0 then f0 (i 0).val ((i 1).val) else if (i 1).val - w0 < w1 then f1 (i 0).val ((i 1).val - w0) else if (i 1).val - w0 - w1 < w2 then f2 (i 0).val ((i 1).val - w0 - w1) else f3 (i 0).val ((i 1).val - w0 - w1 - w2) : ℝ) : EReal)
      rw [if_neg h0, if_pos h1]; rfl
    · refine (dif_neg h1).trans ?_
      refine (concatenateAt_cons _ _ _ _ _ _ _ _).trans ?_
      by_cases h2 : (i 1).val - w0 - w1 < w2
      · refine (dif_pos h2).trans ?_
        show _ = ((if (i 1).val < w0 then f0 (i 0).val ((i 1).val) else if (i 1).val - w0 < w1 then f1 (i 0).val ((i 1).val - w0) else if (i 1).val - w0 - w1 < w2 then f2 (i 0).val ((i 1).val - w0 - w1) else f3 (i 0).val ((i 1).val - w0 - w1 - w2) : ℝ) : EReal)
        rw [if_neg h0, if_neg h1, if_pos h2]; rfl
      · refine (dif_neg h2).trans ?_
        refine (concatenateAt_singleton _ _ _ _ _ _).trans ?_
        show _ = ((if (i 1).val < w0 then f0 (i 0).val ((i 1).val) else if (i 1).val - w0 < w1 then f1 (i 0).val ((i 1).val - w0) else if (i 1).val - w0 - w1 < w2 then f2 (i 0).val ((i 1).val - w0 - w1) else f3 (i 0).val ((i 1).val - w0 - w1 - w2) : ℝ) : EReal)
        rw [if_neg h0, if_neg h1, if_neg h2]; rfl

/-- Two blocks one above the other. -/
theorem cat2r_L2 {b d w0 w1 : ℕ} (f0 f1 : ℕ → ℕ → ℝ)
    (h : Shape.Concatenates [(⟨2, ![w0, b]⟩ : Shape), (⟨2, ![w1, b]⟩ : Shape)] ⟨2, ![d, b]⟩ 0) :
    concatenate ⟨2, ![d, b]⟩ 0 [⟨(⟨2, ![w0, b]⟩ : Shape), (L2 f0 : (⟨2, ![w0, b]⟩ : Shape).Idx → EReal)⟩, ⟨(⟨2, ![w1, b]⟩ : Shape), (L2 f1 : (⟨2, ![w1, b]⟩ : Shape).Idx → EReal)⟩] h
      = L2 (fun r k => if r < w0 then f0 (r) k else f1 (r - w0) k) := by
  funext i
  refine (concatenate_cons_apply _ _ _ _ _ _ _).trans ?_
  refine (concatenateAt_cons _ _ _ _ _ _ _ _).trans ?_
  by_cases h0 : (i 0).val < w0
  · refine (dif_pos h0).trans ?_
    show _ = ((if (i 0).val < w0 then f0 ((i 0).val) (i 1).val else f1 ((i 0).val - w0) (i 1).val : ℝ) : EReal)
    rw [if_pos h0]; rfl
  · refine (dif_neg h0).trans ?_
    refine (concatenateAt_singleton _ _ _ _ _ _).trans ?_
    show _ = ((if (i 0).val < w0 then f0 ((i 0).val) (i 1).val else f1 ((i 0).val - w0) (i 1).val : ℝ) : EReal)
    rw [if_neg h0]; rfl

/-- Three blocks one above the other. -/
theorem cat3r_L2 {b d w0 w1 w2 : ℕ} (f0 f1 f2 : ℕ → ℕ → ℝ)
    (h : Shape.Concatenates [(⟨2, ![w0, b]⟩ : Shape), (⟨2, ![w1, b]⟩ : Shape), (⟨2, ![w2, b]⟩ : Shape)] ⟨2, ![d, b]⟩ 0) :
    concatenate ⟨2, ![d, b]⟩ 0 [⟨(⟨2, ![w0, b]⟩ : Shape), (L2 f0 : (⟨2, ![w0, b]⟩ : Shape).Idx → EReal)⟩, ⟨(⟨2, ![w1, b]⟩ : Shape), (L2 f1 : (⟨2, ![w1, b]⟩ : Shape).Idx → EReal)⟩, ⟨(⟨2, ![w2, b]⟩ : Shape), (L2 f2 : (⟨2, ![w2, b]⟩ : Shape).Idx → EReal)⟩] h
      = L2 (fun r k => if r < w0 then f0 (r) k else if r - w0 < w1 then f1 (r - w0) k else f2 (r - w0 - w1) k) := by
  funext i
  refine (concatenate_cons_apply _ _ _ _ _ _ _).trans ?_
  refine (concatenateAt_cons _ _ _ _ _ _ _ _).trans ?_
  by_cases h0 : (i 0).val < w0
  · refine (dif_pos h0).trans ?_
    show _ = ((if (i 0).val < w0 then f0 ((i 0).val) (i 1).val else if (i 0).val - w0 < w1 then f1 ((i 0).val - w0) (i 1).val else f2 ((i 0).val - w0 - w1) (i 1).val : ℝ) : EReal)
    rw [if_pos h0]; rfl
  · refine (dif_neg h0).trans ?_
    refine (concatenateAt_cons _ _ _ _ _ _ _ _).trans ?_
    by_cases h1 : (i 0).val - w0 < w1
    · refine (dif_pos h1).trans ?_
      show _ = ((if (i 0).val < w0 then f0 ((i 0).val) (i 1).val else if (i 0).val - w0 < w1 then f1 ((i 0).val - w0) (i 1).val else f2 ((i 0).val - w0 - w1) (i 1).val : ℝ) : EReal)
      rw [if_neg h0, if_pos h1]; rfl
    · refine (dif_neg h1).trans ?_
      refine (concatenateAt_singleton _ _ _ _ _ _).trans ?_
      show _ = ((if (i 0).val < w0 then f0 ((i 0).val) (i 1).val else if (i 0).val - w0 < w1 then f1 ((i 0).val - w0) (i 1).val else f2 ((i 0).val - w0 - w1) (i 1).val : ℝ) : EReal)
      rw [if_neg h0, if_neg h1]; rfl

/-- Five blocks one above the other. -/
theorem cat5r_L2 {b d w0 w1 w2 w3 w4 : ℕ} (f0 f1 f2 f3 f4 : ℕ → ℕ → ℝ)
    (h : Shape.Concatenates [(⟨2, ![w0, b]⟩ : Shape), (⟨2, ![w1, b]⟩ : Shape), (⟨2, ![w2, b]⟩ : Shape), (⟨2, ![w3, b]⟩ : Shape), (⟨2, ![w4, b]⟩ : Shape)] ⟨2, ![d, b]⟩ 0) :
    concatenate ⟨2, ![d, b]⟩ 0 [⟨(⟨2, ![w0, b]⟩ : Shape), (L2 f0 : (⟨2, ![w0, b]⟩ : Shape).Idx → EReal)⟩, ⟨(⟨2, ![w1, b]⟩ : Shape), (L2 f1 : (⟨2, ![w1, b]⟩ : Shape).Idx → EReal)⟩, ⟨(⟨2, ![w2, b]⟩ : Shape), (L2 f2 : (⟨2, ![w2, b]⟩ : Shape).Idx → EReal)⟩, ⟨(⟨2, ![w3, b]⟩ : Shape), (L2 f3 : (⟨2, ![w3, b]⟩ : Shape).Idx → EReal)⟩, ⟨(⟨2, ![w4, b]⟩ : Shape), (L2 f4 : (⟨2, ![w4, b]⟩ : Shape).Idx → EReal)⟩] h
      = L2 (fun r k => if r < w0 then f0 (r) k else if r - w0 < w1 then f1 (r - w0) k else if r - w0 - w1 < w2 then f2 (r - w0 - w1) k else if r - w0 - w1 - w2 < w3 then f3 (r - w0 - w1 - w2) k else f4 (r - w0 - w1 - w2 - w3) k) := by
  funext i
  refine (concatenate_cons_apply _ _ _ _ _ _ _).trans ?_
  refine (concatenateAt_cons _ _ _ _ _ _ _ _).trans ?_
  by_cases h0 : (i 0).val < w0
  · refine (dif_pos h0).trans ?_
    show _ = ((if (i 0).val < w0 then f0 ((i 0).val) (i 1).val else if (i 0).val - w0 < w1 then f1 ((i 0).val - w0) (i 1).val else if (i 0).val - w0 - w1 < w2 then f2 ((i 0).val - w0 - w1) (i 1).val else if (i 0).val - w0 - w1 - w2 < w3 then f3 ((i 0).val - w0 - w1 - w2) (i 1).val else f4 ((i 0).val - w0 - w1 - w2 - w3) (i 1).val : ℝ) : EReal)
    rw [if_pos h0]; rfl
  · refine (dif_neg h0).trans ?_
    refine (concatenateAt_cons _ _ _ _ _ _ _ _).trans ?_
    by_cases h1 : (i 0).val - w0 < w1
    · refine (dif_pos h1).trans ?_
      show _ = ((if (i 0).val < w0 then f0 ((i 0).val) (i 1).val else if (i 0).val - w0 < w1 then f1 ((i 0).val - w0) (i 1).val else if (i 0).val - w0 - w1 < w2 then f2 ((i 0).val - w0 - w1) (i 1).val else if (i 0).val - w0 - w1 - w2 < w3 then f3 ((i 0).val - w0 - w1 - w2) (i 1).val else f4 ((i 0).val - w0 - w1 - w2 - w3) (i 1).val : ℝ) : EReal)
      rw [if_neg h0, if_pos h1]; rfl
    · refine (dif_neg h1).trans ?_
      refine (concatenateAt_cons _ _ _ _ _ _ _ _).trans ?_
      by_cases h2 : (i 0).val - w0 - w1 < w2
      · refine (dif_pos h2).trans ?_
        show _ = ((if (i 0).val < w0 then f0 ((i 0).val) (i 1).val else if (i 0).val - w0 < w1 then f1 ((i 0).val - w0) (i 1).val else if (i 0).val - w0 - w1 < w2 then f2 ((i 0).val - w0 - w1) (i 1).val else if (i 0).val - w0 - w1 - w2 < w3 then f3 ((i 0).val - w0 - w1 - w2) (i 1).val else f4 ((i 0).val - w0 - w1 - w2 - w3) (i 1).val : ℝ) : EReal)
        rw [if_neg h0, if_neg h1, if_pos h2]; rfl
      · refine (dif_neg h2).trans ?_
        refine (concatenateAt_cons _ _ _ _ _ _ _ _).trans ?_
        by_cases h3 : (i 0).val - w0 - w1 - w2 < w3
        · refine (dif_pos h3).trans ?_
          show _ = ((if (i 0).val < w0 then f0 ((i 0).val) (i 1).val else if (i 0).val - w0 < w1 then f1 ((i 0).val - w0) (i 1).val else if (i 0).val - w0 - w1 < w2 then f2 ((i 0).val - w0 - w1) (i 1).val else if (i 0).val - w0 - w1 - w2 < w3 then f3 ((i 0).val - w0 - w1 - w2) (i 1).val else f4 ((i 0).val - w0 - w1 - w2 - w3) (i 1).val : ℝ) : EReal)
          rw [if_neg h0, if_neg h1, if_neg h2, if_pos h3]; rfl
        · refine (dif_neg h3).trans ?_
          refine (concatenateAt_singleton _ _ _ _ _ _).trans ?_
          show _ = ((if (i 0).val < w0 then f0 ((i 0).val) (i 1).val else if (i 0).val - w0 < w1 then f1 ((i 0).val - w0) (i 1).val else if (i 0).val - w0 - w1 < w2 then f2 ((i 0).val - w0 - w1) (i 1).val else if (i 0).val - w0 - w1 - w2 < w3 then f3 ((i 0).val - w0 - w1 - w2) (i 1).val else f4 ((i 0).val - w0 - w1 - w2 - w3) (i 1).val : ℝ) : EReal)
          rw [if_neg h0, if_neg h1, if_neg h2, if_neg h3]; rfl

end Cert.Scan

end
-- ==== Proof.Scan.Group.lean ====
/- One group of heads in one chunk, as the kernel computes it: every intermediate value, over any float values, as a
   definition over what the group reads. The kernel does the same for four groups, interleaved. -/
module

public import proofs.«01_k».proof.Proof.Gen.KernelIdeal.Skeleton

@[expose] public section

noncomputable section

namespace Cert.Scan.G

open Idealize.ShloMosaic Cert.KernelIdeal Cert.KernelIdeal.Gen

variable {F : FTy → Type} [FloatOps F]

/-- What a group reads in a chunk: its columns of the inputs (values, B and C side by side), the raw time steps, the bias
    and the logarithm of the decay, the gradient of the output, the state that enters the chunk, the gradient of the state
    that leaves it, and the running sums of the two small results. -/
structure In (F : FTy → Type) where
  xc : FVec F S128x768 .bf16
  dt : FVec F S128x128 .f32
  bias : FVec F S1x128 .f32
  alog : FVec F S1x128 .f32
  dy : FVec F S128x512 .bf16
  st : FVec F S1x128x512 .bf16
  g : FVec F S128x512 .f32
  dal : FVec F S1x128 .f32
  dbi : FVec F S1x128 .f32

theorem sl_col (k : ℕ) (h : k < 8) : S128x128.Slices ![0, k] S128x1 :=
  ⟨rfl, fun a => by
    match a with
    | ⟨0, _⟩ => exact le_refl 128
    | ⟨1, _⟩ => show k + 1 ≤ 128; omega⟩
theorem sl_row (k : ℕ) (h : k < 8) : S128x128.Slices ![k, 0] S1x128 :=
  ⟨rfl, fun a => by
    match a with
    | ⟨0, _⟩ => show k + 1 ≤ 128; omega
    | ⟨1, _⟩ => exact le_refl 128⟩
theorem sl_pair (k : ℕ) (h : k < 4) : S128x512.Slices ![0, 128 * k] S128x128 :=
  ⟨rfl, fun a => by
    match a with
    | ⟨0, _⟩ => exact le_refl 128
    | ⟨1, _⟩ => show 128 * k + 128 ≤ 512; omega⟩

def c13 (ρ : In F) : FVec F S1x128 .f32 :=
  shapeCast S1x128 ρ.dal shapeCasts_S1x128_S1x128
def c14 : IVec S128x128 32 :=
  iota .tc S128x128 32 [1] iota_S128x128_d1_w32
def c15 : IVec S128x128 32 :=
  iota .tc S128x128 32 [0] iota_S128x128_d0_w32
def maskGe : IVec S128x128 1 :=
  cmpi .sge c14 c15
def oneM : FVec F S128x128 .f32 :=
  broadcast S128x128 (Scalar.ofBits (F := F) .f32 0x3F800000#32)
def zeroM : FVec F S128x128 .f32 :=
  broadcast S128x128 (Scalar.ofBits (F := F) .f32 0x00000000#32)
def c21 : FVec F S128x128 .f32 :=
  select maskGe (oneM (F := F)) (zeroM (F := F))
def c22 : FVec F S128x128 .bf16 :=
  truncf .bf16 (c21 (F := F)) bitsLt_bf16_f32
def dyf (ρ : In F) : FVec F S128x512 .f32 :=
  extf .f32 ρ.dy bitsLt_bf16_f32
def c24 (ρ : In F) : FVec F S128x128 .f32 :=
  broadcastTo S128x128 ρ.bias broadcasts_S1x128_S128x128
def pre (ρ : In F) : FVec F S128x128 .f32 :=
  addf ρ.dt (c24 ρ)
def c26 (ρ : In F) : FVec F S128x128 .f32 :=
  maximumf (pre ρ) (zeroM (F := F))
def c27 (ρ : In F) : FVec F S128x128 .f32 :=
  absf (pre ρ)
def c28 (ρ : In F) : FVec F S128x128 .f32 :=
  subf (zeroM (F := F)) (c27 ρ)
def c29 (ρ : In F) : FVec F S128x128 .f32 :=
  exp (c28 ρ)
def c30 (ρ : In F) : FVec F S128x128 .f32 :=
  addf (oneM (F := F)) (c29 ρ)
def c31 (ρ : In F) : FVec F S128x128 .f32 :=
  log (c30 ρ)
def softp (ρ : In F) : FVec F S128x128 .f32 :=
  addf (c26 ρ) (c31 ρ)
def maskLe : IVec S128x128 1 :=
  cmpi .sle c14 c15
def c34 : FVec F S128x128 .f32 :=
  select maskLe (oneM (F := F)) (zeroM (F := F))
def c35 : FVec F S128x128 .bf16 :=
  truncf .bf16 (c34 (F := F)) bitsLt_bf16_f32
def c36 : FVec F S1x128 .f32 :=
  broadcast S1x128 (Scalar.ofBits (F := F) .f32 0x00000000#32)
def expA (ρ : In F) : FVec F S1x128 .f32 :=
  exp ρ.alog
def aNeg (ρ : In F) : FVec F S1x128 .f32 :=
  subf (c36 (F := F)) (expA ρ)
def c39 (ρ : In F) : FVec F S128x128 .f32 :=
  broadcastTo S128x128 (aNeg ρ) broadcasts_S1x128_S128x128
def c40 (ρ : In F) : FVec F S128x128 .f32 :=
  mulf (softp ρ) (c39 ρ)
def c41 (ρ : In F) : FVec F S128x128 .bf16 :=
  truncf .bf16 (c40 ρ) bitsLt_bf16_f32
def c42 (ρ : In F) : FVec F S128x128 .f32 :=
  extf .f32 (c41 ρ) bitsLt_bf16_f32
def c43 (ρ : In F) : FVec F S128x128 .f32 :=
  subf (c40 ρ) (c42 ρ)
def c44 (ρ : In F) : FVec F S128x128 .bf16 :=
  truncf .bf16 (c43 ρ) bitsLt_bf16_f32
def c45 (ρ : In F) : FVec F S128x128 .f32 :=
  extf .f32 (c44 ρ) bitsLt_bf16_f32
def c46 (ρ : In F) : FVec F S128x128 .f32 :=
  subf (c43 ρ) (c45 ρ)
def c47 (ρ : In F) : FVec F S128x128 .bf16 :=
  truncf .bf16 (c46 ρ) bitsLt_bf16_f32
def c48 (ρ : In F) : FVec F S128x384 .bf16 :=
  concatenate S128x384 1 [⟨S128x128, (c41 ρ)⟩, ⟨S128x128, (c44 ρ)⟩, ⟨S128x128, (c47 ρ)⟩] concatenates_S128x128_S128x128_S128x128_S128x384_d1
def c49 : FVec F S128x384 .f32 :=
  constant S128x384 .f32 0x00000000#32
def c50 (ρ : In F) : FVec F S128x384 .f32 :=
  matmul dot_S128x128_S128x384_S128x384_1_0_0_1_n_n none (c35 (F := F)) (c48 ρ) (c49 (F := F))
def c51 (ρ : In F) : FVec F S128x128 .f32 :=
  extractStridedSlice S128x128 ![0, 0] (c50 ρ) slices_S128x384_o0_0_S128x128
def c52 (ρ : In F) : FVec F S128x128 .f32 :=
  extractStridedSlice S128x128 ![0, 128] (c50 ρ) slices_S128x384_o0_128_S128x128
def c53 (ρ : In F) : FVec F S128x128 .f32 :=
  addf (c51 ρ) (c52 ρ)
def c54 (ρ : In F) : FVec F S128x128 .f32 :=
  extractStridedSlice S128x128 ![0, 256] (c50 ρ) slices_S128x384_o0_256_S128x128
def cs (ρ : In F) : FVec F S128x128 .f32 :=
  addf (c53 ρ) (c54 ρ)
def c56 (ρ : In F) : FVec F S128x128 .f32 :=
  exp (cs ρ)
def tot (ρ : In F) : FVec F S1x128 .f32 :=
  extractStridedSlice S1x128 ![127, 0] (cs ρ) slices_S128x128_o127_0_S1x128
def c58 (ρ : In F) : FVec F S128x128 .f32 :=
  broadcastTo S128x128 (tot ρ) broadcasts_S1x128_S128x128
def c59 (ρ : In F) : FVec F S128x128 .f32 :=
  subf (c58 ρ) (cs ρ)
def c60 (ρ : In F) : FVec F S128x128 .f32 :=
  exp (c59 ρ)
def c61 (ρ : In F) : FVec F S384x128 .f32 :=
  concatenate S384x128 0 [⟨S128x128, (softp ρ)⟩, ⟨S128x128, (c56 ρ)⟩, ⟨S128x128, (c60 ρ)⟩] concatenates_S128x128_S128x128_S128x128_S384x128_d0
def c62 (ρ : In F) : FVec F S384x128 .bf16 :=
  truncf .bf16 (c61 ρ) bitsLt_bf16_f32
def c63 : IVec S128x512 32 :=
  iota .tc S128x512 32 [1] iota_S128x512_d1_w32
def c64 : IVec S128x512 32 :=
  iota .tc S128x512 32 [0] iota_S128x512_d0_w32
def c65 : IVec S128x512 32 :=
  broadcast S128x512 0#32
def c66 : IVec S128x512 32 :=
  subi c64 c65
def c67 : IVec S128x512 32 :=
  broadcast S128x512 64#32
def c68 : IVec S128x512 32 :=
  muli c66 c67
def c69 : IVec S128x512 1 :=
  cmpi .sge c63 c68
def c70 : IVec S128x512 32 :=
  addi c68 c67
def c71 : IVec S128x512 1 :=
  cmpi .slt c63 c70
def c72 : IVec S128x512 1 :=
  andi c69 c71
def c73 : FVec F S128x512 .f32 :=
  broadcast S128x512 (Scalar.ofBits (F := F) .f32 0x3F800000#32)
def c74 : FVec F S128x512 .f32 :=
  broadcast S128x512 (Scalar.ofBits (F := F) .f32 0x00000000#32)
def c75 : FVec F S128x512 .f32 :=
  select c72 (c73 (F := F)) (c74 (F := F))
def selW : FVec F S128x512 .bf16 :=
  truncf .bf16 (c75 (F := F)) bitsLt_bf16_f32
def c77 : FVec F S384x512 .f32 :=
  constant S384x512 .f32 0x00000000#32
def expd (ρ : In F) : FVec F S384x512 .f32 :=
  matmul dot_S384x128_S128x512_S384x512_1_0_0_1_n_n none (c62 ρ) (selW (F := F)) (c77 (F := F))
def exW (ρ : In F) : FVec F S128x512 .f32 :=
  extractStridedSlice S128x512 ![128, 0] (expd ρ) slices_S384x512_o128_0_S128x512
def dye (ρ : In F) : FVec F S128x512 .f32 :=
  mulf (dyf ρ) (exW ρ)
def cm (ρ : In F) : FVec F S128x128 .bf16 :=
  extractStridedSlice S128x128 ![0, 640] ρ.xc slices_S128x768_o0_640_S128x128
def stm (ρ : In F) : FVec F S128x512 .bf16 :=
  shapeCast S128x512 ρ.st shapeCasts_S1x128x512_S128x512
def c83 : FVec F S128x512 .f32 :=
  constant S128x512 .f32 0x00000000#32
def c84 (ρ : In F) : FVec F S128x512 .f32 :=
  matmul dot_S128x128_S128x512_S128x512_1_0_0_1_n_n none (cm ρ) (stm ρ) (c83 (F := F))
def c85 (ρ : In F) : FVec F S128x512 .f32 :=
  mulf (dye ρ) (c84 ρ)
def c86 (ρ : In F) : FVec F S128x512 .bf16 :=
  truncf .bf16 (dyf ρ) bitsLt_bf16_f32
def c87 (ρ : In F) : FVec F S128x512 .f32 :=
  extf .f32 (c86 ρ) bitsLt_bf16_f32
def bm (ρ : In F) : FVec F S128x128 .bf16 :=
  extractStridedSlice S128x128 ![0, 512] ρ.xc slices_S128x768_o0_512_S128x128
def c89 : FVec F S128x128 .f32 :=
  constant S128x128 .f32 0x00000000#32
def cb (ρ : In F) : FVec F S128x128 .f32 :=
  matmul dot_S128x128_S128x128_S128x128_1_1_0_0_n_n none (cm ρ) (bm ρ) (c89 (F := F))
def csT (ρ : In F) : FVec F S128x128 .f32 :=
  transpose S128x128 [1, 0] (cs ρ) transposes_S128x128_p1_0_S128x128
def c113 : IVec S128x128 32 :=
  broadcast S128x128 64#32
def laneLo : IVec S128x128 1 :=
  cmpi .slt c14 c113
def c115 (ρ : In F) : FVec F S128x512 .bf16 :=
  extractStridedSlice S128x512 ![0, 0] ρ.xc slices_S128x768_o0_0_S128x512
def xs (ρ : In F) : FVec F S128x512 .f32 :=
  extf .f32 (c115 ρ) bitsLt_bf16_f32
def dtxW (ρ : In F) : FVec F S128x512 .f32 :=
  extractStridedSlice S128x512 ![0, 0] (expd ρ) slices_S384x512_o0_0_S128x512
def xp (ρ : In F) : FVec F S128x512 .f32 :=
  mulf (xs ρ) (dtxW ρ)
def csCol (ρ : In F) (k : ℕ) (h : k < 8) : FVec F S128x1 .f32 :=
  extractStridedSlice S128x1 ![0, k] (cs ρ) (sl_col k h)
def csRow (ρ : In F) (k : ℕ) (h : k < 8) : FVec F S1x128 .f32 :=
  extractStridedSlice S1x128 ![k, 0] (csT ρ) (sl_row k h)
def csColB (ρ : In F) (k : ℕ) (h : k < 8) : FVec F S128x128 .f32 := broadcastTo S128x128 (csCol ρ k h) broadcasts_S128x1_S128x128
def csRowB (ρ : In F) (k : ℕ) (h : k < 8) : FVec F S128x128 .f32 := broadcastTo S128x128 (csRow ρ k h) broadcasts_S1x128_S128x128
def lamSub (ρ : In F) (k : ℕ) (h : k < 8) : FVec F S128x128 .f32 := subf (csColB ρ k h) (csRowB ρ k h)
def lamSel (ρ : In F) (k : ℕ) (h : k < 8) : FVec F S128x128 .f32 := select maskLe (lamSub ρ k h) (zeroM (F := F))
def lamExp (ρ : In F) (k : ℕ) (h : k < 8) : FVec F S128x128 .f32 := exp (lamSel ρ k h)
/-- The decay of head `k` between two positions of the chunk. -/
def lam (ρ : In F) (k : ℕ) (h : k < 8) : FVec F S128x128 .f32 := select maskLe (lamExp ρ k h) (zeroM (F := F))
def mL (ρ : In F) (k : ℕ) (h : k < 8) : FVec F S128x128 .f32 := mulf (cb ρ) (lam ρ k h)
def mLb (ρ : In F) (k : ℕ) (h : k < 8) : FVec F S128x128 .bf16 := truncf .bf16 (mL ρ k h) bitsLt_bf16_f32
def mCat (ρ : In F) (k : ℕ) (h : k < 4) : FVec F S128x256 .bf16 :=
  concatenate S128x256 1 [⟨S128x128, mLb ρ (2 * k) (by omega)⟩, ⟨S128x128, mLb ρ (2 * k + 1) (by omega)⟩] concatenates_S128x128_S128x128_S128x256_d1
def mCatR (ρ : In F) (k : ℕ) (h : k < 4) : FVec F S256x128 .bf16 :=
  concatenate S256x128 0 [⟨S128x128, mLb ρ (2 * k) (by omega)⟩, ⟨S128x128, mLb ρ (2 * k + 1) (by omega)⟩] concatenates_S128x128_S128x128_S256x128_d0
def xpP (ρ : In F) (k : ℕ) (h : k < 4) : FVec F S128x128 .f32 := extractStridedSlice S128x128 ![0, 128 * k] (xp ρ) (sl_pair k h)
def xpLo (ρ : In F) (k : ℕ) (h : k < 4) : FVec F S128x128 .f32 := select laneLo (xpP ρ k h) (zeroM (F := F))
def xpHi (ρ : In F) (k : ℕ) (h : k < 4) : FVec F S128x128 .f32 := select laneLo (zeroM (F := F)) (xpP ρ k h)
def xpCat (ρ : In F) (k : ℕ) (h : k < 4) : FVec F S256x128 .f32 :=
  concatenate S256x128 0 [⟨S128x128, xpLo ρ k h⟩, ⟨S128x128, xpHi ρ k h⟩] concatenates_S128x128_S128x128_S256x128_d0
def xpCatb (ρ : In F) (k : ℕ) (h : k < 4) : FVec F S256x128 .bf16 := truncf .bf16 (xpCat ρ k h) bitsLt_bf16_f32
/-- Two heads' part of the output within the chunk. -/
def ydP (ρ : In F) (k : ℕ) (h : k < 4) : FVec F S128x128 .f32 :=
  matmul dot_S128x256_S256x128_S128x128_1_0_0_1_n_n none (mCat ρ k h) (xpCatb ρ k h) (constant S128x128 .f32 0x00000000#32)
def dyP (ρ : In F) (k : ℕ) (h : k < 4) : FVec F S128x128 .f32 := extractStridedSlice S128x128 ![0, 128 * k] (dyf ρ) (sl_pair k h)
def dyLo (ρ : In F) (k : ℕ) (h : k < 4) : FVec F S128x128 .f32 := select laneLo (dyP ρ k h) (zeroM (F := F))
def dyHi (ρ : In F) (k : ℕ) (h : k < 4) : FVec F S128x128 .f32 := select laneLo (zeroM (F := F)) (dyP ρ k h)
def dyCat (ρ : In F) (k : ℕ) (h : k < 4) : FVec F S256x128 .f32 :=
  concatenate S256x128 0 [⟨S128x128, dyLo ρ k h⟩, ⟨S128x128, dyHi ρ k h⟩] concatenates_S128x128_S128x128_S256x128_d0
def dyCatb (ρ : In F) (k : ℕ) (h : k < 4) : FVec F S256x128 .bf16 := truncf .bf16 (dyCat ρ k h) bitsLt_bf16_f32
/-- Two heads' part of the gradient of the inputs within the chunk. -/
def dxP (ρ : In F) (k : ℕ) (h : k < 4) : FVec F S128x128 .f32 :=
  matmul dot_S256x128_S256x128_S128x128_0_0_1_1_n_n none (mCatR ρ k h) (dyCatb ρ k h) (constant S128x128 .f32 0x00000000#32)
def xpb (ρ : In F) (k : ℕ) (h : k < 4) : FVec F S128x128 .bf16 := truncf .bf16 (xpP ρ k h) bitsLt_bf16_f32
/-- Two heads' products of output gradients and inputs. -/
def dmP (ρ : In F) (k : ℕ) (h : k < 4) : FVec F S256x128 .f32 :=
  matmul dot_S256x128_S128x128_S256x128_1_1_0_0_n_n none (dyCatb ρ k h) (xpb ρ k h) (constant S256x128 .f32 0x00000000#32)
def dm0 (ρ : In F) (k : ℕ) (h : k < 4) : FVec F S128x128 .f32 := extractStridedSlice S128x128 ![0, 0] (dmP ρ k h) slices_S256x128_o0_0_S128x128
def dm1 (ρ : In F) (k : ℕ) (h : k < 4) : FVec F S128x128 .f32 := extractStridedSlice S128x128 ![128, 0] (dmP ρ k h) slices_S256x128_o128_0_S128x128
def dm0l (ρ : In F) (k : ℕ) (h : k < 4) : FVec F S128x128 .f32 := mulf (dm0 ρ k h) (lam ρ (2 * k) (by omega))
def dm1l (ρ : In F) (k : ℕ) (h : k < 4) : FVec F S128x128 .f32 := mulf (dm1 ρ k h) (lam ρ (2 * k + 1) (by omega))

def ydiag (ρ : In F) : FVec F S128x512 .f32 :=
  concatenate S128x512 1 [⟨S128x128, (ydP ρ 0 (by decide))⟩, ⟨S128x128, (ydP ρ 1 (by decide))⟩, ⟨S128x128, (ydP ρ 2 (by decide))⟩, ⟨S128x128, (ydP ρ 3 (by decide))⟩] concatenates_S128x128_S128x128_S128x128_S128x128_S128x512_d1
def c207 (ρ : In F) : FVec F S128x512 .f32 :=
  mulf (c87 ρ) (ydiag ρ)
def c208 (ρ : In F) : FVec F S128x512 .f32 :=
  addf (c85 ρ) (c207 ρ)
def c209 (ρ : In F) : FVec F S128x512 .bf16 :=
  truncf .bf16 (xp ρ) bitsLt_bf16_f32
def c210 (ρ : In F) : FVec F S128x512 .f32 :=
  extf .f32 (c209 ρ) bitsLt_bf16_f32
def dxdiag (ρ : In F) : FVec F S128x512 .f32 :=
  concatenate S128x512 1 [⟨S128x128, (dxP ρ 0 (by decide))⟩, ⟨S128x128, (dxP ρ 1 (by decide))⟩, ⟨S128x128, (dxP ρ 2 (by decide))⟩, ⟨S128x128, (dxP ρ 3 (by decide))⟩] concatenates_S128x128_S128x128_S128x128_S128x128_S128x512_d1
def c240 (ρ : In F) : FVec F S128x512 .f32 :=
  mulf (c210 ρ) (dxdiag ρ)
def c241 (ρ : In F) : FVec F S128x512 .f32 :=
  subf (c208 ρ) (c240 ρ)
def c242 (ρ : In F) : FVec F S128x512 .bf16 :=
  truncf .bf16 ρ.g bitsLt_bf16_f32
def c243 (ρ : In F) : FVec F S128x512 .f32 :=
  matmul dot_S128x128_S128x512_S128x512_1_0_0_1_n_n none (bm ρ) (c242 ρ) (c83 (F := F))
def dxW (ρ : In F) : FVec F S128x512 .f32 :=
  extractStridedSlice S128x512 ![256, 0] (expd ρ) slices_S384x512_o256_0_S128x512
def bgd (ρ : In F) : FVec F S128x512 .f32 :=
  mulf (c243 ρ) (dxW ρ)
def xpbgd (ρ : In F) : FVec F S128x512 .f32 :=
  mulf (xp ρ) (bgd ρ)
def uu (ρ : In F) : FVec F S128x512 .f32 :=
  subf (c241 ρ) (xpbgd ρ)
def c248 (ρ : In F) : FVec F S128x512 .bf16 :=
  truncf .bf16 (uu ρ) bitsLt_bf16_f32
def c249 (ρ : In F) : FVec F S128x512 .f32 :=
  extf .f32 (c248 ρ) bitsLt_bf16_f32
def c250 (ρ : In F) : FVec F S128x512 .f32 :=
  subf (uu ρ) (c249 ρ)
def c251 (ρ : In F) : FVec F S128x512 .bf16 :=
  truncf .bf16 (c250 ρ) bitsLt_bf16_f32
def dxa (ρ : In F) : FVec F S128x512 .f32 :=
  addf (dxdiag ρ) (bgd ρ)
def ww (ρ : In F) : FVec F S128x512 .f32 :=
  mulf (dxa ρ) (xs ρ)
def c254 (ρ : In F) : FVec F S128x512 .bf16 :=
  truncf .bf16 (ww ρ) bitsLt_bf16_f32
def xbsum1 (ρ : In F) : FVec F S512 .f32 :=
  multiReduction .add [0] S512 (xpbgd ρ) 0x00000000#32 reduces_S128x512_S512 (.inl rfl) rfl
def c256 (ρ : In F) : FVec F S1x512 .f32 :=
  shapeCast S1x512 (xbsum1 ρ) shapeCasts_S512_S1x512
def c257 (ρ : In F) : FVec F S128x512 .f32 :=
  extf .f32 (stm ρ) bitsLt_bf16_f32
def c258 (ρ : In F) : FVec F S128x512 .f32 :=
  mulf ρ.g (c257 ρ)
def c259 (ρ : In F) : FVec F S512 .f32 :=
  multiReduction .add [0] S512 (c258 ρ) 0x00000000#32 reduces_S128x512_S512 (.inl rfl) rfl
def gsum (ρ : In F) : FVec F S1x512 .f32 :=
  shapeCast S1x512 (c259 ρ) shapeCasts_S512_S1x512
def c261 : IVec S1x128 1 :=
  extractStridedSlice S1x128 ![0, 0] laneLo slices_S128x128_o0_0_S1x128
def c262 (ρ : In F) : FVec F S1x128 .f32 :=
  exp (tot ρ)
def c263 (ρ : In F) : FVec F S1x1 .f32 :=
  extractStridedSlice S1x1 ![0, 0] (c262 ρ) slices_S1x128_o0_0_S1x1
def c264 (ρ : In F) : FVec F S1x1 .f32 :=
  shapeCast S1x1 (c263 ρ) shapeCasts_S1x1_S1x1
def c265 (ρ : In F) : FVec F S1x128 .f32 :=
  broadcastTo S1x128 (c264 ρ) broadcasts_S1x1_S1x128
def c266 (ρ : In F) : FVec F S1x1 .f32 :=
  extractStridedSlice S1x1 ![0, 1] (c262 ρ) slices_S1x128_o0_1_S1x1
def c267 (ρ : In F) : FVec F S1x1 .f32 :=
  shapeCast S1x1 (c266 ρ) shapeCasts_S1x1_S1x1
def c268 (ρ : In F) : FVec F S1x128 .f32 :=
  broadcastTo S1x128 (c267 ρ) broadcasts_S1x1_S1x128
def c269 (ρ : In F) : FVec F S1x128 .f32 :=
  select c261 (c265 ρ) (c268 ρ)
def c270 (ρ : In F) : FVec F S1x1 .f32 :=
  extractStridedSlice S1x1 ![0, 2] (c262 ρ) slices_S1x128_o0_2_S1x1
def c271 (ρ : In F) : FVec F S1x1 .f32 :=
  shapeCast S1x1 (c270 ρ) shapeCasts_S1x1_S1x1
def c272 (ρ : In F) : FVec F S1x128 .f32 :=
  broadcastTo S1x128 (c271 ρ) broadcasts_S1x1_S1x128
def c273 (ρ : In F) : FVec F S1x1 .f32 :=
  extractStridedSlice S1x1 ![0, 3] (c262 ρ) slices_S1x128_o0_3_S1x1
def c274 (ρ : In F) : FVec F S1x1 .f32 :=
  shapeCast S1x1 (c273 ρ) shapeCasts_S1x1_S1x1
def c275 (ρ : In F) : FVec F S1x128 .f32 :=
  broadcastTo S1x128 (c274 ρ) broadcasts_S1x1_S1x128
def c276 (ρ : In F) : FVec F S1x128 .f32 :=
  select c261 (c272 ρ) (c275 ρ)
def c277 (ρ : In F) : FVec F S1x1 .f32 :=
  extractStridedSlice S1x1 ![0, 4] (c262 ρ) slices_S1x128_o0_4_S1x1
def c278 (ρ : In F) : FVec F S1x1 .f32 :=
  shapeCast S1x1 (c277 ρ) shapeCasts_S1x1_S1x1
def c279 (ρ : In F) : FVec F S1x128 .f32 :=
  broadcastTo S1x128 (c278 ρ) broadcasts_S1x1_S1x128
def c280 (ρ : In F) : FVec F S1x1 .f32 :=
  extractStridedSlice S1x1 ![0, 5] (c262 ρ) slices_S1x128_o0_5_S1x1
def c281 (ρ : In F) : FVec F S1x1 .f32 :=
  shapeCast S1x1 (c280 ρ) shapeCasts_S1x1_S1x1
def c282 (ρ : In F) : FVec F S1x128 .f32 :=
  broadcastTo S1x128 (c281 ρ) broadcasts_S1x1_S1x128
def c283 (ρ : In F) : FVec F S1x128 .f32 :=
  select c261 (c279 ρ) (c282 ρ)
def c284 (ρ : In F) : FVec F S1x1 .f32 :=
  extractStridedSlice S1x1 ![0, 6] (c262 ρ) slices_S1x128_o0_6_S1x1
def c285 (ρ : In F) : FVec F S1x1 .f32 :=
  shapeCast S1x1 (c284 ρ) shapeCasts_S1x1_S1x1
def c286 (ρ : In F) : FVec F S1x128 .f32 :=
  broadcastTo S1x128 (c285 ρ) broadcasts_S1x1_S1x128
def c287 (ρ : In F) : FVec F S1x1 .f32 :=
  extractStridedSlice S1x1 ![0, 7] (c262 ρ) slices_S1x128_o0_7_S1x1
def c288 (ρ : In F) : FVec F S1x1 .f32 :=
  shapeCast S1x1 (c287 ρ) shapeCasts_S1x1_S1x1
def c289 (ρ : In F) : FVec F S1x128 .f32 :=
  broadcastTo S1x128 (c288 ρ) broadcasts_S1x1_S1x128
def c290 (ρ : In F) : FVec F S1x128 .f32 :=
  select c261 (c286 ρ) (c289 ρ)
def etx (ρ : In F) : FVec F S1x512 .f32 :=
  concatenate S1x512 1 [⟨S1x128, (c269 ρ)⟩, ⟨S1x128, (c276 ρ)⟩, ⟨S1x128, (c283 ρ)⟩, ⟨S1x128, (c290 ρ)⟩] concatenates_S1x128_S1x128_S1x128_S1x128_S1x512_d1
def c292 (ρ : In F) : FVec F S1x512 .f32 :=
  mulf (gsum ρ) (etx ρ)
def tail1 (ρ : In F) : FVec F S1x512 .f32 :=
  addf (c256 ρ) (c292 ρ)
def c294 (ρ : In F) : FVec F S1x512 .f32 :=
  shapeCast S1x512 (tail1 ρ) shapeCasts_S1x512_S1x512
def tail (ρ : In F) : FVec F S8x512 .f32 :=
  broadcastTo S8x512 (c294 ρ) broadcasts_S1x512_S8x512
def c296 (ρ : In F) : FVec F S8x512 .bf16 :=
  truncf .bf16 (tail ρ) bitsLt_bf16_f32
def c297 (ρ : In F) : FVec F S8x512 .f32 :=
  extf .f32 (c296 ρ) bitsLt_bf16_f32
def c298 (ρ : In F) : FVec F S8x512 .f32 :=
  subf (tail ρ) (c297 ρ)
def c299 (ρ : In F) : FVec F S8x512 .bf16 :=
  truncf .bf16 (c298 ρ) bitsLt_bf16_f32
def c300 (ρ : In F) : FVec F S400x512 .bf16 :=
  concatenate S400x512 0 [⟨S128x512, (c248 ρ)⟩, ⟨S128x512, (c251 ρ)⟩, ⟨S128x512, (c254 ρ)⟩, ⟨S8x512, (c296 ρ)⟩, ⟨S8x512, (c299 ρ)⟩] concatenates_S128x512_S128x512_S128x512_S8x512_S8x512_S400x512_d0
def c301 : IVec S512x128 32 :=
  iota .tc S512x128 32 [0] iota_S512x128_d0_w32
def c302 : IVec S512x128 32 :=
  iota .tc S512x128 32 [1] iota_S512x128_d1_w32
def c303 : IVec S512x128 32 :=
  broadcast S512x128 0#32
def c304 : IVec S512x128 32 :=
  subi c302 c303
def c305 : IVec S512x128 32 :=
  broadcast S512x128 64#32
def c306 : IVec S512x128 32 :=
  muli c304 c305
def c307 : IVec S512x128 1 :=
  cmpi .sge c301 c306
def c308 : IVec S512x128 32 :=
  addi c306 c305
def c309 : IVec S512x128 1 :=
  cmpi .slt c301 c308
def c310 : IVec S512x128 1 :=
  andi c307 c309
def c311 : FVec F S512x128 .f32 :=
  broadcast S512x128 (Scalar.ofBits (F := F) .f32 0x3F800000#32)
def c312 : FVec F S512x128 .f32 :=
  broadcast S512x128 (Scalar.ofBits (F := F) .f32 0x00000000#32)
def c313 : FVec F S512x128 .f32 :=
  select c310 (c311 (F := F)) (c312 (F := F))
def selT : FVec F S512x128 .bf16 :=
  truncf .bf16 (c313 (F := F)) bitsLt_bf16_f32
def c315 : FVec F S400x128 .f32 :=
  constant S400x128 .f32 0x00000000#32
def red (ρ : In F) : FVec F S400x128 .f32 :=
  matmul dot_S400x512_S512x128_S400x128_1_0_0_1_n_n none (c300 ρ) (selT (F := F)) (c315 (F := F))
def c317 (ρ : In F) : FVec F S128x128 .f32 :=
  extractStridedSlice S128x128 ![0, 0] (red ρ) slices_S400x128_o0_0_S128x128
def c318 (ρ : In F) : FVec F S128x128 .f32 :=
  extractStridedSlice S128x128 ![128, 0] (red ρ) slices_S400x128_o128_0_S128x128
def dcs (ρ : In F) : FVec F S128x128 .f32 :=
  addf (c317 ρ) (c318 ρ)
def c320 : IVec S128x128 32 :=
  broadcast S128x128 127#32
def c321 : IVec S128x128 1 :=
  cmpi .eq c15 c320
def c322 (ρ : In F) : FVec F S1x128 .f32 :=
  extractStridedSlice S1x128 ![384, 0] (red ρ) slices_S400x128_o384_0_S1x128
def c323 (ρ : In F) : FVec F S1x128 .f32 :=
  extractStridedSlice S1x128 ![392, 0] (red ρ) slices_S400x128_o392_0_S1x128
def c324 (ρ : In F) : FVec F S1x128 .f32 :=
  addf (c322 ρ) (c323 ρ)
def c325 (ρ : In F) : FVec F S1x128 .f32 :=
  shapeCast S1x128 (c324 ρ) shapeCasts_S1x128_S1x128
def dtot (ρ : In F) : FVec F S128x128 .f32 :=
  broadcastTo S128x128 (c325 ρ) broadcasts_S1x128_S128x128
def c327 (ρ : In F) : FVec F S128x128 .f32 :=
  select c321 (dtot ρ) (zeroM (F := F))
def c328 (ρ : In F) : FVec F S128x128 .f32 :=
  addf (dcs ρ) (c327 ρ)
def c329 (ρ : In F) : FVec F S128x128 .bf16 :=
  truncf .bf16 (c328 ρ) bitsLt_bf16_f32
def c330 (ρ : In F) : FVec F S128x128 .f32 :=
  extf .f32 (c329 ρ) bitsLt_bf16_f32
def c331 (ρ : In F) : FVec F S128x128 .f32 :=
  subf (c328 ρ) (c330 ρ)
def c332 (ρ : In F) : FVec F S128x128 .bf16 :=
  truncf .bf16 (c331 ρ) bitsLt_bf16_f32
def c333 (ρ : In F) : FVec F S128x128 .f32 :=
  extf .f32 (c332 ρ) bitsLt_bf16_f32
def c334 (ρ : In F) : FVec F S128x128 .f32 :=
  subf (c331 ρ) (c333 ρ)
def c335 (ρ : In F) : FVec F S128x128 .bf16 :=
  truncf .bf16 (c334 ρ) bitsLt_bf16_f32
def c336 (ρ : In F) : FVec F S128x384 .bf16 :=
  concatenate S128x384 1 [⟨S128x128, (c329 ρ)⟩, ⟨S128x128, (c332 ρ)⟩, ⟨S128x128, (c335 ρ)⟩] concatenates_S128x128_S128x128_S128x128_S128x384_d1
def c337 (ρ : In F) : FVec F S128x384 .f32 :=
  matmul dot_S128x128_S128x384_S128x384_1_0_0_1_n_n none (c22 (F := F)) (c336 ρ) (c49 (F := F))
def c338 (ρ : In F) : FVec F S128x128 .f32 :=
  extractStridedSlice S128x128 ![0, 0] (c337 ρ) slices_S128x384_o0_0_S128x128
def c339 (ρ : In F) : FVec F S128x128 .f32 :=
  extractStridedSlice S128x128 ![0, 128] (c337 ρ) slices_S128x384_o0_128_S128x128
def c340 (ρ : In F) : FVec F S128x128 .f32 :=
  addf (c338 ρ) (c339 ρ)
def c341 (ρ : In F) : FVec F S128x128 .f32 :=
  extractStridedSlice S128x128 ![0, 256] (c337 ρ) slices_S128x384_o0_256_S128x128
def da (ρ : In F) : FVec F S128x128 .f32 :=
  addf (c340 ρ) (c341 ρ)
def c343 (ρ : In F) : FVec F S128x128 .f32 :=
  mulf (da ρ) (softp ρ)
def dal0 (ρ : In F) : FVec F S128x128 .f32 :=
  mulf (c343 ρ) (c39 ρ)
def c345 : IVec S128x128 32 :=
  broadcast S128x128 0#32
def c346 : IVec S128x128 1 :=
  cmpi .sge c14 c345
def c347 : IVec S128x128 32 :=
  broadcast S128x128 8#32
def c348 : IVec S128x128 1 :=
  cmpi .slt c14 c347
def keep : IVec S128x128 1 :=
  andi c346 c348
def c350 (ρ : In F) : FVec F S128x128 .f32 :=
  select keep (dal0 ρ) (zeroM (F := F))
def c351 (ρ : In F) : FVec F S128 .f32 :=
  multiReduction .add [0] S128 (c350 ρ) 0x00000000#32 reduces_S128x128_S128 (.inl rfl) rfl
def c352 (ρ : In F) : FVec F S1x128 .f32 :=
  shapeCast S1x128 (c351 ρ) shapeCasts_S128_S1x128
def dalogOut (ρ : In F) : FVec F S1x128 .f32 :=
  addf (c13 ρ) (c352 ρ)
def c354 : FVec F S128x2048 .f32 :=
  broadcast S128x2048 (Scalar.ofBits (F := F) .f32 0x00000000#32)
def c355 : FVec F S128x2048 .f32 :=
  shapeCast S128x2048 (c354 (F := F)) shapeCasts_S128x2048_S128x2048
def c356 : FVec F S1x512 .f32 :=
  broadcast S1x512 (Scalar.ofBits (F := F) .f32 0x00000000#32)
def c358 : FVec F S256x128 .f32 :=
  constant S256x128 .f32 0x00000000#32
def c362 (ρ : In F) : FVec F S128x128 .f32 :=
  addf (zeroM (F := F)) (dm0l ρ 0 (by decide))
def c365 (ρ : In F) : FVec F S128x128 .f32 :=
  addf (c362 ρ) (dm1l ρ 0 (by decide))
def c370 (ρ : In F) : FVec F S128x128 .f32 :=
  addf (c365 ρ) (dm0l ρ 1 (by decide))
def c373 (ρ : In F) : FVec F S128x128 .f32 :=
  addf (c370 ρ) (dm1l ρ 1 (by decide))
def c378 (ρ : In F) : FVec F S128x128 .f32 :=
  addf (c373 ρ) (dm0l ρ 2 (by decide))
def c381 (ρ : In F) : FVec F S128x128 .f32 :=
  addf (c378 ρ) (dm1l ρ 2 (by decide))
def c386 (ρ : In F) : FVec F S128x128 .f32 :=
  addf (c381 ρ) (dm0l ρ 3 (by decide))
def dcb (ρ : In F) : FVec F S128x128 .f32 :=
  addf (c386 ρ) (dm1l ρ 3 (by decide))
def ddt (ρ : In F) : FVec F S128x128 .f32 :=
  extractStridedSlice S128x128 ![256, 0] (red ρ) slices_S400x128_o256_0_S128x128
def c391 (ρ : In F) : FVec F S128x512 .f32 :=
  mulf (dxa ρ) (dtxW ρ)
def c392 (ρ : In F) : FVec F S128x512 .bf16 :=
  truncf .bf16 (c391 ρ) bitsLt_bf16_f32
def dxsOut (ρ : In F) : Vec F S128x512 .bf16 :=
  (c392 ρ)
def c394 (ρ : In F) : FVec F S128x512 .bf16 :=
  truncf .bf16 (dye ρ) bitsLt_bf16_f32
def c395 (ρ : In F) : FVec F S128x128 .bf16 :=
  truncf .bf16 (dcb ρ) bitsLt_bf16_f32
def c396 (ρ : In F) : FVec F S128x512 .f32 :=
  mulf (xp ρ) (dxW ρ)
def c397 (ρ : In F) : FVec F S128x512 .bf16 :=
  truncf .bf16 (c396 ρ) bitsLt_bf16_f32
def c398 (ρ : In F) : FVec F S128x128 .f32 :=
  matmul dot_S128x512_S128x512_S128x128_1_1_0_0_n_n none (c397 ρ) (c242 ρ) (c89 (F := F))
def c399 (ρ : In F) : FVec F S128x128 .f32 :=
  matmul dot_S128x128_S128x128_S128x128_0_0_1_1_n_n none (c395 ρ) (cm ρ) (c89 (F := F))
def c400 (ρ : In F) : FVec F S128x128 .f32 :=
  addf (c398 ρ) (c399 ρ)
def c401 (ρ : In F) : FVec F S128x128 .bf16 :=
  truncf .bf16 (c400 ρ) bitsLt_bf16_f32
def dbOut (ρ : In F) : Vec F S128x128 .bf16 :=
  (c401 ρ)
def c403 (ρ : In F) : FVec F S128x128 .f32 :=
  matmul dot_S128x512_S128x512_S128x128_1_1_0_0_n_n none (c394 ρ) (stm ρ) (c89 (F := F))
def c404 (ρ : In F) : FVec F S128x128 .f32 :=
  matmul dot_S128x128_S128x128_S128x128_1_0_0_1_n_n none (c395 ρ) (bm ρ) (c89 (F := F))
def c405 (ρ : In F) : FVec F S128x128 .f32 :=
  addf (c403 ρ) (c404 ρ)
def c406 (ρ : In F) : FVec F S128x128 .bf16 :=
  truncf .bf16 (c405 ρ) bitsLt_bf16_f32
def dcOut (ρ : In F) : Vec F S128x128 .bf16 :=
  (c406 ρ)
def c408 (ρ : In F) : FVec F S128x512 .f32 :=
  broadcastTo S128x512 (etx ρ) broadcasts_S1x512_S128x512
def c409 (ρ : In F) : FVec F S128x512 .f32 :=
  mulf ρ.g (c408 ρ)
def c410 (ρ : In F) : FVec F S128x512 .f32 :=
  matmul dot_S128x128_S128x512_S128x512_0_0_1_1_n_n none (cm ρ) (c394 ρ) (c83 (F := F))
def c411 (ρ : In F) : FVec F S128x512 .f32 :=
  addf (c409 ρ) (c410 ρ)
def gOut (ρ : In F) : FVec F S128x512 .f32 :=
  shapeCast S128x512 (c411 ρ) shapeCasts_S128x512_S128x512
def c413 (ρ : In F) : FVec F S128x128 .f32 :=
  mulf (da ρ) (c39 ρ)
def c414 (ρ : In F) : FVec F S128x128 .f32 :=
  addf (c413 ρ) (ddt ρ)
def c415 (ρ : In F) : FVec F S128x128 .f32 :=
  subf (zeroM (F := F)) (pre ρ)
def c416 (ρ : In F) : FVec F S128x128 .f32 :=
  exp (c415 ρ)
def c417 (ρ : In F) : FVec F S128x128 .f32 :=
  addf (oneM (F := F)) (c416 ρ)
def sig (ρ : In F) : FVec F S128x128 .f32 :=
  divf (oneM (F := F)) (c417 ρ)
def c419 (ρ : In F) : FVec F S128x128 .f32 :=
  mulf (c414 ρ) (sig ρ)
def ddrOut (ρ : In F) : FVec F S128x128 .f32 :=
  select keep (c419 ρ) (zeroM (F := F))
def c421 (ρ : In F) : FVec F S1x128 .f32 :=
  shapeCast S1x128 ρ.dbi shapeCasts_S1x128_S1x128
def c422 (ρ : In F) : FVec F S128 .f32 :=
  multiReduction .add [0] S128 (ddrOut ρ) 0x00000000#32 reduces_S128x128_S128 (.inl rfl) rfl
def c423 (ρ : In F) : FVec F S1x128 .f32 :=
  shapeCast S1x128 (c422 ρ) shapeCasts_S128_S1x128
def dbiasOut (ρ : In F) : FVec F S1x128 .f32 :=
  addf (c421 ρ) (c423 ρ)

end Cert.Scan.G

end
-- ==== Proof.Scan.GVal.lean ====
/- The values of one group in one chunk, over real inputs: each is the matrix of real numbers that its formula gives. -/
module

public import proofs.«01_k».proof.Proof.Scan.Lift
public import proofs.«01_k».proof.Proof.Scan.Group

@[expose] public section

noncomputable section

namespace Cert.Scan.G

open Idealize.ShloMosaic Cert.KernelIdeal Cert.KernelIdeal.Gen
open scoped BigOperators

/-- A group's inputs in one chunk, as functions of naturals to the reals. -/
structure R where
  xc : ℕ → ℕ → ℝ
  dt : ℕ → ℕ → ℝ
  bias : ℕ → ℝ
  alog : ℕ → ℝ
  dy : ℕ → ℕ → ℝ
  st : ℕ → ℕ → ℝ
  g : ℕ → ℕ → ℝ
  dal : ℕ → ℝ
  dbi : ℕ → ℝ

/-- The arrays that these functions give. -/
def mk (ξ : R) : In Ideal where
  xc := L2 ξ.xc
  dt := L2 ξ.dt
  bias := L2 fun _ c => ξ.bias c
  alog := L2 fun _ c => ξ.alog c
  dy := L2 ξ.dy
  st := L3 fun _ => ξ.st
  g := L2 ξ.g
  dal := L2 fun _ c => ξ.dal c
  dbi := L2 fun _ c => ξ.dbi c

/-! ### The formulas -/
namespace R
variable (ξ : R)
def pre (r c : ℕ) : ℝ := ξ.dt r c + ξ.bias c
def sp (r c : ℕ) : ℝ := max (ξ.pre r c) 0 + Real.log (1 + Real.exp (0 - |ξ.pre r c|))
def A (c : ℕ) : ℝ := 0 - Real.exp (ξ.alog c)
def a (r c : ℕ) : ℝ := ξ.sp r c * ξ.A c
def cs (r c : ℕ) : ℝ := ∑ k ∈ Finset.range 128, if k ≤ r then ξ.a k c else 0
def tot (c : ℕ) : ℝ := ξ.cs 127 c
def ex (r c : ℕ) : ℝ := Real.exp (ξ.cs r (c / 64))
def dx (r c : ℕ) : ℝ := Real.exp (ξ.tot (c / 64) - ξ.cs r (c / 64))
def B (r n : ℕ) : ℝ := ξ.xc r (512 + n)
def C (r n : ℕ) : ℝ := ξ.xc r (640 + n)
def xp (r c : ℕ) : ℝ := ξ.xc r c * ξ.sp r (c / 64)
def dye (r c : ℕ) : ℝ := ξ.dy r c * ξ.ex r c
def yoff (r c : ℕ) : ℝ := ∑ n ∈ Finset.range 128, ξ.C r n * ξ.st n c
def CB (l s : ℕ) : ℝ := ∑ n ∈ Finset.range 128, ξ.C l n * ξ.B s n
def lam (h l s : ℕ) : ℝ := if s ≤ l then Real.exp (ξ.cs l h - ξ.cs s h) else 0
def yd (r c : ℕ) : ℝ := ∑ s ∈ Finset.range 128, ξ.CB r s * ξ.lam (c / 64) r s * ξ.xp s c
def dxd (s c : ℕ) : ℝ := ∑ l ∈ Finset.range 128, ξ.CB l s * ξ.lam (c / 64) l s * ξ.dy l c
def dm (h l s : ℕ) : ℝ := ∑ p ∈ Finset.range 64, ξ.dy l (64 * h + p) * ξ.xp s (64 * h + p)
def dcb (l s : ℕ) : ℝ := ∑ h ∈ Finset.range 8, ξ.dm h l s * ξ.lam h l s
def bgd (r c : ℕ) : ℝ := (∑ n ∈ Finset.range 128, ξ.B r n * ξ.g n c) * ξ.dx r c
def uu (r c : ℕ) : ℝ := ξ.dye r c * ξ.yoff r c + ξ.dy r c * ξ.yd r c - ξ.xp r c * ξ.dxd r c - ξ.xp r c * ξ.bgd r c
def ww (r c : ℕ) : ℝ := (ξ.dxd r c + ξ.bgd r c) * ξ.xc r c
def tail (c : ℕ) : ℝ := (∑ r ∈ Finset.range 128, ξ.xp r c * ξ.bgd r c) + (∑ n ∈ Finset.range 128, ξ.g n c * ξ.st n c) * Real.exp (ξ.tot (c / 64))
def dcs (r c : ℕ) : ℝ := if c < 8 then ∑ p ∈ Finset.range 64, ξ.uu r (64 * c + p) else 0
def ddt (r c : ℕ) : ℝ := if c < 8 then ∑ p ∈ Finset.range 64, ξ.ww r (64 * c + p) else 0
def dtot (c : ℕ) : ℝ := if c < 8 then ∑ p ∈ Finset.range 64, ξ.tail (64 * c + p) else 0
def da (r c : ℕ) : ℝ := ∑ k ∈ Finset.range 128, if r ≤ k then ξ.dcs k c + (if k = 127 then ξ.dtot c else 0) else 0
def dxs (r c : ℕ) : ℝ := (ξ.dxd r c + ξ.bgd r c) * ξ.sp r (c / 64)
def db (r n : ℕ) : ℝ := (∑ c ∈ Finset.range 512, ξ.xp r c * ξ.dx r c * ξ.g n c) + ∑ l ∈ Finset.range 128, ξ.dcb l r * ξ.C l n
def dc (r n : ℕ) : ℝ := (∑ c ∈ Finset.range 512, ξ.dye r c * ξ.st n c) + ∑ s ∈ Finset.range 128, ξ.dcb r s * ξ.B s n
def g' (n c : ℕ) : ℝ := ξ.g n c * Real.exp (ξ.tot (c / 64)) + ∑ l ∈ Finset.range 128, ξ.C l n * ξ.dye l c
def ddr (r c : ℕ) : ℝ := if c < 8 then (ξ.da r c * ξ.A c + ξ.ddt r c) * (1 / (1 + Real.exp (0 - ξ.pre r c))) else 0
def dbi' (c : ℕ) : ℝ := ξ.dbi c + ∑ r ∈ Finset.range 128, ξ.ddr r c
def dal' (c : ℕ) : ℝ := ξ.dal c + ∑ r ∈ Finset.range 128, if c < 8 then ξ.da r c * ξ.sp r c * ξ.A c else 0
end R

variable (ξ : R)

/-! ### The products, at the shapes that the kernel uses -/
section Products
variable (f g : ℕ → ℕ → ℝ)
theorem mm_cum : matmul (F := Ideal) (φ₁ := .bf16) (φ₂ := .bf16) dot_S128x128_S128x384_S128x384_1_0_0_1_n_n none (L2 f : S128x128.Idx → EReal) (L2 g : S128x384.Idx → EReal)
    (constant S128x384 .f32 0x00000000#32) = L2 fun r c => ∑ k ∈ Finset.range 128, f r k * g k c := mm_plain_L2 (M := 128) (K := 128) (N := 384) none f g
theorem mm_exp : matmul (F := Ideal) (φ₁ := .bf16) (φ₂ := .bf16) dot_S384x128_S128x512_S384x512_1_0_0_1_n_n none (L2 f : S384x128.Idx → EReal) (L2 g : S128x512.Idx → EReal)
    (constant S384x512 .f32 0x00000000#32) = L2 fun r c => ∑ k ∈ Finset.range 128, f r k * g k c := mm_plain_L2 (M := 384) (K := 128) (N := 512) none f g
theorem mm_wide : matmul (F := Ideal) (φ₁ := .bf16) (φ₂ := .bf16) dot_S128x128_S128x512_S128x512_1_0_0_1_n_n none (L2 f : S128x128.Idx → EReal) (L2 g : S128x512.Idx → EReal)
    (constant S128x512 .f32 0x00000000#32) = L2 fun r c => ∑ k ∈ Finset.range 128, f r k * g k c := mm_plain_L2 (M := 128) (K := 128) (N := 512) none f g
theorem mm_cb : matmul (F := Ideal) (φ₁ := .bf16) (φ₂ := .bf16) dot_S128x128_S128x128_S128x128_1_1_0_0_n_n none (L2 f : S128x128.Idx → EReal) (L2 g : S128x128.Idx → EReal)
    (constant S128x128 .f32 0x00000000#32) = L2 fun r c => ∑ k ∈ Finset.range 128, f r k * g c k := mm_nt_L2 (M := 128) (K := 128) (N := 128) none f g
theorem mm_yd : matmul (F := Ideal) (φ₁ := .bf16) (φ₂ := .bf16) dot_S128x256_S256x128_S128x128_1_0_0_1_n_n none (L2 f : S128x256.Idx → EReal) (L2 g : S256x128.Idx → EReal)
    (constant S128x128 .f32 0x00000000#32) = L2 fun r c => ∑ k ∈ Finset.range 256, f r k * g k c := mm_plain_L2 (M := 128) (K := 256) (N := 128) none f g
theorem mm_dx : matmul (F := Ideal) (φ₁ := .bf16) (φ₂ := .bf16) dot_S256x128_S256x128_S128x128_0_0_1_1_n_n none (L2 f : S256x128.Idx → EReal) (L2 g : S256x128.Idx → EReal)
    (constant S128x128 .f32 0x00000000#32) = L2 fun r c => ∑ k ∈ Finset.range 256, f k r * g k c := mm_tn_L2 (M := 128) (K := 256) (N := 128) none f g dot_S256x128_S256x128_S128x128_0_0_1_1_n_n rfl rfl (fun _ _ => rfl) (fun _ _ => rfl) (fun _ _ => rfl) (fun _ _ => rfl)
theorem mm_dm : matmul (F := Ideal) (φ₁ := .bf16) (φ₂ := .bf16) dot_S256x128_S128x128_S256x128_1_1_0_0_n_n none (L2 f : S256x128.Idx → EReal) (L2 g : S128x128.Idx → EReal)
    (constant S256x128 .f32 0x00000000#32) = L2 fun r c => ∑ k ∈ Finset.range 128, f r k * g c k := mm_nt_L2 (M := 256) (K := 128) (N := 128) none f g
theorem mm_red : matmul (F := Ideal) (φ₁ := .bf16) (φ₂ := .bf16) dot_S400x512_S512x128_S400x128_1_0_0_1_n_n none (L2 f : S400x512.Idx → EReal) (L2 g : S512x128.Idx → EReal)
    (constant S400x128 .f32 0x00000000#32) = L2 fun r c => ∑ k ∈ Finset.range 512, f r k * g k c := mm_plain_L2 (M := 400) (K := 512) (N := 128) none f g
theorem mm_long : matmul (F := Ideal) (φ₁ := .bf16) (φ₂ := .bf16) dot_S128x512_S128x512_S128x128_1_1_0_0_n_n none (L2 f : S128x512.Idx → EReal) (L2 g : S128x512.Idx → EReal)
    (constant S128x128 .f32 0x00000000#32) = L2 fun r c => ∑ k ∈ Finset.range 512, f r k * g c k := mm_nt_L2 (M := 128) (K := 512) (N := 128) none f g
theorem mm_tn : matmul (F := Ideal) (φ₁ := .bf16) (φ₂ := .bf16) dot_S128x128_S128x128_S128x128_0_0_1_1_n_n none (L2 f : S128x128.Idx → EReal) (L2 g : S128x128.Idx → EReal)
    (constant S128x128 .f32 0x00000000#32) = L2 fun r c => ∑ k ∈ Finset.range 128, f k r * g k c := mm_tn_L2 (M := 128) (K := 128) (N := 128) none f g dot_S128x128_S128x128_S128x128_0_0_1_1_n_n rfl rfl (fun _ _ => rfl) (fun _ _ => rfl) (fun _ _ => rfl) (fun _ _ => rfl)
theorem mm_pl : matmul (F := Ideal) (φ₁ := .bf16) (φ₂ := .bf16) dot_S128x128_S128x128_S128x128_1_0_0_1_n_n none (L2 f : S128x128.Idx → EReal) (L2 g : S128x128.Idx → EReal)
    (constant S128x128 .f32 0x00000000#32) = L2 fun r c => ∑ k ∈ Finset.range 128, f r k * g k c := mm_plain_L2 (M := 128) (K := 128) (N := 128) none f g
theorem mm_g : matmul (F := Ideal) (φ₁ := .bf16) (φ₂ := .bf16) dot_S128x128_S128x512_S128x512_0_0_1_1_n_n none (L2 f : S128x128.Idx → EReal) (L2 g : S128x512.Idx → EReal)
    (constant S128x512 .f32 0x00000000#32) = L2 fun r c => ∑ k ∈ Finset.range 128, f k r * g k c := mm_tn_L2 (M := 128) (K := 128) (N := 512) none f g dot_S128x128_S128x512_S128x512_0_0_1_1_n_n rfl rfl (fun _ _ => rfl) (fun _ _ => rfl) (fun _ _ => rfl) (fun _ _ => rfl)
end Products

/-! ### Sums against the masks -/

theorem pick_col (f : ℕ → ℝ) (c : ℕ) (hc : c < 512) :
    (∑ k ∈ Finset.range 128, f k * (if (decide (k * 64 ≤ c) && decide (c < k * 64 + 64)) = true then (1 : ℝ) else 0)) = f (c / 64) := by
  rw [Finset.sum_eq_single (c / 64)]
  · rw [if_pos (by simp only [Bool.and_eq_true, decide_eq_true_eq]; omega), mul_one]
  · intro b _ hb
    rw [if_neg (by simp only [Bool.and_eq_true, decide_eq_true_eq]; omega), mul_zero]
  · intro h; exact absurd (Finset.mem_range.2 (by omega)) h

theorem pick_block (f : ℕ → ℝ) (c : ℕ) :
    (∑ k ∈ Finset.range 512, f k * (if (decide (c * 64 ≤ k) && decide (k < c * 64 + 64)) = true then (1 : ℝ) else 0))
      = if c < 8 then ∑ p ∈ Finset.range 64, f (64 * c + p) else 0 := by
  split
  · rename_i h
    have e : 512 = 64 * c + (64 + (512 - (64 * c + 64))) := by omega
    rw [e, Finset.sum_range_add, Finset.sum_range_add]
    rw [Finset.sum_eq_zero (s := Finset.range (512 - (64 * c + 64))), add_zero, Finset.sum_eq_zero (s := Finset.range (64 * c)), zero_add]
    · refine Finset.sum_congr rfl fun x hx => ?_
      have := Finset.mem_range.1 hx
      rw [if_pos (by simp only [Bool.and_eq_true, decide_eq_true_eq]; omega), mul_one]
    · intro x hx
      have := Finset.mem_range.1 hx
      rw [if_neg (by simp only [Bool.and_eq_true, decide_eq_true_eq]; omega), mul_zero]
    · intro x _
      rw [if_neg (by simp only [Bool.and_eq_true, decide_eq_true_eq]; omega), mul_zero]
  · refine Finset.sum_eq_zero fun k hk => ?_
    have := Finset.mem_range.1 hk
    rw [if_neg (by simp only [Bool.and_eq_true, decide_eq_true_eq]; omega), mul_zero]

theorem sum_two (n : ℕ) (f : ℕ → ℝ) : (∑ k ∈ Finset.range (n + n), f k) = (∑ k ∈ Finset.range n, f k) + ∑ k ∈ Finset.range n, f (n + k) :=
  Finset.sum_range_add f n n

/-! ### The values -/

theorem zeroM_val : zeroM (F := Ideal) = L2 fun _ _ => 0 := zero_L2
theorem oneM_val : oneM (F := Ideal) = L2 fun _ _ => 1 := one_L2
theorem c14_val : c14 = I2 fun _ c => c := iota1_I2 _
theorem c15_val : c15 = I2 fun r _ => r := iota0_I2 _
theorem maskGe_val : maskGe = B2 fun r c => decide (r ≤ c) := by
  rw [maskGe, c14_val, c15_val]; exact sge_I2 _ _ (fun r _ c _ => by omega) (fun r _ c _ => by omega)
theorem maskLe_val : maskLe = B2 fun r c => decide (c ≤ r) := by
  rw [maskLe, c14_val, c15_val]; exact sle_I2 _ _ (fun r _ c _ => by omega) (fun r _ c _ => by omega)
theorem laneLo_val : laneLo = B2 fun _ c => decide (c < 64) := by
  rw [laneLo, c14_val]; exact slt_I2 _ (fun _ _ => 64) (fun r _ c _ => by omega) (fun r _ c _ => by omega)
theorem keep_val : keep = B2 fun _ c => decide (0 ≤ c) && decide (c < 8) := by
  have h1 : c346 = B2 fun _ c => decide (0 ≤ c) := by
    rw [c346, c14_val]; exact sge_I2 _ (fun _ _ => 0) (fun r _ c _ => by omega) (fun r _ c _ => by omega)
  have h2 : c348 = B2 fun _ c => decide (c < 8) := by
    rw [c348, c14_val]; exact slt_I2 _ (fun _ _ => 8) (fun r _ c _ => by omega) (fun r _ c _ => by omega)
  rw [keep, h1, h2]; exact andi_B2 _ _
theorem last_val : c321 = B2 fun r _ => decide (r = 127) := by
  rw [c321, c15_val]; exact eq_I2 _ (fun _ _ => 127) (fun r _ c _ => by omega) (fun r _ c _ => by omega)
theorem selW_val : selW (F := Ideal) = L2 fun r c => if (decide (r * 64 ≤ c) && decide (c < r * 64 + 64)) = true then 1 else 0 := by
  have h63 : c63 = I2 fun _ c => c := iota1_I2 _
  have h66 : c66 = I2 fun r _ => r := by
    have h64 : c64 = I2 fun r _ => r := iota0_I2 _
    rw [c66, h64]; exact subi_zero_I2 _
  have h68 : c68 = I2 fun r _ => r * 64 := by rw [c68, h66]; exact muli_I2 _ (fun _ _ => 64)
  have h69 : c69 = B2 fun r c => decide (r * 64 ≤ c) := by
    rw [c69, h63, h68]; exact sge_I2 _ _ (fun r _ c _ => by omega) (fun r _ c _ => by omega)
  have h70 : c70 = I2 fun r _ => r * 64 + 64 := by rw [c70, h68]; exact addi_I2 _ (fun _ _ => 64)
  have h71 : c71 = B2 fun r c => decide (c < r * 64 + 64) := by
    rw [c71, h63, h70]; exact slt_I2 _ _ (fun r _ c _ => by omega) (fun r _ c _ => by omega)
  have h72 : c72 = B2 fun r c => decide (r * 64 ≤ c) && decide (c < r * 64 + 64) := by
    rw [c72, h69, h71]; exact andi_B2 _ _
  have h73 : c73 (F := Ideal) = L2 fun _ _ => 1 := one_L2
  have h74 : c74 (F := Ideal) = L2 fun _ _ => 0 := zero_L2
  rw [selW, c75, h72, h73, h74, select_L2]; rfl
theorem selT_val : selT (F := Ideal) = L2 fun r c => if (decide (c * 64 ≤ r) && decide (r < c * 64 + 64)) = true then 1 else 0 := by
  have h63 : c301 = I2 fun r _ => r := iota0_I2 _
  have h66 : c304 = I2 fun _ c => c := by
    have h64 : c302 = I2 fun _ c => c := iota1_I2 _
    rw [c304, h64]; exact subi_zero_I2 _
  have h68 : c306 = I2 fun _ c => c * 64 := by rw [c306, h66]; exact muli_I2 _ (fun _ _ => 64)
  have h69 : c307 = B2 fun r c => decide (c * 64 ≤ r) := by
    rw [c307, h63, h68]; exact sge_I2 _ _ (fun r _ c _ => by omega) (fun r _ c _ => by omega)
  have h70 : c308 = I2 fun _ c => c * 64 + 64 := by rw [c308, h68]; exact addi_I2 _ (fun _ _ => 64)
  have h71 : c309 = B2 fun r c => decide (r < c * 64 + 64) := by
    rw [c309, h63, h70]; exact slt_I2 _ _ (fun r _ c _ => by omega) (fun r _ c _ => by omega)
  have h72 : c310 = B2 fun r c => decide (c * 64 ≤ r) && decide (r < c * 64 + 64) := by
    rw [c310, h69, h71]; exact andi_B2 _ _
  have h73 : c311 (F := Ideal) = L2 fun _ _ => 1 := one_L2
  have h74 : c312 (F := Ideal) = L2 fun _ _ => 0 := zero_L2
  rw [selT, c313, h72, h73, h74, select_L2]; rfl

theorem pre_val : pre (mk ξ) = L2 ξ.pre := by
  simp only [pre, c24, mk]
  rw [bcastRow_L2 _ (by decide), addf_L2]
  rfl
theorem softp_val : softp (mk ξ) = L2 ξ.sp := by
  simp only [softp, c26, c27, c28, c29, c30, c31, pre_val, zeroM_val, oneM_val, maximumf_L2, absf_L2, subf_L2, exp_L2, addf_L2]
  rw [log_L2 _ (fun r c => by positivity), addf_L2]
  rfl
theorem c39_val : c39 (mk ξ) = L2 fun _ c => ξ.A c := by
  have h : c36 (F := Ideal) = L2 fun _ _ => 0 := zero_L2
  simp only [c39, aNeg, h, expA, mk, exp_L2, subf_L2]
  rw [bcastRow_L2 _ (by decide)]
  rfl

/-- The running sum, taken as the sum of the three pieces of each number. -/
theorem cum_val (m : FVec Ideal S128x128 .bf16) (p : ℕ → ℕ → Bool) (hm : m = L2 fun r c => if p r c = true then 1 else 0) (f : ℕ → ℕ → ℝ)
    (x y z : FVec Ideal S128x128 .bf16) (hx : x = L2 f) (hy : y = L2 fun _ _ => 0) (hz : z = L2 fun _ _ => 0)
    (q : FVec Ideal S128x384 .f32)
    (hq : q = matmul dot_S128x128_S128x384_S128x384_1_0_0_1_n_n none m
      (concatenate S128x384 1 [⟨S128x128, x⟩, ⟨S128x128, y⟩, ⟨S128x128, z⟩] concatenates_S128x128_S128x128_S128x128_S128x384_d1)
      (constant S128x384 .f32 0x00000000#32)) :
    addf (addf (extractStridedSlice S128x128 ![0, 0] q slices_S128x384_o0_0_S128x128) (extractStridedSlice S128x128 ![0, 128] q slices_S128x384_o0_128_S128x128))
      (extractStridedSlice S128x128 ![0, 256] q slices_S128x384_o0_256_S128x128)
      = (L2 fun r c => ∑ k ∈ Finset.range 128, if p r k = true then f k c else 0 : S128x128.Idx → EReal) := by
  subst hq hx hy hz hm
  rw [cat3c_L2, mm_cum]
  simp only [slice_L2, addf_L2]
  refine L2_congr fun r _ c hc => ?_
  simp [hc, show ¬ 256 + c < 128 by omega, show ¬ 128 + c < 128 by omega]

theorem cs_val : cs (mk ξ) = L2 ξ.cs := by
  have h40 : c40 (mk ξ) = L2 ξ.a := by simp only [c40, softp_val, c39_val, mulf_L2]; rfl
  have h41 : c41 (mk ξ) = L2 ξ.a := by simp only [c41, h40, truncf_L2]
  have h43 : c43 (mk ξ) = L2 fun _ _ => 0 := by simp only [c43, c42, h40, h41, extf_L2, subf_L2, sub_self]
  have h44 : c44 (mk ξ) = L2 fun _ _ => 0 := by simp only [c44, h43, truncf_L2]
  have h47 : c47 (mk ξ) = L2 fun _ _ => 0 := by simp only [c47, c46, c45, h43, h44, extf_L2, subf_L2, sub_self, truncf_L2]
  have h35 : c35 (F := Ideal) = L2 fun r c => if decide (c ≤ r) = true then 1 else 0 := by
    simp only [c35, c34, maskLe_val, oneM_val, zeroM_val, select_L2, truncf_L2]
  refine (cum_val _ _ h35 ξ.a _ _ _ h41 h44 h47 _ rfl).trans ?_
  refine L2_congr fun r _ c _ => ?_
  simp only [decide_eq_true_eq]; rfl

theorem tot_val : tot (mk ξ) = L2 fun _ c => ξ.tot c := by
  simp only [tot, cs_val, slice_L2]
  exact L2_congr fun r hr c _ => by
    obtain rfl : r = 0 := by omega
    show ξ.cs (127 + 0) (0 + c) = _
    rw [zero_add]; rfl
theorem csT_val : csT (mk ξ) = L2 fun r c => ξ.cs c r := by
  rw [csT, cs_val]; exact transpose_L2 _ _

theorem lam_val (k : ℕ) (h : k < 8) : lam (mk ξ) k h = L2 (ξ.lam k) := by
  simp only [lam, lamExp, lamSel, lamSub, csColB, csRowB, csCol, csRow, cs_val, csT_val, slice_L2, maskLe_val, zeroM_val]
  rw [bcastRow_L2 _ (by decide), bcastCol_L2 _ (by decide)]
  simp only [subf_L2, select_L2, exp_L2]
  refine L2_congr fun r _ c _ => ?_
  simp only [decide_eq_true_eq, R.lam, Matrix.cons_val_zero, Matrix.cons_val_one, zero_add, add_zero]
  split <;> rfl

theorem expd_val : expd (mk ξ) = L2 fun r c => if r < 128 then ξ.sp r (c / 64)
    else if r - 128 < 128 then ξ.ex (r - 128) c else ξ.dx (r - 128 - 128) c := by
  have h58 : c58 (mk ξ) = L2 fun _ c => ξ.tot c := by
    rw [c58, tot_val]; exact bcastRow_L2 _ (by decide) _
  have h56 : c56 (mk ξ) = L2 fun r c => Real.exp (ξ.cs r c) := by rw [c56, cs_val, exp_L2]
  have h60 : c60 (mk ξ) = L2 fun r c => Real.exp (ξ.tot c - ξ.cs r c) := by rw [c60, c59, h58, cs_val, subf_L2, exp_L2]
  rw [expd, c62, c61, softp_val, h56, h60, cat3r_L2, truncf_L2, selW_val, c77, mm_exp]
  refine L2_congr fun r _ c hc => ?_
  rw [pick_col _ _ hc]; rfl
theorem dtxW_val : dtxW (mk ξ) = L2 fun r c => ξ.sp r (c / 64) := by
  rw [dtxW, expd_val, slice_L2]
  exact L2_congr fun r hr c _ => by
    simp only [Matrix.cons_val_zero, Matrix.cons_val_one, zero_add]
    rw [if_pos hr]
theorem exW_val : exW (mk ξ) = L2 ξ.ex := by
  rw [exW, expd_val, slice_L2]
  exact L2_congr fun r hr c _ => by
    simp only [Matrix.cons_val_zero, Matrix.cons_val_one, zero_add]
    rw [if_neg (by omega), if_pos (by omega), Nat.add_sub_cancel_left]
theorem dxW_val : dxW (mk ξ) = L2 ξ.dx := by
  rw [dxW, expd_val, slice_L2]
  exact L2_congr fun r hr c _ => by
    simp only [Matrix.cons_val_zero, Matrix.cons_val_one, zero_add]
    rw [if_neg (by omega), if_neg (by omega)]
    congr 1; omega

theorem dyf_val : dyf (mk ξ) = L2 ξ.dy := rfl
theorem dye_val : dye (mk ξ) = L2 ξ.dye := by simp only [dye, dyf_val, exW_val, mulf_L2]; rfl
theorem cm_val : cm (mk ξ) = L2 ξ.C := by
  simp only [cm, mk, slice_L2]
  exact L2_congr fun r _ c _ => by simp [R.C]
theorem bm_val : bm (mk ξ) = L2 ξ.B := by
  simp only [bm, mk, slice_L2]
  exact L2_congr fun r _ c _ => by simp [R.B]
theorem stm_val : stm (mk ξ) = L2 ξ.st := by simp only [stm, mk, cast_L3]
theorem c84_val : c84 (mk ξ) = L2 ξ.yoff := by simp only [c84, cm_val, stm_val, c83, mm_wide]; rfl
theorem cb_val : cb (mk ξ) = L2 ξ.CB := by simp only [cb, cm_val, bm_val, c89, mm_cb]; rfl
theorem xs_val : xs (mk ξ) = L2 ξ.xc := by
  simp only [xs, c115, mk, slice_L2, extf_L2]
  exact L2_congr fun r _ c _ => by simp
theorem xp_val : xp (mk ξ) = L2 ξ.xp := by simp only [xp, xs_val, dtxW_val, mulf_L2]; rfl
theorem mLb_val (k : ℕ) (h : k < 8) : mLb (mk ξ) k h = L2 fun l s => ξ.CB l s * ξ.lam k l s := by
  simp only [mLb, mL, cb_val, lam_val, mulf_L2, truncf_L2]

section Pairs
variable (k : ℕ) (h : k < 4)
theorem xpCatb_val : xpCatb (mk ξ) k h = L2 fun r c => if r < 128 then (if c < 64 then ξ.xp r (128 * k + c) else 0)
    else (if c < 64 then 0 else ξ.xp (r - 128) (128 * k + c)) := by
  have hp : xpP (mk ξ) k h = L2 fun r c => ξ.xp r (128 * k + c) := by
    rw [xpP, xp_val, slice_L2]
    exact L2_congr fun r _ c _ => by simp
  have hlo : xpLo (mk ξ) k h = L2 fun r c => if c < 64 then ξ.xp r (128 * k + c) else 0 := by
    simp only [xpLo, hp, laneLo_val, zeroM_val, select_L2, decide_eq_true_eq]
  have hhi : xpHi (mk ξ) k h = L2 fun r c => if c < 64 then 0 else ξ.xp r (128 * k + c) := by
    simp only [xpHi, hp, laneLo_val, zeroM_val, select_L2, decide_eq_true_eq]
  rw [xpCatb, xpCat, hlo, hhi, cat2r_L2, truncf_L2]
theorem dyCatb_val : dyCatb (mk ξ) k h = L2 fun r c => if r < 128 then (if c < 64 then ξ.dy r (128 * k + c) else 0)
    else (if c < 64 then 0 else ξ.dy (r - 128) (128 * k + c)) := by
  have hp : dyP (mk ξ) k h = L2 fun r c => ξ.dy r (128 * k + c) := by
    rw [dyP, dyf_val, slice_L2]
    exact L2_congr fun r _ c _ => by simp
  have hlo : dyLo (mk ξ) k h = L2 fun r c => if c < 64 then ξ.dy r (128 * k + c) else 0 := by
    simp only [dyLo, hp, laneLo_val, zeroM_val, select_L2, decide_eq_true_eq]
  have hhi : dyHi (mk ξ) k h = L2 fun r c => if c < 64 then 0 else ξ.dy r (128 * k + c) := by
    simp only [dyHi, hp, laneLo_val, zeroM_val, select_L2, decide_eq_true_eq]
  rw [dyCatb, dyCat, hlo, hhi, cat2r_L2, truncf_L2]
theorem mCat_val : mCat (mk ξ) k h = L2 fun l s => if s < 128 then ξ.CB l s * ξ.lam (2 * k) l s
    else ξ.CB l (s - 128) * ξ.lam (2 * k + 1) l (s - 128) := by
  rw [mCat, mLb_val ξ (2 * k), mLb_val ξ (2 * k + 1), cat2c_L2]
theorem mCatR_val : mCatR (mk ξ) k h = L2 fun l s => if l < 128 then ξ.CB l s * ξ.lam (2 * k) l s
    else ξ.CB (l - 128) s * ξ.lam (2 * k + 1) (l - 128) s := by
  rw [mCatR, mLb_val ξ (2 * k), mLb_val ξ (2 * k + 1), cat2r_L2]
theorem ydP_val : ydP (mk ξ) k h = L2 fun r c => ξ.yd r (128 * k + c) := by
  rw [ydP, mCat_val, xpCatb_val, mm_yd]
  refine L2_congr fun r _ c hc => ?_
  rw [show (256 : ℕ) = 128 + 128 from rfl, sum_two, ← Finset.sum_add_distrib]
  refine Finset.sum_congr rfl fun s hs => ?_
  have hs := Finset.mem_range.1 hs
  have hn : ¬ 128 + s < 128 := by omega
  rw [if_pos hs, if_pos hs, if_neg hn, if_neg hn, Nat.add_sub_cancel_left]
  by_cases h64 : c < 64
  · rw [if_pos h64, if_pos h64, mul_zero, add_zero, show (128 * k + c) / 64 = 2 * k by omega]
  · rw [if_neg h64, if_neg h64, mul_zero, zero_add, show (128 * k + c) / 64 = 2 * k + 1 by omega]
theorem dxP_val : dxP (mk ξ) k h = L2 fun r c => ξ.dxd r (128 * k + c) := by
  rw [dxP, mCatR_val, dyCatb_val, mm_dx]
  refine L2_congr fun r _ c hc => ?_
  rw [show (256 : ℕ) = 128 + 128 from rfl, sum_two, ← Finset.sum_add_distrib]
  refine Finset.sum_congr rfl fun s hs => ?_
  have hs := Finset.mem_range.1 hs
  have hn : ¬ 128 + s < 128 := by omega
  rw [if_pos hs, if_pos hs, if_neg hn, if_neg hn, Nat.add_sub_cancel_left]
  by_cases h64 : c < 64
  · rw [if_pos h64, if_pos h64, mul_zero, add_zero, show (128 * k + c) / 64 = 2 * k by omega]
  · rw [if_neg h64, if_neg h64, mul_zero, zero_add, show (128 * k + c) / 64 = 2 * k + 1 by omega]
theorem dmP_val : dmP (mk ξ) k h = L2 fun r s => if r < 128 then ξ.dm (2 * k) r s else ξ.dm (2 * k + 1) (r - 128) s := by
  have hx : xpb (mk ξ) k h = L2 fun r c => ξ.xp r (128 * k + c) := by
    simp only [xpb, xpP, xp_val, slice_L2, truncf_L2]
    exact L2_congr fun r _ c _ => by simp
  rw [dmP, dyCatb_val, hx, mm_dm]
  refine L2_congr fun r _ s _ => ?_
  rw [show (128 : ℕ) = 64 + 64 from rfl, sum_two]
  by_cases hr : r < 64 + 64
  · rw [if_pos hr]
    simp only [if_pos hr]
    rw [add_comm, Finset.sum_eq_zero (s := Finset.range 64), zero_add]
    · refine Finset.sum_congr rfl fun x hx => ?_
      have hx := Finset.mem_range.1 hx
      rw [if_pos hx, show (64 + 64) * k + x = 64 * (2 * k) + x by omega]
    · intro x _; rw [if_neg (by omega), zero_mul]
  · rw [if_neg hr]
    simp only [if_neg hr]
    rw [Finset.sum_eq_zero (s := Finset.range 64), zero_add]
    · refine Finset.sum_congr rfl fun x _ => ?_
      rw [if_neg (by omega), show (64 + 64) * k + (64 + x) = 64 * (2 * k + 1) + x by omega]
    · intro x hx
      have hx := Finset.mem_range.1 hx
      rw [if_pos hx, zero_mul]
theorem dm0l_val : dm0l (mk ξ) k h = L2 fun l s => ξ.dm (2 * k) l s * ξ.lam (2 * k) l s := by
  simp only [dm0l, dm0, dmP_val, slice_L2, lam_val, mulf_L2]
  exact L2_congr fun r hr c _ => by simp [hr]
theorem dm1l_val : dm1l (mk ξ) k h = L2 fun l s => ξ.dm (2 * k + 1) l s * ξ.lam (2 * k + 1) l s := by
  simp only [dm1l, dm1, dmP_val, slice_L2, lam_val, mulf_L2]
  exact L2_congr fun r hr c _ => by simp
end Pairs

/-- Four blocks of 128 columns of one function, side by side, are the function. -/
theorem four (f : ℕ → ℕ → ℝ) (r c : ℕ) (hc : c < 512) :
    (if c < 128 then f r (128 * 0 + c) else if c - 128 < 128 then f r (128 * 1 + (c - 128)) else if c - 128 - 128 < 128 then f r (128 * 2 + (c - 128 - 128))
      else f r (128 * 3 + (c - 128 - 128 - 128))) = f r c := by
  split_ifs <;> congr 1 <;> omega

theorem ydiag_val : ydiag (mk ξ) = L2 ξ.yd := by
  rw [ydiag, ydP_val ξ 0, ydP_val ξ 1, ydP_val ξ 2, ydP_val ξ 3, cat4c_L2]
  exact L2_congr fun r _ c hc => four ξ.yd r c hc
theorem dxdiag_val : dxdiag (mk ξ) = L2 ξ.dxd := by
  rw [dxdiag, dxP_val ξ 0, dxP_val ξ 1, dxP_val ξ 2, dxP_val ξ 3, cat4c_L2]
  exact L2_congr fun r _ c hc => four ξ.dxd r c hc
theorem dcb_val : dcb (mk ξ) = L2 ξ.dcb := by
  simp only [dcb, c386, c381, c378, c373, c370, c365, c362, dm0l_val, dm1l_val, zeroM_val, addf_L2]
  refine L2_congr fun r _ c _ => ?_
  simp only [R.dcb, Finset.sum_range_succ, Finset.sum_range_zero]
theorem c242_val : c242 (mk ξ) = L2 ξ.g := rfl
theorem bgd_val : bgd (mk ξ) = L2 ξ.bgd := by simp only [bgd, c243, bm_val, c242_val, c83, mm_wide, dxW_val, mulf_L2]; rfl
theorem xpbgd_val : xpbgd (mk ξ) = L2 fun r c => ξ.xp r c * ξ.bgd r c := by simp only [xpbgd, xp_val, bgd_val, mulf_L2]
theorem uu_val : uu (mk ξ) = L2 ξ.uu := by
  simp only [uu, c241, c208, c85, dye_val, c84_val, c207, c87, c86, dyf_val, ydiag_val, c240, c210, c209, xp_val, dxdiag_val, xpbgd_val,
    truncf_L2, extf_L2, mulf_L2, addf_L2, subf_L2]; rfl
theorem dxa_val : dxa (mk ξ) = L2 fun r c => ξ.dxd r c + ξ.bgd r c := by simp only [dxa, dxdiag_val, bgd_val, addf_L2]
theorem ww_val : ww (mk ξ) = L2 ξ.ww := by simp only [ww, dxa_val, xs_val, mulf_L2]; rfl

/-- A number of the row, over the 128 columns that two heads share. -/
theorem etx_val : etx (mk ξ) = L2 fun _ c => Real.exp (ξ.tot (c / 64)) := by
  have hlo : c261 = B2 fun _ c => decide (c < 64) := by
    simp only [c261, laneLo_val, slice_B2]; simp
  have h262 : c262 (mk ξ) = L2 fun _ c => Real.exp (ξ.tot c) := by rw [c262, tot_val, exp_L2]
  have h0 : c269 (mk ξ) = L2 fun _ c => if c < 64 then Real.exp (ξ.tot 0) else Real.exp (ξ.tot 1) := by
    simp only [c269, c265, c268, c264, c267, c263, c266, h262, hlo, slice_L2, cast_self_L2, bcastOne_L2, select_L2, decide_eq_true_eq]
    rfl
  have h1 : c276 (mk ξ) = L2 fun _ c => if c < 64 then Real.exp (ξ.tot 2) else Real.exp (ξ.tot 3) := by
    simp only [c276, c272, c275, c271, c274, c270, c273, h262, hlo, slice_L2, cast_self_L2, bcastOne_L2, select_L2, decide_eq_true_eq]
    rfl
  have h2 : c283 (mk ξ) = L2 fun _ c => if c < 64 then Real.exp (ξ.tot 4) else Real.exp (ξ.tot 5) := by
    simp only [c283, c279, c282, c278, c281, c277, c280, h262, hlo, slice_L2, cast_self_L2, bcastOne_L2, select_L2, decide_eq_true_eq]
    rfl
  have h3 : c290 (mk ξ) = L2 fun _ c => if c < 64 then Real.exp (ξ.tot 6) else Real.exp (ξ.tot 7) := by
    simp only [c290, c286, c289, c285, c288, c284, c287, h262, hlo, slice_L2, cast_self_L2, bcastOne_L2, select_L2, decide_eq_true_eq]
    rfl
  rw [etx, h0, h1, h2, h3, cat4c_L2]
  refine L2_congr fun r _ c hc => ?_
  split_ifs <;> congr 2 <;> omega
/-- The sum down the columns, as a row. -/
theorem sum512 (f : ℕ → ℕ → ℝ) (hφ : FKind.Formats .f32) (hacc : (0x00000000#32 : BitVec 32) = FKind.neutral .add .f32 hφ) :
    shapeCast S1x512 (multiReduction (F := Ideal) .add [0] S512 (L2 f : S128x512.Idx → EReal) 0x00000000#32 reduces_S128x512_S512 hφ hacc) shapeCasts_S512_S1x512
      = L2 fun _ c => ∑ r ∈ Finset.range 128, f r c :=
  (congrArg (fun v : FVec Ideal S512 .f32 => shapeCast S1x512 v shapeCasts_S512_S1x512) (reduce_L2 (a := 128) (b := 512) (φ := .f32) f _ _ hφ hacc)).trans (cast_L1 _ _)
theorem sum128 (f : ℕ → ℕ → ℝ) (hφ : FKind.Formats .f32) (hacc : (0x00000000#32 : BitVec 32) = FKind.neutral .add .f32 hφ) :
    shapeCast S1x128 (multiReduction (F := Ideal) .add [0] S128 (L2 f : S128x128.Idx → EReal) 0x00000000#32 reduces_S128x128_S128 hφ hacc) shapeCasts_S128_S1x128
      = L2 fun _ c => ∑ r ∈ Finset.range 128, f r c :=
  (congrArg (fun v : FVec Ideal S128 .f32 => shapeCast S1x128 v shapeCasts_S128_S1x128) (reduce_L2 (a := 128) (b := 128) (φ := .f32) f _ _ hφ hacc)).trans (cast_L1 _ _)
theorem tail_val : tail (mk ξ) = L2 fun _ c => ξ.tail c := by
  have h257 : c257 (mk ξ) = L2 ξ.st := by rw [c257, stm_val]; rfl
  have h256 : c256 (mk ξ) = L2 fun _ c => ∑ r ∈ Finset.range 128, ξ.xp r c * ξ.bgd r c := by
    rw [c256, xbsum1, xpbgd_val]; exact sum512 _ _ _
  have hg : gsum (mk ξ) = L2 fun _ c => ∑ n ∈ Finset.range 128, ξ.g n c * ξ.st n c := by
    rw [gsum, c259, c258, h257]
    simp only [mk, mulf_L2]
    exact sum512 _ _ _
  simp only [tail, c294, tail1, h256, c292, hg, etx_val, mulf_L2, addf_L2, cast_self_L2]
  exact bcastRow_L2 _ (by decide) _

theorem red_val : red (mk ξ) = L2 fun r c => if c < 8 then ∑ p ∈ Finset.range 64,
    (if r < 128 then ξ.uu r (64 * c + p) else if r - 128 < 128 then 0 else if r - 128 - 128 < 128 then ξ.ww (r - 128 - 128) (64 * c + p)
      else if r - 128 - 128 - 128 < 8 then ξ.tail (64 * c + p) else 0) else 0 := by
  have h248 : c248 (mk ξ) = L2 ξ.uu := by rw [c248, uu_val, truncf_L2]
  have h251 : c251 (mk ξ) = L2 fun _ _ => 0 := by simp only [c251, c250, c249, h248, uu_val, extf_L2, subf_L2, truncf_L2, sub_self]
  have h254 : c254 (mk ξ) = L2 ξ.ww := by rw [c254, ww_val, truncf_L2]
  have h296 : c296 (mk ξ) = L2 fun _ c => ξ.tail c := by rw [c296, tail_val, truncf_L2]
  have h299 : c299 (mk ξ) = L2 fun _ _ => 0 := by simp only [c299, c298, c297, h296, tail_val, extf_L2, subf_L2, truncf_L2, sub_self]
  rw [red, c300, h248, h251, h254, h296, h299, selT_val, c315, cat5r_L2, mm_red]
  refine L2_congr fun r _ c _ => ?_
  rw [pick_block]

theorem dcs_val : dcs (mk ξ) = L2 ξ.dcs := by
  simp only [dcs, c317, c318, red_val, slice_L2, addf_L2]
  refine L2_congr fun r hr c _ => ?_
  simp [R.dcs, hr]
theorem ddt_val : ddt (mk ξ) = L2 ξ.ddt := by
  simp only [ddt, red_val, slice_L2]
  refine L2_congr fun r hr c _ => ?_
  simp only [Matrix.cons_val_zero, Matrix.cons_val_one, zero_add, R.ddt]
  simp only [show ¬ 256 + r < 128 by omega, show ¬ 256 + r - 128 < 128 by omega, show 256 + r - 128 - 128 = r by omega, hr, if_true, if_false]
theorem dtot_val : dtot (mk ξ) = L2 fun _ c => ξ.dtot c := by
  simp only [dtot, c325, c324, c322, c323, red_val, slice_L2, addf_L2, cast_self_L2]
  rw [bcastRow_L2 _ (by decide)]
  refine L2_congr fun r hr c _ => ?_
  simp [R.dtot]
theorem da_val : da (mk ξ) = L2 ξ.da := by
  have h328 : c328 (mk ξ) = L2 fun k c => ξ.dcs k c + (if k = 127 then ξ.dtot c else 0) := by
    simp only [c328, dcs_val, c327, last_val, dtot_val, zeroM_val, select_L2, addf_L2, decide_eq_true_eq]
  have h329 : c329 (mk ξ) = L2 fun k c => ξ.dcs k c + (if k = 127 then ξ.dtot c else 0) := by rw [c329, h328, truncf_L2]
  have h331 : c331 (mk ξ) = L2 fun _ _ => 0 := by simp only [c331, c330, h328, h329, extf_L2, subf_L2, sub_self]
  have h332 : c332 (mk ξ) = L2 fun _ _ => 0 := by simp only [c332, h331, truncf_L2]
  have h335 : c335 (mk ξ) = L2 fun _ _ => 0 := by simp only [c335, c334, c333, h331, h332, extf_L2, subf_L2, sub_self, truncf_L2]
  have h22 : c22 (F := Ideal) = L2 fun r c => if decide (r ≤ c) = true then 1 else 0 := by
    simp only [c22, c21, maskGe_val, oneM_val, zeroM_val, select_L2, truncf_L2]
  refine (cum_val _ _ h22 _ _ _ _ h329 h332 h335 _ rfl).trans ?_
  refine L2_congr fun r _ c _ => ?_
  simp only [decide_eq_true_eq]; rfl

/-! ### What a group stores -/

theorem dxsOut_val : dxsOut (mk ξ) = L2 ξ.dxs := by
  simp only [dxsOut, c392, c391, dxa_val, dtxW_val, mulf_L2, truncf_L2]; rfl
theorem dbOut_val : dbOut (mk ξ) = L2 ξ.db := by
  simp only [dbOut, c401, c400, c398, c397, c396, xp_val, dxW_val, mulf_L2, truncf_L2, c242_val, c89, mm_long, c399, c395, dcb_val, cm_val,
    mm_tn, addf_L2]; rfl
theorem dcOut_val : dcOut (mk ξ) = L2 ξ.dc := by
  simp only [dcOut, c406, c405, c403, c394, dye_val, truncf_L2, stm_val, c89, mm_long, c404, c395, dcb_val, bm_val, mm_pl, addf_L2]; rfl
theorem gOut_val : gOut (mk ξ) = L2 ξ.g' := by
  have h408 : c408 (mk ξ) = L2 fun _ c => Real.exp (ξ.tot (c / 64)) := by rw [c408, etx_val]; exact bcastRow_L2 _ (by decide) _
  have hg : (mk ξ).g = L2 ξ.g := rfl
  simp only [gOut, c411, c409, hg, h408, mulf_L2, c410, cm_val, c394, dye_val, truncf_L2, c83, mm_g, addf_L2, cast_self_L2]; rfl
theorem ddrOut_val : ddrOut (mk ξ) = L2 ξ.ddr := by
  have hs : sig (mk ξ) = L2 fun r c => 1 / (1 + Real.exp (0 - ξ.pre r c)) := by
    simp only [sig, c417, c416, c415, pre_val, zeroM_val, oneM_val, subf_L2, exp_L2, addf_L2]
    exact divf_L2 _ _ fun r c => by positivity
  simp only [ddrOut, keep_val, c419, c414, c413, da_val, c39_val, ddt_val, hs, zeroM_val, mulf_L2, addf_L2, select_L2]
  refine L2_congr fun r _ c _ => ?_
  simp [R.ddr]
theorem dbiasOut_val : dbiasOut (mk ξ) = L2 fun _ c => ξ.dbi' c := by
  have h423 : c423 (mk ξ) = L2 fun _ c => ∑ r ∈ Finset.range 128, ξ.ddr r c := by
    rw [c423, c422, ddrOut_val]; exact sum128 _ _ _
  have h421 : c421 (mk ξ) = L2 fun _ c => ξ.dbi c := by simp only [c421, mk, cast_self_L2]
  rw [dbiasOut, h421, h423, addf_L2]; rfl
theorem dalogOut_val : dalogOut (mk ξ) = L2 fun _ c => ξ.dal' c := by
  have h350 : c350 (mk ξ) = L2 fun r c => if c < 8 then ξ.da r c * ξ.sp r c * ξ.A c else 0 := by
    simp only [c350, dal0, c343, da_val, softp_val, c39_val, mulf_L2, keep_val, zeroM_val, select_L2]
    exact L2_congr fun r _ c _ => by simp
  have h352 : c352 (mk ξ) = L2 fun _ c => ∑ r ∈ Finset.range 128, if c < 8 then ξ.da r c * ξ.sp r c * ξ.A c else 0 := by
    rw [c352, c351, h350]; exact sum128 _ _ _
  have h13 : c13 (mk ξ) = L2 fun _ c => ξ.dal c := by simp only [c13, mk, cast_self_L2]
  rw [dalogOut, h13, h352, addf_L2]; rfl

end Cert.Scan.G

end
-- ==== Proof.Scan.Pays.lean ====
/- Each value that the printed kernel names, at a group's values, is the group's value of that place. -/
module

public import proofs.«01_k».proof.Proof.Gen.KernelIdeal.Skeleton
public import proofs.«01_k».proof.Proof.Scan.Group

@[expose] public section

noncomputable section

namespace Cert.Scan.G

open Idealize.ShloMosaic Cert.KernelIdeal Cert.KernelIdeal.Gen

variable {F : FTy → Type} [FloatOps F]

theorem pay1_eq (ρ : In F) : k0_pay1 (F := F) (softp ρ) (aNeg ρ) (da ρ) keep ρ.dal = (dalogOut ρ) := rfl
theorem pay2_eq : k0_pay2 (F := F)  = (c355 (F := F)) := rfl
theorem pay3_eq : k0_pay3 (F := F)  = (c356 (F := F)) := rfl
theorem pay4_eq : k0_pay4 (F := F)  = (c356 (F := F)) := rfl
theorem pay5_eq : k0_pay5 (F := F)  = (selW (F := F)) := rfl
theorem pay6_eq : k0_pay6 (F := F)  = (selT (F := F)) := rfl
theorem pay7_eq (ρ : In F) : k0_pay7 (F := F) ρ.xc = (c115 ρ) := rfl
theorem pay8_eq (ρ : In F) : k0_pay8 (F := F) (c115 ρ) = (xs ρ) := rfl
theorem pay9_eq (ρ : In F) : k0_pay9 (F := F) ρ.xc = (bm ρ) := rfl
theorem pay10_eq (ρ : In F) : k0_pay10 (F := F) ρ.xc = (cm ρ) := rfl
theorem pay11_eq (ρ : In F) : k0_pay11 (F := F) ρ.dt ρ.bias = (pre ρ) := rfl
theorem pay12_eq (ρ : In F) : k0_pay12 (F := F) ρ.dt ρ.bias = (softp ρ) := rfl
theorem pay13_eq (ρ : In F) : k0_pay13 (F := F) ρ.alog = (aNeg ρ) := rfl
theorem pay14_eq : k0_pay14  = maskLe := rfl
theorem pay15_eq : k0_pay15  = maskGe := rfl
theorem pay16_eq (ρ : In F) : k0_pay16 (F := F) ρ.dt ρ.bias ρ.alog = (cs ρ) := rfl
theorem pay17_eq (ρ : In F) : k0_pay17 (F := F) ρ.dt ρ.bias ρ.alog = (tot ρ) := rfl
theorem pay18_eq (ρ : In F) : k0_pay18 (F := F) ρ.dt ρ.bias ρ.alog = (csT ρ) := rfl
theorem pay19_eq (ρ : In F) : k0_pay19 (F := F) ρ.xc = (xs ρ) := rfl
theorem pay20_eq (ρ : In F) : k0_pay20 (F := F) ρ.xc = (bm ρ) := rfl
theorem pay21_eq (ρ : In F) : k0_pay21 (F := F) ρ.xc = (cm ρ) := rfl
theorem pay22_eq (ρ : In F) : k0_pay22 (F := F) ρ.dt ρ.bias = (pre ρ) := rfl
theorem pay23_eq (ρ : In F) : k0_pay23 (F := F) ρ.dt ρ.bias = (softp ρ) := rfl
theorem pay24_eq (ρ : In F) : k0_pay24 (F := F) ρ.alog = (aNeg ρ) := rfl
theorem pay25_eq : k0_pay25  = maskLe := rfl
theorem pay26_eq : k0_pay26  = maskGe := rfl
theorem pay27_eq (ρ : In F) : k0_pay27 (F := F) ρ.dt ρ.bias ρ.alog = (cs ρ) := rfl
theorem pay28_eq (ρ : In F) : k0_pay28 (F := F) ρ.dt ρ.bias ρ.alog = (tot ρ) := rfl
theorem pay29_eq (ρ : In F) : k0_pay29 (F := F) ρ.dt ρ.bias ρ.alog = (csT ρ) := rfl
theorem pay30_eq (ρ : In F) : k0_pay30 (F := F) ρ.xc = (xs ρ) := rfl
theorem pay31_eq (ρ : In F) : k0_pay31 (F := F) ρ.xc = (bm ρ) := rfl
theorem pay32_eq (ρ : In F) : k0_pay32 (F := F) ρ.xc = (cm ρ) := rfl
theorem pay33_eq (ρ : In F) : k0_pay33 (F := F) ρ.dt ρ.bias = (pre ρ) := rfl
theorem pay34_eq (ρ : In F) : k0_pay34 (F := F) ρ.dt ρ.bias = (softp ρ) := rfl
theorem pay35_eq (ρ : In F) : k0_pay35 (F := F) ρ.alog = (aNeg ρ) := rfl
theorem pay36_eq : k0_pay36  = maskLe := rfl
theorem pay37_eq : k0_pay37  = maskGe := rfl
theorem pay38_eq (ρ : In F) : k0_pay38 (F := F) ρ.dt ρ.bias ρ.alog = (cs ρ) := rfl
theorem pay39_eq (ρ : In F) : k0_pay39 (F := F) ρ.dt ρ.bias ρ.alog = (tot ρ) := rfl
theorem pay40_eq (ρ : In F) : k0_pay40 (F := F) ρ.dt ρ.bias ρ.alog = (csT ρ) := rfl
theorem pay41_eq (ρ : In F) : k0_pay41 (F := F) ρ.xc = (xs ρ) := rfl
theorem pay42_eq (ρ : In F) : k0_pay42 (F := F) ρ.xc = (bm ρ) := rfl
theorem pay43_eq (ρ : In F) : k0_pay43 (F := F) ρ.xc = (cm ρ) := rfl
theorem pay44_eq (ρ : In F) : k0_pay44 (F := F) ρ.dt ρ.bias = (pre ρ) := rfl
theorem pay45_eq (ρ : In F) : k0_pay45 (F := F) ρ.dt ρ.bias = (softp ρ) := rfl
theorem pay46_eq (ρ : In F) : k0_pay46 (F := F) ρ.alog = (aNeg ρ) := rfl
theorem pay47_eq : k0_pay47  = maskLe := rfl
theorem pay48_eq : k0_pay48  = maskGe := rfl
theorem pay49_eq (ρ : In F) : k0_pay49 (F := F) ρ.dt ρ.bias ρ.alog = (c50 ρ) := rfl
theorem pay50_eq (ρ : In F) : k0_pay50 (F := F) ρ.dt ρ.bias ρ.alog = (c53 ρ) := rfl
theorem pay51_eq (ρ : In F) : k0_pay51 (F := F) ρ.dt ρ.bias ρ.alog = (c54 ρ) := rfl
theorem pay52_eq (ρ : In F) : k0_pay52 (F := F) (c53 ρ) (c54 ρ) = (cs ρ) := rfl
theorem pay53_eq (ρ : In F) : k0_pay53 (F := F) (c53 ρ) (c54 ρ) = (tot ρ) := rfl
theorem pay54_eq (ρ : In F) : k0_pay54 (F := F) (c53 ρ) (c54 ρ) = (csT ρ) := rfl
theorem pay55_eq (ρ : In F) : k0_pay55 (F := F) (selW (F := F)) (softp ρ) (cs ρ) (tot ρ) = (expd ρ) := rfl
theorem pay56_eq (ρ : In F) : k0_pay56 (F := F) (selW (F := F)) (softp ρ) (cs ρ) (tot ρ) = (dtxW ρ) := rfl
theorem pay57_eq (ρ : In F) : k0_pay57 (F := F) (selW (F := F)) (softp ρ) (cs ρ) (tot ρ) = (exW ρ) := rfl
theorem pay58_eq (ρ : In F) : k0_pay58 (F := F) (selW (F := F)) (softp ρ) (cs ρ) (tot ρ) = (dxW ρ) := rfl
theorem pay59_eq (ρ : In F) : k0_pay59 (F := F) (tot ρ) = (c262 ρ) := rfl
theorem pay60_eq (ρ : In F) : k0_pay60 (F := F) (bm ρ) (cm ρ) = (cb ρ) := rfl
theorem pay61_eq (ρ : In F) : k0_pay61 (F := F) (selW (F := F)) (softp ρ) (cs ρ) (tot ρ) = (expd ρ) := rfl
theorem pay62_eq (ρ : In F) : k0_pay62 (F := F) (selW (F := F)) (softp ρ) (cs ρ) (tot ρ) = (dtxW ρ) := rfl
theorem pay63_eq (ρ : In F) : k0_pay63 (F := F) (selW (F := F)) (softp ρ) (cs ρ) (tot ρ) = (exW ρ) := rfl
theorem pay64_eq (ρ : In F) : k0_pay64 (F := F) (selW (F := F)) (softp ρ) (cs ρ) (tot ρ) = (dxW ρ) := rfl
theorem pay65_eq (ρ : In F) : k0_pay65 (F := F) (tot ρ) = (c262 ρ) := rfl
theorem pay66_eq (ρ : In F) : k0_pay66 (F := F) (bm ρ) (cm ρ) = (cb ρ) := rfl
theorem pay67_eq (ρ : In F) : k0_pay67 (F := F) (selW (F := F)) (softp ρ) (cs ρ) (tot ρ) = (expd ρ) := rfl
theorem pay68_eq (ρ : In F) : k0_pay68 (F := F) (selW (F := F)) (softp ρ) (cs ρ) (tot ρ) = (dtxW ρ) := rfl
theorem pay69_eq (ρ : In F) : k0_pay69 (F := F) (selW (F := F)) (softp ρ) (cs ρ) (tot ρ) = (exW ρ) := rfl
theorem pay70_eq (ρ : In F) : k0_pay70 (F := F) (selW (F := F)) (softp ρ) (cs ρ) (tot ρ) = (dxW ρ) := rfl
theorem pay71_eq (ρ : In F) : k0_pay71 (F := F) (tot ρ) = (c262 ρ) := rfl
theorem pay72_eq (ρ : In F) : k0_pay72 (F := F) (bm ρ) (cm ρ) = (cb ρ) := rfl
theorem pay73_eq (ρ : In F) : k0_pay73 (F := F) (selW (F := F)) (softp ρ) (c53 ρ) (c54 ρ) = (expd ρ) := rfl
theorem pay74_eq (ρ : In F) : k0_pay74 (F := F) (selW (F := F)) (softp ρ) (c53 ρ) (c54 ρ) = (dtxW ρ) := rfl
theorem pay75_eq (ρ : In F) : k0_pay75 (F := F) (selW (F := F)) (softp ρ) (c53 ρ) (c54 ρ) = (exW ρ) := rfl
theorem pay76_eq (ρ : In F) : k0_pay76 (F := F) (selW (F := F)) (softp ρ) (c53 ρ) (c54 ρ) = (dxW ρ) := rfl
theorem pay77_eq (ρ : In F) : k0_pay77 (F := F) (c53 ρ) (c54 ρ) = (c262 ρ) := rfl
theorem pay78_eq (ρ : In F) : k0_pay78 (F := F) (bm ρ) (cm ρ) = (cb ρ) := rfl
theorem pay79_eq (ρ : In F) : k0_pay79 (F := F) ρ.st = (stm ρ) := rfl
theorem pay80_eq (ρ : In F) : k0_pay80 (F := F) ρ.dy = (dyf ρ) := rfl
theorem pay81_eq (ρ : In F) : k0_pay81 (F := F) ρ.g = (c242 ρ) := rfl
theorem pay82_eq (ρ : In F) : k0_pay82 (F := F) (xs ρ) (dtxW ρ) = (xp ρ) := rfl
theorem pay83_eq (ρ : In F) : k0_pay83 (F := F) (exW ρ) ρ.dy = (dye ρ) := rfl
theorem pay84_eq (ρ : In F) : k0_pay84 (F := F) (bm ρ) (dxW ρ) ρ.g = (bgd ρ) := rfl
theorem pay85_eq : k0_pay85  = laneLo := rfl
theorem pay86_eq : k0_pay86 (F := F)  = (zeroM (F := F)) := rfl
theorem pay87_eq (ρ : In F) : k0_pay87 (F := F) ρ.st = (stm ρ) := rfl
theorem pay88_eq (ρ : In F) : k0_pay88 (F := F) ρ.dy = (dyf ρ) := rfl
theorem pay89_eq (ρ : In F) : k0_pay89 (F := F) ρ.g = (c242 ρ) := rfl
theorem pay90_eq (ρ : In F) : k0_pay90 (F := F) (xs ρ) (dtxW ρ) = (xp ρ) := rfl
theorem pay91_eq (ρ : In F) : k0_pay91 (F := F) (exW ρ) ρ.dy = (dye ρ) := rfl
theorem pay92_eq (ρ : In F) : k0_pay92 (F := F) (bm ρ) (dxW ρ) ρ.g = (bgd ρ) := rfl
theorem pay93_eq : k0_pay93  = laneLo := rfl
theorem pay94_eq : k0_pay94 (F := F)  = (zeroM (F := F)) := rfl
theorem pay95_eq (ρ : In F) : k0_pay95 (F := F) ρ.st = (stm ρ) := rfl
theorem pay96_eq (ρ : In F) : k0_pay96 (F := F) ρ.dy = (dyf ρ) := rfl
theorem pay97_eq (ρ : In F) : k0_pay97 (F := F) ρ.g = (c242 ρ) := rfl
theorem pay98_eq (ρ : In F) : k0_pay98 (F := F) (xs ρ) (dtxW ρ) = (xp ρ) := rfl
theorem pay99_eq (ρ : In F) : k0_pay99 (F := F) (exW ρ) (dyf ρ) = (dye ρ) := rfl
theorem pay100_eq (ρ : In F) : k0_pay100 (F := F) (bm ρ) (dxW ρ) (c242 ρ) = (bgd ρ) := rfl
theorem pay101_eq : k0_pay101  = laneLo := rfl
theorem pay102_eq : k0_pay102 (F := F)  = (zeroM (F := F)) := rfl
theorem pay103_eq (ρ : In F) : k0_pay103 (F := F) ρ.st = (stm ρ) := rfl
theorem pay104_eq (ρ : In F) : k0_pay104 (F := F) ρ.dy = (dyf ρ) := rfl
theorem pay105_eq (ρ : In F) : k0_pay105 (F := F) ρ.g = (c242 ρ) := rfl
theorem pay106_eq (ρ : In F) : k0_pay106 (F := F) (xs ρ) (dtxW ρ) = (xp ρ) := rfl
theorem pay107_eq (ρ : In F) : k0_pay107 (F := F) (exW ρ) ρ.dy = (dye ρ) := rfl
theorem pay108_eq (ρ : In F) : k0_pay108 (F := F) (bm ρ) (dxW ρ) ρ.g = (bgd ρ) := rfl
theorem pay109_eq : k0_pay109  = laneLo := rfl
theorem pay110_eq : k0_pay110 (F := F)  = (zeroM (F := F)) := rfl
theorem pay111_eq (ρ : In F) : k0_pay111 (F := F) (xp ρ) = (xpP ρ 0 (by decide)) := rfl
theorem pay112_eq (ρ : In F) : k0_pay112 (F := F) (dyf ρ) = (dyP ρ 0 (by decide)) := rfl
theorem pay113_eq (ρ : In F) : k0_pay113 (F := F) maskLe (cs ρ) (csT ρ) = (lam ρ 0 (by decide)) := rfl
theorem pay114_eq (ρ : In F) : k0_pay114 (F := F) maskLe (cs ρ) (csT ρ) = (lamExp ρ 1 (by decide)) := rfl
theorem pay115_eq : k0_pay115 (F := F)  = (zeroM (F := F)) := rfl
theorem pay116_eq (ρ : In F) : k0_pay116 (F := F) maskLe (lamExp ρ 1 (by decide)) (zeroM (F := F)) = (lam ρ 1 (by decide)) := rfl
theorem pay117_eq (ρ : In F) : k0_pay117 (F := F) (cb ρ) (lam ρ 0 (by decide)) = (mLb ρ 0 (by decide)) := rfl
theorem pay118_eq (ρ : In F) : k0_pay118 (F := F) maskLe (cb ρ) (lamExp ρ 1 (by decide)) (zeroM (F := F)) = (mLb ρ 1 (by decide)) := rfl
theorem pay119_eq (ρ : In F) : k0_pay119 (F := F) laneLo (dyP ρ 0 (by decide)) = (dyCatb ρ 0 (by decide)) := rfl
theorem pay120_eq (ρ : In F) : k0_pay120 (F := F) maskLe laneLo (zeroM (F := F)) (xpP ρ 0 (by decide)) (dyP ρ 0 (by decide)) (lam ρ 0 (by decide)) (lamExp ρ 1 (by decide)) (zeroM (F := F)) = (c365 ρ) := rfl
theorem pay121_eq (ρ : In F) : k0_pay121 (F := F) maskLe (cb ρ) laneLo (xpP ρ 0 (by decide)) (lam ρ 0 (by decide)) (lamExp ρ 1 (by decide)) (zeroM (F := F)) = (ydP ρ 0 (by decide)) := rfl
theorem pay122_eq (ρ : In F) : k0_pay122 (F := F) maskLe (cb ρ) laneLo (dyP ρ 0 (by decide)) (lam ρ 0 (by decide)) (lamExp ρ 1 (by decide)) (zeroM (F := F)) = (dxP ρ 0 (by decide)) := rfl
theorem pay123_eq (ρ : In F) : k0_pay123 (F := F) (c262 ρ) laneLo = (c269 ρ) := rfl
theorem pay124_eq (ρ : In F) : k0_pay124 (F := F) (xp ρ) = (xpP ρ 0 (by decide)) := rfl
theorem pay125_eq (ρ : In F) : k0_pay125 (F := F) (dyf ρ) = (dyP ρ 0 (by decide)) := rfl
theorem pay126_eq (ρ : In F) : k0_pay126 (F := F) maskLe (cs ρ) (csT ρ) = (lam ρ 0 (by decide)) := rfl
theorem pay127_eq (ρ : In F) : k0_pay127 (F := F) (cs ρ) = (csCol ρ 1 (by decide)) := rfl
theorem pay128_eq (ρ : In F) : k0_pay128 (F := F) (csT ρ) = (csRow ρ 1 (by decide)) := rfl
theorem pay129_eq (ρ : In F) : k0_pay129 (F := F) maskLe (csCol ρ 1 (by decide)) (csRow ρ 1 (by decide)) = (lam ρ 1 (by decide)) := rfl
theorem pay130_eq (ρ : In F) : k0_pay130 (F := F) (cb ρ) (lam ρ 0 (by decide)) = (mLb ρ 0 (by decide)) := rfl
theorem pay131_eq (ρ : In F) : k0_pay131 (F := F) maskLe (cb ρ) (csCol ρ 1 (by decide)) (csRow ρ 1 (by decide)) = (mLb ρ 1 (by decide)) := rfl
theorem pay132_eq (ρ : In F) : k0_pay132 (F := F) laneLo (dyP ρ 0 (by decide)) = (dyCatb ρ 0 (by decide)) := rfl
theorem pay133_eq (ρ : In F) : k0_pay133 (F := F) maskLe laneLo (zeroM (F := F)) (xpP ρ 0 (by decide)) (dyP ρ 0 (by decide)) (lam ρ 0 (by decide)) (csCol ρ 1 (by decide)) (csRow ρ 1 (by decide)) = (c365 ρ) := rfl
theorem pay134_eq (ρ : In F) : k0_pay134 (F := F) maskLe (cb ρ) laneLo (xpP ρ 0 (by decide)) (lam ρ 0 (by decide)) (csCol ρ 1 (by decide)) (csRow ρ 1 (by decide)) = (ydP ρ 0 (by decide)) := rfl
theorem pay135_eq (ρ : In F) : k0_pay135 (F := F) maskLe (cb ρ) laneLo (dyP ρ 0 (by decide)) (lam ρ 0 (by decide)) (csCol ρ 1 (by decide)) (csRow ρ 1 (by decide)) = (dxP ρ 0 (by decide)) := rfl
theorem pay136_eq (ρ : In F) : k0_pay136 (F := F) (c262 ρ) laneLo = (c269 ρ) := rfl
theorem pay137_eq (ρ : In F) : k0_pay137 (F := F) (xp ρ) = (xpP ρ 0 (by decide)) := rfl
theorem pay138_eq (ρ : In F) : k0_pay138 (F := F) (dyf ρ) = (dyP ρ 0 (by decide)) := rfl
theorem pay139_eq (ρ : In F) : k0_pay139 (F := F) (cs ρ) (csT ρ) = (lamSub ρ 0 (by decide)) := rfl
theorem pay140_eq (ρ : In F) : k0_pay140 (F := F) maskLe (lamSub ρ 0 (by decide)) = (lam ρ 0 (by decide)) := rfl
theorem pay141_eq (ρ : In F) : k0_pay141 (F := F) maskLe (cs ρ) (csT ρ) = (lam ρ 1 (by decide)) := rfl
theorem pay142_eq (ρ : In F) : k0_pay142 (F := F) maskLe (cb ρ) (lamSub ρ 0 (by decide)) = (mLb ρ 0 (by decide)) := rfl
theorem pay143_eq (ρ : In F) : k0_pay143 (F := F) maskLe (cs ρ) (csT ρ) (cb ρ) = (mLb ρ 1 (by decide)) := rfl
theorem pay144_eq (ρ : In F) : k0_pay144 (F := F) laneLo (dyP ρ 0 (by decide)) = (dyCatb ρ 0 (by decide)) := rfl
theorem pay145_eq (ρ : In F) : k0_pay145 (F := F) maskLe (cs ρ) (csT ρ) laneLo (zeroM (F := F)) (xpP ρ 0 (by decide)) (dyP ρ 0 (by decide)) (lamSub ρ 0 (by decide)) = (c365 ρ) := rfl
theorem pay146_eq (ρ : In F) : k0_pay146 (F := F) maskLe (cs ρ) (csT ρ) (cb ρ) laneLo (xpP ρ 0 (by decide)) (lamSub ρ 0 (by decide)) = (ydP ρ 0 (by decide)) := rfl
theorem pay147_eq (ρ : In F) : k0_pay147 (F := F) maskLe (cs ρ) (csT ρ) (cb ρ) laneLo (dyP ρ 0 (by decide)) (lamSub ρ 0 (by decide)) = (dxP ρ 0 (by decide)) := rfl
theorem pay148_eq : k0_pay148 laneLo = c261 := rfl
theorem pay149_eq (ρ : In F) : k0_pay149 (F := F) (c262 ρ) = (c265 ρ) := rfl
theorem pay150_eq (ρ : In F) : k0_pay150 (F := F) (c262 ρ) = (c267 ρ) := rfl
theorem pay151_eq (ρ : In F) : k0_pay151 (F := F) c261 (c265 ρ) (c267 ρ) = (c269 ρ) := rfl
theorem pay152_eq (ρ : In F) : k0_pay152 (F := F) (xp ρ) = (xpP ρ 0 (by decide)) := rfl
theorem pay153_eq (ρ : In F) : k0_pay153 (F := F) maskLe (cs ρ) (csT ρ) = (lam ρ 0 (by decide)) := rfl
theorem pay154_eq (ρ : In F) : k0_pay154 (F := F) maskLe (cs ρ) (csT ρ) = (lam ρ 1 (by decide)) := rfl
theorem pay155_eq (ρ : In F) : k0_pay155 (F := F) maskLe (cs ρ) (csT ρ) (cb ρ) = (mLb ρ 0 (by decide)) := rfl
theorem pay156_eq (ρ : In F) : k0_pay156 (F := F) maskLe (cs ρ) (csT ρ) (cb ρ) = (mLb ρ 1 (by decide)) := rfl
theorem pay157_eq (ρ : In F) : k0_pay157 (F := F) (dyf ρ) laneLo = (dyCatb ρ 0 (by decide)) := rfl
theorem pay158_eq (ρ : In F) : k0_pay158 (F := F) maskLe (cs ρ) (csT ρ) (dyf ρ) (xp ρ) laneLo (zeroM (F := F)) = (c365 ρ) := rfl
theorem pay159_eq (ρ : In F) : k0_pay159 (F := F) maskLe (cs ρ) (csT ρ) (cb ρ) (xp ρ) laneLo = (ydP ρ 0 (by decide)) := rfl
theorem pay160_eq (ρ : In F) : k0_pay160 (F := F) (mLb ρ 0 (by decide)) (mLb ρ 1 (by decide)) (dyCatb ρ 0 (by decide)) = (dxP ρ 0 (by decide)) := rfl
theorem pay161_eq (ρ : In F) : k0_pay161 (F := F) (c262 ρ) laneLo = (c269 ρ) := rfl
theorem pay162_eq (ρ : In F) : k0_pay162 (F := F) (xp ρ) = (xpP ρ 1 (by decide)) := rfl
theorem pay163_eq (ρ : In F) : k0_pay163 (F := F) maskLe (cs ρ) (csT ρ) = (lam ρ 2 (by decide)) := rfl
theorem pay164_eq (ρ : In F) : k0_pay164 (F := F) maskLe (cs ρ) (csT ρ) = (lam ρ 3 (by decide)) := rfl
theorem pay165_eq (ρ : In F) : k0_pay165 (F := F) maskLe (cs ρ) (csT ρ) (cb ρ) = (mLb ρ 2 (by decide)) := rfl
theorem pay166_eq (ρ : In F) : k0_pay166 (F := F) maskLe (cs ρ) (csT ρ) (cb ρ) = (mLb ρ 3 (by decide)) := rfl
theorem pay167_eq (ρ : In F) : k0_pay167 (F := F) (dyf ρ) laneLo = (dyCatb ρ 1 (by decide)) := rfl
theorem pay168_eq (ρ : In F) : k0_pay168 (F := F) (xp ρ) laneLo = (xpCatb ρ 1 (by decide)) := rfl
theorem pay169_eq (ρ : In F) : k0_pay169 (F := F) (dyf ρ) (xp ρ) laneLo = (dmP ρ 1 (by decide)) := rfl
theorem pay170_eq (ρ : In F) : k0_pay170 (F := F) (c365 ρ) (lam ρ 2 (by decide)) (lam ρ 3 (by decide)) (dmP ρ 1 (by decide)) = (c373 ρ) := rfl
theorem pay171_eq (ρ : In F) : k0_pay171 (F := F) (mLb ρ 2 (by decide)) (mLb ρ 3 (by decide)) (xpCatb ρ 1 (by decide)) = (ydP ρ 1 (by decide)) := rfl
theorem pay172_eq (ρ : In F) : k0_pay172 (F := F) (mLb ρ 2 (by decide)) (mLb ρ 3 (by decide)) (dyCatb ρ 1 (by decide)) = (dxP ρ 1 (by decide)) := rfl
theorem pay173_eq (ρ : In F) : k0_pay173 (F := F) (c262 ρ) laneLo = (c276 ρ) := rfl
theorem pay174_eq (ρ : In F) : k0_pay174 (F := F) (xp ρ) = (xpP ρ 1 (by decide)) := rfl
theorem pay175_eq (ρ : In F) : k0_pay175 (F := F) maskLe (cs ρ) (csT ρ) = (lam ρ 2 (by decide)) := rfl
theorem pay176_eq (ρ : In F) : k0_pay176 (F := F) maskLe (cs ρ) (csT ρ) = (lam ρ 3 (by decide)) := rfl
theorem pay177_eq (ρ : In F) : k0_pay177 (F := F) maskLe (cs ρ) (csT ρ) (cb ρ) = (mLb ρ 2 (by decide)) := rfl
theorem pay178_eq (ρ : In F) : k0_pay178 (F := F) maskLe (cs ρ) (csT ρ) (cb ρ) = (mLb ρ 3 (by decide)) := rfl
theorem pay179_eq (ρ : In F) : k0_pay179 (F := F) (dyf ρ) laneLo = (dyCatb ρ 1 (by decide)) := rfl
theorem pay180_eq : k0_pay180 (F := F)  = (zeroM (F := F)) := rfl
theorem pay181_eq (ρ : In F) : k0_pay181 (F := F) (c365 ρ) (xpP ρ 1 (by decide)) (lam ρ 2 (by decide)) (lam ρ 3 (by decide)) (dyCatb ρ 1 (by decide)) = (c373 ρ) := rfl
theorem pay182_eq (ρ : In F) : k0_pay182 (F := F) laneLo (xpP ρ 1 (by decide)) (mLb ρ 2 (by decide)) (mLb ρ 3 (by decide)) (zeroM (F := F)) = (ydP ρ 1 (by decide)) := rfl
theorem pay183_eq (ρ : In F) : k0_pay183 (F := F) (mLb ρ 2 (by decide)) (mLb ρ 3 (by decide)) (dyCatb ρ 1 (by decide)) = (dxP ρ 1 (by decide)) := rfl
theorem pay184_eq (ρ : In F) : k0_pay184 (F := F) (c262 ρ) laneLo = (c276 ρ) := rfl
theorem pay185_eq (ρ : In F) : k0_pay185 (F := F) (xp ρ) = (xpP ρ 1 (by decide)) := rfl
theorem pay186_eq (ρ : In F) : k0_pay186 (F := F) (dyf ρ) = (dyP ρ 1 (by decide)) := rfl
theorem pay187_eq (ρ : In F) : k0_pay187 (F := F) maskLe (cs ρ) (csT ρ) = (lam ρ 2 (by decide)) := rfl
theorem pay188_eq (ρ : In F) : k0_pay188 (F := F) maskLe (cs ρ) (csT ρ) = (lam ρ 3 (by decide)) := rfl
theorem pay189_eq (ρ : In F) : k0_pay189 (F := F) maskLe (cs ρ) (csT ρ) (cb ρ) = (mLb ρ 2 (by decide)) := rfl
theorem pay190_eq (ρ : In F) : k0_pay190 (F := F) maskLe (cs ρ) (csT ρ) (cb ρ) = (mLb ρ 3 (by decide)) := rfl
theorem pay191_eq (ρ : In F) : k0_pay191 (F := F) laneLo (dyP ρ 1 (by decide)) (Scalar.ofBits (F := F) .f32 0x00000000#32) = (dyCatb ρ 1 (by decide)) := rfl
theorem pay192_eq (ρ : In F) : k0_pay192 (F := F) laneLo (c365 ρ) (xpP ρ 1 (by decide)) (dyP ρ 1 (by decide)) (lam ρ 2 (by decide)) (lam ρ 3 (by decide)) (Scalar.ofBits (F := F) .f32 0x00000000#32) = (c373 ρ) := rfl
theorem pay193_eq (ρ : In F) : k0_pay193 (F := F) laneLo (xpP ρ 1 (by decide)) (mLb ρ 2 (by decide)) (mLb ρ 3 (by decide)) = (ydP ρ 1 (by decide)) := rfl
theorem pay194_eq (ρ : In F) : k0_pay194 (F := F) laneLo (dyP ρ 1 (by decide)) (mLb ρ 2 (by decide)) (mLb ρ 3 (by decide)) (Scalar.ofBits (F := F) .f32 0x00000000#32) = (dxP ρ 1 (by decide)) := rfl
theorem pay195_eq (ρ : In F) : k0_pay195 (F := F) (c262 ρ) laneLo = (c276 ρ) := rfl
theorem pay196_eq (ρ : In F) : k0_pay196 (F := F) (xp ρ) = (xpP ρ 1 (by decide)) := rfl
theorem pay197_eq (ρ : In F) : k0_pay197 (F := F) (dyf ρ) = (dyP ρ 1 (by decide)) := rfl
theorem pay198_eq (ρ : In F) : k0_pay198 (F := F) maskLe (cs ρ) (csT ρ) = (lam ρ 2 (by decide)) := rfl
theorem pay199_eq (ρ : In F) : k0_pay199 (F := F) maskLe (cs ρ) (csT ρ) = (lamSel ρ 3 (by decide)) := rfl
theorem pay200_eq (ρ : In F) : k0_pay200 (F := F) maskLe (lamSel ρ 3 (by decide)) = (lam ρ 3 (by decide)) := rfl
theorem pay201_eq (ρ : In F) : k0_pay201 (F := F) (cb ρ) (lam ρ 2 (by decide)) = (mLb ρ 2 (by decide)) := rfl
theorem pay202_eq (ρ : In F) : k0_pay202 (F := F) maskLe (cb ρ) (lamSel ρ 3 (by decide)) = (mLb ρ 3 (by decide)) := rfl
theorem pay203_eq (ρ : In F) : k0_pay203 (F := F) laneLo (dyP ρ 1 (by decide)) = (dyCatb ρ 1 (by decide)) := rfl
theorem pay204_eq (ρ : In F) : k0_pay204 (F := F) maskLe laneLo (c365 ρ) (xpP ρ 1 (by decide)) (dyP ρ 1 (by decide)) (lam ρ 2 (by decide)) (lamSel ρ 3 (by decide)) = (c373 ρ) := rfl
theorem pay205_eq (ρ : In F) : k0_pay205 (F := F) maskLe (cb ρ) laneLo (xpP ρ 1 (by decide)) (lam ρ 2 (by decide)) (lamSel ρ 3 (by decide)) = (ydP ρ 1 (by decide)) := rfl
theorem pay206_eq (ρ : In F) : k0_pay206 (F := F) maskLe (cb ρ) laneLo (dyP ρ 1 (by decide)) (lam ρ 2 (by decide)) (lamSel ρ 3 (by decide)) = (dxP ρ 1 (by decide)) := rfl
theorem pay207_eq (ρ : In F) : k0_pay207 (F := F) (c262 ρ) laneLo = (c276 ρ) := rfl
theorem pay208_eq (ρ : In F) : k0_pay208 (F := F) (xp ρ) = (xpP ρ 2 (by decide)) := rfl
theorem pay209_eq (ρ : In F) : k0_pay209 (F := F) (dyf ρ) = (dyP ρ 2 (by decide)) := rfl
theorem pay210_eq (ρ : In F) : k0_pay210 (F := F) maskLe (cs ρ) (csT ρ) = (lamExp ρ 4 (by decide)) := rfl
theorem pay211_eq : k0_pay211 (F := F)  = (zeroM (F := F)) := rfl
theorem pay212_eq (ρ : In F) : k0_pay212 (F := F) maskLe (lamExp ρ 4 (by decide)) (zeroM (F := F)) = (lam ρ 4 (by decide)) := rfl
theorem pay213_eq (ρ : In F) : k0_pay213 (F := F) maskLe (cs ρ) (csT ρ) = (lam ρ 5 (by decide)) := rfl
theorem pay214_eq (ρ : In F) : k0_pay214 (F := F) maskLe (cb ρ) (lamExp ρ 4 (by decide)) (zeroM (F := F)) = (mLb ρ 4 (by decide)) := rfl
theorem pay215_eq (ρ : In F) : k0_pay215 (F := F) maskLe (cs ρ) (csT ρ) (cb ρ) = (mLb ρ 5 (by decide)) := rfl
theorem pay216_eq (ρ : In F) : k0_pay216 (F := F) laneLo (dyP ρ 2 (by decide)) = (dyCatb ρ 2 (by decide)) := rfl
theorem pay217_eq (ρ : In F) : k0_pay217 (F := F) maskLe (cs ρ) (csT ρ) laneLo (c373 ρ) (xpP ρ 2 (by decide)) (dyP ρ 2 (by decide)) (lamExp ρ 4 (by decide)) (zeroM (F := F)) = (c381 ρ) := rfl
theorem pay218_eq (ρ : In F) : k0_pay218 (F := F) maskLe (cs ρ) (csT ρ) (cb ρ) laneLo (xpP ρ 2 (by decide)) (lamExp ρ 4 (by decide)) (zeroM (F := F)) = (ydP ρ 2 (by decide)) := rfl
theorem pay219_eq (ρ : In F) : k0_pay219 (F := F) maskLe (cs ρ) (csT ρ) (cb ρ) laneLo (dyP ρ 2 (by decide)) (lamExp ρ 4 (by decide)) (zeroM (F := F)) = (dxP ρ 2 (by decide)) := rfl
theorem pay220_eq (ρ : In F) : k0_pay220 (F := F) (c262 ρ) laneLo = (c283 ρ) := rfl
theorem pay221_eq (ρ : In F) : k0_pay221 (F := F) (xp ρ) = (xpP ρ 2 (by decide)) := rfl
theorem pay222_eq (ρ : In F) : k0_pay222 (F := F) (dyf ρ) = (dyP ρ 2 (by decide)) := rfl
theorem pay223_eq (ρ : In F) : k0_pay223 (F := F) (cs ρ) = (csCol ρ 4 (by decide)) := rfl
theorem pay224_eq (ρ : In F) : k0_pay224 (F := F) (csT ρ) = (csRow ρ 4 (by decide)) := rfl
theorem pay225_eq (ρ : In F) : k0_pay225 (F := F) maskLe (csCol ρ 4 (by decide)) (csRow ρ 4 (by decide)) = (lam ρ 4 (by decide)) := rfl
theorem pay226_eq (ρ : In F) : k0_pay226 (F := F) maskLe (cs ρ) (csT ρ) = (lam ρ 5 (by decide)) := rfl
theorem pay227_eq (ρ : In F) : k0_pay227 (F := F) maskLe (cb ρ) (csCol ρ 4 (by decide)) (csRow ρ 4 (by decide)) = (mLb ρ 4 (by decide)) := rfl
theorem pay228_eq (ρ : In F) : k0_pay228 (F := F) maskLe (cs ρ) (csT ρ) (cb ρ) = (mLb ρ 5 (by decide)) := rfl
theorem pay229_eq (ρ : In F) : k0_pay229 (F := F) laneLo (dyP ρ 2 (by decide)) = (dyCatb ρ 2 (by decide)) := rfl
theorem pay230_eq (ρ : In F) : k0_pay230 (F := F) maskLe (cs ρ) (csT ρ) laneLo (c373 ρ) (xpP ρ 2 (by decide)) (dyP ρ 2 (by decide)) (csCol ρ 4 (by decide)) (csRow ρ 4 (by decide)) = (c381 ρ) := rfl
theorem pay231_eq (ρ : In F) : k0_pay231 (F := F) maskLe (cs ρ) (csT ρ) (cb ρ) laneLo (xpP ρ 2 (by decide)) (csCol ρ 4 (by decide)) (csRow ρ 4 (by decide)) = (ydP ρ 2 (by decide)) := rfl
theorem pay232_eq (ρ : In F) : k0_pay232 (F := F) maskLe (cs ρ) (csT ρ) (cb ρ) laneLo (dyP ρ 2 (by decide)) (csCol ρ 4 (by decide)) (csRow ρ 4 (by decide)) = (dxP ρ 2 (by decide)) := rfl
theorem pay233_eq : k0_pay233 laneLo = c261 := rfl
theorem pay234_eq (ρ : In F) : k0_pay234 (F := F) (c262 ρ) = (c277 ρ) := rfl
theorem pay235_eq (ρ : In F) : k0_pay235 (F := F) (c262 ρ) = (c280 ρ) := rfl
theorem pay236_eq (ρ : In F) : k0_pay236 (F := F) c261 (c277 ρ) (c280 ρ) = (c283 ρ) := rfl
theorem pay237_eq (ρ : In F) : k0_pay237 (F := F) (xp ρ) = (xpP ρ 2 (by decide)) := rfl
theorem pay238_eq (ρ : In F) : k0_pay238 (F := F) maskLe (cs ρ) (csT ρ) = (lam ρ 4 (by decide)) := rfl
theorem pay239_eq (ρ : In F) : k0_pay239 (F := F) maskLe (cs ρ) (csT ρ) = (lam ρ 5 (by decide)) := rfl
theorem pay240_eq (ρ : In F) : k0_pay240 (F := F) maskLe (cs ρ) (csT ρ) (cb ρ) = (mLb ρ 4 (by decide)) := rfl
theorem pay241_eq (ρ : In F) : k0_pay241 (F := F) maskLe (cs ρ) (csT ρ) (cb ρ) = (mLb ρ 5 (by decide)) := rfl
theorem pay242_eq (ρ : In F) : k0_pay242 (F := F) (dyf ρ) laneLo = (dyCatb ρ 2 (by decide)) := rfl
theorem pay243_eq (ρ : In F) : k0_pay243 (F := F) (xp ρ) laneLo = (xpCatb ρ 2 (by decide)) := rfl
theorem pay244_eq (ρ : In F) : k0_pay244 (F := F) maskLe (cs ρ) (csT ρ) (dyf ρ) (xp ρ) laneLo (c373 ρ) = (c381 ρ) := rfl
theorem pay245_eq (ρ : In F) : k0_pay245 (F := F) (mLb ρ 4 (by decide)) (mLb ρ 5 (by decide)) (xpCatb ρ 2 (by decide)) = (ydP ρ 2 (by decide)) := rfl
theorem pay246_eq (ρ : In F) : k0_pay246 (F := F) (mLb ρ 4 (by decide)) (mLb ρ 5 (by decide)) (dyCatb ρ 2 (by decide)) = (dxP ρ 2 (by decide)) := rfl
theorem pay247_eq (ρ : In F) : k0_pay247 (F := F) (c262 ρ) laneLo = (c283 ρ) := rfl
theorem pay248_eq (ρ : In F) : k0_pay248 (F := F) (xp ρ) = (xpP ρ 2 (by decide)) := rfl
theorem pay249_eq (ρ : In F) : k0_pay249 (F := F) maskLe (cs ρ) (csT ρ) = (lam ρ 4 (by decide)) := rfl
theorem pay250_eq (ρ : In F) : k0_pay250 (F := F) maskLe (cs ρ) (csT ρ) = (lam ρ 5 (by decide)) := rfl
theorem pay251_eq (ρ : In F) : k0_pay251 (F := F) maskLe (cs ρ) (csT ρ) (cb ρ) = (mLb ρ 4 (by decide)) := rfl
theorem pay252_eq (ρ : In F) : k0_pay252 (F := F) maskLe (cs ρ) (csT ρ) (cb ρ) = (mLb ρ 5 (by decide)) := rfl
theorem pay253_eq (ρ : In F) : k0_pay253 (F := F) (dyf ρ) laneLo = (dyCatb ρ 2 (by decide)) := rfl
theorem pay254_eq (ρ : In F) : k0_pay254 (F := F) (xp ρ) laneLo = (xpCatb ρ 2 (by decide)) := rfl
theorem pay255_eq (ρ : In F) : k0_pay255 (F := F) (c373 ρ) (xpP ρ 2 (by decide)) (lam ρ 4 (by decide)) (lam ρ 5 (by decide)) (dyCatb ρ 2 (by decide)) = (c381 ρ) := rfl
theorem pay256_eq (ρ : In F) : k0_pay256 (F := F) (mLb ρ 4 (by decide)) (mLb ρ 5 (by decide)) (xpCatb ρ 2 (by decide)) = (ydP ρ 2 (by decide)) := rfl
theorem pay257_eq (ρ : In F) : k0_pay257 (F := F) (mLb ρ 4 (by decide)) (mLb ρ 5 (by decide)) (dyCatb ρ 2 (by decide)) = (dxP ρ 2 (by decide)) := rfl
theorem pay258_eq (ρ : In F) : k0_pay258 (F := F) (c262 ρ) laneLo = (c283 ρ) := rfl
theorem pay259_eq (ρ : In F) : k0_pay259 (F := F) (xp ρ) = (xpP ρ 3 (by decide)) := rfl
theorem pay260_eq (ρ : In F) : k0_pay260 (F := F) maskLe (cs ρ) (csT ρ) = (lam ρ 6 (by decide)) := rfl
theorem pay261_eq (ρ : In F) : k0_pay261 (F := F) maskLe (cs ρ) (csT ρ) = (lam ρ 7 (by decide)) := rfl
theorem pay262_eq (ρ : In F) : k0_pay262 (F := F) maskLe (cs ρ) (csT ρ) (cb ρ) = (mLb ρ 6 (by decide)) := rfl
theorem pay263_eq (ρ : In F) : k0_pay263 (F := F) maskLe (cs ρ) (csT ρ) (cb ρ) = (mLb ρ 7 (by decide)) := rfl
theorem pay264_eq (ρ : In F) : k0_pay264 (F := F) (dyf ρ) laneLo = (dyCat ρ 3 (by decide)) := rfl
theorem pay265_eq (ρ : In F) : k0_pay265 (F := F) (dyCat ρ 3 (by decide)) = (dyCatb ρ 3 (by decide)) := rfl
theorem pay266_eq (ρ : In F) : k0_pay266 (F := F) (c381 ρ) (xpP ρ 3 (by decide)) (lam ρ 6 (by decide)) (lam ρ 7 (by decide)) (dyCat ρ 3 (by decide)) = (dcb ρ) := rfl
theorem pay267_eq (ρ : In F) : k0_pay267 (F := F) laneLo (xpP ρ 3 (by decide)) (mLb ρ 6 (by decide)) (mLb ρ 7 (by decide)) = (ydP ρ 3 (by decide)) := rfl
theorem pay268_eq (ρ : In F) : k0_pay268 (F := F) (mLb ρ 6 (by decide)) (mLb ρ 7 (by decide)) (dyCat ρ 3 (by decide)) = (dxP ρ 3 (by decide)) := rfl
theorem pay269_eq (ρ : In F) : k0_pay269 (F := F) (c262 ρ) laneLo = (c290 ρ) := rfl
theorem pay270_eq (ρ : In F) : k0_pay270 (F := F) (xp ρ) = (xpP ρ 3 (by decide)) := rfl
theorem pay271_eq (ρ : In F) : k0_pay271 (F := F) (dyf ρ) = (dyP ρ 3 (by decide)) := rfl
theorem pay272_eq (ρ : In F) : k0_pay272 (F := F) maskLe (cs ρ) (csT ρ) = (lam ρ 6 (by decide)) := rfl
theorem pay273_eq (ρ : In F) : k0_pay273 (F := F) maskLe (cs ρ) (csT ρ) = (lam ρ 7 (by decide)) := rfl
theorem pay274_eq (ρ : In F) : k0_pay274 (F := F) maskLe (cs ρ) (csT ρ) (cb ρ) = (mLb ρ 6 (by decide)) := rfl
theorem pay275_eq (ρ : In F) : k0_pay275 (F := F) (cb ρ) (lam ρ 7 (by decide)) = (mLb ρ 7 (by decide)) := rfl
theorem pay276_eq (ρ : In F) : k0_pay276 (F := F) laneLo (dyP ρ 3 (by decide)) = (dyCatb ρ 3 (by decide)) := rfl
theorem pay277_eq (ρ : In F) : k0_pay277 (F := F) laneLo (c381 ρ) (xpP ρ 3 (by decide)) (dyP ρ 3 (by decide)) (lam ρ 6 (by decide)) (lam ρ 7 (by decide)) = (dcb ρ) := rfl
theorem pay278_eq (ρ : In F) : k0_pay278 (F := F) (cb ρ) laneLo (xpP ρ 3 (by decide)) (lam ρ 7 (by decide)) (mLb ρ 6 (by decide)) = (ydP ρ 3 (by decide)) := rfl
theorem pay279_eq (ρ : In F) : k0_pay279 (F := F) (cb ρ) laneLo (dyP ρ 3 (by decide)) (lam ρ 7 (by decide)) (mLb ρ 6 (by decide)) = (dxP ρ 3 (by decide)) := rfl
theorem pay280_eq (ρ : In F) : k0_pay280 (F := F) (c262 ρ) laneLo = (c290 ρ) := rfl
theorem pay281_eq (ρ : In F) : k0_pay281 (F := F) (xp ρ) = (xpP ρ 3 (by decide)) := rfl
theorem pay282_eq (ρ : In F) : k0_pay282 (F := F) (dyf ρ) = (dyP ρ 3 (by decide)) := rfl
theorem pay283_eq (ρ : In F) : k0_pay283 (F := F) maskLe (cs ρ) (csT ρ) = (lam ρ 6 (by decide)) := rfl
theorem pay284_eq (ρ : In F) : k0_pay284 (F := F) (cs ρ) (csT ρ) = (lamSub ρ 7 (by decide)) := rfl
theorem pay285_eq (ρ : In F) : k0_pay285 (F := F) maskLe (lamSub ρ 7 (by decide)) = (lam ρ 7 (by decide)) := rfl
theorem pay286_eq (ρ : In F) : k0_pay286 (F := F) (cb ρ) (lam ρ 6 (by decide)) = (mLb ρ 6 (by decide)) := rfl
theorem pay287_eq (ρ : In F) : k0_pay287 (F := F) maskLe (cb ρ) (lamSub ρ 7 (by decide)) = (mLb ρ 7 (by decide)) := rfl
theorem pay288_eq (ρ : In F) : k0_pay288 (F := F) laneLo (dyP ρ 3 (by decide)) = (dyCatb ρ 3 (by decide)) := rfl
theorem pay289_eq (ρ : In F) : k0_pay289 (F := F) maskLe laneLo (c381 ρ) (xpP ρ 3 (by decide)) (dyP ρ 3 (by decide)) (lam ρ 6 (by decide)) (lamSub ρ 7 (by decide)) = (dcb ρ) := rfl
theorem pay290_eq (ρ : In F) : k0_pay290 (F := F) maskLe (cb ρ) laneLo (xpP ρ 3 (by decide)) (lam ρ 6 (by decide)) (lamSub ρ 7 (by decide)) = (ydP ρ 3 (by decide)) := rfl
theorem pay291_eq (ρ : In F) : k0_pay291 (F := F) maskLe (cb ρ) laneLo (dyP ρ 3 (by decide)) (lam ρ 6 (by decide)) (lamSub ρ 7 (by decide)) = (dxP ρ 3 (by decide)) := rfl
theorem pay292_eq (ρ : In F) : k0_pay292 (F := F) (c262 ρ) laneLo = (c290 ρ) := rfl
theorem pay293_eq (ρ : In F) : k0_pay293 (F := F) (xp ρ) = (xpP ρ 3 (by decide)) := rfl
theorem pay294_eq (ρ : In F) : k0_pay294 (F := F) (dyf ρ) = (dyP ρ 3 (by decide)) := rfl
theorem pay295_eq (ρ : In F) : k0_pay295 (F := F) maskLe (cs ρ) (csT ρ) = (lamSel ρ 6 (by decide)) := rfl
theorem pay296_eq (ρ : In F) : k0_pay296 (F := F) maskLe (lamSel ρ 6 (by decide)) = (lam ρ 6 (by decide)) := rfl
theorem pay297_eq (ρ : In F) : k0_pay297 (F := F) maskLe (cs ρ) (csT ρ) = (lam ρ 7 (by decide)) := rfl
theorem pay298_eq (ρ : In F) : k0_pay298 (F := F) maskLe (cb ρ) (lamSel ρ 6 (by decide)) = (mLb ρ 6 (by decide)) := rfl
theorem pay299_eq (ρ : In F) : k0_pay299 (F := F) maskLe (cs ρ) (csT ρ) (cb ρ) = (mLb ρ 7 (by decide)) := rfl
theorem pay300_eq (ρ : In F) : k0_pay300 (F := F) laneLo (dyP ρ 3 (by decide)) = (dyCatb ρ 3 (by decide)) := rfl
theorem pay301_eq (ρ : In F) : k0_pay301 (F := F) maskLe (cs ρ) (csT ρ) laneLo (c381 ρ) (xpP ρ 3 (by decide)) (dyP ρ 3 (by decide)) (lamSel ρ 6 (by decide)) = (dcb ρ) := rfl
theorem pay302_eq (ρ : In F) : k0_pay302 (F := F) maskLe (cs ρ) (csT ρ) (cb ρ) laneLo (xpP ρ 3 (by decide)) (lamSel ρ 6 (by decide)) = (ydP ρ 3 (by decide)) := rfl
theorem pay303_eq (ρ : In F) : k0_pay303 (F := F) maskLe (cs ρ) (csT ρ) (cb ρ) laneLo (dyP ρ 3 (by decide)) (lamSel ρ 6 (by decide)) = (dxP ρ 3 (by decide)) := rfl
theorem pay304_eq (ρ : In F) : k0_pay304 (F := F) (c262 ρ) laneLo = (c290 ρ) := rfl
theorem pay305_eq (ρ : In F) : k0_pay305 (F := F) (ydP ρ 0 (by decide)) (ydP ρ 1 (by decide)) (ydP ρ 2 (by decide)) (ydP ρ 3 (by decide)) = (ydiag ρ) := rfl
theorem pay306_eq (ρ : In F) : k0_pay306 (F := F) (dxP ρ 0 (by decide)) (dxP ρ 1 (by decide)) (dxP ρ 2 (by decide)) (dxP ρ 3 (by decide)) = (dxdiag ρ) := rfl
theorem pay307_eq (ρ : In F) : k0_pay307 (F := F) (c269 ρ) (c276 ρ) (c283 ρ) (c290 ρ) = (etx ρ) := rfl
theorem pay308_eq (ρ : In F) : k0_pay308 (F := F) (bgd ρ) (dxP ρ 0 (by decide)) (dxP ρ 1 (by decide)) (dxP ρ 2 (by decide)) (dxP ρ 3 (by decide)) = (dxa ρ) := rfl
theorem pay309_eq (ρ : In F) : k0_pay309 (F := F) (selT (F := F)) (xs ρ) (cm ρ) (stm ρ) (dyf ρ) ρ.g (xp ρ) (dye ρ) (bgd ρ) (dxP ρ 0 (by decide)) (c269 ρ) (dxP ρ 1 (by decide)) (c276 ρ) (dxP ρ 2 (by decide)) (c283 ρ) (dxP ρ 3 (by decide)) (c290 ρ) (ydiag ρ) = (red ρ) := rfl
theorem pay310_eq (ρ : In F) : k0_pay310 (F := F) (dxP ρ 0 (by decide)) (dxP ρ 1 (by decide)) (dxP ρ 2 (by decide)) (dxP ρ 3 (by decide)) = (dxdiag ρ) := rfl
theorem pay311_eq (ρ : In F) : k0_pay311 (F := F) (c269 ρ) (c276 ρ) (c283 ρ) (c290 ρ) = (etx ρ) := rfl
theorem pay312_eq (ρ : In F) : k0_pay312 (F := F) (bgd ρ) (dxP ρ 0 (by decide)) (dxP ρ 1 (by decide)) (dxP ρ 2 (by decide)) (dxP ρ 3 (by decide)) = (dxa ρ) := rfl
theorem pay313_eq (ρ : In F) : k0_pay313 (F := F) (xp ρ) (bgd ρ) = (xpbgd ρ) := rfl
theorem pay314_eq (ρ : In F) : k0_pay314 (F := F) (cm ρ) (stm ρ) (dyf ρ) (xp ρ) (dye ρ) (bgd ρ) (ydP ρ 0 (by decide)) (dxP ρ 0 (by decide)) (ydP ρ 1 (by decide)) (dxP ρ 1 (by decide)) (ydP ρ 2 (by decide)) (dxP ρ 2 (by decide)) (ydP ρ 3 (by decide)) (dxP ρ 3 (by decide)) = (uu ρ) := rfl
theorem pay315_eq (ρ : In F) : k0_pay315 (F := F) (xs ρ) (bgd ρ) (dxP ρ 0 (by decide)) (dxP ρ 1 (by decide)) (dxP ρ 2 (by decide)) (dxP ρ 3 (by decide)) = (ww ρ) := rfl
theorem pay316_eq (ρ : In F) : k0_pay316 (F := F) (selT (F := F)) (stm ρ) ρ.g (etx ρ) (xpbgd ρ) (uu ρ) (ww ρ) = (red ρ) := rfl
theorem pay317_eq (ρ : In F) : k0_pay317 (F := F) (dxP ρ 0 (by decide)) (dxP ρ 1 (by decide)) (dxP ρ 2 (by decide)) (dxP ρ 3 (by decide)) = (dxdiag ρ) := rfl
theorem pay318_eq (ρ : In F) : k0_pay318 (F := F) (c269 ρ) (c276 ρ) (c283 ρ) (c290 ρ) = (etx ρ) := rfl
theorem pay319_eq (ρ : In F) : k0_pay319 (F := F) (bgd ρ) (dxP ρ 0 (by decide)) (dxP ρ 1 (by decide)) (dxP ρ 2 (by decide)) (dxP ρ 3 (by decide)) = (dxa ρ) := rfl
theorem pay320_eq (ρ : In F) : k0_pay320 (F := F) (xp ρ) (bgd ρ) = (xpbgd ρ) := rfl
theorem pay321_eq (ρ : In F) : k0_pay321 (F := F) (cm ρ) (stm ρ) (dyf ρ) (xp ρ) (dye ρ) (bgd ρ) (ydP ρ 0 (by decide)) (dxP ρ 0 (by decide)) (ydP ρ 1 (by decide)) (dxP ρ 1 (by decide)) (ydP ρ 2 (by decide)) (dxP ρ 2 (by decide)) (ydP ρ 3 (by decide)) (dxP ρ 3 (by decide)) = (uu ρ) := rfl
theorem pay322_eq (ρ : In F) : k0_pay322 (F := F) (stm ρ) ρ.g (xp ρ) (bgd ρ) (c269 ρ) (c276 ρ) (c283 ρ) (c290 ρ) = (tail ρ) := rfl
theorem pay323_eq (ρ : In F) : k0_pay323 (F := F) (cm ρ) (stm ρ) (dyf ρ) (xp ρ) (dye ρ) (bgd ρ) (ydP ρ 0 (by decide)) (dxP ρ 0 (by decide)) (ydP ρ 1 (by decide)) (dxP ρ 1 (by decide)) (ydP ρ 2 (by decide)) (dxP ρ 2 (by decide)) (ydP ρ 3 (by decide)) (dxP ρ 3 (by decide)) = (c248 ρ) := rfl
theorem pay324_eq (ρ : In F) : k0_pay324 (F := F) (stm ρ) ρ.g (xp ρ) (bgd ρ) (c269 ρ) (c276 ρ) (c283 ρ) (c290 ρ) = (c296 ρ) := rfl
theorem pay325_eq (ρ : In F) : k0_pay325 (F := F) (cm ρ) (stm ρ) (dyf ρ) (xp ρ) (dye ρ) (bgd ρ) (ydP ρ 0 (by decide)) (dxP ρ 0 (by decide)) (ydP ρ 1 (by decide)) (dxP ρ 1 (by decide)) (ydP ρ 2 (by decide)) (dxP ρ 2 (by decide)) (ydP ρ 3 (by decide)) (dxP ρ 3 (by decide)) = (c251 ρ) := rfl
theorem pay326_eq (ρ : In F) : k0_pay326 (F := F) (xs ρ) (bgd ρ) (dxP ρ 0 (by decide)) (dxP ρ 1 (by decide)) (dxP ρ 2 (by decide)) (dxP ρ 3 (by decide)) = (c254 ρ) := rfl
theorem pay327_eq (ρ : In F) : k0_pay327 (F := F) (stm ρ) ρ.g (xp ρ) (bgd ρ) (c269 ρ) (c276 ρ) (c283 ρ) (c290 ρ) = (c297 ρ) := rfl
theorem pay328_eq (ρ : In F) : k0_pay328 (F := F) (selT (F := F)) (tail ρ) (c248 ρ) (c296 ρ) (c251 ρ) (c254 ρ) (c297 ρ) = (red ρ) := rfl
theorem pay329_eq (ρ : In F) : k0_pay329 (F := F) (dxP ρ 0 (by decide)) (dxP ρ 1 (by decide)) (dxP ρ 2 (by decide)) (dxP ρ 3 (by decide)) = (dxdiag ρ) := rfl
theorem pay330_eq (ρ : In F) : k0_pay330 (F := F) (c269 ρ) (c276 ρ) (c283 ρ) (c290 ρ) = (etx ρ) := rfl
theorem pay331_eq (ρ : In F) : k0_pay331 (F := F) (bgd ρ) (dxP ρ 0 (by decide)) (dxP ρ 1 (by decide)) (dxP ρ 2 (by decide)) (dxP ρ 3 (by decide)) = (dxa ρ) := rfl
theorem pay332_eq (ρ : In F) : k0_pay332 (F := F) (selT (F := F)) (xs ρ) (cm ρ) (stm ρ) (dyf ρ) ρ.g (xp ρ) (dye ρ) (bgd ρ) (ydP ρ 0 (by decide)) (dxP ρ 0 (by decide)) (c269 ρ) (ydP ρ 1 (by decide)) (dxP ρ 1 (by decide)) (c276 ρ) (ydP ρ 2 (by decide)) (dxP ρ 2 (by decide)) (c283 ρ) (ydP ρ 3 (by decide)) (dxP ρ 3 (by decide)) (c290 ρ) = (red ρ) := rfl
theorem pay333_eq (ρ : In F) : k0_pay333 (F := F) (red ρ) = (dcs ρ) := rfl
theorem pay334_eq (ρ : In F) : k0_pay334 (F := F) (red ρ) = (ddt ρ) := rfl
theorem pay335_eq (ρ : In F) : k0_pay335 (F := F) (red ρ) = (c324 ρ) := rfl
theorem pay336_eq (ρ : In F) : k0_pay336 (F := F) (dtxW ρ) (dxa ρ) = (c392 ρ) := rfl
theorem pay337_eq (ρ : In F) : k0_pay337 (F := F) (c392 ρ) = (dxsOut ρ) := rfl
theorem pay338_eq (ρ : In F) : k0_pay338 (F := F) (dye ρ) = (c394 ρ) := rfl
theorem pay339_eq (ρ : In F) : k0_pay339 (F := F) (dcb ρ) = (c395 ρ) := rfl
theorem pay340_eq (ρ : In F) : k0_pay340 (F := F) (cm ρ) (dxW ρ) (c242 ρ) (xp ρ) (dcb ρ) = (dbOut ρ) := rfl
theorem pay341_eq (ρ : In F) : k0_pay341 (F := F) (bm ρ) (stm ρ) (dye ρ) (dcb ρ) = (dcOut ρ) := rfl
theorem pay342_eq (ρ : In F) : k0_pay342 (F := F) (red ρ) = (dcs ρ) := rfl
theorem pay343_eq (ρ : In F) : k0_pay343 (F := F) (red ρ) = (ddt ρ) := rfl
theorem pay344_eq (ρ : In F) : k0_pay344 (F := F) (red ρ) = (c324 ρ) := rfl
theorem pay345_eq (ρ : In F) : k0_pay345 (F := F) (dtxW ρ) (dxa ρ) = (dxsOut ρ) := rfl
theorem pay346_eq (ρ : In F) : k0_pay346 (F := F) (dye ρ) = (c394 ρ) := rfl
theorem pay347_eq (ρ : In F) : k0_pay347 (F := F) (dcb ρ) = (c395 ρ) := rfl
theorem pay348_eq (ρ : In F) : k0_pay348 (F := F) (dxW ρ) (c242 ρ) (xp ρ) = (c398 ρ) := rfl
theorem pay349_eq (ρ : In F) : k0_pay349 (F := F) (cm ρ) (c395 ρ) (c398 ρ) (c89 (F := F)) = (dbOut ρ) := rfl
theorem pay350_eq (ρ : In F) : k0_pay350 (F := F) (bm ρ) (stm ρ) (c394 ρ) (c395 ρ) = (dcOut ρ) := rfl
theorem pay351_eq (ρ : In F) : k0_pay351 (F := F) (red ρ) = (dcs ρ) := rfl
theorem pay352_eq (ρ : In F) : k0_pay352 (F := F) (red ρ) = (ddt ρ) := rfl
theorem pay353_eq (ρ : In F) : k0_pay353 (F := F) (red ρ) = (c324 ρ) := rfl
theorem pay354_eq (ρ : In F) : k0_pay354 (F := F) (dtxW ρ) (dxa ρ) = (dxsOut ρ) := rfl
theorem pay355_eq (ρ : In F) : k0_pay355 (F := F) (dye ρ) = (c394 ρ) := rfl
theorem pay356_eq (ρ : In F) : k0_pay356 (F := F) (dcb ρ) = (c395 ρ) := rfl
theorem pay357_eq (ρ : In F) : k0_pay357 (F := F) (bm ρ) (stm ρ) (dye ρ) (dcb ρ) = (c405 ρ) := rfl
theorem pay358_eq (ρ : In F) : k0_pay358 (F := F) (cm ρ) (dxW ρ) (c242 ρ) (xp ρ) (dcb ρ) = (c401 ρ) := rfl
theorem pay359_eq (ρ : In F) : k0_pay359 (F := F) (c401 ρ) = (dbOut ρ) := rfl
theorem pay360_eq (ρ : In F) : k0_pay360 (F := F) (c405 ρ) = (dcOut ρ) := rfl
theorem pay361_eq (ρ : In F) : k0_pay361 (F := F) (red ρ) = (dcs ρ) := rfl
theorem pay362_eq (ρ : In F) : k0_pay362 (F := F) (red ρ) = (ddt ρ) := rfl
theorem pay363_eq (ρ : In F) : k0_pay363 (F := F) (red ρ) = (c324 ρ) := rfl
theorem pay364_eq (ρ : In F) : k0_pay364 (F := F) (dtxW ρ) (dxa ρ) = (dxsOut ρ) := rfl
theorem pay365_eq (ρ : In F) : k0_pay365 (F := F) (dye ρ) = (c394 ρ) := rfl
theorem pay366_eq (ρ : In F) : k0_pay366 (F := F) (dcb ρ) = (c395 ρ) := rfl
theorem pay367_eq (ρ : In F) : k0_pay367 (F := F) (cm ρ) (dxW ρ) (c242 ρ) (xp ρ) (dcb ρ) = (dbOut ρ) := rfl
theorem pay368_eq (ρ : In F) : k0_pay368 (F := F) (bm ρ) (stm ρ) (dye ρ) (dcb ρ) = (c406 ρ) := rfl
theorem pay369_eq (ρ : In F) : k0_pay369 (F := F) (c406 ρ) = (dcOut ρ) := rfl
theorem pay370_eq (ρ : In F) : k0_pay370 (F := F) (cm ρ) ρ.g (etx ρ) (c394 ρ) = (gOut ρ) := rfl
theorem pay371_eq (ρ : In F) : k0_pay371 (F := F) maskGe (dcs ρ) (c324 ρ) = (da ρ) := rfl
theorem pay372_eq : k0_pay372 c14 = keep := rfl
theorem pay373_eq (ρ : In F) : k0_pay373 (F := F) (aNeg ρ) maskGe (dcs ρ) (ddt ρ) (c324 ρ) = (c414 ρ) := rfl
theorem pay374_eq (ρ : In F) : k0_pay374 (F := F) (pre ρ) = (c416 ρ) := rfl
theorem pay375_eq (ρ : In F) : k0_pay375 (F := F) keep (c414 ρ) (c416 ρ) (Scalar.ofBits (F := F) .f32 0x3F800000#32) = (ddrOut ρ) := rfl
theorem pay376_eq (ρ : In F) : k0_pay376 (F := F) keep (c414 ρ) (c416 ρ) (Scalar.ofBits (F := F) .f32 0x3F800000#32) ρ.dbi = (dbiasOut ρ) := rfl
theorem pay377_eq (ρ : In F) : k0_pay377 (F := F) (softp ρ) (aNeg ρ) (da ρ) keep ρ.dal = (dalogOut ρ) := rfl
theorem pay378_eq (ρ : In F) : k0_pay378 (F := F) (cm ρ) ρ.g (etx ρ) (c394 ρ) = (gOut ρ) := rfl
theorem pay379_eq : k0_pay379  = c321 := rfl
theorem pay380_eq (ρ : In F) : k0_pay380 (F := F) (c324 ρ) = (c325 ρ) := rfl
theorem pay381_eq (ρ : In F) : k0_pay381 (F := F) maskGe (dcs ρ) c321 (Scalar.ofBits (F := F) .f32 0x00000000#32) (c325 ρ) = (da ρ) := rfl
theorem pay382_eq : k0_pay382 c14 = keep := rfl
theorem pay383_eq (ρ : In F) : k0_pay383 (F := F) (pre ρ) (aNeg ρ) maskGe c14 (dcs ρ) (ddt ρ) c321 (Scalar.ofBits (F := F) .f32 0x00000000#32) (c325 ρ) = (ddrOut ρ) := rfl
theorem pay384_eq (ρ : In F) : k0_pay384 (F := F) (pre ρ) (aNeg ρ) maskGe c14 (dcs ρ) (ddt ρ) c321 (Scalar.ofBits (F := F) .f32 0x00000000#32) (c325 ρ) ρ.dbi = (dbiasOut ρ) := rfl
theorem pay385_eq (ρ : In F) : k0_pay385 (F := F) (softp ρ) (aNeg ρ) (da ρ) keep ρ.dal = (dalogOut ρ) := rfl
theorem pay386_eq (ρ : In F) : k0_pay386 (F := F) (cm ρ) ρ.g (etx ρ) (c394 ρ) = (gOut ρ) := rfl
theorem pay387_eq (ρ : In F) : k0_pay387 (F := F) maskGe (dcs ρ) (c324 ρ) = (c337 ρ) := rfl
theorem pay388_eq (ρ : In F) : k0_pay388 (F := F) (c337 ρ) = (da ρ) := rfl
theorem pay389_eq : k0_pay389 c14 = keep := rfl
theorem pay390_eq (ρ : In F) : k0_pay390 (F := F) (pre ρ) (aNeg ρ) c14 (ddt ρ) (c337 ρ) = (ddrOut ρ) := rfl
theorem pay391_eq (ρ : In F) : k0_pay391 (F := F) (pre ρ) (aNeg ρ) c14 (ddt ρ) (c337 ρ) ρ.dbi = (dbiasOut ρ) := rfl
theorem pay392_eq (ρ : In F) : k0_pay392 (F := F) (softp ρ) (aNeg ρ) c14 (c337 ρ) ρ.dal = (dalogOut ρ) := rfl
theorem pay393_eq (ρ : In F) : k0_pay393 (F := F) (cm ρ) ρ.g (etx ρ) (c394 ρ) = (gOut ρ) := rfl
theorem pay394_eq (ρ : In F) : k0_pay394 (F := F) maskGe (dcs ρ) (c324 ρ) = (da ρ) := rfl
theorem pay395_eq : k0_pay395 c14 = keep := rfl
theorem pay396_eq (ρ : In F) : k0_pay396 (F := F) (aNeg ρ) maskGe (dcs ρ) (ddt ρ) (c324 ρ) = (c414 ρ) := rfl
theorem pay397_eq (ρ : In F) : k0_pay397 (F := F) (pre ρ) = (c416 ρ) := rfl
theorem pay398_eq (ρ : In F) : k0_pay398 (F := F) keep (c414 ρ) (c416 ρ) (Scalar.ofBits (F := F) .f32 0x3F800000#32) = (ddrOut ρ) := rfl
theorem pay399_eq (ρ : In F) : k0_pay399 (F := F) keep (c414 ρ) (c416 ρ) (Scalar.ofBits (F := F) .f32 0x3F800000#32) ρ.dbi = (dbiasOut ρ) := rfl

end Cert.Scan.G

end
-- ==== Proof.Scan.Block.lean ====
/- The blocks of one grid point over real inputs: the four groups' inputs, read out of the point's blocks, and the blocks that the point leaves. -/
module

public import proofs.«01_k».proof.Proof.Gen.KernelIdeal.Frame
public import proofs.«01_k».proof.Proof.Scan.GVal
public import proofs.«01_k».proof.Proof.Scan.Pays

@[expose] public section

noncomputable section

namespace Cert.Scan

open Idealize.ShloMosaic Cert.KernelIdeal Cert.KernelIdeal.Gen
open scoped BigOperators

/-- A grid point's blocks, as functions of naturals to the reals: the four groups lie side by side. -/
structure Blk where
  xc : ℕ → ℕ → ℝ
  dt : ℕ → ℕ → ℝ
  bias : ℕ → ℝ
  alog : ℕ → ℝ
  dy : ℕ → ℕ → ℝ
  st : ℕ → ℕ → ℝ
  g : ℕ → ℕ → ℝ
  dal : ℕ → ℝ
  dbi : ℕ → ℝ

namespace Blk
variable (β : Blk)

/-- Group `k`'s inputs. -/
def grp (k : ℕ) : G.R where
  xc r c := β.xc r (768 * k + c)
  dt r c := β.dt r (128 * k + c)
  bias c := β.bias (128 * k + c)
  alog c := β.alog (128 * k + c)
  dy r c := β.dy r (512 * k + c)
  st r c := β.st r (512 * k + c)
  g r c := β.g r (512 * k + c)
  dal c := β.dal (128 * k + c)
  dbi c := β.dbi (128 * k + c)

/-- What the point leaves in the block of the first result. -/
def oXc (r q : ℕ) : ℝ :=
  if q % 768 < 512 then (β.grp (q / 768)).dxs r (q % 768)
  else if q % 768 < 640 then (β.grp (q / 768)).db r (q % 768 - 512) else (β.grp (q / 768)).dc r (q % 768 - 640)
def oDdr (r q : ℕ) : ℝ := (β.grp (q / 128)).ddr r (q % 128)
def oDal (q : ℕ) : ℝ := (β.grp (q / 128)).dal' (q % 128)
def oDbi (q : ℕ) : ℝ := (β.grp (q / 128)).dbi' (q % 128)
def oG (n q : ℕ) : ℝ := (β.grp (q / 512)).g' n (q % 512)
end Blk

/-! ### Loads -/
section Loads
variable (β : Blk)

theorem ld_gen {s : Shape} {e : EltTy} (m : Memref sig .tc .vmem s e) (h : m.IsWhole) (X : Vec Ideal s e) (r : Rect s) :
    View.readAt (Elt Ideal) m.view r.toLoadRect (h.unread X) = fun x => X (r.idx x) := by
  rw [View.readAt_eq_ld, Memref.IsWhole.read_unread]

/-- A matrix read through a rectangle. -/
theorem L2_unit {a b a' b' o0 o1 : ℕ} (f : ℕ → ℕ → ℝ)
    (inb : ∀ x, (![o0, o1] : Fin 2 → ℕ) x + (![a', b'] : Fin 2 → ℕ) x ≤ (![a, b] : Fin 2 → ℕ) x) (x : (⟨2, ![a', b']⟩ : Shape).Idx) :
    (L2 f : (⟨2, ![a, b]⟩ : Shape).Idx → EReal) ((Rect.unit (s := ⟨2, ![a, b]⟩) ![o0, o1] ![a', b'] inb).idx x)
      = (L2 (fun r c => f (o0 + r) (o1 + c)) : (⟨2, ![a', b']⟩ : Shape).Idx → EReal) x := by
  show ((f (o0 + 1 * (x 0).val) (o1 + 1 * (x 1).val) : ℝ) : EReal) = ((f (o0 + (x 0).val) (o1 + (x 1).val) : ℝ) : EReal)
  rw [one_mul, one_mul]

theorem ld_xc (k o : ℕ) (ho : o = 768 * k) (m : Memref sig .tc .vmem S128x3072 .bf16) (h : m.IsWhole) (inb) :
    View.readAt (Elt Ideal) m.view (Rect.unit (s := S128x3072) ![0, o] S128x768.size inb).toLoadRect (h.unread (L2 β.xc : S128x3072.Idx → EReal)) = (G.mk (β.grp k)).xc := by
  subst ho; rw [ld_gen]; funext x; exact (L2_unit _ _ x).trans (by simp only [zero_add]; rfl)
theorem ld_dt (k o : ℕ) (ho : o = 128 * k) (m : Memref sig .tc .vmem S128x512 .f32) (h : m.IsWhole) (inb) :
    View.readAt (Elt Ideal) m.view (Rect.unit (s := S128x512) ![0, o] S128x128.size inb).toLoadRect (h.unread (L2 β.dt : S128x512.Idx → EReal)) = (G.mk (β.grp k)).dt := by
  subst ho; rw [ld_gen]; funext x; exact (L2_unit _ _ x).trans (by simp only [zero_add]; rfl)
theorem ld_dy (k o : ℕ) (ho : o = 512 * k) (m : Memref sig .tc .vmem S128x2048 .bf16) (h : m.IsWhole) (inb) :
    View.readAt (Elt Ideal) m.view (Rect.unit (s := S128x2048) ![0, o] S128x512.size inb).toLoadRect (h.unread (L2 β.dy : S128x2048.Idx → EReal)) = (G.mk (β.grp k)).dy := by
  subst ho; rw [ld_gen]; funext x; exact (L2_unit _ _ x).trans (by simp only [zero_add]; rfl)
theorem ld_g (k o : ℕ) (ho : o = 512 * k) (m : Memref sig .tc .vmem S128x2048 .f32) (h : m.IsWhole) (inb) :
    View.readAt (Elt Ideal) m.view (Rect.unit (s := S128x2048) ![0, o] S128x512.size inb).toLoadRect (h.unread (L2 β.g : S128x2048.Idx → EReal)) = (G.mk (β.grp k)).g := by
  subst ho; rw [ld_gen]; funext x; exact (L2_unit _ _ x).trans (by simp only [zero_add]; rfl)
theorem ld_st (k o : ℕ) (ho : o = 512 * k) (m : Memref sig .tc .vmem S1x128x2048 .bf16) (h : m.IsWhole) (inb) :
    View.readAt (Elt Ideal) m.view (Rect.unit (s := S1x128x2048) ![0, 0, o] S1x128x512.size inb).toLoadRect (h.unread (L3 (fun _ => β.st) : S1x128x2048.Idx → EReal)) = (G.mk (β.grp k)).st := by
  subst ho; rw [ld_gen]; funext x
  show ((β.st (0 + 1 * (x 1).val) (512 * k + 1 * (x 2).val) : ℝ) : EReal) = ((β.st (x 1).val (512 * k + (x 2).val) : ℝ) : EReal)
  rw [one_mul, one_mul, zero_add]

/-- A row of the parameters or of the running sums. -/
theorem ld_row (f : ℕ → ℝ) (k o : ℕ) (ho : o = 128 * k) (m : Memref sig .tc .vmem S1x512 .f32) (h : m.IsWhole) (inb) :
    View.readAt (Elt Ideal) m.view (Rect.unit (s := S1x512) ![0, o] S1x128.size inb).toLoadRect (h.unread (L2 (fun _ => f) : S1x512.Idx → EReal))
      = (L2 (fun _ c => f (128 * k + c)) : S1x128.Idx → EReal) := by
  subst ho; rw [ld_gen]; funext x; exact L2_unit _ _ x
theorem ld_bias (k o : ℕ) (ho : o = 128 * k) (m : Memref sig .tc .vmem S1x512 .f32) (h : m.IsWhole) (inb) :
    View.readAt (Elt Ideal) m.view (Rect.unit (s := S1x512) ![0, o] S1x128.size inb).toLoadRect (h.unread (L2 (fun _ => β.bias) : S1x512.Idx → EReal))
      = (G.mk (β.grp k)).bias := ld_row β.bias k o ho m h inb
theorem ld_alog (k o : ℕ) (ho : o = 128 * k) (m : Memref sig .tc .vmem S1x512 .f32) (h : m.IsWhole) (inb) :
    View.readAt (Elt Ideal) m.view (Rect.unit (s := S1x512) ![0, o] S1x128.size inb).toLoadRect (h.unread (L2 (fun _ => β.alog) : S1x512.Idx → EReal))
      = (G.mk (β.grp k)).alog := ld_row β.alog k o ho m h inb
theorem ld_dal (k o : ℕ) (ho : o = 128 * k) (m : Memref sig .tc .vmem S1x512 .f32) (h : m.IsWhole) (inb) :
    View.readAt (Elt Ideal) m.view (Rect.unit (s := S1x512) ![0, o] S1x128.size inb).toLoadRect (h.unread (L2 (fun _ => β.dal) : S1x512.Idx → EReal))
      = (G.mk (β.grp k)).dal := ld_row β.dal k o ho m h inb
theorem ld_dbi (k o : ℕ) (ho : o = 128 * k) (m : Memref sig .tc .vmem S1x512 .f32) (h : m.IsWhole) (inb) :
    View.readAt (Elt Ideal) m.view (Rect.unit (s := S1x512) ![0, o] S1x128.size inb).toLoadRect (h.unread (L2 (fun _ => β.dbi) : S1x512.Idx → EReal))
      = (G.mk (β.grp k)).dbi := ld_row β.dbi k o ho m h inb
end Loads

/-! ### Stores: a piece agrees with the block that the point leaves -/
section Stores
variable (β : Blk)

theorem st_dxs (k o : ℕ) (ho : o = 768 * k) (inb) (x : S128x512.Idx) :
    (L2 (β.grp k).dxs : S128x512.Idx → EReal) x = (L2 β.oXc : S128x3072.Idx → EReal) ((Rect.unit (s := S128x3072) ![0, o] S128x512.size inb).emb x) := by
  subst ho
  refine (congrFun (L2_congr fun r _ c hc => ?_) x).trans (L2_unit β.oXc inb x).symm
  have h1 : (768 * k + c) % 768 = c := by omega
  have h2 : (768 * k + c) / 768 = k := by omega
  rw [Blk.oXc, h1, h2, if_pos hc, zero_add]
theorem st_db (k o : ℕ) (ho : o = 768 * k + 512) (inb) (x : S128x128.Idx) :
    (L2 (β.grp k).db : S128x128.Idx → EReal) x = (L2 β.oXc : S128x3072.Idx → EReal) ((Rect.unit (s := S128x3072) ![0, o] S128x128.size inb).emb x) := by
  subst ho
  refine (congrFun (L2_congr fun r _ c hc => ?_) x).trans (L2_unit β.oXc inb x).symm
  have h1 : (768 * k + 512 + c) % 768 = 512 + c := by omega
  have h2 : (768 * k + 512 + c) / 768 = k := by omega
  rw [Blk.oXc, h1, h2, if_neg (by omega), if_pos (by omega), Nat.add_sub_cancel_left, zero_add]
theorem st_dc (k o : ℕ) (ho : o = 768 * k + 640) (inb) (x : S128x128.Idx) :
    (L2 (β.grp k).dc : S128x128.Idx → EReal) x = (L2 β.oXc : S128x3072.Idx → EReal) ((Rect.unit (s := S128x3072) ![0, o] S128x128.size inb).emb x) := by
  subst ho
  refine (congrFun (L2_congr fun r _ c hc => ?_) x).trans (L2_unit β.oXc inb x).symm
  have h1 : (768 * k + 640 + c) % 768 = 640 + c := by omega
  have h2 : (768 * k + 640 + c) / 768 = k := by omega
  rw [Blk.oXc, h1, h2, if_neg (by omega), if_neg (by omega), Nat.add_sub_cancel_left, zero_add]
theorem st_ddr (k o : ℕ) (ho : o = 128 * k) (inb) (x : S128x128.Idx) :
    (L2 (β.grp k).ddr : S128x128.Idx → EReal) x = (L2 β.oDdr : S128x512.Idx → EReal) ((Rect.unit (s := S128x512) ![0, o] S128x128.size inb).emb x) := by
  subst ho
  refine (congrFun (L2_congr fun r _ c hc => ?_) x).trans (L2_unit β.oDdr inb x).symm
  have h1 : (128 * k + c) % 128 = c := by omega
  have h2 : (128 * k + c) / 128 = k := by omega
  rw [Blk.oDdr, h1, h2, zero_add]
theorem st_g (k o : ℕ) (ho : o = 512 * k) (inb) (x : S128x512.Idx) :
    (L2 (β.grp k).g' : S128x512.Idx → EReal) x = (L2 β.oG : S128x2048.Idx → EReal) ((Rect.unit (s := S128x2048) ![0, o] S128x512.size inb).emb x) := by
  subst ho
  refine (congrFun (L2_congr fun r _ c hc => ?_) x).trans (L2_unit β.oG inb x).symm
  have h1 : (512 * k + c) % 512 = c := by omega
  have h2 : (512 * k + c) / 512 = k := by omega
  rw [Blk.oG, h1, h2, zero_add]
theorem st_dal (k o : ℕ) (ho : o = 128 * k) (inb) (x : S1x128.Idx) :
    (L2 (fun _ c => (β.grp k).dal' c) : S1x128.Idx → EReal) x = (L2 (fun _ => β.oDal) : S1x512.Idx → EReal) ((Rect.unit (s := S1x512) ![0, o] S1x128.size inb).emb x) := by
  subst ho
  refine (congrFun (L2_congr fun r _ c hc => ?_) x).trans (L2_unit (fun _ => β.oDal) inb x).symm
  have h1 : (128 * k + c) % 128 = c := by omega
  have h2 : (128 * k + c) / 128 = k := by omega
  rw [Blk.oDal, h1, h2]
theorem st_dbi (k o : ℕ) (ho : o = 128 * k) (inb) (x : S1x128.Idx) :
    (L2 (fun _ c => (β.grp k).dbi' c) : S1x128.Idx → EReal) x = (L2 (fun _ => β.oDbi) : S1x512.Idx → EReal) ((Rect.unit (s := S1x512) ![0, o] S1x128.size inb).emb x) := by
  subst ho
  refine (congrFun (L2_congr fun r _ c hc => ?_) x).trans (L2_unit (fun _ => β.oDbi) inb x).symm
  have h1 : (128 * k + c) % 128 = c := by omega
  have h2 : (128 * k + c) / 128 = k := by omega
  rw [Blk.oDbi, h1, h2]
end Stores

end Cert.Scan
-- ==== Proof.Scan.PointA.lean ====
/- The blocks that the first grid point leaves: it finds no running sums and starts them from zero. -/
module

public import proofs.«01_k».proof.Proof.Scan.Block
public import Idealize.ShloMosaic.Lib.Pipeline.ReadBack

@[expose] public section

noncomputable section

namespace Cert.Scan.PointA

open Idealize.ShloMosaic Idealize.ShloMosaic.Tactic Cert.KernelIdeal Cert.KernelIdeal.Gen
open scoped BigOperators

variable (β : Blk) (c : Dev nD) (i : grid0.Coords)
  (arg1 : Memref sig .tc .vmem S128x3072 .bf16) (harg1 : arg1.IsWhole) (arg2 : Memref sig .tc .vmem S128x512 .f32) (harg2 : arg2.IsWhole)
  (arg3 : Memref sig .tc .vmem S1x512 .f32) (harg3 : arg3.IsWhole) (arg4 : Memref sig .tc .vmem S1x512 .f32) (harg4 : arg4.IsWhole)
  (arg5 : Memref sig .tc .vmem S128x2048 .bf16) (harg5 : arg5.IsWhole) (arg6 : Memref sig .tc .vmem S1x128x2048 .bf16) (harg6 : arg6.IsWhole)
  (arg7 : Memref sig .tc .vmem S128x3072 .bf16) (harg7 : arg7.IsWhole) (arg8 : Memref sig .tc .vmem S128x512 .f32) (harg8 : arg8.IsWhole)
  (arg9 : Memref sig .tc .vmem S1x512 .f32) (harg9 : arg9.IsWhole) (arg10 : Memref sig .tc .vmem S1x512 .f32) (harg10 : arg10.IsWhole)
  (arg11 : Memref sig .tc .vmem S128x2048 .f32) (harg11 : arg11.IsWhole) (hc0 : cond0_0 i)

theorem w_lane : kernelRun0_A.sl.v287 = G.c14 := rfl
theorem w_zero : kernelRun0_A.sl.cst_178 (F := Ideal) = Scalar.ofBits (F := Ideal) .f32 0x00000000#32 := rfl
theorem w_one : kernelRun0_A.sl.cst_369 (F := Ideal) = Scalar.ofBits (F := Ideal) .f32 0x3F800000#32 := rfl
theorem w_zeros : kernelRun0_A.sl.cst_319 (F := Ideal) = G.c89 := rfl

/-! ### The running sums read back after the fill with zeros -/
theorem fill_g : k0_pay2 (F := Ideal) = fun _ => 0 := by
  have h : G.c354 (F := Ideal) = (L2 fun _ _ => 0 : S128x2048.Idx → EReal) := zero_L2 (a := 128) (b := 2048)
  rw [G.pay2_eq, G.c355, h, cast_self_L2]; rfl
theorem fill_dal : k0_pay3 (F := Ideal) = fun _ => 0 := by
  funext x; rw [G.pay3_eq]; exact congrFun (zero_L2 (a := 1) (b := 512)) x
theorem fill_dbi : k0_pay4 (F := Ideal) = fun _ => 0 := by
  funext x; rw [G.pay4_eq]; exact congrFun (zero_L2 (a := 1) (b := 512)) x

theorem g_zero (hg : β.g = fun _ _ => 0) (k : ℕ) : (fun _ => 0 : S128x512.Idx → EReal) = (G.mk (β.grp k)).g := by
  funext x; show (0 : EReal) = ((β.g _ _ : ℝ) : EReal); rw [hg]; rfl
theorem dal_zero (hd : β.dal = fun _ => 0) (k : ℕ) : (fun _ => 0 : S1x128.Idx → EReal) = (G.mk (β.grp k)).dal := by
  funext x; show (0 : EReal) = ((β.dal _ : ℝ) : EReal); rw [hd]; rfl
theorem dbi_zero (hd : β.dbi = fun _ => 0) (k : ℕ) : (fun _ => 0 : S1x128.Idx → EReal) = (G.mk (β.grp k)).dbi := by
  funext x; show (0 : EReal) = ((β.dbi _ : ℝ) : EReal); rw [hd]; rfl

theorem z_v281 (hz : β.g = fun _ _ => 0) : kernelRun0_A.sl.v281 (F := Ideal) c arg11 = (G.mk (β.grp 0)).g := by
  rw [kernelRun0_A.sl.v281, kernelRun0_A.sl.HS0_1, View.readCov_fill _ _ _ _ _ (by decide), fill_g]
  exact g_zero β hz 0
theorem z_v295 (hz : β.g = fun _ _ => 0) : kernelRun0_A.sl.v295 (F := Ideal) c arg11 = (G.mk (β.grp 1)).g := by
  rw [kernelRun0_A.sl.v295, kernelRun0_A.sl.HS0_1, View.readCov_fill _ _ _ _ _ (by decide), fill_g]
  exact g_zero β hz 1
theorem z_v309 (hz : β.g = fun _ _ => 0) : kernelRun0_A.sl.v309 (F := Ideal) c arg11 = (G.mk (β.grp 2)).g := by
  rw [kernelRun0_A.sl.v309, kernelRun0_A.sl.HS0_1, View.readCov_fill _ _ _ _ _ (by decide), fill_g]
  exact g_zero β hz 2
theorem z_v323 (hz : β.g = fun _ _ => 0) : kernelRun0_A.sl.v323 (F := Ideal) c arg11 = (G.mk (β.grp 3)).g := by
  rw [kernelRun0_A.sl.v323, kernelRun0_A.sl.HS0_1, View.readCov_fill _ _ _ _ _ (by decide), fill_g]
  exact g_zero β hz 3

section
variable (x0 : Vec Ideal S128x3072 .bf16) (x1 : Vec Ideal S128x512 .f32) (x2 : Vec Ideal S1x512 .f32) (x3 : Vec Ideal S1x512 .f32) (x4 : Vec Ideal S128x2048 .bf16) (x5 : Vec Ideal S1x128x2048 .bf16)
theorem z_v1578 (hz : β.dal = fun _ => 0) : kernelRun0_A.sl.v1578 (F := Ideal) c arg9 = (G.mk (β.grp 0)).dal := by
  rw [kernelRun0_A.sl.v1578, kernelRun0_A.sl.H8_1, View.readCov_fill _ _ _ _ _ (by decide), fill_dal]
  exact dal_zero β hz 0
theorem z_v1647 (hz : β.dal = fun _ => 0) : kernelRun0_A.sl.v1647 (F := Ideal) c arg1 harg1 arg2 harg2 arg3 harg3 arg4 harg4 arg5 harg5 arg6 harg6 arg9 arg11 x0 x1 x2 x3 x4 x5 = (G.mk (β.grp 1)).dal := by
  rw [kernelRun0_A.sl.v1647, kernelRun0_A.sl.H8_2, View.readCov_skip _ _ _ _ _ (by decide), kernelRun0_A.sl.H8_1, View.readCov_fill _ _ _ _ _ (by decide), fill_dal]
  exact dal_zero β hz 1
theorem z_v1716 (hz : β.dal = fun _ => 0) : kernelRun0_A.sl.v1716 (F := Ideal) c arg1 harg1 arg2 harg2 arg3 harg3 arg4 harg4 arg5 harg5 arg6 harg6 arg9 arg11 x0 x1 x2 x3 x4 x5 = (G.mk (β.grp 2)).dal := by
  rw [kernelRun0_A.sl.v1716, kernelRun0_A.sl.H8_3, View.readCov_skip _ _ _ _ _ (by decide), kernelRun0_A.sl.H8_2, View.readCov_skip _ _ _ _ _ (by decide), kernelRun0_A.sl.H8_1, View.readCov_fill _ _ _ _ _ (by decide), fill_dal]
  exact dal_zero β hz 2
theorem z_v1785 (hz : β.dal = fun _ => 0) : kernelRun0_A.sl.v1785 (F := Ideal) c arg1 harg1 arg2 harg2 arg3 harg3 arg4 harg4 arg5 harg5 arg6 harg6 arg9 arg11 x0 x1 x2 x3 x4 x5 = (G.mk (β.grp 3)).dal := by
  rw [kernelRun0_A.sl.v1785, kernelRun0_A.sl.H8_4, View.readCov_skip _ _ _ _ _ (by decide), kernelRun0_A.sl.H8_3, View.readCov_skip _ _ _ _ _ (by decide), kernelRun0_A.sl.H8_2, View.readCov_skip _ _ _ _ _ (by decide), kernelRun0_A.sl.H8_1, View.readCov_fill _ _ _ _ _ (by decide), fill_dal]
  exact dal_zero β hz 3
theorem z_v1572 (hz : β.dbi = fun _ => 0) : kernelRun0_A.sl.v1572 (F := Ideal) c arg10 = (G.mk (β.grp 0)).dbi := by
  rw [kernelRun0_A.sl.v1572, kernelRun0_A.sl.H9_1, View.readCov_fill _ _ _ _ _ (by decide), fill_dbi]
  exact dbi_zero β hz 0
theorem z_v1641 (hz : β.dbi = fun _ => 0) : kernelRun0_A.sl.v1641 (F := Ideal) c arg1 harg1 arg2 harg2 arg3 harg3 arg4 harg4 arg5 harg5 arg6 harg6 arg10 arg11 x0 x1 x2 x3 x4 x5 = (G.mk (β.grp 1)).dbi := by
  rw [kernelRun0_A.sl.v1641, kernelRun0_A.sl.H9_2, View.readCov_skip _ _ _ _ _ (by decide), kernelRun0_A.sl.H9_1, View.readCov_fill _ _ _ _ _ (by decide), fill_dbi]
  exact dbi_zero β hz 1
theorem z_v1710 (hz : β.dbi = fun _ => 0) : kernelRun0_A.sl.v1710 (F := Ideal) c arg1 harg1 arg2 harg2 arg3 harg3 arg4 harg4 arg5 harg5 arg6 harg6 arg10 arg11 x0 x1 x2 x3 x4 x5 = (G.mk (β.grp 2)).dbi := by
  rw [kernelRun0_A.sl.v1710, kernelRun0_A.sl.H9_3, View.readCov_skip _ _ _ _ _ (by decide), kernelRun0_A.sl.H9_2, View.readCov_skip _ _ _ _ _ (by decide), kernelRun0_A.sl.H9_1, View.readCov_fill _ _ _ _ _ (by decide), fill_dbi]
  exact dbi_zero β hz 2
theorem z_v1779 (hz : β.dbi = fun _ => 0) : kernelRun0_A.sl.v1779 (F := Ideal) c arg1 harg1 arg2 harg2 arg3 harg3 arg4 harg4 arg5 harg5 arg6 harg6 arg10 arg11 x0 x1 x2 x3 x4 x5 = (G.mk (β.grp 3)).dbi := by
  rw [kernelRun0_A.sl.v1779, kernelRun0_A.sl.H9_4, View.readCov_skip _ _ _ _ _ (by decide), kernelRun0_A.sl.H9_3, View.readCov_skip _ _ _ _ _ (by decide), kernelRun0_A.sl.H9_2, View.readCov_skip _ _ _ _ _ (by decide), kernelRun0_A.sl.H9_1, View.readCov_fill _ _ _ _ _ (by decide), fill_dbi]
  exact dbi_zero β hz 3
end

theorem piecesA (hg : β.g = fun _ _ => 0) (hdal : β.dal = fun _ => 0) (hdbi : β.dbi = fun _ => 0) :
    (∀ p ∈ ((kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).1), ∀ x, p.2 x = (L2 β.oXc : S128x3072.Idx → EReal) (p.1.emb x))
    ∧ (∀ p ∈ ((kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.1), ∀ x, p.2 x = (L2 β.oDdr : S128x512.Idx → EReal) (p.1.emb x))
    ∧ (∀ p ∈ ((kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.1.take 4), ∀ x, p.2 x = (L2 fun _ => β.oDal : S1x512.Idx → EReal) (p.1.emb x))
    ∧ (∀ p ∈ ((kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.2.1.take 4), ∀ x, p.2 x = (L2 fun _ => β.oDbi : S1x512.Idx → EReal) (p.1.emb x))
    ∧ (∀ p ∈ ((kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.2.2.1.take 4), ∀ x, p.2 x = (L2 β.oG : S128x2048.Idx → EReal) (p.1.emb x)) := by
  simp only [kernelRun0_A, kernelRun0_A.sl.H8_4, kernelRun0_A.sl.H8_3, kernelRun0_A.sl.H8_2, kernelRun0_A.sl.H9_4, kernelRun0_A.sl.H9_3, kernelRun0_A.sl.H9_2, List.take_succ_cons, List.take_zero,
    List.forall_mem_cons, List.not_mem_nil, false_imp_iff, implies_true, and_true,
    kernelRun0_A.sl.r, kernelRun0_A.sl.r_1, kernelRun0_A.sl.r_10, kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109, kernelRun0_A.sl.r_11, kernelRun0_A.sl.r_110,
    kernelRun0_A.sl.r_111, kernelRun0_A.sl.r_112, kernelRun0_A.sl.r_113, kernelRun0_A.sl.r_114, kernelRun0_A.sl.r_115, kernelRun0_A.sl.r_116, kernelRun0_A.sl.r_117,
    kernelRun0_A.sl.r_118, kernelRun0_A.sl.r_119, kernelRun0_A.sl.r_12, kernelRun0_A.sl.r_120, kernelRun0_A.sl.r_121, kernelRun0_A.sl.r_122, kernelRun0_A.sl.r_123,
    kernelRun0_A.sl.r_124, kernelRun0_A.sl.r_125, kernelRun0_A.sl.r_126, kernelRun0_A.sl.r_127, kernelRun0_A.sl.r_128, kernelRun0_A.sl.r_129, kernelRun0_A.sl.r_13,
    kernelRun0_A.sl.r_130, kernelRun0_A.sl.r_131, kernelRun0_A.sl.r_132, kernelRun0_A.sl.r_133, kernelRun0_A.sl.r_134, kernelRun0_A.sl.r_135, kernelRun0_A.sl.r_136,
    kernelRun0_A.sl.r_137, kernelRun0_A.sl.r_138, kernelRun0_A.sl.r_139, kernelRun0_A.sl.r_14, kernelRun0_A.sl.r_140, kernelRun0_A.sl.r_141, kernelRun0_A.sl.r_142,
    kernelRun0_A.sl.r_143, kernelRun0_A.sl.r_144, kernelRun0_A.sl.r_145, kernelRun0_A.sl.r_146, kernelRun0_A.sl.r_147, kernelRun0_A.sl.r_148, kernelRun0_A.sl.r_149,
    kernelRun0_A.sl.r_15, kernelRun0_A.sl.r_150, kernelRun0_A.sl.r_151, kernelRun0_A.sl.r_152, kernelRun0_A.sl.r_153, kernelRun0_A.sl.r_154, kernelRun0_A.sl.r_155,
    kernelRun0_A.sl.r_156, kernelRun0_A.sl.r_157, kernelRun0_A.sl.r_158, kernelRun0_A.sl.r_159, kernelRun0_A.sl.r_16, kernelRun0_A.sl.r_160, kernelRun0_A.sl.r_161,
    kernelRun0_A.sl.r_162, kernelRun0_A.sl.r_163, kernelRun0_A.sl.r_164, kernelRun0_A.sl.r_165, kernelRun0_A.sl.r_166, kernelRun0_A.sl.r_167, kernelRun0_A.sl.r_168,
    kernelRun0_A.sl.r_169, kernelRun0_A.sl.r_17, kernelRun0_A.sl.r_170, kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178, kernelRun0_A.sl.r_179, kernelRun0_A.sl.r_18, kernelRun0_A.sl.r_180,
    kernelRun0_A.sl.r_181, kernelRun0_A.sl.r_182, kernelRun0_A.sl.r_183, kernelRun0_A.sl.r_184, kernelRun0_A.sl.r_185, kernelRun0_A.sl.r_186, kernelRun0_A.sl.r_187,
    kernelRun0_A.sl.r_188, kernelRun0_A.sl.r_189, kernelRun0_A.sl.r_19, kernelRun0_A.sl.r_190, kernelRun0_A.sl.r_191, kernelRun0_A.sl.r_192, kernelRun0_A.sl.r_193,
    kernelRun0_A.sl.r_194, kernelRun0_A.sl.r_195, kernelRun0_A.sl.r_196, kernelRun0_A.sl.r_197, kernelRun0_A.sl.r_198, kernelRun0_A.sl.r_199, kernelRun0_A.sl.r_2, kernelRun0_A.sl.r_20,
    kernelRun0_A.sl.r_200, kernelRun0_A.sl.r_201, kernelRun0_A.sl.r_202, kernelRun0_A.sl.r_203, kernelRun0_A.sl.r_204, kernelRun0_A.sl.r_205, kernelRun0_A.sl.r_206,
    kernelRun0_A.sl.r_207, kernelRun0_A.sl.r_208, kernelRun0_A.sl.r_209, kernelRun0_A.sl.r_21, kernelRun0_A.sl.r_210, kernelRun0_A.sl.r_211, kernelRun0_A.sl.r_212,
    kernelRun0_A.sl.r_213, kernelRun0_A.sl.r_214, kernelRun0_A.sl.r_215, kernelRun0_A.sl.r_216, kernelRun0_A.sl.r_217, kernelRun0_A.sl.r_218, kernelRun0_A.sl.r_219,
    kernelRun0_A.sl.r_22, kernelRun0_A.sl.r_220, kernelRun0_A.sl.r_221, kernelRun0_A.sl.r_222, kernelRun0_A.sl.r_223, kernelRun0_A.sl.r_224, kernelRun0_A.sl.r_225,
    kernelRun0_A.sl.r_226, kernelRun0_A.sl.r_227, kernelRun0_A.sl.r_228, kernelRun0_A.sl.r_229, kernelRun0_A.sl.r_23, kernelRun0_A.sl.r_230, kernelRun0_A.sl.r_231,
    kernelRun0_A.sl.r_232, kernelRun0_A.sl.r_233, kernelRun0_A.sl.r_234, kernelRun0_A.sl.r_235, kernelRun0_A.sl.r_236, kernelRun0_A.sl.r_237, kernelRun0_A.sl.r_238,
    kernelRun0_A.sl.r_239, kernelRun0_A.sl.r_24, kernelRun0_A.sl.r_240, kernelRun0_A.sl.r_241, kernelRun0_A.sl.r_242, kernelRun0_A.sl.r_243, kernelRun0_A.sl.r_244,
    kernelRun0_A.sl.r_245, kernelRun0_A.sl.r_246, kernelRun0_A.sl.r_247, kernelRun0_A.sl.r_248, kernelRun0_A.sl.r_249, kernelRun0_A.sl.r_25, kernelRun0_A.sl.r_250,
    kernelRun0_A.sl.r_251, kernelRun0_A.sl.r_252, kernelRun0_A.sl.r_253, kernelRun0_A.sl.r_254, kernelRun0_A.sl.r_255, kernelRun0_A.sl.r_256, kernelRun0_A.sl.r_257,
    kernelRun0_A.sl.r_258, kernelRun0_A.sl.r_259, kernelRun0_A.sl.r_26, kernelRun0_A.sl.r_260, kernelRun0_A.sl.r_261, kernelRun0_A.sl.r_262, kernelRun0_A.sl.r_263,
    kernelRun0_A.sl.r_264, kernelRun0_A.sl.r_265, kernelRun0_A.sl.r_266, kernelRun0_A.sl.r_267, kernelRun0_A.sl.r_268, kernelRun0_A.sl.r_269, kernelRun0_A.sl.r_27,
    kernelRun0_A.sl.r_270, kernelRun0_A.sl.r_271, kernelRun0_A.sl.r_272, kernelRun0_A.sl.r_273, kernelRun0_A.sl.r_274, kernelRun0_A.sl.r_275, kernelRun0_A.sl.r_276,
    kernelRun0_A.sl.r_277, kernelRun0_A.sl.r_278, kernelRun0_A.sl.r_279, kernelRun0_A.sl.r_28, kernelRun0_A.sl.r_280, kernelRun0_A.sl.r_281, kernelRun0_A.sl.r_282,
    kernelRun0_A.sl.r_283, kernelRun0_A.sl.r_284, kernelRun0_A.sl.r_285, kernelRun0_A.sl.r_286, kernelRun0_A.sl.r_287, kernelRun0_A.sl.r_288, kernelRun0_A.sl.r_29, kernelRun0_A.sl.r_3,
    kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37,
    kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51,
    kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59,
    kernelRun0_A.sl.r_6, kernelRun0_A.sl.r_60, kernelRun0_A.sl.r_61, kernelRun0_A.sl.r_62, kernelRun0_A.sl.r_63, kernelRun0_A.sl.r_64, kernelRun0_A.sl.r_65, kernelRun0_A.sl.r_66,
    kernelRun0_A.sl.r_67, kernelRun0_A.sl.r_68, kernelRun0_A.sl.r_69, kernelRun0_A.sl.r_7, kernelRun0_A.sl.r_70, kernelRun0_A.sl.r_71, kernelRun0_A.sl.r_72, kernelRun0_A.sl.r_73,
    kernelRun0_A.sl.r_74, kernelRun0_A.sl.r_75, kernelRun0_A.sl.r_76, kernelRun0_A.sl.r_77, kernelRun0_A.sl.r_78, kernelRun0_A.sl.r_79, kernelRun0_A.sl.r_8, kernelRun0_A.sl.r_80,
    kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88,
    kernelRun0_A.sl.r_89, kernelRun0_A.sl.r_9, kernelRun0_A.sl.r_90, kernelRun0_A.sl.r_91, kernelRun0_A.sl.r_92, kernelRun0_A.sl.r_93, kernelRun0_A.sl.r_94, kernelRun0_A.sl.r_95,
    kernelRun0_A.sl.r_96, kernelRun0_A.sl.r_97, kernelRun0_A.sl.r_98, kernelRun0_A.sl.r_99, w_lane, w_zero, w_one, w_zeros, z_v281 (β := β) (hz := hg), z_v295 (β := β) (hz := hg),
    z_v309 (β := β) (hz := hg), z_v323 (β := β) (hz := hg), z_v1578 (β := β) (hz := hdal), z_v1647 (β := β) (hz := hdal), z_v1716 (β := β) (hz := hdal), z_v1785 (β := β) (hz := hdal),
    z_v1572 (β := β) (hz := hdbi), z_v1641 (β := β) (hz := hdbi), z_v1710 (β := β) (hz := hdbi), z_v1779 (β := β) (hz := hdbi), G.pay1_eq, G.pay2_eq, G.pay3_eq, G.pay4_eq, G.pay5_eq,
    G.pay6_eq, G.pay7_eq, G.pay8_eq, G.pay9_eq, G.pay10_eq, G.pay11_eq, G.pay12_eq, G.pay13_eq, G.pay14_eq, G.pay15_eq, G.pay16_eq, G.pay17_eq, G.pay18_eq, G.pay19_eq, G.pay20_eq,
    G.pay21_eq, G.pay22_eq, G.pay23_eq, G.pay24_eq, G.pay25_eq, G.pay26_eq, G.pay27_eq, G.pay28_eq, G.pay29_eq, G.pay30_eq, G.pay31_eq, G.pay32_eq, G.pay33_eq, G.pay34_eq, G.pay35_eq,
    G.pay36_eq, G.pay37_eq, G.pay38_eq, G.pay39_eq, G.pay40_eq, G.pay41_eq, G.pay42_eq, G.pay43_eq, G.pay44_eq, G.pay45_eq, G.pay46_eq, G.pay47_eq, G.pay48_eq, G.pay49_eq, G.pay50_eq,
    G.pay51_eq, G.pay52_eq, G.pay53_eq, G.pay54_eq, G.pay55_eq, G.pay56_eq, G.pay57_eq, G.pay58_eq, G.pay59_eq, G.pay60_eq, G.pay61_eq, G.pay62_eq, G.pay63_eq, G.pay64_eq, G.pay65_eq,
    G.pay66_eq, G.pay67_eq, G.pay68_eq, G.pay69_eq, G.pay70_eq, G.pay71_eq, G.pay72_eq, G.pay73_eq, G.pay74_eq, G.pay75_eq, G.pay76_eq, G.pay77_eq, G.pay78_eq, G.pay79_eq, G.pay80_eq,
    G.pay81_eq, G.pay82_eq, G.pay83_eq, G.pay84_eq, G.pay85_eq, G.pay86_eq, G.pay87_eq, G.pay88_eq, G.pay89_eq, G.pay90_eq, G.pay91_eq, G.pay92_eq, G.pay93_eq, G.pay94_eq, G.pay95_eq,
    G.pay96_eq, G.pay97_eq, G.pay98_eq, G.pay99_eq, G.pay100_eq, G.pay101_eq, G.pay102_eq, G.pay103_eq, G.pay104_eq, G.pay105_eq, G.pay106_eq, G.pay107_eq, G.pay108_eq, G.pay109_eq,
    G.pay110_eq, G.pay111_eq, G.pay112_eq, G.pay113_eq, G.pay114_eq, G.pay115_eq, G.pay116_eq, G.pay117_eq, G.pay118_eq, G.pay119_eq, G.pay120_eq, G.pay121_eq, G.pay122_eq,
    G.pay123_eq, G.pay124_eq, G.pay125_eq, G.pay126_eq, G.pay127_eq, G.pay128_eq, G.pay129_eq, G.pay130_eq, G.pay131_eq, G.pay132_eq, G.pay133_eq, G.pay134_eq, G.pay135_eq,
    G.pay136_eq, G.pay137_eq, G.pay138_eq, G.pay139_eq, G.pay140_eq, G.pay141_eq, G.pay142_eq, G.pay143_eq, G.pay144_eq, G.pay145_eq, G.pay146_eq, G.pay147_eq, G.pay148_eq,
    G.pay149_eq, G.pay150_eq, G.pay151_eq, G.pay152_eq, G.pay153_eq, G.pay154_eq, G.pay155_eq, G.pay156_eq, G.pay157_eq, G.pay158_eq, G.pay159_eq, G.pay160_eq, G.pay161_eq,
    G.pay162_eq, G.pay163_eq, G.pay164_eq, G.pay165_eq, G.pay166_eq, G.pay167_eq, G.pay168_eq, G.pay169_eq, G.pay170_eq, G.pay171_eq, G.pay172_eq, G.pay173_eq, G.pay174_eq,
    G.pay175_eq, G.pay176_eq, G.pay177_eq, G.pay178_eq, G.pay179_eq, G.pay180_eq, G.pay181_eq, G.pay182_eq, G.pay183_eq, G.pay184_eq, G.pay185_eq, G.pay186_eq, G.pay187_eq,
    G.pay188_eq, G.pay189_eq, G.pay190_eq, G.pay191_eq, G.pay192_eq, G.pay193_eq, G.pay194_eq, G.pay195_eq, G.pay196_eq, G.pay197_eq, G.pay198_eq, G.pay199_eq, G.pay200_eq,
    G.pay201_eq, G.pay202_eq, G.pay203_eq, G.pay204_eq, G.pay205_eq, G.pay206_eq, G.pay207_eq, G.pay208_eq, G.pay209_eq, G.pay210_eq, G.pay211_eq, G.pay212_eq, G.pay213_eq,
    G.pay214_eq, G.pay215_eq, G.pay216_eq, G.pay217_eq, G.pay218_eq, G.pay219_eq, G.pay220_eq, G.pay221_eq, G.pay222_eq, G.pay223_eq, G.pay224_eq, G.pay225_eq, G.pay226_eq,
    G.pay227_eq, G.pay228_eq, G.pay229_eq, G.pay230_eq, G.pay231_eq, G.pay232_eq, G.pay233_eq, G.pay234_eq, G.pay235_eq, G.pay236_eq, G.pay237_eq, G.pay238_eq, G.pay239_eq,
    G.pay240_eq, G.pay241_eq, G.pay242_eq, G.pay243_eq, G.pay244_eq, G.pay245_eq, G.pay246_eq, G.pay247_eq, G.pay248_eq, G.pay249_eq, G.pay250_eq, G.pay251_eq, G.pay252_eq,
    G.pay253_eq, G.pay254_eq, G.pay255_eq, G.pay256_eq, G.pay257_eq, G.pay258_eq, G.pay259_eq, G.pay260_eq, G.pay261_eq, G.pay262_eq, G.pay263_eq, G.pay264_eq, G.pay265_eq,
    G.pay266_eq, G.pay267_eq, G.pay268_eq, G.pay269_eq, G.pay270_eq, G.pay271_eq, G.pay272_eq, G.pay273_eq, G.pay274_eq, G.pay275_eq, G.pay276_eq, G.pay277_eq, G.pay278_eq,
    G.pay279_eq, G.pay280_eq, G.pay281_eq, G.pay282_eq, G.pay283_eq, G.pay284_eq, G.pay285_eq, G.pay286_eq, G.pay287_eq, G.pay288_eq, G.pay289_eq, G.pay290_eq, G.pay291_eq,
    G.pay292_eq, G.pay293_eq, G.pay294_eq, G.pay295_eq, G.pay296_eq, G.pay297_eq, G.pay298_eq, G.pay299_eq, G.pay300_eq, G.pay301_eq, G.pay302_eq, G.pay303_eq, G.pay304_eq,
    G.pay305_eq, G.pay306_eq, G.pay307_eq, G.pay308_eq, G.pay309_eq, G.pay310_eq, G.pay311_eq, G.pay312_eq, G.pay313_eq, G.pay314_eq, G.pay315_eq, G.pay316_eq, G.pay317_eq,
    G.pay318_eq, G.pay319_eq, G.pay320_eq, G.pay321_eq, G.pay322_eq, G.pay323_eq, G.pay324_eq, G.pay325_eq, G.pay326_eq, G.pay327_eq, G.pay328_eq, G.pay329_eq, G.pay330_eq,
    G.pay331_eq, G.pay332_eq, G.pay333_eq, G.pay334_eq, G.pay335_eq, G.pay336_eq, G.pay337_eq, G.pay338_eq, G.pay339_eq, G.pay340_eq, G.pay341_eq, G.pay342_eq, G.pay343_eq,
    G.pay344_eq, G.pay345_eq, G.pay346_eq, G.pay347_eq, G.pay348_eq, G.pay349_eq, G.pay350_eq, G.pay351_eq, G.pay352_eq, G.pay353_eq, G.pay354_eq, G.pay355_eq, G.pay356_eq,
    G.pay357_eq, G.pay358_eq, G.pay359_eq, G.pay360_eq, G.pay361_eq, G.pay362_eq, G.pay363_eq, G.pay364_eq, G.pay365_eq, G.pay366_eq, G.pay367_eq, G.pay368_eq, G.pay369_eq,
    G.pay370_eq, G.pay371_eq, G.pay372_eq, G.pay373_eq, G.pay374_eq, G.pay375_eq, G.pay376_eq, G.pay377_eq, G.pay378_eq, G.pay379_eq, G.pay380_eq, G.pay381_eq, G.pay382_eq,
    G.pay383_eq, G.pay384_eq, G.pay385_eq, G.pay386_eq, G.pay387_eq, G.pay388_eq, G.pay389_eq, G.pay390_eq, G.pay391_eq, G.pay392_eq, G.pay393_eq, G.pay394_eq, G.pay395_eq,
    G.pay396_eq, G.pay397_eq, G.pay398_eq, G.pay399_eq, ld_xc β 0 0 (by rfl), ld_xc β 1 768 (by rfl), ld_xc β 2 1536 (by rfl), ld_xc β 3 2304 (by rfl), ld_dt β 0 0 (by rfl), ld_dt β 1
    128 (by rfl), ld_dt β 2 256 (by rfl), ld_dt β 3 384 (by rfl), ld_bias β 0 0 (by rfl), ld_bias β 1 128 (by rfl), ld_bias β 2 256 (by rfl), ld_bias β 3 384 (by rfl), ld_alog β 0 0
    (by rfl), ld_alog β 1 128 (by rfl), ld_alog β 2 256 (by rfl), ld_alog β 3 384 (by rfl), ld_dy β 0 0 (by rfl), ld_dy β 1 512 (by rfl), ld_dy β 2 1024 (by rfl), ld_dy β 3 1536 (by
    rfl), ld_st β 0 0 (by rfl), ld_st β 1 512 (by rfl), ld_st β 2 1024 (by rfl), ld_st β 3 1536 (by rfl), G.dxsOut_val, G.dbOut_val, G.dcOut_val, G.gOut_val, G.ddrOut_val,
    G.dbiasOut_val, G.dalogOut_val]
  exact ⟨⟨fun x => st_dc β 3 2944 (by rfl) _ x, fun x => st_db β 3 2816 (by rfl) _ x, fun x => st_dxs β 3 2304 (by rfl) _ x, fun x => st_dc β 2 2176 (by rfl) _ x, fun x => st_db β 2 2048 (by rfl) _ x, fun x => st_dxs β 2 1536 (by rfl) _ x, fun x => st_dc β 1 1408 (by rfl) _ x, fun x => st_db β 1 1280 (by rfl) _ x, fun x => st_dxs β 1 768 (by rfl) _ x, fun x => st_dc β 0 640 (by rfl) _ x, fun x => st_db β 0 512 (by rfl) _ x, fun x => st_dxs β 0 0 (by rfl) _ x⟩, ⟨fun x => st_ddr β 3 384 (by rfl) _ x, fun x => st_ddr β 2 256 (by rfl) _ x, fun x => st_ddr β 1 128 (by rfl) _ x, fun x => st_ddr β 0 0 (by rfl) _ x⟩, ⟨fun x => st_dal β 3 384 (by rfl) _ x, fun x => st_dal β 2 256 (by rfl) _ x, fun x => st_dal β 1 128 (by rfl) _ x, fun x => st_dal β 0 0 (by rfl) _ x⟩, ⟨fun x => st_dbi β 3 384 (by rfl) _ x, fun x => st_dbi β 2 256 (by rfl) _ x, fun x => st_dbi β 1 128 (by rfl) _ x, fun x => st_dbi β 0 0 (by rfl) _ x⟩, ⟨fun x => st_g β 3 1536 (by rfl) _ x, fun x => st_g β 2 1024 (by rfl) _ x, fun x => st_g β 1 512 (by rfl) _ x, fun x => st_g β 0 0 (by rfl) _ x⟩⟩
theorem out0_A_6_val (hg : β.g = fun _ _ => 0) (hdal : β.dal = fun _ => 0) (hdbi : β.dbi = fun _ => 0) : out0_A_6 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) = (L2 β.oXc : S128x3072.Idx → EReal) := by
  rw [out0_A_6, View.read_writes_junk_eq_canon]
  funext y
  exact View.canon_apply_of_pieces _ _ (piecesA β c i arg1 harg1 arg2 harg2 arg3 harg3 arg4 harg4 arg5 harg5 arg6 harg6 arg7 harg7 arg8 harg8 arg9 harg9 arg10 harg10 arg11 harg11 hc0 hg hdal hdbi).1 y (cover0_A_6 c i arg1 harg1 arg2 harg2 arg3 harg3 arg4 harg4 arg5 harg5 arg6 harg6 arg7 harg7 arg8 harg8 arg9 harg9 arg10 harg10 arg11 harg11 hc0 _ _ _ _ _ _ y)
theorem out0_A_7_val (hg : β.g = fun _ _ => 0) (hdal : β.dal = fun _ => 0) (hdbi : β.dbi = fun _ => 0) : out0_A_7 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) = (L2 β.oDdr : S128x512.Idx → EReal) := by
  rw [out0_A_7, View.read_writes_junk_eq_canon]
  funext y
  exact View.canon_apply_of_pieces _ _ (piecesA β c i arg1 harg1 arg2 harg2 arg3 harg3 arg4 harg4 arg5 harg5 arg6 harg6 arg7 harg7 arg8 harg8 arg9 harg9 arg10 harg10 arg11 harg11 hc0 hg hdal hdbi).2.1 y (cover0_A_7 c i arg1 harg1 arg2 harg2 arg3 harg3 arg4 harg4 arg5 harg5 arg6 harg6 arg7 harg7 arg8 harg8 arg9 harg9 arg10 harg10 arg11 harg11 hc0 _ _ _ _ _ _ y)
theorem out0_A_8_val (hg : β.g = fun _ _ => 0) (hdal : β.dal = fun _ => 0) (hdbi : β.dbi = fun _ => 0) : out0_A_8 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) = (L2 fun _ => β.oDal : S1x512.Idx → EReal) := by
  rw [out0_A_8, View.read_writes_junk_eq_canon]
  funext y
  rw [← List.take_append_drop 4 (kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.1]
  exact View.canon_append_of_pieces _ _ _ (piecesA β c i arg1 harg1 arg2 harg2 arg3 harg3 arg4 harg4 arg5 harg5 arg6 harg6 arg7 harg7 arg8 harg8 arg9 harg9 arg10 harg10 arg11 harg11 hc0 hg hdal hdbi).2.2.1 y (View.cover_of_tiledL (s := S1x512) (List.take 4 (kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.1) S1x128.size (by sl_kernel_rfl) y)
theorem out0_A_9_val (hg : β.g = fun _ _ => 0) (hdal : β.dal = fun _ => 0) (hdbi : β.dbi = fun _ => 0) : out0_A_9 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) = (L2 fun _ => β.oDbi : S1x512.Idx → EReal) := by
  rw [out0_A_9, View.read_writes_junk_eq_canon]
  funext y
  rw [← List.take_append_drop 4 (kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.2.1]
  exact View.canon_append_of_pieces _ _ _ (piecesA β c i arg1 harg1 arg2 harg2 arg3 harg3 arg4 harg4 arg5 harg5 arg6 harg6 arg7 harg7 arg8 harg8 arg9 harg9 arg10 harg10 arg11 harg11 hc0 hg hdal hdbi).2.2.2.1 y (View.cover_of_tiledL (s := S1x512) (List.take 4 (kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.2.1) S1x128.size (by sl_kernel_rfl) y)
theorem sout0_A_0_val (hg : β.g = fun _ _ => 0) (hdal : β.dal = fun _ => 0) (hdbi : β.dbi = fun _ => 0) : sout0_A_0 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) = (L2 β.oG : S128x2048.Idx → EReal) := by
  rw [sout0_A_0, View.read_writes_junk_eq_canon]
  funext y
  rw [← List.take_append_drop 4 (kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.2.2.1]
  exact View.canon_append_of_pieces _ _ _ (piecesA β c i arg1 harg1 arg2 harg2 arg3 harg3 arg4 harg4 arg5 harg5 arg6 harg6 arg7 harg7 arg8 harg8 arg9 harg9 arg10 harg10 arg11 harg11 hc0 hg hdal hdbi).2.2.2.2 y (View.cover_of_tiledL (s := S128x2048) (List.take 4 (kernelRun0_A (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st)).2.2.2.2.1) S128x512.size (by sl_kernel_rfl) y)

end Cert.Scan.PointA
-- ==== Proof.Scan.PointB.lean ====
/- The blocks that a grid point after the first leaves. -/
module

public import proofs.«01_k».proof.Proof.Scan.Block

@[expose] public section

noncomputable section

namespace Cert.Scan.PointB

open Idealize.ShloMosaic Idealize.ShloMosaic.Tactic Cert.KernelIdeal Cert.KernelIdeal.Gen
open scoped BigOperators

variable (β : Blk) (c : Dev nD) (i : grid0.Coords)
  (arg1 : Memref sig .tc .vmem S128x3072 .bf16) (harg1 : arg1.IsWhole) (arg2 : Memref sig .tc .vmem S128x512 .f32) (harg2 : arg2.IsWhole)
  (arg3 : Memref sig .tc .vmem S1x512 .f32) (harg3 : arg3.IsWhole) (arg4 : Memref sig .tc .vmem S1x512 .f32) (harg4 : arg4.IsWhole)
  (arg5 : Memref sig .tc .vmem S128x2048 .bf16) (harg5 : arg5.IsWhole) (arg6 : Memref sig .tc .vmem S1x128x2048 .bf16) (harg6 : arg6.IsWhole)
  (arg7 : Memref sig .tc .vmem S128x3072 .bf16) (harg7 : arg7.IsWhole) (arg8 : Memref sig .tc .vmem S128x512 .f32) (harg8 : arg8.IsWhole)
  (arg9 : Memref sig .tc .vmem S1x512 .f32) (harg9 : arg9.IsWhole) (arg10 : Memref sig .tc .vmem S1x512 .f32) (harg10 : arg10.IsWhole)
  (arg11 : Memref sig .tc .vmem S128x2048 .f32) (harg11 : arg11.IsWhole) (hc0 : ¬cond0_0 i)

theorem w_lane : kernelRun0_B.sl.v287 = G.c14 := rfl
theorem w_zero : kernelRun0_B.sl.cst_178 (F := Ideal) = Scalar.ofBits (F := Ideal) .f32 0x00000000#32 := rfl
theorem w_one : kernelRun0_B.sl.cst_369 (F := Ideal) = Scalar.ofBits (F := Ideal) .f32 0x3F800000#32 := rfl
theorem w_zeros : kernelRun0_B.sl.cst_319 (F := Ideal) = G.c89 := rfl

theorem piecesB :
    (∀ p ∈ (kernelRun0_B (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g)).1, ∀ x, p.2 x = (L2 β.oXc : S128x3072.Idx → EReal) (p.1.emb x))
    ∧ (∀ p ∈ (kernelRun0_B (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g)).2.1, ∀ x, p.2 x = (L2 β.oDdr : S128x512.Idx → EReal) (p.1.emb x))
    ∧ (∀ p ∈ (kernelRun0_B (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g)).2.2.1, ∀ x, p.2 x = (L2 fun _ => β.oDal : S1x512.Idx → EReal) (p.1.emb x))
    ∧ (∀ p ∈ (kernelRun0_B (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g)).2.2.2.1, ∀ x, p.2 x = (L2 fun _ => β.oDbi : S1x512.Idx → EReal) (p.1.emb x))
    ∧ (∀ p ∈ (kernelRun0_B (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g)).2.2.2.2.1, ∀ x, p.2 x = (L2 β.oG : S128x2048.Idx → EReal) (p.1.emb x)) := by
  simp only [kernelRun0_B, List.forall_mem_cons, List.not_mem_nil, false_imp_iff, implies_true, and_true,
    kernelRun0_B.sl.r, kernelRun0_B.sl.r_1, kernelRun0_B.sl.r_10, kernelRun0_B.sl.r_100, kernelRun0_B.sl.r_101, kernelRun0_B.sl.r_102, kernelRun0_B.sl.r_103, kernelRun0_B.sl.r_104,
    kernelRun0_B.sl.r_105, kernelRun0_B.sl.r_106, kernelRun0_B.sl.r_107, kernelRun0_B.sl.r_108, kernelRun0_B.sl.r_109, kernelRun0_B.sl.r_11, kernelRun0_B.sl.r_110,
    kernelRun0_B.sl.r_111, kernelRun0_B.sl.r_112, kernelRun0_B.sl.r_113, kernelRun0_B.sl.r_114, kernelRun0_B.sl.r_115, kernelRun0_B.sl.r_116, kernelRun0_B.sl.r_117,
    kernelRun0_B.sl.r_118, kernelRun0_B.sl.r_119, kernelRun0_B.sl.r_12, kernelRun0_B.sl.r_120, kernelRun0_B.sl.r_121, kernelRun0_B.sl.r_122, kernelRun0_B.sl.r_123,
    kernelRun0_B.sl.r_124, kernelRun0_B.sl.r_125, kernelRun0_B.sl.r_126, kernelRun0_B.sl.r_127, kernelRun0_B.sl.r_128, kernelRun0_B.sl.r_129, kernelRun0_B.sl.r_13,
    kernelRun0_B.sl.r_130, kernelRun0_B.sl.r_131, kernelRun0_B.sl.r_132, kernelRun0_B.sl.r_133, kernelRun0_B.sl.r_134, kernelRun0_B.sl.r_135, kernelRun0_B.sl.r_136,
    kernelRun0_B.sl.r_137, kernelRun0_B.sl.r_138, kernelRun0_B.sl.r_139, kernelRun0_B.sl.r_14, kernelRun0_B.sl.r_140, kernelRun0_B.sl.r_141, kernelRun0_B.sl.r_142,
    kernelRun0_B.sl.r_143, kernelRun0_B.sl.r_144, kernelRun0_B.sl.r_145, kernelRun0_B.sl.r_146, kernelRun0_B.sl.r_147, kernelRun0_B.sl.r_148, kernelRun0_B.sl.r_149,
    kernelRun0_B.sl.r_15, kernelRun0_B.sl.r_150, kernelRun0_B.sl.r_151, kernelRun0_B.sl.r_152, kernelRun0_B.sl.r_153, kernelRun0_B.sl.r_154, kernelRun0_B.sl.r_155,
    kernelRun0_B.sl.r_156, kernelRun0_B.sl.r_157, kernelRun0_B.sl.r_158, kernelRun0_B.sl.r_159, kernelRun0_B.sl.r_16, kernelRun0_B.sl.r_160, kernelRun0_B.sl.r_161,
    kernelRun0_B.sl.r_162, kernelRun0_B.sl.r_163, kernelRun0_B.sl.r_164, kernelRun0_B.sl.r_165, kernelRun0_B.sl.r_166, kernelRun0_B.sl.r_167, kernelRun0_B.sl.r_168,
    kernelRun0_B.sl.r_169, kernelRun0_B.sl.r_17, kernelRun0_B.sl.r_170, kernelRun0_B.sl.r_171, kernelRun0_B.sl.r_172, kernelRun0_B.sl.r_173, kernelRun0_B.sl.r_174,
    kernelRun0_B.sl.r_175, kernelRun0_B.sl.r_176, kernelRun0_B.sl.r_177, kernelRun0_B.sl.r_178, kernelRun0_B.sl.r_179, kernelRun0_B.sl.r_18, kernelRun0_B.sl.r_180,
    kernelRun0_B.sl.r_181, kernelRun0_B.sl.r_182, kernelRun0_B.sl.r_183, kernelRun0_B.sl.r_184, kernelRun0_B.sl.r_185, kernelRun0_B.sl.r_186, kernelRun0_B.sl.r_187,
    kernelRun0_B.sl.r_188, kernelRun0_B.sl.r_189, kernelRun0_B.sl.r_19, kernelRun0_B.sl.r_190, kernelRun0_B.sl.r_191, kernelRun0_B.sl.r_192, kernelRun0_B.sl.r_193,
    kernelRun0_B.sl.r_194, kernelRun0_B.sl.r_195, kernelRun0_B.sl.r_196, kernelRun0_B.sl.r_197, kernelRun0_B.sl.r_198, kernelRun0_B.sl.r_199, kernelRun0_B.sl.r_2, kernelRun0_B.sl.r_20,
    kernelRun0_B.sl.r_200, kernelRun0_B.sl.r_201, kernelRun0_B.sl.r_202, kernelRun0_B.sl.r_203, kernelRun0_B.sl.r_204, kernelRun0_B.sl.r_205, kernelRun0_B.sl.r_206,
    kernelRun0_B.sl.r_207, kernelRun0_B.sl.r_208, kernelRun0_B.sl.r_209, kernelRun0_B.sl.r_21, kernelRun0_B.sl.r_210, kernelRun0_B.sl.r_211, kernelRun0_B.sl.r_212,
    kernelRun0_B.sl.r_213, kernelRun0_B.sl.r_214, kernelRun0_B.sl.r_215, kernelRun0_B.sl.r_216, kernelRun0_B.sl.r_217, kernelRun0_B.sl.r_218, kernelRun0_B.sl.r_219,
    kernelRun0_B.sl.r_22, kernelRun0_B.sl.r_220, kernelRun0_B.sl.r_221, kernelRun0_B.sl.r_222, kernelRun0_B.sl.r_223, kernelRun0_B.sl.r_224, kernelRun0_B.sl.r_225,
    kernelRun0_B.sl.r_226, kernelRun0_B.sl.r_227, kernelRun0_B.sl.r_228, kernelRun0_B.sl.r_229, kernelRun0_B.sl.r_23, kernelRun0_B.sl.r_230, kernelRun0_B.sl.r_231,
    kernelRun0_B.sl.r_232, kernelRun0_B.sl.r_233, kernelRun0_B.sl.r_234, kernelRun0_B.sl.r_235, kernelRun0_B.sl.r_236, kernelRun0_B.sl.r_237, kernelRun0_B.sl.r_238,
    kernelRun0_B.sl.r_239, kernelRun0_B.sl.r_24, kernelRun0_B.sl.r_240, kernelRun0_B.sl.r_241, kernelRun0_B.sl.r_242, kernelRun0_B.sl.r_243, kernelRun0_B.sl.r_244,
    kernelRun0_B.sl.r_245, kernelRun0_B.sl.r_246, kernelRun0_B.sl.r_247, kernelRun0_B.sl.r_248, kernelRun0_B.sl.r_249, kernelRun0_B.sl.r_25, kernelRun0_B.sl.r_250,
    kernelRun0_B.sl.r_251, kernelRun0_B.sl.r_252, kernelRun0_B.sl.r_253, kernelRun0_B.sl.r_254, kernelRun0_B.sl.r_255, kernelRun0_B.sl.r_256, kernelRun0_B.sl.r_257,
    kernelRun0_B.sl.r_258, kernelRun0_B.sl.r_259, kernelRun0_B.sl.r_26, kernelRun0_B.sl.r_260, kernelRun0_B.sl.r_261, kernelRun0_B.sl.r_262, kernelRun0_B.sl.r_263,
    kernelRun0_B.sl.r_264, kernelRun0_B.sl.r_265, kernelRun0_B.sl.r_266, kernelRun0_B.sl.r_267, kernelRun0_B.sl.r_268, kernelRun0_B.sl.r_269, kernelRun0_B.sl.r_27,
    kernelRun0_B.sl.r_270, kernelRun0_B.sl.r_271, kernelRun0_B.sl.r_272, kernelRun0_B.sl.r_273, kernelRun0_B.sl.r_274, kernelRun0_B.sl.r_275, kernelRun0_B.sl.r_276,
    kernelRun0_B.sl.r_277, kernelRun0_B.sl.r_278, kernelRun0_B.sl.r_279, kernelRun0_B.sl.r_28, kernelRun0_B.sl.r_280, kernelRun0_B.sl.r_281, kernelRun0_B.sl.r_282,
    kernelRun0_B.sl.r_283, kernelRun0_B.sl.r_284, kernelRun0_B.sl.r_285, kernelRun0_B.sl.r_286, kernelRun0_B.sl.r_287, kernelRun0_B.sl.r_288, kernelRun0_B.sl.r_289,
    kernelRun0_B.sl.r_29, kernelRun0_B.sl.r_290, kernelRun0_B.sl.r_291, kernelRun0_B.sl.r_292, kernelRun0_B.sl.r_3, kernelRun0_B.sl.r_30, kernelRun0_B.sl.r_31, kernelRun0_B.sl.r_32,
    kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_4,
    kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47,
    kernelRun0_B.sl.r_48, kernelRun0_B.sl.r_49, kernelRun0_B.sl.r_5, kernelRun0_B.sl.r_50, kernelRun0_B.sl.r_51, kernelRun0_B.sl.r_52, kernelRun0_B.sl.r_53, kernelRun0_B.sl.r_54,
    kernelRun0_B.sl.r_55, kernelRun0_B.sl.r_56, kernelRun0_B.sl.r_57, kernelRun0_B.sl.r_58, kernelRun0_B.sl.r_59, kernelRun0_B.sl.r_6, kernelRun0_B.sl.r_60, kernelRun0_B.sl.r_61,
    kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69,
    kernelRun0_B.sl.r_7, kernelRun0_B.sl.r_70, kernelRun0_B.sl.r_71, kernelRun0_B.sl.r_72, kernelRun0_B.sl.r_73, kernelRun0_B.sl.r_74, kernelRun0_B.sl.r_75, kernelRun0_B.sl.r_76,
    kernelRun0_B.sl.r_77, kernelRun0_B.sl.r_78, kernelRun0_B.sl.r_79, kernelRun0_B.sl.r_8, kernelRun0_B.sl.r_80, kernelRun0_B.sl.r_81, kernelRun0_B.sl.r_82, kernelRun0_B.sl.r_83,
    kernelRun0_B.sl.r_84, kernelRun0_B.sl.r_85, kernelRun0_B.sl.r_86, kernelRun0_B.sl.r_87, kernelRun0_B.sl.r_88, kernelRun0_B.sl.r_89, kernelRun0_B.sl.r_9, kernelRun0_B.sl.r_90,
    kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98,
    kernelRun0_B.sl.r_99, kernelRun0_B.sl.v0, kernelRun0_B.sl.v1, kernelRun0_B.sl.v1641, kernelRun0_B.sl.v1647, kernelRun0_B.sl.v1710, kernelRun0_B.sl.v1716, kernelRun0_B.sl.v1779,
    kernelRun0_B.sl.v1785, kernelRun0_B.sl.v2, w_lane, w_zero, w_one, w_zeros, G.pay1_eq, G.pay2_eq, G.pay3_eq, G.pay4_eq, G.pay5_eq, G.pay6_eq, G.pay7_eq, G.pay8_eq, G.pay9_eq,
    G.pay10_eq, G.pay11_eq, G.pay12_eq, G.pay13_eq, G.pay14_eq, G.pay15_eq, G.pay16_eq, G.pay17_eq, G.pay18_eq, G.pay19_eq, G.pay20_eq, G.pay21_eq, G.pay22_eq, G.pay23_eq, G.pay24_eq,
    G.pay25_eq, G.pay26_eq, G.pay27_eq, G.pay28_eq, G.pay29_eq, G.pay30_eq, G.pay31_eq, G.pay32_eq, G.pay33_eq, G.pay34_eq, G.pay35_eq, G.pay36_eq, G.pay37_eq, G.pay38_eq, G.pay39_eq,
    G.pay40_eq, G.pay41_eq, G.pay42_eq, G.pay43_eq, G.pay44_eq, G.pay45_eq, G.pay46_eq, G.pay47_eq, G.pay48_eq, G.pay49_eq, G.pay50_eq, G.pay51_eq, G.pay52_eq, G.pay53_eq, G.pay54_eq,
    G.pay55_eq, G.pay56_eq, G.pay57_eq, G.pay58_eq, G.pay59_eq, G.pay60_eq, G.pay61_eq, G.pay62_eq, G.pay63_eq, G.pay64_eq, G.pay65_eq, G.pay66_eq, G.pay67_eq, G.pay68_eq, G.pay69_eq,
    G.pay70_eq, G.pay71_eq, G.pay72_eq, G.pay73_eq, G.pay74_eq, G.pay75_eq, G.pay76_eq, G.pay77_eq, G.pay78_eq, G.pay79_eq, G.pay80_eq, G.pay81_eq, G.pay82_eq, G.pay83_eq, G.pay84_eq,
    G.pay85_eq, G.pay86_eq, G.pay87_eq, G.pay88_eq, G.pay89_eq, G.pay90_eq, G.pay91_eq, G.pay92_eq, G.pay93_eq, G.pay94_eq, G.pay95_eq, G.pay96_eq, G.pay97_eq, G.pay98_eq, G.pay99_eq,
    G.pay100_eq, G.pay101_eq, G.pay102_eq, G.pay103_eq, G.pay104_eq, G.pay105_eq, G.pay106_eq, G.pay107_eq, G.pay108_eq, G.pay109_eq, G.pay110_eq, G.pay111_eq, G.pay112_eq,
    G.pay113_eq, G.pay114_eq, G.pay115_eq, G.pay116_eq, G.pay117_eq, G.pay118_eq, G.pay119_eq, G.pay120_eq, G.pay121_eq, G.pay122_eq, G.pay123_eq, G.pay124_eq, G.pay125_eq,
    G.pay126_eq, G.pay127_eq, G.pay128_eq, G.pay129_eq, G.pay130_eq, G.pay131_eq, G.pay132_eq, G.pay133_eq, G.pay134_eq, G.pay135_eq, G.pay136_eq, G.pay137_eq, G.pay138_eq,
    G.pay139_eq, G.pay140_eq, G.pay141_eq, G.pay142_eq, G.pay143_eq, G.pay144_eq, G.pay145_eq, G.pay146_eq, G.pay147_eq, G.pay148_eq, G.pay149_eq, G.pay150_eq, G.pay151_eq,
    G.pay152_eq, G.pay153_eq, G.pay154_eq, G.pay155_eq, G.pay156_eq, G.pay157_eq, G.pay158_eq, G.pay159_eq, G.pay160_eq, G.pay161_eq, G.pay162_eq, G.pay163_eq, G.pay164_eq,
    G.pay165_eq, G.pay166_eq, G.pay167_eq, G.pay168_eq, G.pay169_eq, G.pay170_eq, G.pay171_eq, G.pay172_eq, G.pay173_eq, G.pay174_eq, G.pay175_eq, G.pay176_eq, G.pay177_eq,
    G.pay178_eq, G.pay179_eq, G.pay180_eq, G.pay181_eq, G.pay182_eq, G.pay183_eq, G.pay184_eq, G.pay185_eq, G.pay186_eq, G.pay187_eq, G.pay188_eq, G.pay189_eq, G.pay190_eq,
    G.pay191_eq, G.pay192_eq, G.pay193_eq, G.pay194_eq, G.pay195_eq, G.pay196_eq, G.pay197_eq, G.pay198_eq, G.pay199_eq, G.pay200_eq, G.pay201_eq, G.pay202_eq, G.pay203_eq,
    G.pay204_eq, G.pay205_eq, G.pay206_eq, G.pay207_eq, G.pay208_eq, G.pay209_eq, G.pay210_eq, G.pay211_eq, G.pay212_eq, G.pay213_eq, G.pay214_eq, G.pay215_eq, G.pay216_eq,
    G.pay217_eq, G.pay218_eq, G.pay219_eq, G.pay220_eq, G.pay221_eq, G.pay222_eq, G.pay223_eq, G.pay224_eq, G.pay225_eq, G.pay226_eq, G.pay227_eq, G.pay228_eq, G.pay229_eq,
    G.pay230_eq, G.pay231_eq, G.pay232_eq, G.pay233_eq, G.pay234_eq, G.pay235_eq, G.pay236_eq, G.pay237_eq, G.pay238_eq, G.pay239_eq, G.pay240_eq, G.pay241_eq, G.pay242_eq,
    G.pay243_eq, G.pay244_eq, G.pay245_eq, G.pay246_eq, G.pay247_eq, G.pay248_eq, G.pay249_eq, G.pay250_eq, G.pay251_eq, G.pay252_eq, G.pay253_eq, G.pay254_eq, G.pay255_eq,
    G.pay256_eq, G.pay257_eq, G.pay258_eq, G.pay259_eq, G.pay260_eq, G.pay261_eq, G.pay262_eq, G.pay263_eq, G.pay264_eq, G.pay265_eq, G.pay266_eq, G.pay267_eq, G.pay268_eq,
    G.pay269_eq, G.pay270_eq, G.pay271_eq, G.pay272_eq, G.pay273_eq, G.pay274_eq, G.pay275_eq, G.pay276_eq, G.pay277_eq, G.pay278_eq, G.pay279_eq, G.pay280_eq, G.pay281_eq,
    G.pay282_eq, G.pay283_eq, G.pay284_eq, G.pay285_eq, G.pay286_eq, G.pay287_eq, G.pay288_eq, G.pay289_eq, G.pay290_eq, G.pay291_eq, G.pay292_eq, G.pay293_eq, G.pay294_eq,
    G.pay295_eq, G.pay296_eq, G.pay297_eq, G.pay298_eq, G.pay299_eq, G.pay300_eq, G.pay301_eq, G.pay302_eq, G.pay303_eq, G.pay304_eq, G.pay305_eq, G.pay306_eq, G.pay307_eq,
    G.pay308_eq, G.pay309_eq, G.pay310_eq, G.pay311_eq, G.pay312_eq, G.pay313_eq, G.pay314_eq, G.pay315_eq, G.pay316_eq, G.pay317_eq, G.pay318_eq, G.pay319_eq, G.pay320_eq,
    G.pay321_eq, G.pay322_eq, G.pay323_eq, G.pay324_eq, G.pay325_eq, G.pay326_eq, G.pay327_eq, G.pay328_eq, G.pay329_eq, G.pay330_eq, G.pay331_eq, G.pay332_eq, G.pay333_eq,
    G.pay334_eq, G.pay335_eq, G.pay336_eq, G.pay337_eq, G.pay338_eq, G.pay339_eq, G.pay340_eq, G.pay341_eq, G.pay342_eq, G.pay343_eq, G.pay344_eq, G.pay345_eq, G.pay346_eq,
    G.pay347_eq, G.pay348_eq, G.pay349_eq, G.pay350_eq, G.pay351_eq, G.pay352_eq, G.pay353_eq, G.pay354_eq, G.pay355_eq, G.pay356_eq, G.pay357_eq, G.pay358_eq, G.pay359_eq,
    G.pay360_eq, G.pay361_eq, G.pay362_eq, G.pay363_eq, G.pay364_eq, G.pay365_eq, G.pay366_eq, G.pay367_eq, G.pay368_eq, G.pay369_eq, G.pay370_eq, G.pay371_eq, G.pay372_eq,
    G.pay373_eq, G.pay374_eq, G.pay375_eq, G.pay376_eq, G.pay377_eq, G.pay378_eq, G.pay379_eq, G.pay380_eq, G.pay381_eq, G.pay382_eq, G.pay383_eq, G.pay384_eq, G.pay385_eq,
    G.pay386_eq, G.pay387_eq, G.pay388_eq, G.pay389_eq, G.pay390_eq, G.pay391_eq, G.pay392_eq, G.pay393_eq, G.pay394_eq, G.pay395_eq, G.pay396_eq, G.pay397_eq, G.pay398_eq,
    G.pay399_eq, ld_xc β 0 0 (by rfl), ld_xc β 1 768 (by rfl), ld_xc β 2 1536 (by rfl), ld_xc β 3 2304 (by rfl), ld_dt β 0 0 (by rfl), ld_dt β 1 128 (by rfl), ld_dt β 2 256 (by rfl),
    ld_dt β 3 384 (by rfl), ld_bias β 0 0 (by rfl), ld_bias β 1 128 (by rfl), ld_bias β 2 256 (by rfl), ld_bias β 3 384 (by rfl), ld_alog β 0 0 (by rfl), ld_alog β 1 128 (by rfl),
    ld_alog β 2 256 (by rfl), ld_alog β 3 384 (by rfl), ld_dy β 0 0 (by rfl), ld_dy β 1 512 (by rfl), ld_dy β 2 1024 (by rfl), ld_dy β 3 1536 (by rfl), ld_st β 0 0 (by rfl), ld_st β 1
    512 (by rfl), ld_st β 2 1024 (by rfl), ld_st β 3 1536 (by rfl), ld_g β 0 0 (by rfl), ld_g β 1 512 (by rfl), ld_g β 2 1024 (by rfl), ld_g β 3 1536 (by rfl), ld_dal β 0 0 (by rfl),
    ld_dal β 1 128 (by rfl), ld_dal β 2 256 (by rfl), ld_dal β 3 384 (by rfl), ld_dbi β 0 0 (by rfl), ld_dbi β 1 128 (by rfl), ld_dbi β 2 256 (by rfl), ld_dbi β 3 384 (by rfl),
    G.dxsOut_val, G.dbOut_val, G.dcOut_val, G.gOut_val, G.ddrOut_val, G.dbiasOut_val, G.dalogOut_val]
  exact ⟨⟨fun x => st_dc β 3 2944 (by rfl) _ x, fun x => st_db β 3 2816 (by rfl) _ x, fun x => st_dxs β 3 2304 (by rfl) _ x, fun x => st_dc β 2 2176 (by rfl) _ x, fun x => st_db β 2 2048 (by rfl) _ x, fun x => st_dxs β 2 1536 (by rfl) _ x, fun x => st_dc β 1 1408 (by rfl) _ x, fun x => st_db β 1 1280 (by rfl) _ x, fun x => st_dxs β 1 768 (by rfl) _ x, fun x => st_dc β 0 640 (by rfl) _ x, fun x => st_db β 0 512 (by rfl) _ x, fun x => st_dxs β 0 0 (by rfl) _ x⟩, ⟨fun x => st_ddr β 3 384 (by rfl) _ x, fun x => st_ddr β 2 256 (by rfl) _ x, fun x => st_ddr β 1 128 (by rfl) _ x, fun x => st_ddr β 0 0 (by rfl) _ x⟩, ⟨fun x => st_dal β 3 384 (by rfl) _ x, fun x => st_dal β 2 256 (by rfl) _ x, fun x => st_dal β 1 128 (by rfl) _ x, fun x => st_dal β 0 0 (by rfl) _ x⟩, ⟨fun x => st_dbi β 3 384 (by rfl) _ x, fun x => st_dbi β 2 256 (by rfl) _ x, fun x => st_dbi β 1 128 (by rfl) _ x, fun x => st_dbi β 0 0 (by rfl) _ x⟩, ⟨fun x => st_g β 3 1536 (by rfl) _ x, fun x => st_g β 2 1024 (by rfl) _ x, fun x => st_g β 1 512 (by rfl) _ x, fun x => st_g β 0 0 (by rfl) _ x⟩⟩
theorem out0_B_6_val : out0_B_6 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g) = (L2 β.oXc : S128x3072.Idx → EReal) := by
  rw [out0_B_6, View.read_writes_junk_eq_canon]
  funext y
  exact View.canon_apply_of_pieces _ _ (piecesB β c i arg1 harg1 arg2 harg2 arg3 harg3 arg4 harg4 arg5 harg5 arg6 harg6 arg7 harg7 arg8 harg8 arg9 harg9 arg10 harg10 arg11 harg11 hc0).1 y (cover0_B_6 c i arg1 harg1 arg2 harg2 arg3 harg3 arg4 harg4 arg5 harg5 arg6 harg6 arg7 harg7 arg8 harg8 arg9 harg9 arg10 harg10 arg11 harg11 hc0 _ _ _ _ _ _ _ _ _ y)
theorem out0_B_7_val : out0_B_7 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g) = (L2 β.oDdr : S128x512.Idx → EReal) := by
  rw [out0_B_7, View.read_writes_junk_eq_canon]
  funext y
  exact View.canon_apply_of_pieces _ _ (piecesB β c i arg1 harg1 arg2 harg2 arg3 harg3 arg4 harg4 arg5 harg5 arg6 harg6 arg7 harg7 arg8 harg8 arg9 harg9 arg10 harg10 arg11 harg11 hc0).2.1 y (cover0_B_7 c i arg1 harg1 arg2 harg2 arg3 harg3 arg4 harg4 arg5 harg5 arg6 harg6 arg7 harg7 arg8 harg8 arg9 harg9 arg10 harg10 arg11 harg11 hc0 _ _ _ _ _ _ _ _ _ y)
theorem out0_B_8_val : out0_B_8 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g) = (L2 fun _ => β.oDal : S1x512.Idx → EReal) := by
  rw [out0_B_8, View.read_writes_junk_eq_canon]
  funext y
  exact View.canon_apply_of_pieces _ _ (piecesB β c i arg1 harg1 arg2 harg2 arg3 harg3 arg4 harg4 arg5 harg5 arg6 harg6 arg7 harg7 arg8 harg8 arg9 harg9 arg10 harg10 arg11 harg11 hc0).2.2.1 y (cover0_B_8 c i arg1 harg1 arg2 harg2 arg3 harg3 arg4 harg4 arg5 harg5 arg6 harg6 arg7 harg7 arg8 harg8 arg9 harg9 arg10 harg10 arg11 harg11 hc0 _ _ _ _ _ _ _ _ _ y)
theorem out0_B_9_val : out0_B_9 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g) = (L2 fun _ => β.oDbi : S1x512.Idx → EReal) := by
  rw [out0_B_9, View.read_writes_junk_eq_canon]
  funext y
  exact View.canon_apply_of_pieces _ _ (piecesB β c i arg1 harg1 arg2 harg2 arg3 harg3 arg4 harg4 arg5 harg5 arg6 harg6 arg7 harg7 arg8 harg8 arg9 harg9 arg10 harg10 arg11 harg11 hc0).2.2.2.1 y (cover0_B_9 c i arg1 harg1 arg2 harg2 arg3 harg3 arg4 harg4 arg5 harg5 arg6 harg6 arg7 harg7 arg8 harg8 arg9 harg9 arg10 harg10 arg11 harg11 hc0 _ _ _ _ _ _ _ _ _ y)
theorem sout0_B_0_val : sout0_B_0 (F := Ideal) c i arg1 harg1 arg2 harg2 arg3 harg3 arg4 harg4 arg5 harg5 arg6 harg6 arg7 harg7 arg8 harg8 arg9 harg9 arg10 harg10 arg11 harg11 hc0 (L2 β.xc) (L2 β.dt) (L2 fun _ => β.bias) (L2 fun _ => β.alog) (L2 β.dy) (L3 fun _ => β.st) (L2 fun _ => β.dal) (L2 fun _ => β.dbi) (L2 β.g) = (L2 β.oG : S128x2048.Idx → EReal) := by
  rw [sout0_B_0, View.read_writes_junk_eq_canon]
  funext y
  exact View.canon_apply_of_pieces _ _ (piecesB β c i arg1 harg1 arg2 harg2 arg3 harg3 arg4 harg4 arg5 harg5 arg6 harg6 arg7 harg7 arg8 harg8 arg9 harg9 arg10 harg10 arg11 harg11 hc0).2.2.2.2 y (scover0_B_0 c i arg1 harg1 arg2 harg2 arg3 harg3 arg4 harg4 arg5 harg5 arg6 harg6 arg7 harg7 arg8 harg8 arg9 harg9 arg10 harg10 arg11 harg11 hc0 _ _ _ _ _ _ _ _ _ y)

end Cert.Scan.PointB
-- ==== Proof.Scan.Run.lean ====
/- The kernel's run over real inputs: what each grid point finds and leaves, by induction on the points, and the four result arrays after the last. -/
module

public import proofs.«01_k».proof.Proof.Gen.KernelIdeal.Value
public import proofs.«01_k».proof.Proof.Scan.PointA
public import proofs.«01_k».proof.Proof.Scan.PointB
public import Idealize.ShloMosaic.Lib.Pipeline.ValueKit

@[expose] public section

noncomputable section

namespace Cert.Scan

open Idealize.ShloMosaic Idealize.ShloMosaic.TcCoe Cert.KernelIdeal Cert.KernelIdeal.Gen
open Idealize.ShloMosaic.Pipeline (Dat)

/-- The kernel's operands over the reals, `st z n q` the state before chunk `z`. -/
structure Arr where
  xc : ℕ → ℕ → ℝ
  dt : ℕ → ℕ → ℝ
  bias : ℕ → ℝ
  alog : ℕ → ℝ
  dy : ℕ → ℕ → ℝ
  st : ℕ → ℕ → ℕ → ℝ

namespace Arr
variable (a : Arr)

/-- Chunk `z`'s blocks, with the sums that run from point to point. -/
def blk (z : ℕ) (g : ℕ → ℕ → ℝ) (dal dbi : ℕ → ℝ) : Blk where
  xc r q := a.xc (128 * z + r) q
  dt r q := a.dt (128 * z + r) q
  bias := a.bias
  alog := a.alog
  dy r q := a.dy (128 * z + r) q
  st := a.st z
  g := g
  dal := dal
  dbi := dbi

/-- What grid point `t` finds: it works on chunk `127 - t`. -/
def at' : ℕ → Blk
  | 0 => a.blk 127 (fun _ _ => 0) (fun _ => 0) (fun _ => 0)
  | t + 1 => a.blk (127 - (t + 1)) (at' t).oG (at' t).oDal (at' t).oDbi
end Arr

variable (a : Arr) (m : (ℓ : Loc nD τ sig) → Buf (Elt Ideal) ℓ) (c : Dev nD)

/-- The operands hold the real arrays `a`. -/
structure Holds : Prop where
  xc : V m c main_arg0 = (L2 a.xc : S16384x3072.Idx → EReal)
  dt : V m c main_arg1 = (L2 a.dt : S16384x512.Idx → EReal)
  bias : V m c main_arg2 = (L2 (fun _ => a.bias) : S1x512.Idx → EReal)
  alog : V m c main_arg3 = (L2 (fun _ => a.alog) : S1x512.Idx → EReal)
  dy : V m c main_arg4 = (L2 a.dy : S16384x2048.Idx → EReal)
  st : V m c main_v53 = (L3 a.st : S128x128x2048.Idx → EReal)

theorem idx_row : ∀ t : Fin cfg0.N, win0_0.index t = ![127 - t.val, 0] ∧ win0_1.index t = ![127 - t.val, 0] ∧ win0_2.index t = ![0, 0] ∧ win0_3.index t = ![0, 0]
    ∧ win0_4.index t = ![127 - t.val, 0] ∧ win0_5.index t = ![127 - t.val, 0, 0] ∧ win0_6.index t = ![127 - t.val, 0] ∧ win0_7.index t = ![127 - t.val, 0] :=
  (by decide +kernel : ∀ t : Fin grid0.N, _)

theorem idx_last : ∀ t : Fin cfg0.N, win0_8.index t = ![0, 0] ∧ win0_9.index t = ![0, 0] :=
  (by decide +kernel : ∀ t : Fin grid0.N, _)

theorem congr2 {α β γ : Type} (f : α → β → γ) {x x' : α} {y y' : β} (hx : x = x') (hy : y = y') : f x y = f x' y' := by rw [hx, hy]
theorem congr3 {α β γ δ : Type} (f : α → β → γ → δ) {x x' : α} {y y' : β} {z z' : γ} (hx : x = x') (hy : y = y') (hz : z = z') : f x y z = f x' y' z' := by rw [hx, hy, hz]

section Blocks
variable {a m c} (H : Holds a m c) (t : Fin cfg0.N) (g : ℕ → ℕ → ℝ) (dal dbi : ℕ → ℝ)
include H

theorem iblk_xc : iblk m c 0 t = (L2 (a.blk (127 - t.val) g dal dbi).xc : S128x3072.Idx → EReal) := by
  obtain ⟨e0, e1, e2, e3, e4, e5, e6, e7⟩ := idx_row t
  funext y
  show V m c main_arg0 (((cfg0.win 0).blk t).view.emb y) = _
  rw [H.xc]
  refine congrArg (fun x : ℝ => (x : EReal)) (congr2 a.xc ?_ ?_)
  · blk_simp [e0]; omega
  · blk_simp [e0]
theorem iblk_dt : iblk m c 1 t = (L2 (a.blk (127 - t.val) g dal dbi).dt : S128x512.Idx → EReal) := by
  obtain ⟨e0, e1, e2, e3, e4, e5, e6, e7⟩ := idx_row t
  funext y
  show V m c main_arg1 (((cfg0.win 1).blk t).view.emb y) = _
  rw [H.dt]
  refine congrArg (fun x : ℝ => (x : EReal)) (congr2 a.dt ?_ ?_)
  · blk_simp [e1]; omega
  · blk_simp [e1]
theorem iblk_dy : iblk m c 4 t = (L2 (a.blk (127 - t.val) g dal dbi).dy : S128x2048.Idx → EReal) := by
  obtain ⟨e0, e1, e2, e3, e4, e5, e6, e7⟩ := idx_row t
  funext y
  show V m c main_arg4 (((cfg0.win 4).blk t).view.emb y) = _
  rw [H.dy]
  refine congrArg (fun x : ℝ => (x : EReal)) (congr2 a.dy ?_ ?_)
  · blk_simp [e4]; omega
  · blk_simp [e4]
theorem iblk_bias : iblk m c 2 t = (L2 (fun _ => (a.blk (127 - t.val) g dal dbi).bias) : S1x512.Idx → EReal) := by
  obtain ⟨e0, e1, e2, e3, e4, e5, e6, e7⟩ := idx_row t
  funext y
  show V m c main_arg2 (((cfg0.win 2).blk t).view.emb y) = _
  rw [H.bias]
  refine congrArg (fun x : ℝ => (x : EReal)) (congrArg a.bias ?_)
  blk_simp [e2]
theorem iblk_alog : iblk m c 3 t = (L2 (fun _ => (a.blk (127 - t.val) g dal dbi).alog) : S1x512.Idx → EReal) := by
  obtain ⟨e0, e1, e2, e3, e4, e5, e6, e7⟩ := idx_row t
  funext y
  show V m c main_arg3 (((cfg0.win 3).blk t).view.emb y) = _
  rw [H.alog]
  refine congrArg (fun x : ℝ => (x : EReal)) (congrArg a.alog ?_)
  blk_simp [e3]
theorem iblk_st : iblk m c 5 t = (L3 (fun _ => (a.blk (127 - t.val) g dal dbi).st) : S1x128x2048.Idx → EReal) := by
  obtain ⟨e0, e1, e2, e3, e4, e5, e6, e7⟩ := idx_row t
  funext y
  show V m c main_v53 (((cfg0.win 5).blk t).view.emb y) = _
  rw [H.st]
  refine congrArg (fun x : ℝ => (x : EReal)) (congr3 a.st ?_ ?_ ?_)
  · blk_simp [e5]
  · blk_simp [e5]
  · blk_simp [e5]
end Blocks

/-- What a point leaves, from the blocks that it finds. -/
abbrev leaves (β : Blk) : (S128x3072.Idx → EReal) × (S128x512.Idx → EReal) × (S1x512.Idx → EReal) × (S1x512.Idx → EReal) × (S128x2048.Idx → EReal) :=
  (L2 β.oXc, L2 β.oDdr, L2 fun _ => β.oDal, L2 fun _ => β.oDbi, L2 β.oG)

section Point
variable {a m c} (H : Holds a m c)
include H

theorem outs_first (t : Fin cfg0.N) (h0 : t.val = 0) : outsAt0 (F := Ideal) m c t.val t.isLt = leaves (a.at' t.val) := by
  have h0' : t.val % 128 = 0 := by rw [h0]
  have ea : a.at' t.val = a.blk (127 - t.val) (fun _ _ => 0) (fun _ => 0) (fun _ => 0) := by rw [h0]; rfl
  rw [outsAt0_A m c t h0', ea, iblk_xc H t (fun _ _ => 0) (fun _ => 0) (fun _ => 0), iblk_dt H t (fun _ _ => 0) (fun _ => 0) (fun _ => 0), iblk_bias H t (fun _ _ => 0) (fun _ => 0) (fun _ => 0),
    iblk_alog H t (fun _ _ => 0) (fun _ => 0) (fun _ => 0), iblk_dy H t (fun _ _ => 0) (fun _ => 0) (fun _ => 0), iblk_st H t (fun _ _ => 0) (fun _ => 0) (fun _ => 0)]
  generalize hβ : a.blk (127 - t.val) (fun _ _ => 0) (fun _ => 0) (fun _ => 0) = β
  have hg : β.g = fun _ _ => 0 := by rw [← hβ]; rfl
  have hdal : β.dal = fun _ => 0 := by rw [← hβ]; rfl
  have hdbi : β.dbi = fun _ => 0 := by rw [← hβ]; rfl
  rw [PointA.out0_A_6_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0') hg hdal hdbi,
    PointA.out0_A_7_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0') hg hdal hdbi,
    PointA.out0_A_8_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0') hg hdal hdbi,
    PointA.out0_A_9_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0') hg hdal hdbi,
    PointA.sout0_A_0_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0') hg hdal hdbi]

theorem outs_next (t : Fin cfg0.N) (h0 : t.val ≠ 0) (ih : ∀ h, outsAt0 (F := Ideal) m c (t.val - 1) h = leaves (a.at' (t.val - 1))) :
    outsAt0 (F := Ideal) m c t.val t.isLt = leaves (a.at' t.val) := by
  have hN : t.val < 128 := lt_of_lt_of_eq t.isLt N_0
  have h0' : ¬t.val % 128 = 0 := by omega
  have ea : a.at' t.val = a.blk (127 - t.val) (a.at' (t.val - 1)).oG (a.at' (t.val - 1)).oDal (a.at' (t.val - 1)).oDbi := by
    obtain ⟨n, hn⟩ := Nat.exists_eq_succ_of_ne_zero h0
    rw [hn]; rfl
  have b0 : iblk m c 0 t = (L2 (a.at' t.val).xc : S128x3072.Idx → EReal) := by rw [ea]; exact iblk_xc H t _ _ _
  have b1 : iblk m c 1 t = (L2 (a.at' t.val).dt : S128x512.Idx → EReal) := by rw [ea]; exact iblk_dt H t _ _ _
  have b2 : iblk m c 2 t = (L2 (fun _ => (a.at' t.val).bias) : S1x512.Idx → EReal) := by rw [ea]; exact iblk_bias H t _ _ _
  have b3 : iblk m c 3 t = (L2 (fun _ => (a.at' t.val).alog) : S1x512.Idx → EReal) := by rw [ea]; exact iblk_alog H t _ _ _
  have b4 : iblk m c 4 t = (L2 (a.at' t.val).dy : S128x2048.Idx → EReal) := by rw [ea]; exact iblk_dy H t _ _ _
  have b5 : iblk m c 5 t = (L3 (fun _ => (a.at' t.val).st) : S1x128x2048.Idx → EReal) := by rw [ea]; exact iblk_st H t _ _ _
  have b8 (h) : (outsAt0 (F := Ideal) m c (t.val - 1) h).2.2.1 = (L2 (fun _ => (a.at' t.val).dal) : S1x512.Idx → EReal) := by rw [ih, ea]; rfl
  have b9 (h) : (outsAt0 (F := Ideal) m c (t.val - 1) h).2.2.2.1 = (L2 (fun _ => (a.at' t.val).dbi) : S1x512.Idx → EReal) := by rw [ih, ea]; rfl
  have b10 (h) : (outsAt0 (F := Ideal) m c (t.val - 1) h).2.2.2.2 = (L2 (a.at' t.val).g : S128x2048.Idx → EReal) := by rw [ih, ea]; rfl
  rw [outsAt0_B m c t h0', b0, b1, b2, b3, b4, b5, b8, b9, b10]
  generalize a.at' t.val = β
  rw [PointB.out0_B_6_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0' ((hcond0_0 t).mp h)),
    PointB.out0_B_7_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0' ((hcond0_0 t).mp h)),
    PointB.out0_B_8_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0' ((hcond0_0 t).mp h)),
    PointB.out0_B_9_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0' ((hcond0_0 t).mp h)),
    PointB.sout0_B_0_val β c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0' ((hcond0_0 t).mp h))]

theorem outs_val : ∀ (n : ℕ) (h : n < cfg0.N), outsAt0 (F := Ideal) m c n h = leaves (a.at' n)
  | 0, h => outs_first H ⟨0, h⟩ rfl
  | n + 1, h => outs_next H ⟨n + 1, h⟩ (Nat.succ_ne_zero n) fun h' => outs_val n h'
end Point

/-! ### The result arrays -/
section Final
variable {a m c} (H : Holds a m c)
include H

theorem final_xc : (dats m 0 c).arrAt 6 cfg0.N = (L2 (fun r q => (a.at' (127 - r / 128)).oXc (r % 128) q) : S16384x3072.Idx → EReal) := by
  refine (dats m 0 c).arrAt_eq_of_covers 6 _ (by decide +kernel) fun t hf y => ?_
  have hN : t.val < 128 := lt_of_lt_of_eq t.isLt N_0
  obtain ⟨e0, e1, e2, e3, e4, e5, e6, e7⟩ := idx_row t
  have hy : (y 0).val < 128 := (y 0).isLt
  blk_simp
  rw [after0_6, outs_val H]
  refine congrArg (fun x : ℝ => (x : EReal)) (congr3 (fun t r q => (a.at' t).oXc r q) ?_ ?_ ?_)
  · blk_simp [e6]; omega
  · blk_simp [e6]; omega
  · blk_simp [e6]
theorem final_dt : (dats m 0 c).arrAt 7 cfg0.N = (L2 (fun r q => (a.at' (127 - r / 128)).oDdr (r % 128) q) : S16384x512.Idx → EReal) := by
  refine (dats m 0 c).arrAt_eq_of_covers 7 _ (by decide +kernel) fun t hf y => ?_
  have hN : t.val < 128 := lt_of_lt_of_eq t.isLt N_0
  obtain ⟨e0, e1, e2, e3, e4, e5, e6, e7⟩ := idx_row t
  have hy : (y 0).val < 128 := (y 0).isLt
  blk_simp
  rw [after0_7, outs_val H]
  refine congrArg (fun x : ℝ => (x : EReal)) (congr3 (fun t r q => (a.at' t).oDdr r q) ?_ ?_ ?_)
  · blk_simp [e7]; omega
  · blk_simp [e7]; omega
  · blk_simp [e7]
theorem final_alog : (dats m 0 c).arrAt 8 cfg0.N = (L2 (fun _ => (a.at' 127).oDal) : S1x512.Idx → EReal) := by
  refine (dats m 0 c).arrAt_eq_of_covers 8 _ (by decide +kernel) fun t hf y => ?_
  have hN : t.val < 128 := lt_of_lt_of_eq t.isLt N_0
  have ht : t.val = 127 := by have h := (flush0_8 t).mp hf; omega
  blk_simp
  rw [after0_8, outs_val H]
  refine congrArg (fun x : ℝ => (x : EReal)) (congr2 (fun t q => (a.at' t).oDal q) ht ?_)
  blk_simp [idx_last t]
theorem final_bias : (dats m 0 c).arrAt 9 cfg0.N = (L2 (fun _ => (a.at' 127).oDbi) : S1x512.Idx → EReal) := by
  refine (dats m 0 c).arrAt_eq_of_covers 9 _ (by decide +kernel) fun t hf y => ?_
  have hN : t.val < 128 := lt_of_lt_of_eq t.isLt N_0
  have ht : t.val = 127 := by have h := (flush0_9 t).mp hf; omega
  blk_simp
  rw [after0_9, outs_val H]
  refine congrArg (fun x : ℝ => (x : EReal)) (congr2 (fun t q => (a.at' t).oDbi q) ht ?_)
  blk_simp [idx_last t]

end Final
end Cert.Scan
-- ==== Proof.Scan.Hops.lean ====
/- Running sums, paddings and sums over two axes of real arrays, read at an index. -/
module

public import Idealize.ShloMosaic.Lib.Pipeline.Value
public import Idealize.ShloMosaic.Lib.ValueIdx
public import Idealize.ShloMosaic.Lib.TwoAxisContraction
public import Idealize.ShloMosaic.Lib.Pointwise.Reduce
public import Idealize.ShloMosaic.PureOps.Ideal.Laws

@[expose] public section

noncomputable section

namespace Cert.Scan

open Idealize.ShloMosaic
open scoped BigOperators

/-! ### The operations on real values -/
section Ops
variable {φ : FTy} (u v : ℝ)
theorem e_add : FloatOps.addf (F := Ideal) (φ := φ) (u : EReal) (v : EReal) = ((u + v : ℝ) : EReal) := (EReal.coe_add u v).symm
theorem e_sub : FloatOps.subf (F := Ideal) (φ := φ) (u : EReal) (v : EReal) = ((u - v : ℝ) : EReal) := (EReal.coe_sub u v).symm
theorem e_mul : FloatOps.mulf (F := Ideal) (φ := φ) (u : EReal) (v : EReal) = ((u * v : ℝ) : EReal) := (EReal.coe_mul u v).symm
theorem e_neg : FloatOps.hostNegf (F := Ideal) (φ := φ) (u : EReal) = ((-u : ℝ) : EReal) := (EReal.coe_neg u).symm
theorem e_exp : FloatOps.hostUnary (F := Ideal) (φ := φ) .exp (u : EReal) = ((Real.exp u : ℝ) : EReal) := rfl
theorem e_max : FloatOps.maximumf (F := Ideal) (φ := φ) (u : EReal) (v : EReal) = ((max u v : ℝ) : EReal) := by
  show max (u : EReal) (v : EReal) = _
  exact (EReal.coe_strictMono.monotone.map_max (a := u) (b := v)).symm
theorem e_abs : FloatOps.hostAbsf (F := Ideal) (φ := φ) (u : EReal) = ((|u| : ℝ) : EReal) := by
  show max (u : EReal) (-(u : EReal)) = _
  rw [← EReal.coe_neg, abs_eq_max_neg]
  exact (EReal.coe_strictMono.monotone.map_max (a := u) (b := -u)).symm
theorem e_log1p (h : 0 < 1 + u) : FloatOps.hostUnary (F := Ideal) (φ := φ) .log1p (u : EReal) = ((Real.log (1 + u) : ℝ) : EReal) := by
  show Ideal.log (1 + (u : EReal)) = _
  rw [show (1 : EReal) + (u : EReal) = ((1 + u : ℝ) : EReal) by rw [EReal.coe_add, EReal.coe_one]]
  show (if 1 + u ≤ 0 then (⊥ : EReal) else ((Real.log (1 + u) : ℝ) : EReal)) = _
  rw [if_neg (not_le.2 h)]
theorem e_zero : FloatOps.ofBits (F := Ideal) .f32 0x00000000#32 = ((0 : ℝ) : EReal) := Ideal.ofBits_zero_f32
theorem e_times : (u : EReal) * (v : EReal) = ((u * v : ℝ) : EReal) := (EReal.coe_mul u v).symm
theorem e_plus : (u : EReal) + (v : EReal) = ((u + v : ℝ) : EReal) := (EReal.coe_add u v).symm
theorem e_sum {ι : Type} [Fintype ι] (f : ι → ℝ) : (∑ k, (f k : EReal)) = ((∑ k, f k : ℝ) : EReal) := by
  classical
  induction (Finset.univ : Finset ι) using Finset.induction_on with
  | empty => simp
  | insert a s h ih => rw [Finset.sum_insert h, Finset.sum_insert h, ih, EReal.coe_add]
theorem e_select (p : Prop) [Decidable p] : Scalar.select (if p then 1#1 else 0#1) (u : EReal) (v : EReal) = ((if p then u else v : ℝ) : EReal) := by
  by_cases h : p
  · rw [if_pos h, if_pos h]; rfl
  · rw [if_neg h, if_neg h]; rfl
/-- A value not unlike itself. -/
theorem e_nan : FloatOps.cmpf (F := Ideal) (φ := φ) .une (u : EReal) (u : EReal) = 0#1 := by
  show BitVec.ofBool (decide ((u : EReal) ≠ (u : EReal))) = _
  simp
end Ops

/-- The mask of the entries strictly below the diagonal. -/
theorem mask_lt {r c : ℕ} (hr : r < 128) (hc : c < 128) :
    Scalar.select (IntOp.cmpi .sge (IntOp.addi (BitVec.ofNat 32 r) 4294967295#32) (BitVec.ofNat 32 c)) 1#1 0#1 = if c < r then 1#1 else 0#1 := by
  have e : IntOp.cmpi .sge (IntOp.addi (BitVec.ofNat 32 r) 4294967295#32) (BitVec.ofNat 32 c) = BitVec.ofBool (decide (c < r)) := by
    show BitVec.ofBool ((BitVec.ofNat 32 c).sle (BitVec.ofNat 32 r + 4294967295#32)) = _
    have hc' : (BitVec.ofNat 32 c).toInt = c := by
      rw [BitVec.toInt_eq_toNat_of_lt (by rw [BitVec.toNat_ofNat]; omega), BitVec.toNat_ofNat]; omega
    have hr' : (BitVec.ofNat 32 r + 4294967295#32).toInt = (r : ℤ) - 1 := by
      rw [BitVec.toInt_add, BitVec.toInt_eq_toNat_of_lt (by rw [BitVec.toNat_ofNat]; omega), BitVec.toNat_ofNat, show (4294967295#32).toInt = -1 by decide]
      rw [Int.bmod_def]; omega
    generalize BitVec.ofNat 32 r + 4294967295#32 = b at hr' ⊢
    unfold BitVec.sle
    rw [hc', hr']
    congr 1
    rw [decide_eq_decide]; omega
  rw [e]
  by_cases h : c < r
  · rw [if_pos h, decide_eq_true h]; rfl
  · rw [if_neg h, decide_eq_false h]; rfl
/-- The mask of the entries on and below the diagonal. -/
theorem mask_le {r c : ℕ} (hr : r < 128) (hc : c < 128) :
    Scalar.select (IntOp.cmpi .sge (IntOp.addi (BitVec.ofNat 32 r) 0#32) (BitVec.ofNat 32 c)) 1#1 0#1 = if c ≤ r then 1#1 else 0#1 := by
  have e : IntOp.cmpi .sge (IntOp.addi (BitVec.ofNat 32 r) 0#32) (BitVec.ofNat 32 c) = BitVec.ofBool (decide (c ≤ r)) := by
    show BitVec.ofBool ((BitVec.ofNat 32 c).sle (BitVec.ofNat 32 r + 0#32)) = _
    have h' {n : ℕ} (h : n < 128) : (BitVec.ofNat 32 n).toInt = n := by
      rw [BitVec.toInt_eq_toNat_of_lt (by rw [BitVec.toNat_ofNat]; omega), BitVec.toNat_ofNat]; omega
    rw [BitVec.add_zero]
    unfold BitVec.sle
    rw [h' hr, h' hc]
    congr 1
    rw [decide_eq_decide]; omega
  rw [e]
  by_cases h : c ≤ r
  · rw [if_pos h, decide_eq_true h]; rfl
  · rw [if_neg h, decide_eq_false h]; rfl

/-! ### Running sums -/

theorem foldl_plus {n : ℕ} (g : Fin n → EReal) (v : EReal) : (List.finRange n).foldl (fun r k => r + g k) v = v + ∑ k, g k := by
  have h (l : List (Fin n)) : ∀ v, l.foldl (fun r k => r + g k) v = v + (l.map g).sum := by
    induction l with
    | nil => intro v; simp
    | cons a l ih => intro v; rw [List.foldl_cons, ih, List.map_cons, List.sum_cons, add_assoc]
  rw [h, ← Fin.sum_univ_def]

/-- The sum over a window of the last axis, up to the entry. -/
theorem sum_upto (f : ℕ → ℝ) (j : ℕ) (hj : j < 128) :
    (∑ k : Fin 128, if 127 ≤ j + k.val then f (j + k.val - 127) else 0) = ∑ k ∈ Finset.range 128, if k ≤ j then f k else 0 := by
  rw [← Finset.sum_range (fun k => if 127 ≤ j + k then f (j + k - 127) else 0), ← Finset.sum_filter, ← Finset.sum_filter]
  refine Finset.sum_bij' (fun k _ => j + k - 127) (fun k _ => k + 127 - j) ?_ ?_ ?_ ?_ ?_ <;> simp only [Finset.mem_filter, Finset.mem_range]
  · intro k h; omega
  · intro k h; omega
  · intro k h; omega
  · intro k h; omega
  · intro k h; trivial
/-- The sum over a window of the last axis, from the entry on. -/
theorem sum_from (f : ℕ → ℝ) (j : ℕ) (hj : j < 128) :
    (∑ k : Fin 128, if j + k.val < 128 then f (j + k.val) else 0) = ∑ k ∈ Finset.range 128, if j ≤ k then f k else 0 := by
  rw [← Finset.sum_range (fun k => if j + k < 128 then f (j + k) else 0), ← Finset.sum_filter, ← Finset.sum_filter]
  refine Finset.sum_bij' (fun k _ => j + k) (fun k _ => k - j) ?_ ?_ ?_ ?_ ?_ <;> simp only [Finset.mem_filter, Finset.mem_range]
  · intro k h; omega
  · intro k h; omega
  · intro k h; omega
  · intro k h; omega
  · intro k h; trivial

/-- A window sum with nothing outside: each place of the window is either an element or outside. -/
theorem window_sum {s t u : Shape} {n : ℕ} (window strides lo hi : Fin s.rank → ℕ) (x : s.Idx → EReal) (init : u.Idx → EReal) (h0 : ∀ i, init i = 0)
    (h : s.ReduceWindows window strides lo hi t) (hu : 0 < u.numel) (j : t.Idx) (e : Fin n ≃ (⟨s.rank, window⟩ : Shape).Idx) (g : Fin n → EReal)
    (hg : ∀ k, (∃ i : s.Idx, (∀ a, (i a).val + lo a = (j (a.cast h.1.symm)).val * strides a + (e k a).val) ∧ x i = g k)
      ∨ (g k = 0 ∧ ∃ a, ¬ (lo a ≤ (j (a.cast h.1.symm)).val * strides a + (e k a).val ∧ (j (a.cast h.1.symm)).val * strides a + (e k a).val - lo a < s.size a))) :
    Host.reduceWindowAdd (F := Ideal) (φ := .f32) window strides lo hi x init h hu j = ∑ k, g k := by
  refine (foldl_plus _ _).trans ?_
  rw [h0, zero_add, ← Equiv.sum_comp (e.trans (⟨s.rank, window⟩ : Shape).rowMajor)]
  refine Finset.sum_congr rfl fun k _ => ?_
  have ee : (⟨s.rank, window⟩ : Shape).rowMajor.symm ((e.trans (⟨s.rank, window⟩ : Shape).rowMajor) k) = e k := Equiv.symm_apply_apply _ _
  simp only [ee]
  rcases hg k with ⟨i, h1, h2⟩ | ⟨h1, a, h2⟩
  · rw [dif_pos, ← h2]
    · exact congrArg x (funext fun a => Fin.ext (by have := h1 a; show _ - _ = _; omega))
    · intro a
      have := h1 a
      have := (i a).isLt
      constructor <;> omega
  · rw [dif_neg (fun hin => h2 (hin a)), h1]

section Window4
variable {A B C : ℕ}
/-- The places of a window of the last of four axes. -/
def win4 : Fin 128 ≃ (⟨4, ![1, 1, 1, 128]⟩ : Shape).Idx where
  toFun k := fun a => match a with
    | ⟨0, _⟩ => (0 : Fin 1)
    | ⟨1, _⟩ => (0 : Fin 1)
    | ⟨2, _⟩ => (0 : Fin 1)
    | ⟨3, _⟩ => k
  invFun q := q 3
  left_inv _ := rfl
  right_inv q := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem pre4 (x : (⟨4, ![A, B, C, 128]⟩ : Shape).Idx → EReal) (f : ℕ → ℕ → ℕ → ℕ → ℝ) (hx : ∀ i, x i = ((f (i 0).val (i 1).val (i 2).val (i 3).val : ℝ) : EReal))
    {u : Shape} (init : u.Idx → EReal) (hi : ∀ i, init i = 0) (h : (⟨4, ![A, B, C, 128]⟩ : Shape).ReduceWindows ![1, 1, 1, 128] ![1, 1, 1, 1] ![0, 0, 0, 127] ![0, 0, 0, 0] ⟨4, ![A, B, C, 128]⟩)
    (hu : 0 < u.numel) (j : (⟨4, ![A, B, C, 128]⟩ : Shape).Idx) :
    Host.reduceWindowAdd (F := Ideal) (φ := .f32) ![1, 1, 1, 128] ![1, 1, 1, 1] ![0, 0, 0, 127] ![0, 0, 0, 0] x init h hu j
      = ((∑ k ∈ Finset.range 128, if k ≤ (j 3).val then f (j 0).val (j 1).val (j 2).val k else 0 : ℝ) : EReal) := by
  have h3 : (j 3).val < 128 := (j 3).isLt
  rw [← sum_upto (fun k => f (j 0).val (j 1).val (j 2).val k) (j 3).val h3, ← e_sum]
  refine window_sum _ _ _ _ x init hi h hu j win4 (fun k => ((if 127 ≤ (j 3).val + k.val then f (j 0).val (j 1).val (j 2).val ((j 3).val + k.val - 127) else 0 : ℝ) : EReal)) fun k => ?_
  by_cases hk : 127 ≤ (j 3).val + k.val
  · left
    refine ⟨fun a => match a with
      | ⟨0, _⟩ => j 0
      | ⟨1, _⟩ => j 1
      | ⟨2, _⟩ => j 2
      | ⟨3, _⟩ => ⟨(j 3).val + k.val - 127, by show _ < 128; omega⟩, fun a => ?_, ?_⟩
    · match a with
      | ⟨0, _⟩ => show (j 0).val + 0 = (j 0).val * 1 + 0; omega
      | ⟨1, _⟩ => show (j 1).val + 0 = (j 1).val * 1 + 0; omega
      | ⟨2, _⟩ => show (j 2).val + 0 = (j 2).val * 1 + 0; omega
      | ⟨3, _⟩ => show (j 3).val + k.val - 127 + 127 = (j 3).val * 1 + k.val; omega
    · rw [hx, if_pos hk]; rfl
  · exact Or.inr ⟨by rw [if_neg hk]; rfl, 3, fun hin => hk (by have : 127 ≤ (j 3).val * 1 + k.val := hin.1; omega)⟩
theorem suf4 (x : (⟨4, ![A, B, C, 128]⟩ : Shape).Idx → EReal) (f : ℕ → ℕ → ℕ → ℕ → ℝ) (hx : ∀ i, x i = ((f (i 0).val (i 1).val (i 2).val (i 3).val : ℝ) : EReal))
    {u : Shape} (init : u.Idx → EReal) (hi : ∀ i, init i = 0) (h : (⟨4, ![A, B, C, 128]⟩ : Shape).ReduceWindows ![1, 1, 1, 128] ![1, 1, 1, 1] ![0, 0, 0, 0] ![0, 0, 0, 127] ⟨4, ![A, B, C, 128]⟩)
    (hu : 0 < u.numel) (j : (⟨4, ![A, B, C, 128]⟩ : Shape).Idx) :
    Host.reduceWindowAdd (F := Ideal) (φ := .f32) ![1, 1, 1, 128] ![1, 1, 1, 1] ![0, 0, 0, 0] ![0, 0, 0, 127] x init h hu j
      = ((∑ k ∈ Finset.range 128, if (j 3).val ≤ k then f (j 0).val (j 1).val (j 2).val k else 0 : ℝ) : EReal) := by
  have h3 : (j 3).val < 128 := (j 3).isLt
  rw [← sum_from (fun k => f (j 0).val (j 1).val (j 2).val k) (j 3).val h3, ← e_sum]
  refine window_sum _ _ _ _ x init hi h hu j win4 (fun k => ((if (j 3).val + k.val < 128 then f (j 0).val (j 1).val (j 2).val ((j 3).val + k.val) else 0 : ℝ) : EReal)) fun k => ?_
  by_cases hk : (j 3).val + k.val < 128
  · left
    refine ⟨fun a => match a with
      | ⟨0, _⟩ => j 0
      | ⟨1, _⟩ => j 1
      | ⟨2, _⟩ => j 2
      | ⟨3, _⟩ => ⟨(j 3).val + k.val, by show _ < 128; omega⟩, fun a => ?_, ?_⟩
    · match a with
      | ⟨0, _⟩ => show (j 0).val + 0 = (j 0).val * 1 + 0; omega
      | ⟨1, _⟩ => show (j 1).val + 0 = (j 1).val * 1 + 0; omega
      | ⟨2, _⟩ => show (j 2).val + 0 = (j 2).val * 1 + 0; omega
      | ⟨3, _⟩ => show (j 3).val + k.val + 0 = (j 3).val * 1 + k.val; omega
    · rw [hx, if_pos hk]; rfl
  · exact Or.inr ⟨by rw [if_neg hk]; rfl, 3, fun hin => hk (by have : (j 3).val * 1 + k.val - 0 < 128 := hin.2; omega)⟩
end Window4

section Window3
variable {A B : ℕ}
/-- The places of a window of the last of three axes. -/
def win3 : Fin 128 ≃ (⟨3, ![1, 1, 128]⟩ : Shape).Idx where
  toFun k := fun a => match a with
    | ⟨0, _⟩ => (0 : Fin 1)
    | ⟨1, _⟩ => (0 : Fin 1)
    | ⟨2, _⟩ => k
  invFun q := q 2
  left_inv _ := rfl
  right_inv q := by
    funext a
    match a with
    | ⟨0, _⟩ => exact Subsingleton.elim (α := Fin 1) _ _
    | ⟨1, _⟩ => exact Subsingleton.elim (α := Fin 1) _ _
    | ⟨2, _⟩ => rfl

theorem pre3 (x : (⟨3, ![A, B, 128]⟩ : Shape).Idx → EReal) (f : ℕ → ℕ → ℕ → ℝ) (hx : ∀ i, x i = ((f (i 0).val (i 1).val (i 2).val : ℝ) : EReal))
    {u : Shape} (init : u.Idx → EReal) (hi : ∀ i, init i = 0) (h : (⟨3, ![A, B, 128]⟩ : Shape).ReduceWindows ![1, 1, 128] ![1, 1, 1] ![0, 0, 127] ![0, 0, 0] ⟨3, ![A, B, 128]⟩)
    (hu : 0 < u.numel) (j : (⟨3, ![A, B, 128]⟩ : Shape).Idx) :
    Host.reduceWindowAdd (F := Ideal) (φ := .f32) ![1, 1, 128] ![1, 1, 1] ![0, 0, 127] ![0, 0, 0] x init h hu j
      = ((∑ k ∈ Finset.range 128, if k ≤ (j 2).val then f (j 0).val (j 1).val k else 0 : ℝ) : EReal) := by
  have h3 : (j 2).val < 128 := (j 2).isLt
  rw [← sum_upto (fun k => f (j 0).val (j 1).val k) (j 2).val h3, ← e_sum]
  refine window_sum _ _ _ _ x init hi h hu j win3 (fun k => ((if 127 ≤ (j 2).val + k.val then f (j 0).val (j 1).val ((j 2).val + k.val - 127) else 0 : ℝ) : EReal)) fun k => ?_
  by_cases hk : 127 ≤ (j 2).val + k.val
  · left
    refine ⟨fun a => match a with
      | ⟨0, _⟩ => j 0
      | ⟨1, _⟩ => j 1
      | ⟨2, _⟩ => ⟨(j 2).val + k.val - 127, by show _ < 128; omega⟩, fun a => ?_, ?_⟩
    · match a with
      | ⟨0, _⟩ => show (j 0).val + 0 = (j 0).val * 1 + 0; omega
      | ⟨1, _⟩ => show (j 1).val + 0 = (j 1).val * 1 + 0; omega
      | ⟨2, _⟩ => show (j 2).val + k.val - 127 + 127 = (j 2).val * 1 + k.val; omega
    · rw [hx, if_pos hk]; rfl
  · exact Or.inr ⟨by rw [if_neg hk]; rfl, 2, fun hin => hk (by have : 127 ≤ (j 2).val * 1 + k.val := hin.1; omega)⟩
theorem suf3 (x : (⟨3, ![A, B, 128]⟩ : Shape).Idx → EReal) (f : ℕ → ℕ → ℕ → ℝ) (hx : ∀ i, x i = ((f (i 0).val (i 1).val (i 2).val : ℝ) : EReal))
    {u : Shape} (init : u.Idx → EReal) (hi : ∀ i, init i = 0) (h : (⟨3, ![A, B, 128]⟩ : Shape).ReduceWindows ![1, 1, 128] ![1, 1, 1] ![0, 0, 0] ![0, 0, 127] ⟨3, ![A, B, 128]⟩)
    (hu : 0 < u.numel) (j : (⟨3, ![A, B, 128]⟩ : Shape).Idx) :
    Host.reduceWindowAdd (F := Ideal) (φ := .f32) ![1, 1, 128] ![1, 1, 1] ![0, 0, 0] ![0, 0, 127] x init h hu j
      = ((∑ k ∈ Finset.range 128, if (j 2).val ≤ k then f (j 0).val (j 1).val k else 0 : ℝ) : EReal) := by
  have h3 : (j 2).val < 128 := (j 2).isLt
  rw [← sum_from (fun k => f (j 0).val (j 1).val k) (j 2).val h3, ← e_sum]
  refine window_sum _ _ _ _ x init hi h hu j win3 (fun k => ((if (j 2).val + k.val < 128 then f (j 0).val (j 1).val ((j 2).val + k.val) else 0 : ℝ) : EReal)) fun k => ?_
  by_cases hk : (j 2).val + k.val < 128
  · left
    refine ⟨fun a => match a with
      | ⟨0, _⟩ => j 0
      | ⟨1, _⟩ => j 1
      | ⟨2, _⟩ => ⟨(j 2).val + k.val, by show _ < 128; omega⟩, fun a => ?_, ?_⟩
    · match a with
      | ⟨0, _⟩ => show (j 0).val + 0 = (j 0).val * 1 + 0; omega
      | ⟨1, _⟩ => show (j 1).val + 0 = (j 1).val * 1 + 0; omega
      | ⟨2, _⟩ => show (j 2).val + k.val + 0 = (j 2).val * 1 + k.val; omega
    · rw [hx, if_pos hk]; rfl
  · exact Or.inr ⟨by rw [if_neg hk]; rfl, 2, fun hin => hk (by have : (j 2).val * 1 + k.val - 0 < 128 := hin.2; omega)⟩
end Window3

/-! ### Paddings of the last axis -/
section Pad
variable {A B C D D' lo hi : ℕ}
theorem pad4 (x : (⟨4, ![A, B, C, D]⟩ : Shape).Idx → EReal) (f : ℕ → ℕ → ℕ → ℕ → ℝ) (hx : ∀ i, x i = ((f (i 0).val (i 1).val (i 2).val (i 3).val : ℝ) : EReal))
    {u : Shape} (v : u.Idx → EReal) (hv : ∀ i, v i = 0) (h : (⟨4, ![A, B, C, D]⟩ : Shape).Pads ![0, 0, 0, lo] ![0, 0, 0, hi] ![0, 0, 0, 0] ⟨4, ![A, B, C, D']⟩)
    (hu : 0 < u.numel) (j : (⟨4, ![A, B, C, D']⟩ : Shape).Idx) :
    pad ⟨4, ![A, B, C, D']⟩ ![0, 0, 0, lo] ![0, 0, 0, hi] ![0, 0, 0, 0] x v h hu j
      = ((if lo ≤ (j 3).val ∧ (j 3).val - lo < D then f (j 0).val (j 1).val (j 2).val ((j 3).val - lo) else 0 : ℝ) : EReal) := by
  unfold pad
  by_cases hk : lo ≤ (j 3).val ∧ (j 3).val - lo < D
  · rw [if_pos hk, dif_pos, hx]
    · refine congrArg (fun x : ℝ => (x : EReal)) ?_
      show f (((j 0).val - 0) / 1) (((j 1).val - 0) / 1) (((j 2).val - 0) / 1) (((j 3).val - lo) / 1) = _
      simp only [Nat.div_one, Nat.sub_zero]
    · intro a
      match a with
      | ⟨0, _⟩ => exact ⟨Nat.zero_le _, Nat.mod_one _, by show ((j 0).val - 0) / 1 < A; rw [Nat.div_one]; exact (j 0).isLt⟩
      | ⟨1, _⟩ => exact ⟨Nat.zero_le _, Nat.mod_one _, by show ((j 1).val - 0) / 1 < B; rw [Nat.div_one]; exact (j 1).isLt⟩
      | ⟨2, _⟩ => exact ⟨Nat.zero_le _, Nat.mod_one _, by show ((j 2).val - 0) / 1 < C; rw [Nat.div_one]; exact (j 2).isLt⟩
      | ⟨3, _⟩ => exact ⟨hk.1, Nat.mod_one _, by show ((j 3).val - lo) / 1 < D; rw [Nat.div_one]; exact hk.2⟩
  · rw [if_neg hk, dif_neg, hv]; rfl
    intro hin
    have h1 : ((j 3).val - lo) / 1 < D := (hin 3).2.2
    rw [Nat.div_one] at h1
    exact hk ⟨(hin 3).1, h1⟩
theorem pad2 (x : (⟨2, ![A, D]⟩ : Shape).Idx → EReal) (f : ℕ → ℕ → ℝ) (hx : ∀ i, x i = ((f (i 0).val (i 1).val : ℝ) : EReal))
    {u : Shape} (v : u.Idx → EReal) (hv : ∀ i, v i = 0) (h : (⟨2, ![A, D]⟩ : Shape).Pads ![0, lo] ![0, hi] ![0, 0] ⟨2, ![A, D']⟩)
    (hu : 0 < u.numel) (j : (⟨2, ![A, D']⟩ : Shape).Idx) :
    pad ⟨2, ![A, D']⟩ ![0, lo] ![0, hi] ![0, 0] x v h hu j
      = ((if lo ≤ (j 1).val ∧ (j 1).val - lo < D then f (j 0).val ((j 1).val - lo) else 0 : ℝ) : EReal) := by
  unfold pad
  by_cases hk : lo ≤ (j 1).val ∧ (j 1).val - lo < D
  · rw [if_pos hk, dif_pos, hx]
    · refine congrArg (fun x : ℝ => (x : EReal)) ?_
      show f (((j 0).val - 0) / 1) (((j 1).val - lo) / 1) = _
      simp only [Nat.div_one, Nat.sub_zero]
    · intro a
      match a with
      | ⟨0, _⟩ => exact ⟨Nat.zero_le _, Nat.mod_one _, by show ((j 0).val - 0) / 1 < A; rw [Nat.div_one]; exact (j 0).isLt⟩
      | ⟨1, _⟩ => exact ⟨hk.1, Nat.mod_one _, by show ((j 1).val - lo) / 1 < D; rw [Nat.div_one]; exact hk.2⟩
  · rw [if_neg hk, dif_neg, hv]; rfl
    intro hin
    have h1 : ((j 1).val - lo) / 1 < D := (hin 1).2.2
    rw [Nat.div_one] at h1
    exact hk ⟨(hin 1).1, h1⟩
end Pad

/-! ### Sums over the two leading axes -/
theorem sum01 {A B C D : ℕ} (x : (⟨4, ![A, B, C, D]⟩ : Shape).Idx → EReal) (f : ℕ → ℕ → ℕ → ℕ → ℝ) (hx : ∀ i, x i = ((f (i 0).val (i 1).val (i 2).val (i 3).val : ℝ) : EReal))
    {u : Shape} (v : u.Idx → EReal) (hv : ∀ i, v i = 0) (h : (⟨4, ![A, B, C, D]⟩ : Shape).ReducesTo [0, 1] ⟨2, ![C, D]⟩) (hu : 0 < u.numel) (j : (⟨2, ![C, D]⟩ : Shape).Idx) :
    Host.reduceAdd (F := Ideal) (φ := .f32) x v h hu j = ((∑ k : Fin A, ∑ l : Fin B, f k.val l.val (j 0).val (j 1).val : ℝ) : EReal) := by
  let g (k : Fin A × Fin B) : (⟨4, ![A, B, C, D]⟩ : Shape).Idx := fun a => match a with
    | ⟨0, _⟩ => k.1
    | ⟨1, _⟩ => k.2
    | ⟨2, _⟩ => j 0
    | ⟨3, _⟩ => j 1
  have hf : ∀ i, h.drop i = j ↔ ∃ k, g k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext b
      apply Fin.ext
      match b with
      | ⟨0, _⟩ => rfl
      | ⟨1, _⟩ => rfl
  show v _ + ∑ i ∈ Finset.univ.filter (fun i => h.drop i = j), x i = _
  rw [hv, zero_add, Finset.sum_filter_eq_sum_of_fiber _ g (fun _ _ e => Prod.ext (congrFun e 0) (congrFun e 1)) hf, Fintype.sum_prod_type, ← e_sum]
  refine Finset.sum_congr rfl fun k _ => ?_
  rw [← e_sum]
  exact Finset.sum_congr rfl fun l _ => hx _

end Cert.Scan
-- ==== Proof.Scan.RefA.lean ====
/- The reference's forward values over real inputs, one element at a time. -/
module

public import proofs.«01_k».proof.Proof.Gen.ReferenceIdeal.Read
public import proofs.«01_k».proof.Proof.Scan.Run
public import proofs.«01_k».proof.Proof.Scan.Hops

@[expose] public section

noncomputable section

namespace Cert.Scan

open Idealize.ShloMosaic Cert.ReferenceIdeal Cert.ReferenceIdeal.Read
open scoped BigOperators

/-- Group `k`'s inputs in chunk `z`, without the sums that run from chunk to chunk. -/
def Arr.e (a : Arr) (z k : ℕ) : G.R := (a.blk z (fun _ _ => 0) (fun _ => 0) (fun _ => 0)).grp k

/-- The state that chunk `z` adds. -/
def Arr.add (a : Arr) (k z c n : ℕ) : ℝ := ∑ l ∈ Finset.range 128, (a.e z k).xp l c * (a.e z k).dx l c * (a.e z k).B l n
/-- The sum of the decays of the chunks up to `z`. -/
def Arr.up (a : Arr) (k h z : ℕ) : ℝ := ∑ i ∈ Finset.range 128, if i ≤ z then (a.e i k).tot h else 0
/-- The sum of the decays of the chunks between `c` and `z`. -/
def Arr.gap (a : Arr) (k h z c : ℕ) : ℝ := a.up k h z - (a.e z k).tot h - a.up k h c
/-- The decay of chunk `c`'s state by the start of chunk `z`. -/
def Arr.car (a : Arr) (k h z c : ℕ) : ℝ := if c < z then Real.exp (a.gap k h z c) else 0
/-- The state before chunk `z`. -/
def Arr.S (a : Arr) (k z c n : ℕ) : ℝ := ∑ i ∈ Finset.range 128, a.add k i c n * a.car k (c / 64) z i

/-- The reference's arguments hold the real arrays `a`. -/
structure Reads (a : Arr) (x0 : S16384x3072.Idx → EReal) (x1 : S16384x512.Idx → EReal) (x2 x3 : S1x512.Idx → EReal) (x4 : S16384x2048.Idx → EReal) : Prop where
  xc : ∀ i, x0 i = ((a.xc (i 0).val (i 1).val : ℝ) : EReal)
  dt : ∀ i, x1 i = ((a.dt (i 0).val (i 1).val : ℝ) : EReal)
  bias : ∀ i, x2 i = ((a.bias (i 1).val : ℝ) : EReal)
  alog : ∀ i, x3 i = ((a.alog (i 1).val : ℝ) : EReal)
  dy : ∀ i, x4 i = ((a.dy (i 0).val (i 1).val : ℝ) : EReal)

/-- A sum of products that are real. -/
theorem e_dot {n : ℕ} (x y : Fin n → EReal) (f : ℕ → ℝ) (h : ∀ k : Fin n, x k * y k = ((f k.val : ℝ) : EReal)) :
    (∑ k, x k * y k) = ((∑ k ∈ Finset.range n, f k : ℝ) : EReal) := by
  rw [Finset.sum_congr rfl fun k _ => h k, e_sum, ← Finset.sum_range]
/-- A sum of real elements from zero. -/
theorem e_red {n : ℕ} (v : EReal) (x : Fin n → EReal) (f : ℕ → ℝ) (hv : v = 0) (h : ∀ k : Fin n, x k = ((f k.val : ℝ) : EReal)) :
    v + (∑ k, x k) = ((∑ k ∈ Finset.range n, f k : ℝ) : EReal) := by
  rw [hv, zero_add, Finset.sum_congr rfl fun k _ => h k, e_sum, ← Finset.sum_range]
/-- A sum of one real element from zero. -/
theorem e_red1 (v : EReal) (x : Fin 1 → EReal) (f : ℝ) (hv : v = 0) (h : x 0 = ((f : ℝ) : EReal)) : v + (∑ k, x k) = ((f : ℝ) : EReal) := by
  rw [hv, zero_add, Fin.sum_univ_one, h]
theorem real_congr {u v : ℝ} (h : u = v) : ((u : ℝ) : EReal) = ((v : ℝ) : EReal) := congrArg _ h
theorem col_head {h p : ℕ} (hp : p < 64) : (64 * h + p) / 64 = h := by omega

variable {a : Arr} {x0 : S16384x3072.Idx → EReal} {x1 : S16384x512.Idx → EReal} {x2 x3 : S1x512.Idx → EReal} {x4 : S16384x2048.Idx → EReal}
  (H : Reads a x0 x1 x2 x3 x4)
include H

/-! ### The inputs, unpacked -/

theorem r3 (i : S128x128x4x8x64.Idx) : val_main_v3 (F := Ideal) x0 i = (((a.e (i 0).val (i 2).val).xc (i 1).val (64 * (i 3).val + (i 4).val) : ℝ) : EReal) := by
  have h1 : (i 1).val < 128 := (i 1).isLt
  have h2 : (i 2).val < 4 := (i 2).isLt
  have h3 : (i 3).val < 8 := (i 3).isLt
  have h4 : (i 4).val < 64 := (i 4).isLt
  rw [val_main_v3_apply, val_main_v2_apply, val_main_v1_apply, val_main_v0_apply]
  refine (H.xc _).trans (real_congr (congr2 a.xc ?_ ?_)) <;> simp only [idx_main_v1, idx_main_v2, idx_main_v3] <;> omega
theorem r4 (i : S128x128x4x128.Idx) : val_main_v4 (F := Ideal) x0 i = (((a.e (i 0).val (i 2).val).B (i 1).val (i 3).val : ℝ) : EReal) := by
  have h1 : (i 1).val < 128 := (i 1).isLt
  have h2 : (i 2).val < 4 := (i 2).isLt
  have h3 : (i 3).val < 128 := (i 3).isLt
  rw [val_main_v4_apply, val_main_v1_apply, val_main_v0_apply]
  refine (H.xc _).trans (real_congr (congr2 a.xc ?_ ?_)) <;> simp only [idx_main_v1, idx_main_v4] <;> omega
theorem r5 (i : S128x128x4x128.Idx) : val_main_v5 (F := Ideal) x0 i = (((a.e (i 0).val (i 2).val).C (i 1).val (i 3).val : ℝ) : EReal) := by
  have h1 : (i 1).val < 128 := (i 1).isLt
  have h2 : (i 2).val < 4 := (i 2).isLt
  have h3 : (i 3).val < 128 := (i 3).isLt
  rw [val_main_v5_apply, val_main_v1_apply, val_main_v0_apply]
  refine (H.xc _).trans (real_congr (congr2 a.xc ?_ ?_)) <;> simp only [idx_main_v1, idx_main_v5] <;> omega
theorem r7 (i : S128x128x4x8.Idx) : val_main_v7 (F := Ideal) x1 i = (((a.e (i 0).val (i 2).val).dt (i 1).val (i 3).val : ℝ) : EReal) := by
  have h1 : (i 1).val < 128 := (i 1).isLt
  have h2 : (i 2).val < 4 := (i 2).isLt
  have h3 : (i 3).val < 8 := (i 3).isLt
  rw [val_main_v7_apply, val_main_v6_apply]
  refine (H.dt _).trans (real_congr (congr2 a.dt ?_ ?_)) <;> simp only [idx_main_v6, idx_main_v7] <;> omega
theorem r11 (i : S128x128x4x8.Idx) : val_main_v11 (F := Ideal) x2 i = (((a.e (i 0).val (i 2).val).bias (i 3).val : ℝ) : EReal) := by
  have h2 : (i 2).val < 4 := (i 2).isLt
  have h3 : (i 3).val < 8 := (i 3).isLt
  rw [val_main_v11_apply, val_main_v10_apply, val_main_v9_apply, val_main_v8_apply]
  refine (H.bias _).trans (real_congr (congrArg a.bias ?_))
  simp only [idx_main_v8, idx_main_v9, idx_main_v10, idx_main_v11]; omega
theorem r15 (i : S4x8.Idx) (z : ℕ) : val_main_v15 (F := Ideal) x3 i = (((a.e z (i 0).val).alog (i 1).val : ℝ) : EReal) := by
  have h2 : (i 0).val < 4 := (i 0).isLt
  have h3 : (i 1).val < 8 := (i 1).isLt
  rw [val_main_v15_apply, val_main_v14_apply]
  refine (H.alog _).trans (real_congr (congrArg a.alog ?_))
  simp only [idx_main_v14, idx_main_v15]; omega
theorem r78 (i : S128x128x4x8x64.Idx) : val_main_v78 (F := Ideal) x4 i = (((a.e (i 0).val (i 2).val).dy (i 1).val (64 * (i 3).val + (i 4).val) : ℝ) : EReal) := by
  have h1 : (i 1).val < 128 := (i 1).isLt
  have h2 : (i 2).val < 4 := (i 2).isLt
  have h3 : (i 3).val < 8 := (i 3).isLt
  have h4 : (i 4).val < 64 := (i 4).isLt
  rw [val_main_v78_apply, val_main_v77_apply]
  refine (H.dy _).trans (real_congr (congr2 a.dy ?_ ?_)) <;> simp only [idx_main_v78] <;> omega

/-! ### The step sizes and decays -/

theorem r12 (i : S128x128x4x8.Idx) : val_main_v12 (F := Ideal) x1 x2 i = (((a.e (i 0).val (i 2).val).pre (i 1).val (i 3).val : ℝ) : EReal) := by
  rw [val_main_v12_apply, r7 H, r11 H, e_add]; rfl
theorem r13_0 (i : S128x128x4x8.Idx) : val_main_v13_0 (F := Ideal) x1 x2 i = (((a.e (i 0).val (i 2).val).sp (i 1).val (i 3).val : ℝ) : EReal) := by
  have z0 : val_main_call0_v0 (F := Ideal) i = ((0 : ℝ) : EReal) := by rw [val_main_call0_v0_apply, val_main_call0_cst_apply, e_zero]
  have z2 : val_main_call0_v2 (F := Ideal) i = ((0 : ℝ) : EReal) := by rw [val_main_call0_v2_apply, val_main_call0_cst_apply, e_zero]
  have h3 : val_main_call0_v3 (F := Ideal) x1 x2 i = (((a.e (i 0).val (i 2).val).pre (i 1).val (i 3).val : ℝ) : EReal) := by
    rw [val_main_call0_v3_apply, r12 H, z2, e_sub, sub_zero]
  rw [val_main_v13_0_apply, val_main_call0_v4_apply, h3, e_nan, val_main_call0_v11_apply, val_main_call0_v1_apply, r12 H, z0, e_max, val_main_call0_v10_apply, val_main_call0_v9_apply, val_main_call0_v8_apply, val_main_call0_v7_apply, h3,
    e_abs, e_neg, e_exp, e_log1p _ (by positivity), e_add]
  refine Eq.trans (b := _) rfl (real_congr ?_)
  rw [G.R.sp, zero_sub]
theorem r16 (i : S4x8.Idx) (z : ℕ) : val_main_v16 (F := Ideal) x3 i = ((Real.exp ((a.e z (i 0).val).alog (i 1).val) : ℝ) : EReal) := by
  rw [val_main_v16_apply, r15 H i z, e_exp]
theorem r17 (i : S4x8.Idx) (z : ℕ) : val_main_v17 (F := Ideal) x3 i = (((a.e z (i 0).val).A (i 1).val : ℝ) : EReal) := by
  rw [val_main_v17_apply, r16 H i z, e_neg, G.R.A, zero_sub]
theorem r22 (i : S128x128x4x8.Idx) : val_main_v22 (F := Ideal) x3 i = (((a.e (i 0).val (i 2).val).A (i 3).val : ℝ) : EReal) := by
  rw [val_main_v22_apply, val_main_v21_apply, r17 H _ (i 0).val]
theorem r19 (i : S128x128x4x8x64.Idx) : val_main_v19 (F := Ideal) x1 x2 i = (((a.e (i 0).val (i 2).val).sp (i 1).val (i 3).val : ℝ) : EReal) := by
  rw [val_main_v19_apply, val_main_v18_apply, r13_0 H]
theorem r20 (i : S128x128x4x8x64.Idx) : val_main_v20 (F := Ideal) x0 x1 x2 i = (((a.e (i 0).val (i 2).val).xp (i 1).val (64 * (i 3).val + (i 4).val) : ℝ) : EReal) := by
  rw [val_main_v20_apply, r3 H, r19 H, e_mul, G.R.xp, col_head (i 4).isLt]
theorem r24 (i : S4x8x128x128.Idx) : val_main_v24 (F := Ideal) x1 x2 x3 i = (((a.e (i 2).val (i 0).val).a (i 3).val (i 1).val : ℝ) : EReal) := by
  rw [val_main_v24_apply, val_main_v23_apply, r13_0 H, r22 H, e_mul]; rfl
theorem r25 (i : S4x8x128x128.Idx) : val_main_v25 (F := Ideal) x1 x2 x3 i = (((a.e (i 2).val (i 0).val).cs (i 3).val (i 1).val : ℝ) : EReal) :=
  pre4 (val_main_v24 (F := Ideal) x1 x2 x3) (fun g h z l => (a.e z g).a l h) (r24 H) _ (fun i => by rw [val_main_call1_call0_v0_apply, val_main_call1_call0_cst_apply]; exact Ideal.ofBits_zero_f32) _ _ i
theorem r27 (i : S4x8x128x128.Idx) : val_main_v27 (F := Ideal) x1 x2 x3 i = (((a.e (i 2).val (i 0).val).tot (i 1).val : ℝ) : EReal) := by
  rw [val_main_v27_apply, val_main_v26_apply, r25 H]; rfl
theorem r29 (i : S4x8x128x128.Idx) : val_main_v29 (F := Ideal) x1 x2 x3 i = ((Real.exp ((a.e (i 2).val (i 0).val).tot (i 1).val - (a.e (i 2).val (i 0).val).cs (i 3).val (i 1).val) : ℝ) : EReal) := by
  rw [val_main_v29_apply, val_main_v28_apply, r27 H, r25 H, e_sub, e_exp]
theorem r31 (i : S128x128x4x8x1.Idx) : val_main_v31 (F := Ideal) x1 x2 x3 i = ((Real.exp ((a.e (i 0).val (i 2).val).tot (i 3).val - (a.e (i 0).val (i 2).val).cs (i 1).val (i 3).val) : ℝ) : EReal) := by
  rw [val_main_v31_apply, val_main_v30_apply, r29 H]
theorem r32 (i : S128x128x4x8x64.Idx) : val_main_v32 (F := Ideal) x1 x2 x3 i = (((a.e (i 0).val (i 2).val).dx (i 1).val (64 * (i 3).val + (i 4).val) : ℝ) : EReal) := by
  rw [val_main_v32_apply, r31 H, G.R.dx, col_head (i 4).isLt]
theorem r33 (i : S128x128x4x8x64.Idx) : val_main_v33 (F := Ideal) x0 x1 x2 x3 i
    = (((a.e (i 0).val (i 2).val).xp (i 1).val (64 * (i 3).val + (i 4).val) * (a.e (i 0).val (i 2).val).dx (i 1).val (64 * (i 3).val + (i 4).val) : ℝ) : EReal) := by
  rw [val_main_v33_apply, r20 H, r32 H, e_mul]
theorem r34 (i : S128x4x8x64x128.Idx) : val_main_v34 (F := Ideal) x0 x1 x2 x3 i = ((a.add (i 1).val (i 0).val (64 * (i 2).val + (i 3).val) (i 4).val : ℝ) : EReal) := by
  rw [val_main_v34_apply]
  exact e_dot _ _ _ fun k => by rw [r33 H, r4 H, e_times]
theorem r36 (i : S4x8x128.Idx) : val_main_v36 (F := Ideal) x1 x2 x3 i = (((a.e (i 2).val (i 0).val).tot (i 1).val : ℝ) : EReal) := by
  have h1 : (i 1).val < 8 := (i 1).isLt
  have h2 : (i 2).val < 128 := (i 2).isLt
  rw [val_main_v36_apply, val_main_v35_apply, r25 H]
  refine real_congr (congr3 (fun z k h => (a.e z k).tot h) ?_ ?_ ?_) <;> simp only [idx_main_v35, idx_main_v36] <;> omega
theorem r37 (i : S4x8x128.Idx) : val_main_v37 (F := Ideal) x1 x2 x3 i = ((a.up (i 0).val (i 1).val (i 2).val : ℝ) : EReal) :=
  pre3 (val_main_v36 (F := Ideal) x1 x2 x3) (fun g h z => (a.e z g).tot h) (r36 H) _ (fun i => by rw [val_main_call2_call0_v0_apply, val_main_call2_call0_cst_apply]; exact Ideal.ofBits_zero_f32) _ _ i
theorem r43 (i : S4x8x128x128.Idx) : val_main_v43 (F := Ideal) x1 x2 x3 i = ((a.gap (i 0).val (i 1).val (i 2).val (i 3).val : ℝ) : EReal) := by
  rw [val_main_v43_apply, val_main_v41_apply, val_main_v39_apply, val_main_v38_apply, r37 H, r36 H, e_sub, val_main_v42_apply, val_main_v40_apply, r37 H, e_sub]; rfl

omit H in
theorem r45 (i : S128x128.Idx) : val_main_v45 (F := Ideal) i = if (i 1).val < (i 0).val then 1#1 else 0#1 := by
  rw [val_main_v45_apply, val_main_v44_apply, val_main_c_apply, val_main_call3_v4_apply, val_main_call3_v2_apply, val_main_call3_v0_apply, val_main_call3_v1_apply, val_main_call3_c_apply, val_main_call3_v3_apply, val_main_call3_v5_apply,
    val_main_call3_c_0_apply]
  exact mask_lt (i 0).isLt (i 1).isLt
omit H in
theorem r57 (i : S128x128.Idx) : val_main_v57 (F := Ideal) i = if (i 1).val ≤ (i 0).val then 1#1 else 0#1 := by
  rw [val_main_v57_apply, val_main_v56_apply, val_main_c_1_apply, val_main_call6_v4_apply, val_main_call6_v2_apply, val_main_call6_v0_apply, val_main_call6_v1_apply, val_main_call6_c_apply, val_main_call6_v3_apply, val_main_call6_v5_apply,
    val_main_call6_c_0_apply]
  exact mask_le (i 0).isLt (i 1).isLt
theorem r47 (i : S4x8x128x128.Idx) : val_main_v47 (F := Ideal) x1 x2 x3 i = ((Real.exp (if (i 3).val < (i 2).val then a.gap (i 0).val (i 1).val (i 2).val (i 3).val else 0) : ℝ) : EReal) := by
  rw [val_main_v47_apply, val_main_v46_0_apply, val_main_v46_1_apply, r45, r43 H, val_main_call4_v2_apply, val_main_call4_v0_apply, val_main_cst_apply]
  erw [e_zero]
  rw [e_select, e_exp]
theorem r48 (i : S4x8x128x128.Idx) : val_main_v48_0 (F := Ideal) x1 x2 x3 i = ((a.car (i 0).val (i 1).val (i 2).val (i 3).val : ℝ) : EReal) := by
  rw [val_main_v48_0_apply, val_main_v48_1_apply, r45, r47 H, val_main_call5_v2_apply, val_main_call5_v0_apply, val_main_cst_0_apply]
  erw [e_zero]
  rw [e_select]
  refine real_congr ?_
  rw [Arr.car]
  split <;> rfl
theorem r50 (i : S128x4x8x64x128.Idx) : val_main_v50 (F := Ideal) x0 x1 x2 x3 i = ((a.S (i 1).val (i 0).val (64 * (i 2).val + (i 3).val) (i 4).val : ℝ) : EReal) := by
  rw [val_main_v50_apply, val_main_v49_apply]
  exact e_dot _ _ _ fun k => by rw [r34 H, r48 H, e_times, col_head (i 3).isLt]
theorem r55 (i : S4x8x128x128x128.Idx) : val_main_v55 (F := Ideal) x1 x2 x3 i = (((a.e (i 2).val (i 0).val).cs (i 3).val (i 1).val - (a.e (i 2).val (i 0).val).cs (i 4).val (i 1).val : ℝ) : EReal) := by
  rw [val_main_v55_apply, val_main_v53_apply, val_main_v51_apply, r25 H, val_main_v54_apply, val_main_v52_apply, r25 H, e_sub]
theorem r59 (i : S4x8x128x128x128.Idx) : val_main_v59 (F := Ideal) x1 x2 x3 i
    = ((Real.exp (if (i 4).val ≤ (i 3).val then (a.e (i 2).val (i 0).val).cs (i 3).val (i 1).val - (a.e (i 2).val (i 0).val).cs (i 4).val (i 1).val else 0) : ℝ) : EReal) := by
  rw [val_main_v59_apply, val_main_v58_0_apply, val_main_v58_1_apply, r57, r55 H, val_main_call7_v2_apply, val_main_call7_v0_apply, val_main_cst_2_apply]
  erw [e_zero]
  rw [e_select, e_exp]
theorem r60 (i : S4x8x128x128x128.Idx) : val_main_v60_0 (F := Ideal) x1 x2 x3 i = (((a.e (i 2).val (i 0).val).lam (i 1).val (i 3).val (i 4).val : ℝ) : EReal) := by
  rw [val_main_v60_0_apply, val_main_v60_1_apply, r57, r59 H, val_main_call8_v2_apply, val_main_call8_v0_apply, val_main_cst_3_apply]
  erw [e_zero]
  rw [e_select]
  refine real_congr ?_
  rw [G.R.lam]
  split <;> rfl
theorem r61 (i : S4x128x128x128.Idx) : val_main_v61 (F := Ideal) x0 i = (((a.e (i 1).val (i 0).val).CB (i 2).val (i 3).val : ℝ) : EReal) := by
  rw [val_main_v61_apply]
  exact e_dot _ _ _ fun k => by rw [r5 H, r4 H, e_times]
theorem r63 (i : S4x8x128x128x128.Idx) : val_main_v63 (F := Ideal) x0 i = (((a.e (i 2).val (i 0).val).CB (i 3).val (i 4).val : ℝ) : EReal) := by
  rw [val_main_v63_apply, val_main_v62_apply, r61 H]
theorem r64 (i : S4x8x128x128x128.Idx) : val_main_v64 (F := Ideal) x0 x1 x2 x3 i
    = (((a.e (i 2).val (i 0).val).CB (i 3).val (i 4).val * (a.e (i 2).val (i 0).val).lam (i 1).val (i 3).val (i 4).val : ℝ) : EReal) := by
  rw [val_main_v64_apply, r63 H, r60 H, e_mul]
end Cert.Scan
-- ==== Proof.Scan.RefB.lean ====
/- The reference's gradients over real inputs, one element at a time. -/
module

public import proofs.«01_k».proof.Proof.Scan.RefA

@[expose] public section

noncomputable section

namespace Cert.Scan

open Idealize.ShloMosaic Cert.ReferenceIdeal Cert.ReferenceIdeal.Gen Cert.ReferenceIdeal.Read
open scoped BigOperators

namespace Arr
variable (a : Arr)
/-- What chunk `z`'s outputs ask of the state before it. -/
def GS (k z c n : ℕ) : ℝ := ∑ l ∈ Finset.range 128, (a.e z k).dye l c * (a.e z k).C l n
/-- The gradient of the state that chunk `i` adds. -/
def G (k i c n : ℕ) : ℝ := ∑ z ∈ Finset.range 128, a.GS k z c n * a.car k (c / 64) z i
/-- The inner chunk products, under their decays. -/
def E (k z h l s : ℕ) : ℝ := (a.e z k).CB l s * (a.e z k).dm h l s * (a.e z k).lam h l s
/-- What the state before chunk `z` gives to the outputs. -/
def yo (k z l c : ℕ) : ℝ := ∑ n ∈ Finset.range 128, a.S k z c n * (a.e z k).C l n
/-- The gradient of the gap between chunks `c` and `z`. -/
def W (k h z c : ℕ) : ℝ := if c < z then (∑ p ∈ Finset.range 64, ∑ n ∈ Finset.range 128, a.GS k z (64 * h + p) n * a.add k c (64 * h + p) n) * Real.exp (a.gap k h z c) else 0
def row (k h z : ℕ) : ℝ := ∑ c ∈ Finset.range 128, a.W k h z c
def ncol (k h c : ℕ) : ℝ := ∑ z ∈ Finset.range 128, -a.W k h z c
/-- The gradient of chunk `z`'s whole decay, from the states that pass over it. -/
def dup (k h z : ℕ) : ℝ := -a.row k h z + ∑ j ∈ Finset.range 128, if z ≤ j then a.ncol k h j + a.row k h j else 0
def Gb (k z l c : ℕ) : ℝ := ∑ n ∈ Finset.range 128, a.G k z c n * (a.e z k).B l n
def w (k h z l : ℕ) : ℝ := (∑ p ∈ Finset.range 64, (a.e z k).xp l (64 * h + p) * a.Gb k z l (64 * h + p)) * Real.exp ((a.e z k).tot h - (a.e z k).cs l h)
/-- The gradient of the running sum of the decays. -/
def Dcs (k h z l : ℕ) : ℝ :=
  (∑ p ∈ Finset.range 64, a.yo k z l (64 * h + p) * (a.e z k).dy l (64 * h + p)) * Real.exp ((a.e z k).cs l h) + (∑ l' ∈ Finset.range 128, -a.E k z h l' l) + (∑ s ∈ Finset.range 128, a.E k z h l s)
    + (if 127 ≤ l ∧ l - 127 < 1 then a.dup k h z else 0) + -a.w k h z l + (if 127 ≤ l ∧ l - 127 < 1 then ∑ l' ∈ Finset.range 128, a.w k h z l' else 0)
def Da (k h z l : ℕ) : ℝ := ∑ i ∈ Finset.range 128, if l ≤ i then a.Dcs k h z i else 0
/-- The gradient of the scaled inputs. -/
def dX (k z l c : ℕ) : ℝ := (a.e z k).dxd l c + a.Gb k z l c * (a.e z k).dx l c
def Ddt (k h z l : ℕ) : ℝ := a.Da k h z l * (a.e z k).A h + ∑ p ∈ Finset.range 64, (a.e z k).xc l (64 * h + p) * a.dX k z l (64 * h + p)
end Arr

variable {a : Arr} {x0 : S16384x3072.Idx → EReal} {x1 : S16384x512.Idx → EReal} {x2 x3 : S1x512.Idx → EReal} {x4 : S16384x2048.Idx → EReal}
  (H : Reads a x0 x1 x2 x3 x4)
include H

/-! ### Through the outputs -/

theorem r68 (i : S128x128x4x8x64.Idx) : val_main_v68 (F := Ideal) x0 x1 x2 x3 i = ((a.yo (i 2).val (i 0).val (i 1).val (64 * (i 3).val + (i 4).val) : ℝ) : EReal) := by
  rw [val_main_v68_apply, val_main_v67_apply]
  exact e_dot _ _ _ fun k => by rw [r50 H, r5 H, e_times]
theorem r69 (i : S4x8x128x128.Idx) : val_main_v69 (F := Ideal) x1 x2 x3 i = ((Real.exp ((a.e (i 2).val (i 0).val).cs (i 3).val (i 1).val) : ℝ) : EReal) := by
  rw [val_main_v69_apply, r25 H, e_exp]
theorem r80 (i : S128x128x4x8.Idx) : val_main_v80 (F := Ideal) x0 x1 x2 x3 x4 i
    = ((∑ p ∈ Finset.range 64, a.yo (i 2).val (i 0).val (i 1).val (64 * (i 3).val + p) * (a.e (i 0).val (i 2).val).dy (i 1).val (64 * (i 3).val + p) : ℝ) : EReal) := by
  rw [val_main_v80_apply]
  exact e_red _ _ _ Ideal.ofBits_zero_f32 fun k => by rw [val_main_v79_apply, r68 H, r78 H, e_mul]
theorem r84 (i : S128x128x4x8.Idx) : val_main_v84 (F := Ideal) x0 x1 x2 x3 x4 i
    = ((∑ p ∈ Finset.range 64, a.yo (i 2).val (i 0).val (i 1).val (64 * (i 3).val + p) * (a.e (i 0).val (i 2).val).dy (i 1).val (64 * (i 3).val + p) : ℝ) : EReal) := by
  have h1 : (i 1).val < 128 := (i 1).isLt
  have h2 : (i 2).val < 4 := (i 2).isLt
  have h3 : (i 3).val < 8 := (i 3).isLt
  rw [val_main_v84_apply]
  refine e_red1 _ _ _ Ideal.ofBits_zero_f32 ?_
  rw [val_main_v81_apply]
  have e : idx_main_v81 (idx_main_v84 i 0) = i := by
    funext x; apply Fin.ext
    match x with
    | ⟨0, _⟩ => show _ = (i 0).val; simp only [idx_main_v81, idx_main_v84]; omega
    | ⟨1, _⟩ => show _ = (i 1).val; simp only [idx_main_v81, idx_main_v84]; omega
    | ⟨2, _⟩ => show _ = (i 2).val; simp only [idx_main_v81, idx_main_v84]; omega
    | ⟨3, _⟩ => show _ = (i 3).val; simp only [idx_main_v81, idx_main_v84]; omega
  rw [e, r80 H]
theorem r86 (i : S4x8x128x128.Idx) : val_main_v86 (F := Ideal) x0 x1 x2 x3 x4 i
    = (((∑ p ∈ Finset.range 64, a.yo (i 0).val (i 2).val (i 3).val (64 * (i 1).val + p) * (a.e (i 2).val (i 0).val).dy (i 3).val (64 * (i 1).val + p)) * Real.exp ((a.e (i 2).val (i 0).val).cs (i 3).val (i 1).val) : ℝ) : EReal) := by
  rw [val_main_v86_apply, val_main_v85_apply, r84 H, r69 H, e_mul]
theorem r87 (i : S128x4x8x64x128.Idx) : val_main_v87 (F := Ideal) x1 x2 x3 x4 i = (((a.e (i 0).val (i 1).val).dye (i 4).val (64 * (i 2).val + (i 3).val) : ℝ) : EReal) := by
  rw [val_main_v87_apply, val_main_v83_apply, r78 H, val_main_v82_apply, val_main_v71_apply, val_main_v70_apply, r69 H, e_mul, G.R.dye, G.R.ex, col_head (i 3).isLt]
theorem r90 (i : S128x4x8x64x128.Idx) : val_main_v90 (F := Ideal) x0 x1 x2 x3 x4 i = ((a.GS (i 1).val (i 0).val (64 * (i 2).val + (i 3).val) (i 4).val : ℝ) : EReal) := by
  rw [val_main_v90_apply]
  exact e_dot _ _ _ fun k => by rw [r87 H, r5 H, e_times]
theorem r91 (i : S128x4x8x64x128.Idx) : val_main_v91 (F := Ideal) x4 i = (((a.e (i 0).val (i 1).val).dy (i 4).val (64 * (i 2).val + (i 3).val) : ℝ) : EReal) := by
  rw [val_main_v91_apply, r78 H]
theorem r93 (i : S4x8x128x128x128.Idx) : val_main_v93 (F := Ideal) x0 x1 x2 x4 i = (((a.e (i 2).val (i 0).val).dm (i 1).val (i 3).val (i 4).val : ℝ) : EReal) := by
  rw [val_main_v93_apply, val_main_v92_apply]
  exact e_dot _ _ _ fun k => by rw [r91 H, r20 H, e_times]
theorem r95 (i : S128x128x4x8x64.Idx) : val_main_v95 (F := Ideal) x0 x1 x2 x3 x4 i = (((a.e (i 0).val (i 2).val).dxd (i 1).val (64 * (i 3).val + (i 4).val) : ℝ) : EReal) := by
  rw [val_main_v95_apply, val_main_v94_apply, G.R.dxd, col_head (i 4).isLt]
  exact e_dot _ _ _ fun k => by rw [r91 H, r64 H, e_times, mul_comm]
theorem r99 (i : S4x128x128x128.Idx) : val_main_v99 (F := Ideal) x0 x1 x2 x3 x4 i = (((a.e (i 1).val (i 0).val).dcb (i 2).val (i 3).val : ℝ) : EReal) := by
  rw [val_main_v99_apply]
  exact e_red _ _ _ Ideal.ofBits_zero_f32 fun k => by rw [val_main_v98_apply, r93 H, r60 H, e_mul]
theorem r101 (i : S4x128x128x128.Idx) : val_main_v101 (F := Ideal) x0 x1 x2 x3 x4 i = (((a.e (i 1).val (i 0).val).dcb (i 2).val (i 3).val : ℝ) : EReal) := by
  have h1 : (i 1).val < 128 := (i 1).isLt
  have h2 : (i 2).val < 128 := (i 2).isLt
  have h3 : (i 3).val < 128 := (i 3).isLt
  rw [val_main_v101_apply]
  refine e_red1 _ _ _ Ideal.ofBits_zero_f32 ?_
  rw [val_main_v100_apply]
  have e : idx_main_v100 (idx_main_v101 i 0) = i := by
    funext x; apply Fin.ext
    match x with
    | ⟨0, _⟩ => show _ = (i 0).val; simp only [idx_main_v100, idx_main_v101]; omega
    | ⟨1, _⟩ => show _ = (i 1).val; simp only [idx_main_v100, idx_main_v101]; omega
    | ⟨2, _⟩ => show _ = (i 2).val; simp only [idx_main_v100, idx_main_v101]; omega
    | ⟨3, _⟩ => show _ = (i 3).val; simp only [idx_main_v100, idx_main_v101]; omega
  rw [e, r99 H]
theorem r103 (i : S128x128x4x128.Idx) : val_main_v103 (F := Ideal) x0 x1 x2 x3 x4 i
    = ((∑ l ∈ Finset.range 128, (a.e (i 0).val (i 2).val).dcb l (i 1).val * (a.e (i 0).val (i 2).val).C l (i 3).val : ℝ) : EReal) := by
  rw [val_main_v103_apply, val_main_v102_apply]
  exact e_dot _ _ _ fun k => by rw [r101 H, r5 H, e_times]
theorem r105 (i : S128x128x4x128.Idx) : val_main_v105 (F := Ideal) x0 x1 x2 x3 x4 i
    = ((∑ s ∈ Finset.range 128, (a.e (i 0).val (i 2).val).dcb (i 1).val s * (a.e (i 0).val (i 2).val).B s (i 3).val : ℝ) : EReal) := by
  rw [val_main_v105_apply, val_main_v104_apply]
  exact e_dot _ _ _ fun k => by rw [r101 H, r4 H, e_times]
/-! ### The products over two axes -/

theorem r88 (i : S128x4x128x128.Idx) : val_main_v88 (F := Ideal) x0 x1 x2 x3 x4 i
    = ((∑ h ∈ Finset.range 8, ∑ p ∈ Finset.range 64, (a.e (i 0).val (i 1).val).dye (i 2).val (64 * h + p) * a.S (i 1).val (i 0).val (64 * h + p) (i 3).val : ℝ) : EReal) := by
  unfold val_main_v88
  have hx := r87 H
  have hy := r50 H
  generalize val_main_v87 (F := Ideal) x1 x2 x3 x4 = x at hx ⊢
  generalize val_main_v50 (F := Ideal) x0 x1 x2 x3 = y at hy ⊢
  let D := dot_S128x4x8x64x128_S128x4x8x64x128_S128x4x128x128_23_23_4_4_01_01
  simp only [Host.dotGeneral]
  rw [Ideal.dotGeneral_apply, ValueIdx.sum_contr2 D 8 64 rfl rfl rfl, Finset.sum_range, ← e_sum]
  refine Finset.sum_congr rfl fun h _ => ?_
  rw [Finset.sum_range, ← e_sum]
  refine Finset.sum_congr rfl fun p _ => ?_
  have c0 : _ = h.val := ValueIdx.contrEquiv2_symm_val0 D 8 64 rfl rfl rfl (h, p)
  have c1 : _ = p.val := ValueIdx.contrEquiv2_symm_val1 D 8 64 rfl rfl rfl (h, p)
  generalize (ValueIdx.contrEquiv2 D 8 64 rfl rfl rfl).symm (h, p) = q at c0 c1 ⊢
  rw [hx, hy, e_times, ← c0, ← c1]; rfl
theorem r106 (i : S128x128x4x128.Idx) : val_main_v106 (F := Ideal) x0 x1 x2 x3 x4 i
    = (((∑ h ∈ Finset.range 8, ∑ p ∈ Finset.range 64, (a.e (i 0).val (i 2).val).dye (i 1).val (64 * h + p) * a.S (i 2).val (i 0).val (64 * h + p) (i 3).val)
      + (∑ s ∈ Finset.range 128, (a.e (i 0).val (i 2).val).dcb (i 1).val s * (a.e (i 0).val (i 2).val).B s (i 3).val) : ℝ) : EReal) := by
  rw [val_main_v106_apply, val_main_v89_apply, r88 H, r105 H, e_add]
theorem r120 (i : S4x8x128x128.Idx) : val_main_v120 (F := Ideal) x0 x1 x2 x3 x4 i
    = ((∑ p ∈ Finset.range 64, ∑ n ∈ Finset.range 128, a.GS (i 0).val (i 2).val (64 * (i 1).val + p) n * a.add (i 0).val (i 3).val (64 * (i 1).val + p) n : ℝ) : EReal) := by
  unfold val_main_v120
  have hx (j) : val_main_v119 (F := Ideal) x0 x1 x2 x3 x4 j = ((a.GS (j 0).val (j 4).val (64 * (j 1).val + (j 2).val) (j 3).val : ℝ) : EReal) := by rw [val_main_v119_apply, r90 H]
  have hy := r34 H
  generalize val_main_v119 (F := Ideal) x0 x1 x2 x3 x4 = x at hx ⊢
  generalize val_main_v34 (F := Ideal) x0 x1 x2 x3 = y at hy ⊢
  let D := dot_S4x8x64x128x128_S128x4x8x64x128_S4x8x128x128_23_34_4_0_01_12
  simp only [Host.dotGeneral]
  rw [Ideal.dotGeneral_apply, ValueIdx.sum_contr2 D 64 128 rfl rfl rfl, Finset.sum_range, ← e_sum]
  refine Finset.sum_congr rfl fun p _ => ?_
  rw [Finset.sum_range, ← e_sum]
  refine Finset.sum_congr rfl fun n _ => ?_
  have c0 : _ = p.val := ValueIdx.contrEquiv2_symm_val0 D 64 128 rfl rfl rfl (p, n)
  have c1 : _ = n.val := ValueIdx.contrEquiv2_symm_val1 D 64 128 rfl rfl rfl (p, n)
  generalize (ValueIdx.contrEquiv2 D 64 128 rfl rfl rfl).symm (p, n) = q at c0 c1 ⊢
  rw [hx, hy, e_times, ← c0, ← c1]; rfl
theorem r122 (i : S128x4x8x64x128.Idx) : val_main_v122 (F := Ideal) x0 x1 x2 x3 x4 i = ((a.G (i 1).val (i 0).val (64 * (i 2).val + (i 3).val) (i 4).val : ℝ) : EReal) := by
  rw [val_main_v122_apply, val_main_v121_apply]
  exact e_dot _ _ _ fun k => by rw [val_main_v119_apply, r90 H, r48 H, e_times, col_head (i 3).isLt]
theorem r140 (i : S128x4x128x128.Idx) : val_main_v140 (F := Ideal) x0 x1 x2 x3 x4 i
    = ((∑ h ∈ Finset.range 8, ∑ p ∈ Finset.range 64, a.G (i 1).val (i 0).val (64 * h + p) (i 2).val
        * ((a.e (i 0).val (i 1).val).xp (i 3).val (64 * h + p) * (a.e (i 0).val (i 1).val).dx (i 3).val (64 * h + p)) : ℝ) : EReal) := by
  unfold val_main_v140
  have hx := r122 H
  have hy := r33 H
  generalize val_main_v122 (F := Ideal) x0 x1 x2 x3 x4 = x at hx ⊢
  generalize val_main_v33 (F := Ideal) x0 x1 x2 x3 = y at hy ⊢
  let D := dot_S128x4x8x64x128_S128x128x4x8x64_S128x4x128x128_23_34_4_1_01_02
  simp only [Host.dotGeneral]
  rw [Ideal.dotGeneral_apply, ValueIdx.sum_contr2 D 8 64 rfl rfl rfl, Finset.sum_range, ← e_sum]
  refine Finset.sum_congr rfl fun h _ => ?_
  rw [Finset.sum_range, ← e_sum]
  refine Finset.sum_congr rfl fun p _ => ?_
  have c0 : _ = h.val := ValueIdx.contrEquiv2_symm_val0 D 8 64 rfl rfl rfl (h, p)
  have c1 : _ = p.val := ValueIdx.contrEquiv2_symm_val1 D 8 64 rfl rfl rfl (h, p)
  generalize (ValueIdx.contrEquiv2 D 8 64 rfl rfl rfl).symm (h, p) = q at c0 c1 ⊢
  rw [hx, hy, e_times, ← c0, ← c1]; rfl
theorem r142 (i : S128x128x4x128.Idx) : val_main_v142 (F := Ideal) x0 x1 x2 x3 x4 i
    = (((∑ l ∈ Finset.range 128, (a.e (i 0).val (i 2).val).dcb l (i 1).val * (a.e (i 0).val (i 2).val).C l (i 3).val)
      + (∑ h ∈ Finset.range 8, ∑ p ∈ Finset.range 64, a.G (i 2).val (i 0).val (64 * h + p) (i 3).val
        * ((a.e (i 0).val (i 2).val).xp (i 1).val (64 * h + p) * (a.e (i 0).val (i 2).val).dx (i 1).val (64 * h + p))) : ℝ) : EReal) := by
  rw [val_main_v142_apply, r103 H, val_main_v141_apply, r140 H, e_add]

/-! ### Through the chunk states -/

theorem r144 (i : S128x128x4x8x64.Idx) : val_main_v144 (F := Ideal) x0 x1 x2 x3 x4 i = ((a.Gb (i 2).val (i 0).val (i 1).val (64 * (i 3).val + (i 4).val) : ℝ) : EReal) := by
  rw [val_main_v144_apply, val_main_v143_apply]
  exact e_dot _ _ _ fun k => by rw [r122 H, r4 H, e_times]
theorem r150 (i : S128x128x4x8x64.Idx) : val_main_v150 (F := Ideal) x0 x1 x2 x3 x4 i = ((a.dX (i 2).val (i 0).val (i 1).val (64 * (i 3).val + (i 4).val) : ℝ) : EReal) := by
  rw [val_main_v150_apply, r95 H, val_main_v149_apply, r144 H, val_main_v148_apply, r31 H, e_mul, e_add, Arr.dX, G.R.dx, col_head (i 4).isLt]
theorem r146 (i : S128x128x4x8.Idx) : val_main_v146 (F := Ideal) x0 x1 x2 x3 x4 i
    = ((∑ p ∈ Finset.range 64, (a.e (i 0).val (i 2).val).xp (i 1).val (64 * (i 3).val + p) * a.Gb (i 2).val (i 0).val (i 1).val (64 * (i 3).val + p) : ℝ) : EReal) := by
  rw [val_main_v146_apply]
  exact e_red _ _ _ Ideal.ofBits_zero_f32 fun k => by rw [val_main_v145_apply, r20 H, r144 H, e_mul]
omit H in
/-- An axis of length one, put at the end and summed over. -/
theorem e_one (i : S128x128x4x8.Idx) : idx_main_v147 (idx_main_v151 i 0) = i := by
  have h1 : (i 1).val < 128 := (i 1).isLt
  have h2 : (i 2).val < 4 := (i 2).isLt
  have h3 : (i 3).val < 8 := (i 3).isLt
  funext x; apply Fin.ext
  match x with
  | ⟨0, _⟩ => show _ = (i 0).val; simp only [idx_main_v147, idx_main_v151]; omega
  | ⟨1, _⟩ => show _ = (i 1).val; simp only [idx_main_v147, idx_main_v151]; omega
  | ⟨2, _⟩ => show _ = (i 2).val; simp only [idx_main_v147, idx_main_v151]; omega
  | ⟨3, _⟩ => show _ = (i 3).val; simp only [idx_main_v147, idx_main_v151]; omega
theorem r153 (i : S4x8x128x128.Idx) : val_main_v153 (F := Ideal) x0 x1 x2 x3 x4 i = ((a.w (i 0).val (i 1).val (i 2).val (i 3).val : ℝ) : EReal) := by
  have h (j) : val_main_v151 (F := Ideal) x0 x1 x2 x3 x4 j = ((∑ p ∈ Finset.range 64, (a.e (j 0).val (j 2).val).xp (j 1).val (64 * (j 3).val + p) * a.Gb (j 2).val (j 0).val (j 1).val (64 * (j 3).val + p) : ℝ) : EReal) := by
    rw [val_main_v151_apply]
    refine e_red1 _ _ _ Ideal.ofBits_zero_f32 ?_
    rw [val_main_v147_apply, e_one, r146 H]
  rw [val_main_v153_apply, val_main_v152_apply, h, r29 H, e_mul]; rfl
theorem r154 (i : S4x8x128.Idx) : val_main_v154 (F := Ideal) x0 x1 x2 x3 x4 i = ((∑ l ∈ Finset.range 128, a.w (i 0).val (i 1).val (i 2).val l : ℝ) : EReal) := by
  rw [val_main_v154_apply]
  exact e_red _ _ _ Ideal.ofBits_zero_f32 fun k => by rw [r153 H]
theorem r155 (i : S4x8x128x1.Idx) : val_main_v155 (F := Ideal) x0 x1 x2 x3 x4 i = ((∑ l ∈ Finset.range 128, a.w (i 0).val (i 1).val (i 2).val l : ℝ) : EReal) := by
  have h1 : (i 1).val < 8 := (i 1).isLt
  have h2 : (i 2).val < 128 := (i 2).isLt
  have h3 : (i 3).val < 1 := (i 3).isLt
  rw [val_main_v155_apply, r154 H]
  refine real_congr (congr3 (fun k h z => ∑ l ∈ Finset.range 128, a.w k h z l) ?_ ?_ ?_) <;> simp only [idx_main_v155] <;> omega

/-! ### The decays within a chunk -/

theorem r97 (i : S4x8x128x128x128.Idx) : val_main_v97 (F := Ideal) x0 x1 x2 x4 i
    = (((a.e (i 2).val (i 0).val).CB (i 3).val (i 4).val * (a.e (i 2).val (i 0).val).dm (i 1).val (i 3).val (i 4).val : ℝ) : EReal) := by
  rw [val_main_v97_apply, val_main_v96_apply, val_main_v62_apply, r61 H, r93 H, e_mul]
theorem r109 (i : S4x8x128x128x128.Idx) : val_main_v109 (F := Ideal) x0 x1 x2 x3 x4 i = ((a.E (i 0).val (i 2).val (i 1).val (i 3).val (i 4).val : ℝ) : EReal) := by
  have z1 : val_main_call9_v0 (F := Ideal) i = ((0 : ℝ) : EReal) := by rw [val_main_call9_v0_apply, val_main_call9_cst_apply, e_zero]
  have z2 : val_main_call10_v0 (F := Ideal) i = ((0 : ℝ) : EReal) := by rw [val_main_call10_v0_apply, val_main_call10_cst_apply, e_zero]
  rw [val_main_v109_apply, val_main_v108_apply, val_main_v107_apply, val_main_v58_1_apply, val_main_v60_1_apply, r57, r97 H, r59 H, z1, z2, e_select, e_mul, e_select]
  refine real_congr ?_
  show (if (i 4).val ≤ (i 3).val then (if (i 4).val ≤ (i 3).val then _ else (0 : ℝ)) * Real.exp (if (i 4).val ≤ (i 3).val then _ else 0) else 0) = _
  rw [Arr.E, G.R.lam]
  split
  · rfl
  · rw [mul_zero]
omit H in
theorem e_one' (i : S4x8x128x128.Idx) : idx_main_v111 (idx_main_v117 i 0) = i := by
  have h1 : (i 1).val < 8 := (i 1).isLt
  have h2 : (i 2).val < 128 := (i 2).isLt
  have h3 : (i 3).val < 128 := (i 3).isLt
  funext x; apply Fin.ext
  match x with
  | ⟨0, _⟩ => show _ = (i 0).val; simp only [idx_main_v111, idx_main_v117]; omega
  | ⟨1, _⟩ => show _ = (i 1).val; simp only [idx_main_v111, idx_main_v117]; omega
  | ⟨2, _⟩ => show _ = (i 2).val; simp only [idx_main_v111, idx_main_v117]; omega
  | ⟨3, _⟩ => show _ = (i 3).val; simp only [idx_main_v111, idx_main_v117]; omega
theorem r117 (i : S4x8x128x128.Idx) : val_main_v117 (F := Ideal) x0 x1 x2 x3 x4 i = ((∑ s ∈ Finset.range 128, a.E (i 0).val (i 2).val (i 1).val (i 3).val s : ℝ) : EReal) := by
  rw [val_main_v117_apply]
  refine e_red1 _ _ _ Ideal.ofBits_zero_f32 ?_
  rw [val_main_v111_apply, e_one', val_main_v110_apply]
  exact e_red _ _ _ Ideal.ofBits_zero_f32 fun k => by rw [r109 H]
omit H in
theorem e_one'' (i : S4x8x128x128.Idx) : idx_main_v114 (idx_main_v115 i 0) = i := by
  have h1 : (i 1).val < 8 := (i 1).isLt
  have h2 : (i 2).val < 128 := (i 2).isLt
  have h3 : (i 3).val < 128 := (i 3).isLt
  funext x; apply Fin.ext
  match x with
  | ⟨0, _⟩ => show _ = (i 0).val; simp only [idx_main_v114, idx_main_v115]; omega
  | ⟨1, _⟩ => show _ = (i 1).val; simp only [idx_main_v114, idx_main_v115]; omega
  | ⟨2, _⟩ => show _ = (i 2).val; simp only [idx_main_v114, idx_main_v115]; omega
  | ⟨3, _⟩ => show _ = (i 3).val; simp only [idx_main_v114, idx_main_v115]; omega
theorem r115 (i : S4x8x128x128.Idx) : val_main_v115 (F := Ideal) x0 x1 x2 x3 x4 i = ((∑ l ∈ Finset.range 128, -a.E (i 0).val (i 2).val (i 1).val l (i 3).val : ℝ) : EReal) := by
  rw [val_main_v115_apply]
  refine e_red1 _ _ _ Ideal.ofBits_zero_f32 ?_
  rw [val_main_v114_apply, e_one'', val_main_v113_apply]
  exact e_red _ _ _ Ideal.ofBits_zero_f32 fun k => by rw [val_main_v112_apply, r109 H, e_neg]

/-! ### The decays between chunks -/

theorem r125 (i : S4x8x128x128.Idx) : val_main_v125 (F := Ideal) x0 x1 x2 x3 x4 i = ((a.W (i 0).val (i 1).val (i 2).val (i 3).val : ℝ) : EReal) := by
  have z1 : val_main_call11_v0 (F := Ideal) i = ((0 : ℝ) : EReal) := by rw [val_main_call11_v0_apply, val_main_call11_cst_apply, e_zero]
  have z2 : val_main_call12_v0 (F := Ideal) i = ((0 : ℝ) : EReal) := by rw [val_main_call12_v0_apply, val_main_call12_cst_apply, e_zero]
  rw [val_main_v125_apply, val_main_v124_apply, val_main_v123_apply, val_main_v46_1_apply, val_main_v48_1_apply, r45, r120 H, r47 H, z1, z2, e_select, e_mul, e_select]
  refine real_congr ?_
  show (if (i 3).val < (i 2).val then (if (i 3).val < (i 2).val then _ else (0 : ℝ)) * Real.exp (if (i 3).val < (i 2).val then _ else 0) else 0) = _
  rw [Arr.W]
  split <;> rfl
omit H in
theorem e_one3 (i : S4x8x128.Idx) : idx_main_v127 (idx_main_v132 i 0) = i := by
  have h1 : (i 1).val < 8 := (i 1).isLt
  have h2 : (i 2).val < 128 := (i 2).isLt
  funext x; apply Fin.ext
  match x with
  | ⟨0, _⟩ => show _ = (i 0).val; simp only [idx_main_v127, idx_main_v132]; omega
  | ⟨1, _⟩ => show _ = (i 1).val; simp only [idx_main_v127, idx_main_v132]; omega
  | ⟨2, _⟩ => show _ = (i 2).val; simp only [idx_main_v127, idx_main_v132]; omega
theorem r132 (i : S4x8x128.Idx) : val_main_v132 (F := Ideal) x0 x1 x2 x3 x4 i = ((a.row (i 0).val (i 1).val (i 2).val : ℝ) : EReal) := by
  rw [val_main_v132_apply]
  refine e_red1 _ _ _ Ideal.ofBits_zero_f32 ?_
  rw [val_main_v127_apply, e_one3, val_main_v126_apply]
  exact e_red _ _ _ Ideal.ofBits_zero_f32 fun k => by rw [r125 H]
omit H in
theorem e_one4 (i : S4x8x128.Idx) : idx_main_v130 (idx_main_v131 i 0) = i := by
  have h1 : (i 1).val < 8 := (i 1).isLt
  have h2 : (i 2).val < 128 := (i 2).isLt
  funext x; apply Fin.ext
  match x with
  | ⟨0, _⟩ => show _ = (i 0).val; simp only [idx_main_v130, idx_main_v131]; omega
  | ⟨1, _⟩ => show _ = (i 1).val; simp only [idx_main_v130, idx_main_v131]; omega
  | ⟨2, _⟩ => show _ = (i 2).val; simp only [idx_main_v130, idx_main_v131]; omega
theorem r131 (i : S4x8x128.Idx) : val_main_v131 (F := Ideal) x0 x1 x2 x3 x4 i = ((a.ncol (i 0).val (i 1).val (i 2).val : ℝ) : EReal) := by
  rw [val_main_v131_apply]
  refine e_red1 _ _ _ Ideal.ofBits_zero_f32 ?_
  rw [val_main_v130_apply, e_one4, val_main_v129_apply]
  exact e_red _ _ _ Ideal.ofBits_zero_f32 fun k => by rw [val_main_v128_apply, r125 H, e_neg]
theorem r137 (i : S4x8x128x1.Idx) : val_main_v137 (F := Ideal) x0 x1 x2 x3 x4 i = ((a.dup (i 0).val (i 1).val (i 2).val : ℝ) : EReal) := by
  have h (j) : val_main_v134 (F := Ideal) x0 x1 x2 x3 x4 j = ((a.ncol (j 0).val (j 1).val (j 2).val + a.row (j 0).val (j 1).val (j 2).val : ℝ) : EReal) := by
    rw [val_main_v134_apply, r131 H, r132 H, e_add]
  have h' (j) : val_main_v135 (F := Ideal) x0 x1 x2 x3 x4 j = ((∑ k ∈ Finset.range 128, if (j 2).val ≤ k then a.ncol (j 0).val (j 1).val k + a.row (j 0).val (j 1).val k else 0 : ℝ) : EReal) :=
    suf3 (val_main_v134 (F := Ideal) x0 x1 x2 x3 x4) (fun k h z => a.ncol k h z + a.row k h z) h _ (fun i => by rw [val_main_call13_call0_v0_apply, val_main_call13_call0_cst_apply]; exact Ideal.ofBits_zero_f32) _ _ j
  rw [val_main_v137_apply, val_main_v136_apply, val_main_v133_apply, r132 H, e_neg, h', e_add]; rfl

/-! ### The running sums of the decays -/

theorem r159 (i : S4x8x128x128.Idx) : val_main_v159 (F := Ideal) x0 x1 x2 x3 x4 i = ((a.Dcs (i 0).val (i 1).val (i 2).val (i 3).val : ℝ) : EReal) := by
  have p1 : val_main_v138 (F := Ideal) x0 x1 x2 x3 x4 i = ((if 127 ≤ (i 3).val ∧ (i 3).val - 127 < 1 then a.dup (i 0).val (i 1).val (i 2).val else 0 : ℝ) : EReal) :=
    pad4 (val_main_v137 (F := Ideal) x0 x1 x2 x3 x4) (fun k h z _ => a.dup k h z) (r137 H) _ (fun i => Ideal.ofBits_zero_f32) _ _ i
  have p2 : val_main_v158 (F := Ideal) x0 x1 x2 x3 x4 i = ((if 127 ≤ (i 3).val ∧ (i 3).val - 127 < 1 then ∑ l ∈ Finset.range 128, a.w (i 0).val (i 1).val (i 2).val l else 0 : ℝ) : EReal) :=
    pad4 (val_main_v155 (F := Ideal) x0 x1 x2 x3 x4) (fun k h z _ => ∑ l ∈ Finset.range 128, a.w k h z l) (r155 H) _ (fun i => Ideal.ofBits_zero_f32) _ _ i
  rw [val_main_v159_apply, val_main_v157_apply, val_main_v139_apply, val_main_v118_apply, val_main_v116_apply, r86 H, r115 H, e_add, r117 H, e_add, p1, e_add, val_main_v156_apply, r153 H, e_neg, e_add, p2, e_add]; rfl
theorem r161 (i : S128x128x4x8.Idx) : val_main_v161 (F := Ideal) x0 x1 x2 x3 x4 i = ((a.Da (i 2).val (i 3).val (i 0).val (i 1).val : ℝ) : EReal) := by
  rw [val_main_v161_apply]
  exact suf4 (val_main_v159 (F := Ideal) x0 x1 x2 x3 x4) a.Dcs (r159 H) _ (fun i => by rw [val_main_call14_call0_v0_apply, val_main_call14_call0_cst_apply]; exact Ideal.ofBits_zero_f32) _ _ _

/-! ### The step sizes -/

theorem r174 (i : S128x128x4x8.Idx) : val_main_v174 (F := Ideal) x0 x1 x2 x3 x4 i = ((a.Ddt (i 2).val (i 3).val (i 0).val (i 1).val : ℝ) : EReal) := by
  have h (j) : val_main_v169 (F := Ideal) x0 x1 x2 x3 x4 j = ((∑ p ∈ Finset.range 64, (a.e (j 0).val (j 2).val).xc (j 1).val (64 * (j 3).val + p) * a.dX (j 2).val (j 0).val (j 1).val (64 * (j 3).val + p) : ℝ) : EReal) := by
    rw [val_main_v169_apply]
    exact e_red _ _ _ Ideal.ofBits_zero_f32 fun k => by rw [val_main_v168_apply, r3 H, r150 H, e_mul]
  have h' : val_main_v173 (F := Ideal) x0 x1 x2 x3 x4 i = ((∑ p ∈ Finset.range 64, (a.e (i 0).val (i 2).val).xc (i 1).val (64 * (i 3).val + p) * a.dX (i 2).val (i 0).val (i 1).val (64 * (i 3).val + p) : ℝ) : EReal) := by
    rw [val_main_v173_apply]
    refine e_red1 _ _ _ Ideal.ofBits_zero_f32 ?_
    rw [val_main_v170_apply]
    refine (congrArg _ (e_one i)).trans (h i)
  rw [val_main_v174_apply, val_main_v166_apply, r161 H, val_main_v165_apply, val_main_v21_apply, r17 H _ (i 0).val, e_mul, h', e_add]; rfl
theorem r172 (i : S128x128x4x8x64.Idx) : val_main_v172 (F := Ideal) x0 x1 x2 x3 x4 i
    = ((a.dX (i 2).val (i 0).val (i 1).val (64 * (i 3).val + (i 4).val) * (a.e (i 0).val (i 2).val).sp (i 1).val (i 3).val : ℝ) : EReal) := by
  rw [val_main_v172_apply, r150 H, val_main_v171_apply, val_main_v18_apply, r13_0 H, e_mul]
end Cert.Scan
-- ==== Proof.Scan.RefC.lean ====
/- The reference's results over real inputs, one element at a time. -/
module

public import proofs.«01_k».proof.Proof.Scan.RefB

@[expose] public section

noncomputable section

namespace Cert.Scan

open Idealize.ShloMosaic Cert.ReferenceIdeal Cert.ReferenceIdeal.Read
open scoped BigOperators

namespace Arr
variable (a : Arr)
/-- The gradient of the rows of `C`. -/
def dC (k z l n : ℕ) : ℝ :=
  (∑ h ∈ Finset.range 8, ∑ p ∈ Finset.range 64, (a.e z k).dye l (64 * h + p) * a.S k z (64 * h + p) n) + (∑ s ∈ Finset.range 128, (a.e z k).dcb l s * (a.e z k).B s n)
/-- The gradient of the rows of `B`. -/
def dB (k z l n : ℕ) : ℝ :=
  (∑ l' ∈ Finset.range 128, (a.e z k).dcb l' l * (a.e z k).C l' n)
    + (∑ h ∈ Finset.range 8, ∑ p ∈ Finset.range 64, a.G k z (64 * h + p) n * ((a.e z k).xp l (64 * h + p) * (a.e z k).dx l (64 * h + p)))
/-- The gradient of the step sizes before their bias. -/
def ddr (k h z l : ℕ) : ℝ := a.Ddt k h z l * Real.exp ((a.e z k).pre l h - (a.e z k).sp l h)
/-- The gradient of the packed rows, at row `l` of chunk `z` and column `j` of group `k`. -/
def rXc (k z l j : ℕ) : ℝ :=
  (if 640 ≤ j ∧ j - 640 < 128 then a.dC k z l (j - 640) else 0) + (if 512 ≤ j ∧ j - 512 < 128 then a.dB k z l (j - 512) else 0)
    + (if 0 ≤ j ∧ j - 0 < 512 then a.dX k z l (j - 0) * (a.e z k).sp l ((j - 0) / 64) else 0)
def rDt (k z l j : ℕ) : ℝ := if 0 ≤ j ∧ j - 0 < 8 then a.ddr k (j - 0) z l else 0
def rDbi (k j : ℕ) : ℝ := if 0 ≤ j ∧ j - 0 < 8 then ∑ z : Fin 128, ∑ l : Fin 128, a.ddr k (j - 0) z.val l.val else 0
def rDal (k j : ℕ) : ℝ :=
  if 0 ≤ j ∧ j - 0 < 8 then -(∑ z : Fin 128, ∑ l : Fin 128, (a.e z.val k).sp l.val (j - 0) * a.Da k (j - 0) z.val l.val) * Real.exp ((a.e 0 k).alog (j - 0)) else 0
end Arr

theorem e_top : FloatOps.ofBits (F := Ideal) .f32 0x7F800000#32 = (⊤ : EReal) := by
  simp [FloatOps.ofBits, Ideal.ofBits, Ideal.ieee]
theorem e_inf (u : ℝ) : FloatOps.cmpf (F := Ideal) (φ := .f32) .oeq (u : EReal) (⊤ : EReal) = 0#1 := by
  show BitVec.ofBool (decide ((u : EReal) = (⊤ : EReal))) = _
  simp

theorem congr4 {α β γ δ ε : Type} (f : α → β → γ → δ → ε) {x x' : α} {y y' : β} {z z' : γ} {w w' : δ} (hx : x = x') (hy : y = y') (hz : z = z') (hw : w = w') :
    f x y z w = f x' y' z' w' := by rw [hx, hy, hz, hw]

variable {a : Arr} {x0 : S16384x3072.Idx → EReal} {x1 : S16384x512.Idx → EReal} {x2 x3 : S1x512.Idx → EReal} {x4 : S16384x2048.Idx → EReal}
  (H : Reads a x0 x1 x2 x3 x4)
include H

/-! ### The step sizes -/

theorem r13_1 (i : S128x128x4x8.Idx) : val_main_v13_1 (F := Ideal) x1 x2 i
    = ((Real.exp ((a.e (i 0).val (i 2).val).pre (i 1).val (i 3).val - (a.e (i 0).val (i 2).val).sp (i 1).val (i 3).val) : ℝ) : EReal) := by
  rw [val_main_v13_1_apply, val_main_call0_v21_apply, val_main_call0_v16_apply, val_main_call0_v20_apply, val_main_call0_v14_apply, val_main_call0_v18_apply,
    val_main_call0_v13_apply, val_main_call0_v17_apply, val_main_call0_cst_0_apply, val_main_call0_cst_2_apply, r12 H, r13_0 H, e_top, e_inf, e_inf]
  refine Eq.trans (b := FloatOps.hostUnary (F := Ideal) (φ := .f32) .exp (FloatOps.subf (F := Ideal) (φ := .f32) ((_ : ℝ) : EReal) ((_ : ℝ) : EReal))) rfl ?_
  rw [e_sub, e_exp]
theorem r179 (i : S128x128x4x8.Idx) : val_main_v179 (F := Ideal) x0 x1 x2 x3 x4 i = ((a.ddr (i 2).val (i 3).val (i 0).val (i 1).val : ℝ) : EReal) := by
  rw [val_main_v179_apply, r174 H, r13_1 H, e_mul]; rfl
theorem r186 (i : S16384x512.Idx) : val_main_v186 (F := Ideal) x0 x1 x2 x3 x4 i
    = ((a.rDt ((i 1).val / 128) ((i 0).val / 128) ((i 0).val % 128) ((i 1).val % 128) : ℝ) : EReal) := by
  have h1 : (i 1).val < 512 := (i 1).isLt
  have h (j) : val_main_v185 (F := Ideal) x0 x1 x2 x3 x4 j = ((a.rDt (j 2).val (j 0).val (j 1).val (j 3).val : ℝ) : EReal) :=
    pad4 (val_main_v179 (F := Ideal) x0 x1 x2 x3 x4) (fun z l k h => a.ddr k h z l) (r179 H) _ (fun i => Ideal.ofBits_zero_f32) _ _ j
  rw [val_main_v186_apply, h]
  refine real_congr (congr4 a.rDt ?_ ?_ ?_ ?_) <;> simp only [idx_main_v186] <;> omega
theorem r184 (i : S1x512.Idx) : val_main_v184 (F := Ideal) x0 x1 x2 x3 x4 i = ((a.rDbi ((i 1).val / 128) ((i 1).val % 128) : ℝ) : EReal) := by
  have h0 : (i 0).val < 1 := (i 0).isLt
  have h180 (j) : val_main_v180 (F := Ideal) x0 x1 x2 x3 x4 j = ((∑ z : Fin 128, ∑ l : Fin 128, a.ddr (j 0).val (j 1).val z.val l.val : ℝ) : EReal) :=
    sum01 (val_main_v179 (F := Ideal) x0 x1 x2 x3 x4) (fun z l k h => a.ddr k h z l) (r179 H) _ (fun i => Ideal.ofBits_zero_f32) _ _ j
  have h181 (j) : val_main_v181 (F := Ideal) x0 x1 x2 x3 x4 j = ((∑ z : Fin 128, ∑ l : Fin 128, a.ddr (j 2).val (j 3).val z.val l.val : ℝ) : EReal) := by
    have j0 : (j 0).val < 1 := (j 0).isLt
    have j1 : (j 1).val < 1 := (j 1).isLt
    have j3 : (j 3).val < 8 := (j 3).isLt
    rw [val_main_v181_apply, h180]
    refine real_congr (congr2 (fun k h => ∑ z : Fin 128, ∑ l : Fin 128, a.ddr k h z.val l.val) ?_ ?_) <;> simp only [idx_main_v181] <;> omega
  have h182 (j) : val_main_v182 (F := Ideal) x0 x1 x2 x3 x4 j = ((∑ z : Fin 128, ∑ l : Fin 128, a.ddr (j 0).val (j 1).val z.val l.val : ℝ) : EReal) := by
    refine (sum01 (val_main_v181 (F := Ideal) x0 x1 x2 x3 x4) (fun _ _ k h => ∑ z : Fin 128, ∑ l : Fin 128, a.ddr k h z.val l.val) h181 _ (fun i => Ideal.ofBits_zero_f32) _ _ j).trans ?_
    rw [Fin.sum_univ_one, Fin.sum_univ_one]
  have h183 (j) : val_main_v183 (F := Ideal) x0 x1 x2 x3 x4 j = ((a.rDbi (j 0).val (j 1).val : ℝ) : EReal) :=
    pad2 (val_main_v182 (F := Ideal) x0 x1 x2 x3 x4) (fun k h => ∑ z : Fin 128, ∑ l : Fin 128, a.ddr k h z.val l.val) h182 _ (fun i => Ideal.ofBits_zero_f32) _ _ j
  rw [val_main_v184_apply, h183]
  refine real_congr (congr2 a.rDbi ?_ ?_) <;> simp only [idx_main_v184] <;> omega
theorem r178 (i : S1x512.Idx) : val_main_v178 (F := Ideal) x0 x1 x2 x3 x4 i = ((a.rDal ((i 1).val / 128) ((i 1).val % 128) : ℝ) : EReal) := by
  have h0 : (i 0).val < 1 := (i 0).isLt
  have h162 (j) : val_main_v162 (F := Ideal) x0 x1 x2 x3 x4 j = (((a.e (j 0).val (j 2).val).sp (j 1).val (j 3).val * a.Da (j 2).val (j 3).val (j 0).val (j 1).val : ℝ) : EReal) := by
    rw [val_main_v162_apply, r13_0 H, r161 H, e_mul]
  have h163 (j) : val_main_v163 (F := Ideal) x0 x1 x2 x3 x4 j = ((∑ z : Fin 128, ∑ l : Fin 128, (a.e z.val (j 0).val).sp l.val (j 1).val * a.Da (j 0).val (j 1).val z.val l.val : ℝ) : EReal) :=
    sum01 (val_main_v162 (F := Ideal) x0 x1 x2 x3 x4) (fun z l k h => (a.e z k).sp l h * a.Da k h z l) h162 _ (fun i => Ideal.ofBits_zero_f32) _ _ j
  have h164 (j) : val_main_v164 (F := Ideal) x0 x1 x2 x3 x4 j = ((∑ z : Fin 128, ∑ l : Fin 128, (a.e z.val (j 2).val).sp l.val (j 3).val * a.Da (j 2).val (j 3).val z.val l.val : ℝ) : EReal) := by
    have j0 : (j 0).val < 1 := (j 0).isLt
    have j1 : (j 1).val < 1 := (j 1).isLt
    have j3 : (j 3).val < 8 := (j 3).isLt
    rw [val_main_v164_apply, h163]
    refine real_congr (congr2 (fun k h => ∑ z : Fin 128, ∑ l : Fin 128, (a.e z.val k).sp l.val h * a.Da k h z.val l.val) ?_ ?_) <;> simp only [idx_main_v164] <;> omega
  have h167 (j) : val_main_v167 (F := Ideal) x0 x1 x2 x3 x4 j = ((∑ z : Fin 128, ∑ l : Fin 128, (a.e z.val (j 0).val).sp l.val (j 1).val * a.Da (j 0).val (j 1).val z.val l.val : ℝ) : EReal) := by
    refine (sum01 (val_main_v164 (F := Ideal) x0 x1 x2 x3 x4) (fun _ _ k h => ∑ z : Fin 128, ∑ l : Fin 128, (a.e z.val k).sp l.val h * a.Da k h z.val l.val) h164 _ (fun i => Ideal.ofBits_zero_f32) _ _ j).trans ?_
    rw [Fin.sum_univ_one, Fin.sum_univ_one]
  have h176 (j) : val_main_v176 (F := Ideal) x0 x1 x2 x3 x4 j
      = ((-(∑ z : Fin 128, ∑ l : Fin 128, (a.e z.val (j 0).val).sp l.val (j 1).val * a.Da (j 0).val (j 1).val z.val l.val) * Real.exp ((a.e 0 (j 0).val).alog (j 1).val) : ℝ) : EReal) := by
    rw [val_main_v176_apply, val_main_v175_apply, h167, e_neg, r16 H j 0, e_mul]
  have h177 (j) : val_main_v177 (F := Ideal) x0 x1 x2 x3 x4 j = ((a.rDal (j 0).val (j 1).val : ℝ) : EReal) :=
    pad2 (val_main_v176 (F := Ideal) x0 x1 x2 x3 x4)
      (fun k h => -(∑ z : Fin 128, ∑ l : Fin 128, (a.e z.val k).sp l.val h * a.Da k h z.val l.val) * Real.exp ((a.e 0 k).alog h)) h176 _ (fun i => Ideal.ofBits_zero_f32) _ _ j
  rw [val_main_v178_apply, h177]
  refine real_congr (congr2 a.rDal ?_ ?_) <;> simp only [idx_main_v178] <;> omega

/-! ### The packed rows -/

theorem r190 (i : S128x128x4x512.Idx) : val_main_v190 (F := Ideal) x0 x1 x2 x3 x4 i
    = ((a.dX (i 2).val (i 0).val (i 1).val (i 3).val * (a.e (i 0).val (i 2).val).sp (i 1).val ((i 3).val / 64) : ℝ) : EReal) := by
  have h1 : (i 1).val < 128 := (i 1).isLt
  have h2 : (i 2).val < 4 := (i 2).isLt
  have h3 : (i 3).val < 512 := (i 3).isLt
  rw [val_main_v190_apply, r172 H]
  have e0 : (idx_main_v190 i 0).val = (i 0).val := by simp only [idx_main_v190]; omega
  have e1 : (idx_main_v190 i 1).val = (i 1).val := by simp only [idx_main_v190]; omega
  have e2 : (idx_main_v190 i 2).val = (i 2).val := by simp only [idx_main_v190]; omega
  have e3 : (idx_main_v190 i 3).val = (i 3).val / 64 := by simp only [idx_main_v190]; omega
  have e4 : 64 * ((i 3).val / 64) + (idx_main_v190 i 4).val = (i 3).val := by simp only [idx_main_v190]; omega
  rw [e0, e1, e2, e3, e4]
theorem r194 (i : S16384x3072.Idx) : val_main_v194 (F := Ideal) x0 x1 x2 x3 x4 i
    = ((a.rXc ((i 1).val / 768) ((i 0).val / 128) ((i 0).val % 128) ((i 1).val % 768) : ℝ) : EReal) := by
  have h1 : (i 1).val < 3072 := (i 1).isLt
  have h (j) : val_main_v192 (F := Ideal) x0 x1 x2 x3 x4 j = ((a.rXc (j 2).val (j 0).val (j 1).val (j 3).val : ℝ) : EReal) := by
    have p1 : val_main_v187 (F := Ideal) x0 x1 x2 x3 x4 j = _ := pad4 (val_main_v106 (F := Ideal) x0 x1 x2 x3 x4) (fun z l k n => a.dC k z l n) (r106 H) _ (fun i => Ideal.ofBits_zero_f32) _ _ j
    have p2 : val_main_v188 (F := Ideal) x0 x1 x2 x3 x4 j = _ := pad4 (val_main_v142 (F := Ideal) x0 x1 x2 x3 x4) (fun z l k n => a.dB k z l n) (r142 H) _ (fun i => Ideal.ofBits_zero_f32) _ _ j
    have p3 : val_main_v191 (F := Ideal) x0 x1 x2 x3 x4 j = _ := pad4 (val_main_v190 (F := Ideal) x0 x1 x2 x3 x4) (fun z l k c => a.dX k z l c * (a.e z k).sp l (c / 64)) (r190 H) _ (fun i => Ideal.ofBits_zero_f32) _ _ j
    rw [val_main_v192_apply, val_main_v189_apply, p1, p2, p3, e_add, e_add]; rfl
  rw [val_main_v194_apply, val_main_v193_apply, h]
  refine Eq.trans (b := _) rfl (real_congr (congr4 a.rXc ?_ ?_ ?_ ?_)) <;> simp only [idx_main_v193] <;> omega

end Cert.Scan
-- ==== Proof.Scan.Real.lean ====
/- The kernel's values and the reference's are the same real numbers. -/
module

public import proofs.«01_k».proof.Proof.Scan.RefC

@[expose] public section

noncomputable section

namespace Cert.Scan

open scoped BigOperators

/-! ### Sums -/

theorem sum_blocks (f : ℕ → ℝ) : ∀ n : ℕ, (∑ c ∈ Finset.range (64 * n), f c) = ∑ h ∈ Finset.range n, ∑ p ∈ Finset.range 64, f (64 * h + p)
  | 0 => by simp
  | n + 1 => by rw [Nat.mul_add, Nat.mul_one, Finset.sum_range_add, sum_blocks f n, Finset.sum_range_succ _ n]
theorem sum_heads (f : ℕ → ℝ) : (∑ c ∈ Finset.range 512, f c) = ∑ h ∈ Finset.range 8, ∑ p ∈ Finset.range 64, f (64 * h + p) := sum_blocks f 8
/-- A sum of sums that are zero off the row `z`. -/
theorem sum_row (f : ℕ → ℕ → ℝ) {z : ℕ} (hz : z < 128) :
    (∑ c ∈ Finset.range 128, f z c) = ∑ i ∈ Finset.range 128, ∑ c ∈ Finset.range 128, if i = z then f i c else 0 := by
  refine Eq.symm ((Finset.sum_eq_single z ?_ ?_).trans ?_)
  · intro i _ hi; exact Finset.sum_eq_zero fun c _ => if_neg hi
  · intro h; exact absurd (Finset.mem_range.2 hz) h
  · exact Finset.sum_congr rfl fun c _ => if_pos rfl
/-- The derivative of the softplus. -/
theorem sigmoid (x : ℝ) : Real.exp (x - (max x 0 + Real.log (1 + Real.exp (0 - |x|)))) = 1 / (1 + Real.exp (0 - x)) := by
  have hp : 0 < 1 + Real.exp (0 - |x|) := by positivity
  have hq : 0 < 1 + Real.exp (0 - x) := by positivity
  rw [show x - (max x 0 + Real.log (1 + Real.exp (0 - |x|))) = (x - max x 0) - Real.log (1 + Real.exp (0 - |x|)) by ring, Real.exp_sub, Real.exp_log hp]
  rcases le_total 0 x with h | h
  · rw [abs_of_nonneg h, max_eq_left h, sub_self, Real.exp_zero]
  · rw [abs_of_nonpos h, max_eq_right h, sub_zero, div_eq_div_iff (ne_of_gt (by positivity)) (ne_of_gt hq), one_mul, mul_add, mul_one, ← Real.exp_add,
      show x + (0 - x) = 0 by ring, Real.exp_zero, show 0 - -x = x by ring, add_comm]

namespace Arr
variable (a : Arr)

/-! ### The decays -/

theorem up_step (k h : ℕ) {z : ℕ} (h0 : 0 < z) (hz : z < 128) : a.up k h z = a.up k h (z - 1) + (a.e z k).tot h := by
  have e : (a.e z k).tot h = ∑ i ∈ Finset.range 128, if i = z then (a.e i k).tot h else 0 := by
    rw [Finset.sum_ite_eq', if_pos (Finset.mem_range.2 hz)]
  rw [e, up, up, ← Finset.sum_add_distrib]
  refine Finset.sum_congr rfl fun i _ => ?_
  by_cases h1 : i = z
  · rw [if_pos (by omega), if_neg (by omega), if_pos h1, zero_add]
  · rw [if_neg h1, add_zero]
    by_cases h2 : i ≤ z
    · rw [if_pos h2, if_pos (by omega)]
    · rw [if_neg h2, if_neg (by omega)]
theorem car_step (k h : ℕ) {z : ℕ} (h0 : 0 < z) (hz : z < 128) (i : ℕ) :
    a.car k h i (z - 1) = a.car k h i z * Real.exp ((a.e z k).tot h) + if i = z then 1 else 0 := by
  have u := a.up_step k h h0 hz
  unfold car gap
  by_cases h1 : i = z
  · subst h1
    rw [if_pos (by omega), if_neg (by omega), if_pos rfl, zero_mul, zero_add, u, show a.up k h (i - 1) + (a.e i k).tot h - (a.e i k).tot h - a.up k h (i - 1) = 0 by ring, Real.exp_zero]
  · rw [if_neg h1, add_zero]
    by_cases h2 : z < i
    · rw [if_pos h2, if_pos (by omega), ← Real.exp_add]
      congr 1; rw [u]; ring
    · rw [if_neg h2, if_neg (by omega), zero_mul]
theorem car_comp (k h i z j : ℕ) : a.car k h i z * a.car k h z j * Real.exp ((a.e z k).tot h) = if j < z ∧ z < i then Real.exp (a.gap k h i j) else 0 := by
  unfold car
  by_cases h1 : z < i
  · by_cases h2 : j < z
    · rw [if_pos h1, if_pos h2, if_pos ⟨h2, h1⟩, ← Real.exp_add, ← Real.exp_add]
      congr 1; unfold gap; ring
    · rw [if_neg h2, mul_zero, zero_mul, if_neg fun h => h2 h.1]
  · rw [if_neg h1, zero_mul, zero_mul, if_neg fun h => h1 h.2]

/-- The gradient of a chunk's whole decay: the state's gradients that pass over it. -/
theorem dup_eq (k h : ℕ) {z : ℕ} (hz : z < 128) :
    a.dup k h z = ∑ i ∈ Finset.range 128, ∑ c ∈ Finset.range 128, if c < z ∧ z < i then a.W k h i c else 0 := by
  have e1 : (∑ j ∈ Finset.range 128, if z ≤ j then a.ncol k h j + a.row k h j else 0)
      = (∑ i ∈ Finset.range 128, ∑ c ∈ Finset.range 128, if z ≤ c then -a.W k h i c else 0) + ∑ i ∈ Finset.range 128, ∑ c ∈ Finset.range 128, if z ≤ i then a.W k h i c else 0 := by
    rw [Finset.sum_comm (s := Finset.range 128) (t := Finset.range 128) (f := fun i c => if z ≤ c then -a.W k h i c else 0), ← Finset.sum_add_distrib]
    refine Finset.sum_congr rfl fun j _ => ?_
    unfold ncol row
    split <;> simp
  rw [dup, e1, row, sum_row (fun i c => a.W k h i c) hz, ← Finset.sum_neg_distrib, ← Finset.sum_add_distrib, ← Finset.sum_add_distrib]
  refine Finset.sum_congr rfl fun i _ => ?_
  rw [← Finset.sum_neg_distrib, ← Finset.sum_add_distrib, ← Finset.sum_add_distrib]
  refine Finset.sum_congr rfl fun c _ => ?_
  by_cases hc : c < i
  · by_cases h1 : z ≤ c
    · rw [if_pos h1, if_neg (show ¬ i = z by omega), if_pos (show z ≤ i by omega), if_neg (by omega)]; ring
    · rw [if_neg h1]
      by_cases h2 : i = z
      · rw [if_pos h2, if_pos (by omega), if_neg (by omega)]; ring
      · rw [if_neg h2]
        by_cases h3 : z ≤ i
        · rw [if_pos h3, if_pos (by omega)]; ring
        · rw [if_neg h3, if_neg (by omega)]; ring
  · have w0 : a.W k h i c = 0 := by unfold W; exact if_neg hc
    rw [w0]; simp

/-! ### What a grid point finds -/

/-- Group `k`'s inputs at the point that works on chunk `z`. -/
def x (z k : ℕ) : G.R := (a.at' (127 - z)).grp k

theorem at_eq (t : ℕ) : a.at' t = a.blk (127 - t) (a.at' t).g (a.at' t).dal (a.at' t).dbi := by cases t <;> rfl
theorem x_eq {z : ℕ} (hz : z < 128) (k : ℕ) : a.x z k = { a.e z k with g := (a.x z k).g, dal := (a.x z k).dal, dbi := (a.x z k).dbi } := by
  have h : 127 - (127 - z) = z := by omega
  have e : (a.at' (127 - z)).grp k = (a.blk z (a.at' (127 - z)).g (a.at' (127 - z)).dal (a.at' (127 - z)).dbi).grp k := by
    conv_lhs => rw [at_eq, h]
  exact e

theorem g_eq (k n c : ℕ) (hc : c < 512) : ∀ t : ℕ, t < 128 → (a.x (127 - t) k).g n c = a.G k (127 - t) c n
  | 0, _ => by
    have e : a.G k 127 c n = 0 := Finset.sum_eq_zero fun i hi => by
      have := Finset.mem_range.1 hi
      rw [car, if_neg (by omega), mul_zero]
    exact e.symm
  | t + 1, ht => by
    have ih := g_eq k n c hc t (by omega)
    have h1 : 127 - (127 - (t + 1)) = t + 1 := by omega
    have h2 : 127 - (127 - t) = t := by omega
    have h3 : (a.x (127 - (t + 1)) k).g n c = (a.x (127 - t) k).g' n c := by
      unfold x
      rw [h1, h2]
      show ((a.at' t).grp ((512 * k + c) / 512)).g' n ((512 * k + c) % 512) = _
      rw [show (512 * k + c) / 512 = k by omega, show (512 * k + c) % 512 = c by omega]
    have hz : 127 - t < 128 := by omega
    rw [h3, G.R.g', ih, show 127 - (t + 1) = 127 - t - 1 by omega]
    generalize hzz : 127 - t = z at *
    have h0 : 0 < z := by omega
    have s : (∑ l ∈ Finset.range 128, (a.x z k).C l n * (a.x z k).dye l c) = a.GS k z c n := by
      rw [x_eq a hz]
      exact Finset.sum_congr rfl fun l _ => mul_comm _ _
    have tt : (a.x z k).tot (c / 64) = (a.e z k).tot (c / 64) := by rw [x_eq a hz]; rfl
    rw [s, tt, G, G, Finset.sum_mul]
    have o : a.GS k z c n = ∑ i ∈ Finset.range 128, if i = z then a.GS k i c n else 0 := by
      rw [Finset.sum_ite_eq', if_pos (Finset.mem_range.2 hz)]
    rw [o, ← Finset.sum_add_distrib]
    refine Finset.sum_congr rfl fun i _ => ?_
    rw [car_step a k (c / 64) h0 hz i, mul_add, mul_assoc, mul_ite, mul_one, mul_zero]

section Chunk
variable {a} (hst : ∀ z n q, a.st z n q = a.S (q / 512) z (q % 512) n) {z : ℕ} (hz : z < 128) (k : ℕ)

theorem xg {c : ℕ} (hc : c < 512) (n : ℕ) (hz : z < 128) : (a.x z k).g n c = a.G k z c n := by
  have := a.g_eq k n c hc (127 - z) (by omega)
  rwa [show 127 - (127 - z) = z by omega] at this
include hst in
theorem est {c : ℕ} (hc : c < 512) (n : ℕ) : (a.e z k).st n c = a.S k z c n := by
  show a.st z n (512 * k + c) = _
  rw [hst, show (512 * k + c) / 512 = k by omega, show (512 * k + c) % 512 = c by omega]
include hst in
theorem xst {c : ℕ} (hc : c < 512) (n : ℕ) (hz : z < 128) : (a.x z k).st n c = a.S k z c n := by
  rw [x_eq a hz]; exact est hst k hc n

theorem xbgd {c : ℕ} (hc : c < 512) (l : ℕ) (hz : z < 128) : (a.x z k).bgd l c = a.Gb k z l c * (a.e z k).dx l c := by
  have h : (a.x z k).bgd l c = (∑ n ∈ Finset.range 128, (a.x z k).B l n * (a.x z k).g n c) * (a.x z k).dx l c := rfl
  rw [h, Finset.sum_congr rfl fun n _ => by rw [xg k hc n hz], x_eq a hz]
  refine congrArg (· * _) (Finset.sum_congr rfl fun n _ => mul_comm _ _)
theorem xdxd (l c : ℕ) (hz : z < 128) : (a.x z k).dxd l c = (a.e z k).dxd l c := by rw [x_eq a hz]; rfl
theorem xdX {c : ℕ} (hc : c < 512) (l : ℕ) (hz : z < 128) : (a.x z k).dxd l c + (a.x z k).bgd l c = a.dX k z l c := by
  rw [xbgd k hc l hz, xdxd k l c hz]; rfl
theorem xdxs {c : ℕ} (hc : c < 512) (l : ℕ) (hz : z < 128) : (a.x z k).dxs l c = a.dX k z l c * (a.e z k).sp l (c / 64) := by
  rw [G.R.dxs, xdX k hc l hz, x_eq a hz]; rfl
theorem xdb (l n : ℕ) (hz : z < 128) : (a.x z k).db l n = a.dB k z l n := by
  rw [G.R.db, dB, add_comm, sum_heads]
  refine congrArg₂ (· + ·) (by rw [x_eq a hz]; rfl) ?_
  refine Finset.sum_congr rfl fun h hh => Finset.sum_congr rfl fun p hp => ?_
  have := Finset.mem_range.1 hh
  have := Finset.mem_range.1 hp
  rw [xg k (by omega) n hz, x_eq a hz, mul_comm]; rfl
include hst in
theorem xdc (l n : ℕ) (hz : z < 128) : (a.x z k).dc l n = a.dC k z l n := by
  rw [G.R.dc, dC, sum_heads]
  refine congrArg₂ (· + ·) ?_ (by rw [x_eq a hz]; rfl)
  refine Finset.sum_congr rfl fun h hh => Finset.sum_congr rfl fun p hp => ?_
  have := Finset.mem_range.1 hh
  have := Finset.mem_range.1 hp
  rw [xst hst k (by omega) n hz, x_eq a hz]; rfl

/-! ### The gradients of the decays -/

theorem e_rows (h l : ℕ) : (∑ p ∈ Finset.range 64, (a.e z k).dy l (64 * h + p) * (a.e z k).yd l (64 * h + p)) = ∑ s ∈ Finset.range 128, a.E k z h l s := by
  have e (s : ℕ) : a.E k z h l s = ∑ p ∈ Finset.range 64, (a.e z k).CB l s * ((a.e z k).dy l (64 * h + p) * (a.e z k).xp s (64 * h + p)) * (a.e z k).lam h l s := by
    rw [E, G.R.dm, Finset.mul_sum, Finset.sum_mul]
  rw [Finset.sum_congr rfl fun s _ => e s, Finset.sum_comm]
  refine Finset.sum_congr rfl fun p hp => ?_
  rw [G.R.yd, Finset.mul_sum, col_head (Finset.mem_range.1 hp)]
  exact Finset.sum_congr rfl fun s _ => by ring
theorem e_cols (h l : ℕ) : (∑ p ∈ Finset.range 64, (a.e z k).xp l (64 * h + p) * (a.e z k).dxd l (64 * h + p)) = ∑ l' ∈ Finset.range 128, a.E k z h l' l := by
  have e (s : ℕ) : a.E k z h s l = ∑ p ∈ Finset.range 64, (a.e z k).CB s l * ((a.e z k).dy s (64 * h + p) * (a.e z k).xp l (64 * h + p)) * (a.e z k).lam h s l := by
    rw [E, G.R.dm, Finset.mul_sum, Finset.sum_mul]
  rw [Finset.sum_congr rfl fun s _ => e s, Finset.sum_comm]
  refine Finset.sum_congr rfl fun p hp => ?_
  rw [G.R.dxd, Finset.mul_sum, col_head (Finset.mem_range.1 hp)]
  exact Finset.sum_congr rfl fun s _ => by ring
theorem w_eq {h : ℕ} (hh : h < 8) (l : ℕ) (hz : z < 128) : (∑ p ∈ Finset.range 64, (a.x z k).xp l (64 * h + p) * (a.x z k).bgd l (64 * h + p)) = a.w k h z l := by
  rw [w, Finset.sum_mul]
  refine Finset.sum_congr rfl fun p hp => ?_
  have h' := Finset.mem_range.1 hp
  rw [xbgd k (by omega) l hz, x_eq a hz, G.R.dx, col_head h', mul_assoc]; rfl
include hst in
theorem xyoff {c : ℕ} (hc : c < 512) (l : ℕ) (hz : z < 128) : (a.x z k).yoff l c = a.yo k z l c := by
  rw [G.R.yoff, yo]
  refine Finset.sum_congr rfl fun n _ => ?_
  rw [xst hst k hc n hz, x_eq a hz, mul_comm]; rfl
include hst in
theorem yo_eq {h : ℕ} (hh : h < 8) (l : ℕ) (hz : z < 128) : (∑ p ∈ Finset.range 64, (a.x z k).dye l (64 * h + p) * (a.x z k).yoff l (64 * h + p))
    = (∑ p ∈ Finset.range 64, a.yo k z l (64 * h + p) * (a.e z k).dy l (64 * h + p)) * Real.exp ((a.e z k).cs l h) := by
  rw [Finset.sum_mul]
  refine Finset.sum_congr rfl fun p hp => ?_
  have h' := Finset.mem_range.1 hp
  rw [xyoff hst k (by omega) l hz, x_eq a hz, G.R.dye, G.R.ex, col_head h']
  show (a.e z k).dy l (64 * h + p) * Real.exp ((a.e z k).cs l h) * _ = _
  ring
include hst in
theorem xdcs {h : ℕ} (hh : h < 8) (l : ℕ) (hz : z < 128) : (a.x z k).dcs l h
    = (∑ p ∈ Finset.range 64, a.yo k z l (64 * h + p) * (a.e z k).dy l (64 * h + p)) * Real.exp ((a.e z k).cs l h)
      + (∑ s ∈ Finset.range 128, a.E k z h l s) - (∑ l' ∈ Finset.range 128, a.E k z h l' l) - a.w k h z l := by
  have r : (∑ p ∈ Finset.range 64, (a.x z k).dy l (64 * h + p) * (a.x z k).yd l (64 * h + p)) = ∑ s ∈ Finset.range 128, a.E k z h l s := by
    rw [x_eq a hz]; exact e_rows k h l
  have s : (∑ p ∈ Finset.range 64, (a.x z k).xp l (64 * h + p) * (a.x z k).dxd l (64 * h + p)) = ∑ l' ∈ Finset.range 128, a.E k z h l' l := by
    rw [x_eq a hz]; exact e_cols k h l
  rw [G.R.dcs, if_pos hh, ← yo_eq hst k hh l hz, ← r, ← s, ← w_eq k hh l hz, ← Finset.sum_add_distrib, ← Finset.sum_sub_distrib, ← Finset.sum_sub_distrib]
  rfl
include hst in
theorem xdtot {h : ℕ} (hh : h < 8) (hz : z < 128) : (a.x z k).dtot h = (∑ l ∈ Finset.range 128, a.w k h z l) + a.dup k h z := by
  have t1 : (∑ p ∈ Finset.range 64, ∑ l ∈ Finset.range 128, (a.x z k).xp l (64 * h + p) * (a.x z k).bgd l (64 * h + p)) = ∑ l ∈ Finset.range 128, a.w k h z l := by
    rw [Finset.sum_comm]
    exact Finset.sum_congr rfl fun l _ => w_eq k hh l hz
  have t2 : (∑ p ∈ Finset.range 64, (∑ n ∈ Finset.range 128, (a.x z k).g n (64 * h + p) * (a.x z k).st n (64 * h + p)) * Real.exp ((a.x z k).tot ((64 * h + p) / 64))) = a.dup k h z := by
    have e (i c : ℕ) : (if c < z ∧ z < i then a.W k h i c else 0)
        = ∑ p ∈ Finset.range 64, ∑ n ∈ Finset.range 128, a.GS k i (64 * h + p) n * a.add k c (64 * h + p) n * (a.car k h i z * a.car k h z c * Real.exp ((a.e z k).tot h)) := by
      rw [car_comp]
      split
      · rename_i hc
        rw [W, if_pos (by omega), Finset.sum_mul]
        exact Finset.sum_congr rfl fun p _ => Finset.sum_mul _ _ _
      · simp
    have e' : a.dup k h z = ∑ p ∈ Finset.range 64, ∑ n ∈ Finset.range 128, ∑ i ∈ Finset.range 128, ∑ c ∈ Finset.range 128,
        a.GS k i (64 * h + p) n * a.add k c (64 * h + p) n * (a.car k h i z * a.car k h z c * Real.exp ((a.e z k).tot h)) := by
      rw [dup_eq a k h hz, Finset.sum_congr rfl fun i _ => Finset.sum_congr rfl fun c _ => e i c,
        Finset.sum_congr rfl fun i _ => Finset.sum_comm, Finset.sum_comm]
      refine Finset.sum_congr rfl fun p _ => ?_
      rw [Finset.sum_congr rfl fun i _ => Finset.sum_comm, Finset.sum_comm]
    rw [e']
    refine Finset.sum_congr rfl fun p hp => ?_
    have h' := Finset.mem_range.1 hp
    rw [Finset.sum_mul]
    refine Finset.sum_congr rfl fun n _ => ?_
    rw [xg k (by omega) n hz, xst hst k (by omega) n hz, col_head h', G, S, col_head h', Finset.sum_mul_sum, Finset.sum_mul,
      show (a.x z k).tot h = (a.e z k).tot h by rw [x_eq a hz]; rfl]
    refine Finset.sum_congr rfl fun i _ => ?_
    rw [Finset.sum_mul]
    exact Finset.sum_congr rfl fun c _ => by ring
  rw [G.R.dtot, if_pos hh, ← t1, ← t2, ← Finset.sum_add_distrib]
  rfl
include hst in
theorem xda {h : ℕ} (hh : h < 8) (l : ℕ) (hz : z < 128) : (a.x z k).da l h = a.Da k h z l := by
  rw [G.R.da, Da]
  refine Finset.sum_congr rfl fun i hi => ?_
  have := Finset.mem_range.1 hi
  refine if_congr Iff.rfl ?_ rfl
  rw [xdcs hst k hh i hz, xdtot hst k hh hz, Dcs, Finset.sum_neg_distrib]
  by_cases h1 : i = 127
  · rw [if_pos h1, if_pos (by omega), if_pos (by omega)]; ring
  · rw [if_neg h1, if_neg (by omega), if_neg (by omega)]; ring
include hst in
theorem xddr (h l : ℕ) (hz : z < 128) : (a.x z k).ddr l h = if h < 8 then a.ddr k h z l else 0 := by
  rw [G.R.ddr]
  split
  · rename_i hh
    have d : (a.x z k).ddt l h = ∑ p ∈ Finset.range 64, (a.e z k).xc l (64 * h + p) * a.dX k z l (64 * h + p) := by
      rw [G.R.ddt, if_pos hh]
      refine Finset.sum_congr rfl fun p hp => ?_
      have := Finset.mem_range.1 hp
      rw [G.R.ww, xdX k (by omega) l hz, x_eq a hz, mul_comm]
    rw [xda hst k hh l hz, d, Arr.ddr, G.R.sp, sigmoid, Ddt, x_eq a hz]; rfl
  · rfl
end Chunk

/-! ### The results -/
section Results
variable {a} (hst : ∀ z n q, a.st z n q = a.S (q / 512) z (q % 512) n)
include hst

theorem out_xc {r : ℕ} (hr : r < 16384) (q : ℕ) : (a.at' (127 - r / 128)).oXc (r % 128) q = a.rXc (q / 768) (r / 128) (r % 128) (q % 768) := by
  have hz : r / 128 < 128 := by omega
  rw [Blk.oXc, rXc]
  show (if q % 768 < 512 then (a.x (r / 128) (q / 768)).dxs (r % 128) (q % 768)
    else if q % 768 < 640 then (a.x (r / 128) (q / 768)).db (r % 128) (q % 768 - 512) else (a.x (r / 128) (q / 768)).dc (r % 128) (q % 768 - 640)) = _
  by_cases h1 : q % 768 < 512
  · rw [if_pos h1, if_neg (by omega), if_neg (by omega), if_pos (by omega), xdxs _ h1 _ hz, Nat.sub_zero, zero_add, zero_add]
  · rw [if_neg h1]
    by_cases h2 : q % 768 < 640
    · rw [if_pos h2, if_neg (by omega), if_pos (by omega), if_neg (by omega), xdb _ _ _ hz, add_zero, zero_add]
    · rw [if_neg h2, if_pos (by omega), if_neg (by omega), if_neg (by omega), xdc hst _ _ _ hz, add_zero, add_zero]
theorem out_dt {r : ℕ} (hr : r < 16384) (q : ℕ) : (a.at' (127 - r / 128)).oDdr (r % 128) q = a.rDt (q / 128) (r / 128) (r % 128) (q % 128) := by
  have hz : r / 128 < 128 := by omega
  rw [Blk.oDdr, rDt]
  show (a.x (r / 128) (q / 128)).ddr (r % 128) (q % 128) = _
  rw [xddr hst _ _ _ hz, Nat.sub_zero]
  exact if_congr (by omega) rfl rfl

omit hst in
/-- A sum that runs from point to point. -/
theorem run_sum (f : ℕ → ℝ) (v : ℕ → ℝ) (h0 : v 0 = f 127) (hs : ∀ t, t < 127 → v (t + 1) = v t + f (127 - (t + 1))) : v 127 = ∑ z : Fin 128, f z.val := by
  have h : ∀ t, t ≤ 127 → v t = ∑ i ∈ Finset.range (t + 1), f (127 - i) := by
    intro t
    induction t with
    | zero => intro _; rw [h0, Finset.sum_range_one]
    | succ t ih => intro ht; rw [hs t (by omega), ih (by omega), Finset.sum_range_succ _ (t + 1)]
  rw [h 127 le_rfl, ← Finset.sum_range (fun i => f i)]
  exact Finset.sum_range_reflect f 128
omit hst in
theorem x_at {t : ℕ} (ht : t < 128) (k : ℕ) : (a.at' t).grp k = a.x (127 - t) k := by rw [x, show 127 - (127 - t) = t by omega]

theorem out_bias (q : ℕ) : (a.at' 127).oDbi q = a.rDbi (q / 128) (q % 128) := by
  have h := run_sum (fun z => ∑ l ∈ Finset.range 128, (a.x z (q / 128)).ddr l (q % 128)) (fun t => (a.at' t).oDbi q)
    (show (0 : ℝ) + _ = _ by rw [zero_add]; rfl)
    (fun t ht => by
      show ((a.at' (t + 1)).grp (q / 128)).dbi (q % 128) + (∑ r ∈ Finset.range 128, ((a.at' (t + 1)).grp (q / 128)).ddr r (q % 128)) = _
      rw [x_at (by omega) (q / 128), ← x_at (by omega : t + 1 < 128) (q / 128)]
      show (a.at' t).oDbi (128 * (q / 128) + q % 128) + _ = _
      rw [Nat.div_add_mod, x_at (by omega : t + 1 < 128) (q / 128)])
  refine h.trans ?_
  rw [rDbi]
  by_cases h1 : q % 128 < 8
  · rw [if_pos (by omega), Nat.sub_zero]
    refine Finset.sum_congr rfl fun z _ => ?_
    rw [Finset.sum_range]
    exact Finset.sum_congr rfl fun l _ => by rw [xddr hst _ _ _ z.isLt, if_pos h1]
  · rw [if_neg (by omega)]
    exact Finset.sum_eq_zero fun z _ => Finset.sum_eq_zero fun l _ => by rw [xddr hst _ _ _ z.isLt, if_neg h1]
theorem out_alog (q : ℕ) : (a.at' 127).oDal q = a.rDal (q / 128) (q % 128) := by
  have h := run_sum (fun z => ∑ l ∈ Finset.range 128, if q % 128 < 8 then (a.x z (q / 128)).da l (q % 128) * (a.x z (q / 128)).sp l (q % 128) * (a.x z (q / 128)).A (q % 128) else 0)
    (fun t => (a.at' t).oDal q)
    (show (0 : ℝ) + _ = _ by rw [zero_add]; rfl)
    (fun t ht => by
      show ((a.at' (t + 1)).grp (q / 128)).dal (q % 128) + (∑ r ∈ Finset.range 128, if q % 128 < 8 then ((a.at' (t + 1)).grp (q / 128)).da r (q % 128)
        * ((a.at' (t + 1)).grp (q / 128)).sp r (q % 128) * ((a.at' (t + 1)).grp (q / 128)).A (q % 128) else 0) = _
      have e : ((a.at' (t + 1)).grp (q / 128)).dal (q % 128) = (a.at' t).oDal q := by
        show (a.at' t).oDal (128 * (q / 128) + q % 128) = _
        rw [Nat.div_add_mod]
      rw [e, x_at (by omega : t + 1 < 128) (q / 128)])
  refine h.trans ?_
  rw [rDal]
  by_cases h1 : q % 128 < 8
  · rw [if_pos (by omega), Nat.sub_zero, neg_mul, Finset.sum_mul, ← Finset.sum_neg_distrib]
    refine Finset.sum_congr rfl fun z _ => ?_
    rw [Finset.sum_range, Finset.sum_mul, ← Finset.sum_neg_distrib]
    refine Finset.sum_congr rfl fun l _ => ?_
    have ea : (a.x z.val (q / 128)).A (q % 128) = 0 - Real.exp ((a.e 0 (q / 128)).alog (q % 128)) := by rw [x_eq a z.isLt]; rfl
    have es : (a.x z.val (q / 128)).sp l.val (q % 128) = (a.e z.val (q / 128)).sp l.val (q % 128) := by rw [x_eq a z.isLt]; rfl
    rw [if_pos h1, xda hst _ h1 _ z.isLt, ea, es]
    ring
  · rw [if_neg (by omega)]
    exact Finset.sum_eq_zero fun z _ => Finset.sum_eq_zero fun l _ => if_neg h1
end Results
end Arr
end Cert.Scan
-- ==== Proof.Scan.Final.lean ====
/- The kernel's four results are the reference's: the arguments' real numbers, and both programs over them. -/
module

public import proofs.«01_k».proof.Defs
public import proofs.«01_k».proof.Proof.Gen.ReferenceIdeal.Run
public import proofs.«01_k».proof.Proof.Scan.Finite
public import proofs.«01_k».proof.Proof.Scan.Host
public import proofs.«01_k».proof.Proof.Scan.Real

@[expose] public section

noncomputable section

namespace Cert.Scan

open Idealize.ShloMosaic Idealize.ShloMosaic.TcCoe Idealize.SL.Sem Cert.KernelIdeal Cert.KernelIdeal.Gen Cert.ReferenceIdeal.Read
open Idealize.ShloMosaic.Pipeline (Dat)

/-- The real numbers in a matrix. -/
def grid {A B : ℕ} (x : (⟨2, ![A, B]⟩ : Shape).Idx → EReal) (r q : ℕ) : ℝ :=
  if h : r < A ∧ q < B then (x (ValueIdx.ix2 ⟨r, h.1⟩ ⟨q, h.2⟩)).toReal else 0

theorem grid_eq {A B : ℕ} (x : (⟨2, ![A, B]⟩ : Shape).Idx → EReal) (hx : ∀ i, x i ≠ ⊤ ∧ x i ≠ ⊥) (i : (⟨2, ![A, B]⟩ : Shape).Idx) :
    x i = ((grid x (i 0).val (i 1).val : ℝ) : EReal) := by
  rw [grid, dif_pos ⟨(i 0).isLt, (i 1).isLt⟩, EReal.coe_toReal (hx _).1 (hx _).2]
  congr 1
  funext a
  match a with
  | ⟨0, _⟩ => rfl
  | ⟨1, _⟩ => rfl

section Arrays
variable (x0 : S16384x3072.Idx → EReal) (x1 : S16384x512.Idx → EReal) (x2 x3 : S1x512.Idx → EReal) (x4 : S16384x2048.Idx → EReal)

/-- The arguments' real numbers, `base` without the states before the chunks. -/
def base : Arr where
  xc := grid x0
  dt := grid x1
  bias := grid x2 0
  alog := grid x3 0
  dy := grid x4
  st _ _ _ := 0
def whole : Arr where
  xc := grid x0
  dt := grid x1
  bias := grid x2 0
  alog := grid x3 0
  dy := grid x4
  st z n q := (base x0 x1 x2 x3 x4).S (q / 512) z (q % 512) n

theorem whole_st (z n q : ℕ) : (whole x0 x1 x2 x3 x4).st z n q = (whole x0 x1 x2 x3 x4).S (q / 512) z (q % 512) n := rfl

variable {x0 x1 x2 x3 x4}
variable (h0 : ∀ i, x0 i ≠ ⊤ ∧ x0 i ≠ ⊥) (h1 : ∀ i, x1 i ≠ ⊤ ∧ x1 i ≠ ⊥) (h2 : ∀ i, x2 i ≠ ⊤ ∧ x2 i ≠ ⊥) (h3 : ∀ i, x3 i ≠ ⊤ ∧ x3 i ≠ ⊥) (h4 : ∀ i, x4 i ≠ ⊤ ∧ x4 i ≠ ⊥)
include h0 h1 h2 h3 h4

theorem reads : Reads (whole x0 x1 x2 x3 x4) x0 x1 x2 x3 x4 where
  xc := grid_eq x0 h0
  dt := grid_eq x1 h1
  bias i := by
    have e : (i 0).val = 0 := by have := (i 0).isLt; exact Nat.lt_one_iff.mp this
    rw [grid_eq x2 h2 i, e]; rfl
  alog i := by
    have e : (i 0).val = 0 := by have := (i 0).isLt; exact Nat.lt_one_iff.mp this
    rw [grid_eq x3 h3 i, e]; rfl
  dy := grid_eq x4 h4

/-- The states, laid out as the kernel takes them. -/
theorem laid (i : S128x128x2048.Idx) :
    truncf (F := Ideal) .bf16 (shapeCast S128x128x2048 (transpose S128x128x4x8x64 [0, 4, 1, 2, 3] (val_main_v50 (F := Ideal) x0 x1 x2 x3) transposes_S128x4x8x64x128_S128x128x4x8x64_0_4_1_2_3)
      shapeCasts_S128x128x4x8x64_S128x128x2048) bitsLt_bf16_f32 i = (L3 (whole x0 x1 x2 x3 x4).st i : EReal) := by
  have b0 : (i 0).val < 128 := (i 0).isLt
  have b1 : (i 1).val < 128 := (i 1).isLt
  have b2 : (i 2).val < 2048 := (i 2).isLt
  let k : S128x128x4x8x64.Idx := fun a => match a with
    | ⟨0, _⟩ => ⟨(i 0).val, b0⟩
    | ⟨1, _⟩ => ⟨(i 1).val, b1⟩
    | ⟨2, _⟩ => ⟨(i 2).val / 512, by show _ < 4; omega⟩
    | ⟨3, _⟩ => ⟨(i 2).val % 512 / 64, by show _ < 8; omega⟩
    | ⟨4, _⟩ => ⟨(i 2).val % 64, by show _ < 64; omega⟩
  let l : S128x4x8x64x128.Idx := fun a => match a with
    | ⟨0, _⟩ => ⟨(i 0).val, b0⟩
    | ⟨1, _⟩ => ⟨(i 2).val / 512, by show _ < 4; omega⟩
    | ⟨2, _⟩ => ⟨(i 2).val % 512 / 64, by show _ < 8; omega⟩
    | ⟨3, _⟩ => ⟨(i 2).val % 64, by show _ < 64; omega⟩
    | ⟨4, _⟩ => ⟨(i 1).val, b1⟩
  refine Eq.trans (b := shapeCast S128x128x2048 (transpose S128x128x4x8x64 [0, 4, 1, 2, 3] (val_main_v50 (F := Ideal) x0 x1 x2 x3) transposes_S128x4x8x64x128_S128x128x4x8x64_0_4_1_2_3)
    shapeCasts_S128x128x4x8x64_S128x128x2048 i) rfl ?_
  refine (shapeCast_apply _ shapeCasts_S128x128x4x8x64_S128x128x2048 i k ?_).trans ?_
  · rewrite [Shape.rowMajor_val_five, Shape.rowMajor_val_three]
    show ((((i 0).val * 128 + (i 1).val) * 4 + (i 2).val / 512) * 8 + (i 2).val % 512 / 64) * 64 + (i 2).val % 64 = ((i 0).val * 128 + (i 1).val) * 2048 + (i 2).val
    omega
  refine (transpose_apply _ _ transposes_S128x4x8x64x128_S128x128x4x8x64_0_4_1_2_3 k l ?_).trans ?_
  · intro b
    match b with
    | ⟨0, _⟩ => rfl
    | ⟨1, _⟩ => rfl
    | ⟨2, _⟩ => rfl
    | ⟨3, _⟩ => rfl
    | ⟨4, _⟩ => rfl
  refine (r50 (reads h0 h1 h2 h3 h4) l).trans ?_
  show (((whole x0 x1 x2 x3 x4).S ((i 2).val / 512) (i 0).val (64 * ((i 2).val % 512 / 64) + (i 2).val % 64) (i 1).val : ℝ) : EReal) = _
  rw [show 64 * ((i 2).val % 512 / 64) + (i 2).val % 64 = (i 2).val % 512 by omega]
  rfl

variable (m : (ℓ : Loc nD τ sig) → Buf (Elt Ideal) ℓ) (c : Dev nD)
  (e0 : m ((c : Thread nD τ).loc main_arg0) = x0) (e1 : m ((c : Thread nD τ).loc main_arg1) = x1) (e2 : m ((c : Thread nD τ).loc main_arg2) = x2)
  (e3 : m ((c : Thread nD τ).loc main_arg3) = x3) (e4 : m ((c : Thread nD τ).loc main_arg4) = x4)
include e0 e1 e2 e3 e4

theorem holds : Holds (whole x0 x1 x2 x3 x4) m c where
  xc := (V_main_arg0 m c).trans (e0.trans (funext (reads h0 h1 h2 h3 h4).xc))
  dt := (V_main_arg1 m c).trans (e1.trans (funext (reads h0 h1 h2 h3 h4).dt))
  bias := (V_main_arg2 m c).trans (e2.trans (funext (reads h0 h1 h2 h3 h4).bias))
  alog := (V_main_arg3 m c).trans (e3.trans (funext (reads h0 h1 h2 h3 h4).alog))
  dy := (V_main_arg4 m c).trans (e4.trans (funext (reads h0 h1 h2 h3 h4).dy))
  st := (Host.states m c e0 e1 e2 e3).trans (funext (laid h0 h1 h2 h3 h4))

theorem eq_xc : (dats m 0 c).arrAt 6 cfg0.N = val_main_v194 (F := Ideal) x0 x1 x2 x3 x4 :=
  (final_xc (holds h0 h1 h2 h3 h4 m c e0 e1 e2 e3 e4)).trans (funext fun i => by
    rw [r194 (reads h0 h1 h2 h3 h4)]
    exact congrArg _ (Arr.out_xc (whole_st x0 x1 x2 x3 x4) (i 0).isLt _))
theorem eq_dt : (dats m 0 c).arrAt 7 cfg0.N = val_main_v186 (F := Ideal) x0 x1 x2 x3 x4 :=
  (final_dt (holds h0 h1 h2 h3 h4 m c e0 e1 e2 e3 e4)).trans (funext fun i => by
    rw [r186 (reads h0 h1 h2 h3 h4)]
    exact congrArg _ (Arr.out_dt (whole_st x0 x1 x2 x3 x4) (i 0).isLt _))
theorem eq_alog : (dats m 0 c).arrAt 8 cfg0.N = val_main_v178 (F := Ideal) x0 x1 x2 x3 x4 :=
  (final_alog (holds h0 h1 h2 h3 h4 m c e0 e1 e2 e3 e4)).trans (funext fun i => by
    rw [r178 (reads h0 h1 h2 h3 h4)]
    exact congrArg _ (Arr.out_alog (whole_st x0 x1 x2 x3 x4) _))
theorem eq_bias : (dats m 0 c).arrAt 9 cfg0.N = val_main_v184 (F := Ideal) x0 x1 x2 x3 x4 :=
  (final_bias (holds h0 h1 h2 h3 h4 m c e0 e1 e2 e3 e4)).trans (funext fun i => by
    rw [r184 (reads h0 h1 h2 h3 h4)]
    exact congrArg _ (Arr.out_bias (whole_st x0 x1 x2 x3 x4) _))
end Arrays

theorem five {α β γ δ ε ζ : Type} (f : α → β → γ → δ → ε → ζ) {x x' : α} {y y' : β} {z z' : γ} {u u' : δ} {v v' : ε} (hx : x = x') (hy : y = y') (hz : z = z') (hu : u = u') (hv : v = v') :
    f x y z u v = f x' y' z' u' v' := by rw [hx, hy, hz, hu, hv]

theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m g m' g' hp ha
  have key (c : Dev nD) := Finite.all (hp c)
  refine ⟨fun c => (dats m 0 c).arrAt 6 cfg0.N, fun c => (dats m 0 c).arrAt 7 cfg0.N, fun c => (dats m 0 c).arrAt 8 cfg0.N, fun c => (dats m 0 c).arrAt 9 cfg0.N,
    Cert.KernelIdeal.Value.run_blocks m g, θ_run_mono (Cert.ReferenceIdeal.Value.run m' g') fun r h c => ?_⟩
  obtain ⟨a0, a1, a2, a3, a4⟩ := ha c
  obtain ⟨k0, k1, k2, k3, k4⟩ := key c
  obtain ⟨r0, r1, r2, r3, r4, r5, r6, r7, r8⟩ := h c
  refine ⟨(r0.trans (val_main_v194_eq _)).trans ?_, (r1.trans (val_main_v186_eq _)).trans ?_, (r2.trans (val_main_v178_eq _)).trans ?_, (r3.trans (val_main_v184_eq _)).trans ?_, r4, r5, r6, r7, r8⟩
  · exact (five _ a0 a1 a2 a3 a4).trans (eq_xc k0 k1 k2 k3 k4 m c rfl rfl rfl rfl rfl).symm
  · exact (five _ a0 a1 a2 a3 a4).trans (eq_dt k0 k1 k2 k3 k4 m c rfl rfl rfl rfl rfl).symm
  · exact (five _ a0 a1 a2 a3 a4).trans (eq_alog k0 k1 k2 k3 k4 m c rfl rfl rfl rfl rfl).symm
  · exact (five _ a0 a1 a2 a3 a4).trans (eq_bias k0 k1 k2 k3 k4 m c rfl rfl rfl rfl rfl).symm

end Cert.Scan
-- ==== Proof.Norm.Base.lean ====
/- Matrices of extended reals as functions of two naturals, what the operations of the projections' backward kernels do to them, and the
   two ways to write the gradient through the normalisation. No entry is assumed finite. -/
module

public import Idealize.ShloMosaic.PureOps.Ideal.Laws
public import Idealize.ShloMosaic.Lib.ValueIdx
public import Idealize.ShloMosaic.Lib.IdealHost
public import Idealize.ShloMosaic.Lib.MatmulPlain
public import Idealize.ShloMosaic.Lib.Pipeline.Value
public import Idealize.ShloMosaic.Lib.ValueLayout

@[expose] public section

noncomputable section

namespace Cert.Norm

open Idealize.ShloMosaic Idealize.ShloMosaic.ValueIdx
open scoped BigOperators

/-- The vector and the matrix that a function of naturals gives. -/
def E1 {a : ℕ} (f : ℕ → EReal) : (⟨1, ![a]⟩ : Shape).Idx → EReal := fun i => f (i 0).val
def E2 {a b : ℕ} (f : ℕ → ℕ → EReal) : (⟨2, ![a, b]⟩ : Shape).Idx → EReal := fun i => f (i 0).val (i 1).val

/-- A matrix as a function of two naturals (0 outside). -/
def nat2 {a b : ℕ} (x : (⟨2, ![a, b]⟩ : Shape).Idx → EReal) (r q : ℕ) : EReal :=
  if h : r < a ∧ q < b then x (ValueIdx.ix2 ⟨r, h.1⟩ ⟨q, h.2⟩) else 0

theorem nat2_eq {a b : ℕ} (x : (⟨2, ![a, b]⟩ : Shape).Idx → EReal) : x = E2 (nat2 x) := by
  funext i
  show _ = nat2 x (i 0).val (i 1).val
  rw [nat2, dif_pos ⟨(i 0).isLt, (i 1).isLt⟩]
  congr 1
  funext a
  match a with
  | ⟨0, _⟩ => rfl
  | ⟨1, _⟩ => rfl

theorem E2_congr {a b : ℕ} {f g : ℕ → ℕ → EReal} (h : ∀ r < a, ∀ c < b, f r c = g r c) :
    (E2 f : (⟨2, ![a, b]⟩ : Shape).Idx → EReal) = E2 g := by
  funext i
  exact h (i 0).val (i 0).isLt (i 1).val (i 1).isLt

/-- Both arguments of a two-place function replaced. -/
theorem at2 (f : ℕ → ℕ → EReal) {r r' q q' : ℕ} (hr : r = r') (hq : q = q') : f r q = f r' q' := by rw [hr, hq]

section Ops
variable {a b : ℕ} {φ : FTy} (f g : ℕ → ℕ → EReal)

theorem addf_E2 : addf (F := Ideal) (φ := φ) (E2 f : (⟨2, ![a, b]⟩ : Shape).Idx → EReal) (E2 g) = E2 (fun r c => f r c + g r c) := rfl
theorem subf_E2 : subf (F := Ideal) (φ := φ) (E2 f : (⟨2, ![a, b]⟩ : Shape).Idx → EReal) (E2 g) = E2 (fun r c => f r c - g r c) := rfl
theorem mulf_E2 : mulf (F := Ideal) (φ := φ) (E2 f : (⟨2, ![a, b]⟩ : Shape).Idx → EReal) (E2 g) = E2 (fun r c => f r c * g r c) := rfl
theorem divf_E2 : divf (F := Ideal) (φ := φ) (E2 f : (⟨2, ![a, b]⟩ : Shape).Idx → EReal) (E2 g) = E2 (fun r c => Ideal.div (f r c) (g r c)) := rfl
theorem rsqrt_E2 : rsqrt (F := Ideal) (φ := φ) (E2 f : (⟨2, ![a, b]⟩ : Shape).Idx → EReal) = E2 (fun r c => Ideal.rsqrt (f r c)) := rfl
theorem const_E2 (w : BitVec 32) : (broadcast (⟨2, ![a, b]⟩ : Shape) (Scalar.ofBits (F := Ideal) .f32 w) : (⟨2, ![a, b]⟩ : Shape).Idx → EReal)
    = E2 (fun _ _ => Ideal.ofBits .f32 w) := rfl
theorem truncf_E2 {ψ : FTy} (h : ψ.bits < φ.bits) :
    truncf (F := Ideal) ψ (E2 f : (⟨2, ![a, b]⟩ : Shape).Idx → EReal) h = E2 f := rfl
theorem cast_self_E2 (h : (⟨2, ![a, b]⟩ : Shape).ShapeCasts ⟨2, ![a, b]⟩) :
    shapeCast ⟨2, ![a, b]⟩ (E2 f : (⟨2, ![a, b]⟩ : Shape).Idx → EReal) h = E2 f := shapeCast_self _ _
/-- A row repeated. -/
theorem row_E2 {a' : ℕ} (hb : b ≠ 1) (h : (⟨2, ![1, b]⟩ : Shape).Broadcasts ⟨2, ![a', b]⟩) :
    broadcastTo ⟨2, ![a', b]⟩ (E2 f : (⟨2, ![1, b]⟩ : Shape).Idx → EReal) h = E2 (fun _ c => f 0 c) := by
  funext i
  exact broadcastTo_apply _ h i (ValueIdx.ix2 0 (i 1)) (fun x => by
    match x with
    | ⟨0, _⟩ => rfl
    | ⟨1, _⟩ => exact (if_neg hb).symm)
/-- A column repeated. -/
theorem col_E2 {b' : ℕ} (ha : a ≠ 1) (h : (⟨2, ![a, 1]⟩ : Shape).Broadcasts ⟨2, ![a, b']⟩) :
    broadcastTo ⟨2, ![a, b']⟩ (E2 f : (⟨2, ![a, 1]⟩ : Shape).Idx → EReal) h = E2 (fun r _ => f r 0) := by
  funext i
  exact broadcastTo_apply _ h i (ValueIdx.ix2 (i 0) 0) (fun x => by
    match x with
    | ⟨0, _⟩ => exact (if_neg ha).symm
    | ⟨1, _⟩ => rfl)
/-- A vector as a row, and as a column. -/
theorem cast_row_E1 (f : ℕ → EReal) (h : (⟨1, ![b]⟩ : Shape).ShapeCasts ⟨2, ![1, b]⟩) :
    shapeCast ⟨2, ![1, b]⟩ (E1 f : (⟨1, ![b]⟩ : Shape).Idx → EReal) h = E2 (fun _ c => f c) := by
  funext i
  rw [shapeCast_addUnit_apply]
  rfl
theorem cast_col_E1 (f : ℕ → EReal) (h : (⟨1, ![a]⟩ : Shape).ShapeCasts ⟨2, ![a, 1]⟩) :
    shapeCast ⟨2, ![a, 1]⟩ (E1 f : (⟨1, ![a]⟩ : Shape).Idx → EReal) h = E2 (fun r _ => f r) := by
  funext i
  refine shapeCast_apply _ h i (fun x => match x with | ⟨0, _⟩ => i 0) ?_
  have : (i 1).val < 1 := (i 1).isLt
  rewrite [Shape.rowMajor_val_one, Shape.rowMajor_val_two]
  show (i 0).val = (i 0).val * 1 + (i 1).val
  omega
/-- The sum along each row, and down each column. -/
theorem sum_row (acc : BitVec φ.bits) (h : (⟨2, ![a, b]⟩ : Shape).Reduces [1] ⟨1, ![a]⟩) (hφ : FKind.Formats φ) (hacc : acc = FKind.neutral .add φ hφ) :
    multiReduction (F := Ideal) .add [1] ⟨1, ![a]⟩ (E2 f : (⟨2, ![a, b]⟩ : Shape).Idx → EReal) acc h hφ hacc
      = E1 (fun r => ∑ k ∈ Finset.range b, f r k) := by
  funext j
  rw [Ideal.multiReduction_add_single]
  exact (Finset.sum_range fun k => f (j 0).val k).symm
theorem sum_col (acc : BitVec φ.bits) (h : (⟨2, ![a, b]⟩ : Shape).Reduces [0] ⟨1, ![b]⟩) (hφ : FKind.Formats φ) (hacc : acc = FKind.neutral .add φ hφ) :
    multiReduction (F := Ideal) .add [0] ⟨1, ![b]⟩ (E2 f : (⟨2, ![a, b]⟩ : Shape).Idx → EReal) acc h hφ hacc
      = E1 (fun c => ∑ r ∈ Finset.range a, f r c) := by
  funext j
  rw [Ideal.multiReduction_add_single]
  exact (Finset.sum_range fun k => f k (j 0).val).symm
end Ops

section Product
variable {M K N : ℕ} {φ₁ φ₂ : FTy} (prec : Option ContractPrecision) (f g : ℕ → ℕ → EReal)

theorem zero_acc {s : Shape} (j : s.Idx) : (constant (F := Ideal) s .f32 0x00000000#32) j = 0 := Ideal.ofBits_zero_f32

/-- A plain product. -/
theorem mm_nn_E2 :
    FloatOps.matmul (F := Ideal) (φ₁ := φ₁) (φ₂ := φ₂) (DotDims.plain M K N) prec (E2 f : (⟨2, ![M, K]⟩ : Shape).Idx → EReal)
      (E2 g : (⟨2, ![K, N]⟩ : Shape).Idx → EReal) (constant ⟨2, ![M, N]⟩ .f32 0x00000000#32)
      = E2 (fun r c => ∑ k ∈ Finset.range K, f r k * g k c) := by
  funext i
  have h := Ideal.matmul_plain_apply (φ₁ := φ₁) (φ₂ := φ₂) prec (E2 f : (⟨2, ![M, K]⟩ : Shape).Idx → EReal)
      (E2 g : (⟨2, ![K, N]⟩ : Shape).Idx → EReal) (constant ⟨2, ![M, N]⟩ .f32 0x00000000#32) (i 0) (i 1)
  rw [zero_acc, zero_add] at h
  rw [ValueIdx.eq_ix2 i]
  exact h.trans (Finset.sum_range fun k => f (i 0).val k * g k (i 1).val).symm

/-- A product with the right factor transposed. -/
theorem mm_nt_E2 :
    FloatOps.matmul (F := Ideal) (φ₁ := φ₁) (φ₂ := φ₂) (DotDims.transposedRhs M K N) prec (E2 f : (⟨2, ![M, K]⟩ : Shape).Idx → EReal)
      (E2 g : (⟨2, ![N, K]⟩ : Shape).Idx → EReal) (constant ⟨2, ![M, N]⟩ .f32 0x00000000#32)
      = E2 (fun r c => ∑ k ∈ Finset.range K, f r k * g c k) := by
  funext i
  have h := Ideal.matmul_transposedRhs_apply (φ₁ := φ₁) (φ₂ := φ₂) prec (E2 f : (⟨2, ![M, K]⟩ : Shape).Idx → EReal)
      (E2 g : (⟨2, ![N, K]⟩ : Shape).Idx → EReal) (constant ⟨2, ![M, N]⟩ .f32 0x00000000#32) (i 0) (i 1)
  rw [zero_acc, zero_add] at h
  rw [ValueIdx.eq_ix2 i]
  exact h.trans (Finset.sum_range fun k => f (i 0).val k * g (i 1).val k).symm

/-- A product with the left factor transposed (`D`: any dimension numbers that read that way). -/
theorem mm_tn_E2 (D : DotDims ⟨2, ![K, M]⟩ ⟨2, ![K, N]⟩ ⟨2, ![M, N]⟩) (hr : D.contr.rank = 1) (hs : D.contr.size ⟨0, by omega⟩ = K)
    (hl0 : ∀ i q, (D.lhsIdx i q 0).val = (q ⟨0, by omega⟩).val) (hl1 : ∀ i q, (D.lhsIdx i q 1).val = (i 0).val)
    (hr0 : ∀ i q, (D.rhsIdx i q 0).val = (q ⟨0, by omega⟩).val) (hr1 : ∀ i q, (D.rhsIdx i q 1).val = (i 1).val) :
    FloatOps.matmul (F := Ideal) (φ₁ := φ₁) (φ₂ := φ₂) D prec (E2 f : (⟨2, ![K, M]⟩ : Shape).Idx → EReal)
      (E2 g : (⟨2, ![K, N]⟩ : Shape).Idx → EReal) (constant ⟨2, ![M, N]⟩ .f32 0x00000000#32)
      = E2 (fun r c => ∑ k ∈ Finset.range K, f k r * g k c) := by
  funext i
  rw [Ideal.matmul_apply, zero_acc, zero_add, ← Equiv.sum_comp (contrEquiv1 D K hr hs).symm]
  refine Eq.trans (Finset.sum_congr rfl fun k _ => ?_) (Finset.sum_range fun k => f k (i 0).val * g k (i 1).val).symm
  have hk := contrEquiv1_symm_val D K hr hs k
  show f _ _ * g _ _ = _
  rw [hl0, hl1, hr0, hr1, hk]
end Product

/-- A sum over the blocks so far, and the next block's sum. -/
theorem sum_block (w n : ℕ) (f : ℕ → EReal) :
    (∑ k ∈ Finset.range (w * n), f k) + ∑ k ∈ Finset.range w, f (w * n + k) = ∑ k ∈ Finset.range (w * (n + 1)), f k := by
  rw [Nat.mul_succ, Finset.sum_range_add]

/-- Sums as the reference reads them: over the indices below `n`, with and without its zero before them. -/
theorem fin_sum {n n' : ℕ} (h : n = n') (f : ℕ → EReal) : (∑ k : Fin n, f k.val) = ∑ k ∈ Finset.range n', f k := by
  subst h
  exact (Finset.sum_range f).symm
theorem zero_sum (n : ℕ) (f : ℕ → EReal) : Ideal.ofBits .f32 0x00000000#32 + (∑ k : Fin n, f k.val) = ∑ k ∈ Finset.range n, f k := by
  rw [Ideal.ofBits_zero_f32, zero_add, fin_sum rfl]

/-! ### The gradient through the normalisation -/

/-- The number 1024 and the normalisation's ε, as both programs have them. -/
abbrev width : EReal := Ideal.ofBits .f32 0x44800000#32
abbrev eps : EReal := Ideal.ofBits .f32 0x3727C5AC#32
abbrev half : EReal := Ideal.ofBits .f32 0xBF000000#32

section Gradient
variable (R x w dh : ℕ → ℕ → EReal) (r c : ℕ)

/-- Row `r`'s mean square and ε. -/
def ms : EReal := Ideal.div (∑ k ∈ Finset.range 1024, x r k * x r k) width + eps
def rstd : EReal := Ideal.rsqrt (ms x r)
/-- The gradient of a row and of the scale, as the kernel writes them (`R`: the gradient of the normalised rows times the scale). -/
def gradK : EReal :=
  dh r c + rstd x r * (R r c * w 0 c - x r c * rstd x r * Ideal.div (∑ k ∈ Finset.range 1024, R r k * w 0 k * (x r k * rstd x r)) width)
def scaleK : EReal := R r c * (x r c * rstd x r)
/-- The same gradients as the reference's derivative writes them. -/
def coefR : EReal := Ideal.div ((∑ k ∈ Finset.range 1024, x r k * (R r k * w 0 k)) * (half * Ideal.div (rstd x r) (ms x r))) width
def gradR : EReal := dh r c + R r c * w 0 c * rstd x r + x r c * coefR R x w r + coefR R x w r * x r c

/-- The rows of a block that starts at row `o`. -/
theorem rstd_shift (o : ℕ) : rstd (fun r k => x (o + r) k) r = rstd x (o + r) := by unfold rstd ms; with_reducible rfl
theorem gradK_shift (o : ℕ) : gradK (fun r k => R (o + r) k) (fun r k => x (o + r) k) w (fun r k => dh (o + r) k) r c = gradK R x w dh (o + r) c := by
  unfold gradK
  rw [rstd_shift]
theorem scaleK_shift (o : ℕ) : scaleK (fun r k => R (o + r) k) (fun r k => x (o + r) k) r c = scaleK R x (o + r) c := by
  unfold scaleK
  rw [rstd_shift]

theorem width_eq : width = ((1024 : ℝ) : EReal) := by
  simp [Ideal.ofBits, Ideal.ieee]; rw [← EReal.coe_mul]; norm_num
theorem half_eq : half = ((-(1 / 2) : ℝ) : EReal) := by
  simp [Ideal.ofBits, Ideal.ieee]; rw [← EReal.coe_mul]; norm_num
theorem eps_pos : ∃ e : ℝ, 0 < e ∧ eps = (e : EReal) := by
  refine ⟨_, ?_, by simp [Ideal.ofBits, Ideal.ieee]; rfl⟩
  norm_num

theorem div_width (y : EReal) : Ideal.div y width = y * ((1024⁻¹ : ℝ) : EReal) := by
  rw [width_eq, Ideal.div, if_neg (by norm_num), EReal.coe_inv]

theorem sq_nonneg (y : EReal) : 0 ≤ y * y := by
  rcases le_total 0 y with h | h
  · exact mul_nonneg h h
  · exact EReal.mul_nonneg_iff.2 (.inr ⟨h, h⟩)

theorem ms_pos : 0 < ms x r := by
  obtain ⟨e, he, hq⟩ := eps_pos
  unfold ms
  rw [div_width, hq]
  have h : (0 : EReal) ≤ (∑ k ∈ Finset.range 1024, x r k * x r k) * ((1024⁻¹ : ℝ) : EReal) :=
    mul_nonneg (Finset.sum_nonneg fun k _ => sq_nonneg _) (by exact_mod_cast (by norm_num : (0 : ℝ) ≤ 1024⁻¹))
  calc (0 : EReal) < (e : EReal) := by exact_mod_cast he
    _ = 0 + (e : EReal) := (zero_add _).symm
    _ ≤ _ := by gcongr

/-- The reciprocal root is a number, and over its argument it is its cube. -/
theorem rsqrt_pos {t : EReal} (ht : 0 < t) : ∃ s : ℝ, 0 ≤ s ∧ Ideal.rsqrt t = (s : EReal) ∧ Ideal.div (Ideal.rsqrt t) t = ((s * s * s : ℝ) : EReal) := by
  induction t with
  | bot => exact absurd ht (by simp)
  | top =>
    refine ⟨0, le_rfl, by simp, ?_⟩
    rw [Ideal.rsqrt_top, Ideal.div, if_neg (by simp)]; simp
  | coe t =>
    have h : 0 < t := by exact_mod_cast ht
    have e : Ideal.rsqrt (t : EReal) = (((Real.sqrt t)⁻¹ : ℝ) : EReal) := by
      rw [Ideal.rsqrt_coe, if_neg (not_lt.2 h.le), if_neg h.ne']
    refine ⟨(Real.sqrt t)⁻¹, by positivity, e, ?_⟩
    rw [e, Ideal.div, if_neg (by exact_mod_cast h.ne'), ← EReal.coe_inv, ← EReal.coe_mul]
    congr 1
    have hs : Real.sqrt t * Real.sqrt t = t := Real.mul_self_sqrt h.le
    have hp : 0 < Real.sqrt t := Real.sqrt_pos.2 h
    nth_rw 2 [← hs]
    rw [mul_inv, mul_assoc]

theorem sum_scale (n : ℕ) (f : ℕ → EReal) {s : ℝ} (hs : 0 ≤ s) : (∑ k ∈ Finset.range n, f k * (s : EReal)) = (∑ k ∈ Finset.range n, f k) * (s : EReal) := by
  induction n with
  | zero => simp
  | succ n ih => rw [Finset.sum_range_succ, Finset.sum_range_succ, ih, EReal.right_distrib_of_nonneg_of_ne_top (by exact_mod_cast hs) (EReal.coe_ne_top s)]

/-- Half of a multiple taken away twice. -/
theorem twice (z : EReal) {q : ℝ} (hq : 0 ≤ q) : z * ((-(q / 2) : ℝ) : EReal) + z * ((-(q / 2) : ℝ) : EReal) = -(z * (q : EReal)) := by
  have h2 : (0 : EReal) ≤ ((q / 2 : ℝ) : EReal) := by exact_mod_cast (by positivity : (0 : ℝ) ≤ q / 2)
  rw [EReal.coe_neg, mul_neg]
  have e : z * (q : EReal) = z * ((q / 2 : ℝ) : EReal) + z * ((q / 2 : ℝ) : EReal) := by
    rw [← EReal.left_distrib_of_nonneg h2 h2, ← EReal.coe_add]; congr 2; ring
  rw [e]
  generalize z * ((q / 2 : ℝ) : EReal) = A
  induction A with
  | bot => rfl
  | top => rfl
  | coe A => rw [← EReal.coe_neg, ← EReal.coe_add, ← EReal.coe_add, ← EReal.coe_neg]; congr 1; ring

theorem grad_eq : gradK R x w dh r c = gradR R x w dh r c := by
  obtain ⟨s, hs, e1, e2⟩ := rsqrt_pos (ms_pos x r)
  have hk : (0 : ℝ) ≤ 1024⁻¹ := by norm_num
  unfold gradK gradR coefR
  rw [div_width, div_width]
  change rstd x r = _ at e1
  change Ideal.div (rstd x r) _ = _ at e2
  rw [e2, e1, half_eq]
  have hsum : (∑ k ∈ Finset.range 1024, R r k * w 0 k * (x r k * (s : EReal))) = (∑ k ∈ Finset.range 1024, x r k * (R r k * w 0 k)) * (s : EReal) := by
    rw [← sum_scale _ _ hs]
    refine Finset.sum_congr rfl fun k _ => ?_
    rw [← mul_assoc, mul_comm (R r k * w 0 k)]
  rw [hsum]
  generalize (∑ k ∈ Finset.range 1024, x r k * (R r k * w 0 k)) = S
  generalize R r c * w 0 c = p
  generalize x r c = y
  generalize dh r c = d
  have hq : (0 : ℝ) ≤ s * s * s * 1024⁻¹ := by positivity
  have k1 : (s : EReal) * (y * (s : EReal) * (S * (s : EReal) * ((1024⁻¹ : ℝ) : EReal))) = y * S * ((s * s * s * 1024⁻¹ : ℝ) : EReal) := by
    simp only [EReal.coe_mul]; ac_rfl
  have k2 : y * (S * (((-(1 / 2) : ℝ) : EReal) * ((s * s * s : ℝ) : EReal)) * ((1024⁻¹ : ℝ) : EReal)) = y * S * ((-(s * s * s * 1024⁻¹ / 2) : ℝ) : EReal) := by
    rw [show -(s * s * s * 1024⁻¹ / 2) = -(1 / 2) * (s * s * s) * 1024⁻¹ by ring]
    simp only [EReal.coe_mul]; ac_rfl
  rw [mul_comm (S * _ * _) y, k2, add_assoc, twice _ hq, sub_eq_add_neg, EReal.left_distrib_of_nonneg_of_ne_top (by exact_mod_cast hs) (EReal.coe_ne_top s),
    mul_neg, k1, mul_comm p, add_assoc]
end Gradient

end Cert.Norm
-- ==== Proof.Norm.Conf.lean ====
/- The first projection's backward kernel: what its body leaves at each kind of grid point. -/
module

public import proofs.«01_k».proof.Proof.Gen.Kernel2Ideal.Frame
public import proofs.«01_k».proof.Proof.Norm.Base
public import Idealize.ShloMosaic.Lib.Tactic

@[expose] public section

noncomputable section

namespace Cert.Norm.Conf

open Idealize.ShloMosaic Idealize.ShloMosaic.TcCoe Cert.Kernel2Ideal Cert.Kernel2Ideal.Gen
open scoped BigOperators

section Body
variable (a f g R x w dh : ℕ → ℕ → EReal)

theorem pay_zero : k0_pay1 (F := Ideal) = (E2 fun _ _ => 0 : S1024x1024.Idx → EReal) := by
  unfold k0_pay1
  refine (shapeCast_self (s := S1024x1024) _ _).trans ?_
  funext i; exact Ideal.ofBits_zero_f32
theorem pay_row : k0_pay3 (F := Ideal) = (E2 fun _ _ => 0 : S1x1024.Idx → EReal) := by
  funext i; exact Ideal.ofBits_zero_f32
theorem pay_step : k0_pay2 (F := Ideal) (E2 a) (E2 f) (E2 g) = (E2 fun r c => a r c + ∑ k ∈ Finset.range 1024, f r k * g c k : S1024x1024.Idx → EReal) := by
  unfold k0_pay2
  refine (shapeCast_self (s := S1024x1024) _ _).trans ?_
  exact congrArg (addf (F := Ideal) (φ := .f32) (E2 a : S1024x1024.Idx → EReal)) (mm_nt_E2 (M := 1024) (K := 1024) (N := 1024) none f g)
theorem row_sum (hφ : FKind.Formats .f32) (hacc : (0x00000000#32 : BitVec 32) = FKind.neutral .add .f32 hφ) :
    shapeCast S1024x1 (multiReduction (F := Ideal) .add [1] S1024 (E2 f : S1024x1024.Idx → EReal) 0x00000000#32 reduces_S1024x1024_S1024 hφ hacc) shapeCasts_S1024_S1024x1
      = E2 fun r _ => ∑ k ∈ Finset.range 1024, f r k :=
  (congrArg (fun v : FVec Ideal S1024 .f32 => shapeCast S1024x1 v shapeCasts_S1024_S1024x1) (sum_row (a := 1024) (b := 1024) (φ := .f32) f _ _ hφ hacc)).trans (cast_col_E1 (a := 1024) _ _)
theorem col_sum (hφ : FKind.Formats .f32) (hacc : (0x00000000#32 : BitVec 32) = FKind.neutral .add .f32 hφ) :
    shapeCast S1x1024 (multiReduction (F := Ideal) .add [0] S1024 (E2 f : S1024x1024.Idx → EReal) 0x00000000#32 reduces_S1024x1024_S1024_2 hφ hacc) shapeCasts_S1024_S1x1024
      = E2 fun _ c => ∑ r ∈ Finset.range 1024, f r c :=
  (congrArg (fun v : FVec Ideal S1024 .f32 => shapeCast S1x1024 v shapeCasts_S1024_S1x1024) (sum_col (a := 1024) (b := 1024) (φ := .f32) f _ _ hφ hacc)).trans (cast_row_E1 (b := 1024) _ _)
theorem spread : broadcastTo S1024x1024 (E2 f : S1024x1.Idx → EReal) broadcasts_S1024x1_S1024x1024 = E2 fun r _ => f r 0 :=
  col_E2 (a := 1024) (b' := 1024) f (by decide) _
theorem repeated : broadcastTo S1024x1024 (E2 f : S1x1024.Idx → EReal) broadcasts_S1x1024_S1024x1024 = E2 fun _ c => f 0 c :=
  row_E2 (b := 1024) (a' := 1024) f (by decide) _

theorem pay_rstd : k0_pay4 (F := Ideal) (E2 x) = (E2 fun r _ => rstd x r : S1024x1.Idx → EReal) :=
  (congrArg (fun v : FVec Ideal S1024x1 .f32 => rsqrt (addf (divf v (broadcast S1024x1 (Scalar.ofBits .f32 0x44800000#32))) (broadcast S1024x1 (Scalar.ofBits .f32 0x3727C5AC#32))))
    (row_sum (fun r k => x r k * x r k) (.inl rfl) rfl)).trans rfl
theorem pay_hat : k0_pay5 (F := Ideal) (E2 x) = (E2 fun r c => x r c * rstd x r : S1024x1024.Idx → EReal) := by
  unfold k0_pay5
  dsimp only
  rw [pay_rstd, spread]
  rfl
theorem pay_scale : k0_pay6 (F := Ideal) (E2 R) (E2 x) (E2 a) = (E2 fun _ c => a 0 c + ∑ r ∈ Finset.range 1024, scaleK R x r c : S1x1024.Idx → EReal) := by
  unfold k0_pay6
  rw [pay_hat]
  refine (congrArg (fun v : FVec Ideal S1x1024 .f32 => addf (shapeCast S1x1024 (E2 a : S1x1024.Idx → EReal) shapeCasts_S1x1024_S1x1024) v) (col_sum (scaleK R x) (.inl rfl) rfl)).trans ?_
  rw [cast_self_E2 (a := 1) (b := 1024)]
  funext i
  have e : (i 0).val = 0 := by have := (i 0).isLt; exact Nat.lt_one_iff.mp this
  show a (i 0).val (i 1).val + _ = a 0 (i 1).val + _
  rw [e]; rfl
theorem pay_grad : k0_pay7 (F := Ideal) (E2 R) (E2 x) (E2 w) (E2 dh) = (E2 fun r c => gradK R x w dh r c : S1024x1024.Idx → EReal) := by
  unfold k0_pay7
  rw [pay_hat, pay_rstd, spread, repeated]
  refine (congrArg (fun v : FVec Ideal S1024x1 .f32 => addf (E2 dh : S1024x1024.Idx → EReal) (mulf (E2 fun r _ => rstd x r) (subf (E2 fun r c => R r c * w 0 c)
    (mulf (E2 fun r c => x r c * rstd x r) (broadcastTo S1024x1024 (divf v (broadcast S1024x1 (Scalar.ofBits .f32 0x44800000#32))) broadcasts_S1024x1_S1024x1024)))))
    (row_sum (fun r k => R r k * w 0 k * (x r k * rstd x r)) (.inl rfl) rfl)).trans ?_
  exact congrArg (fun v : FVec Ideal S1024x1024 .f32 => addf (E2 dh : S1024x1024.Idx → EReal) (mulf (E2 fun r _ => rstd x r) (subf (E2 fun r c => R r c * w 0 c)
    (mulf (E2 fun r c => x r c * rstd x r) v)))) (spread fun r _ => Ideal.div (∑ k ∈ Finset.range 1024, R r k * w 0 k * (x r k * rstd x r)) width)
end Body

theorem hz : (![0, 0] : Fin 2 → Nat) = fun _ => 0 := funext fun a => by fin_cases a <;> rfl

section Points
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole)
  (arg8 : Memref sig .tc .vmem S1024x1024 .f32) (harg8 : arg8.IsWhole) (arg9 : Memref sig .tc .vmem S1x1024 .f32) (harg9 : arg9.IsWhole) (arg10 : Memref sig .tc .vmem S1024x1024 .f32) (harg10 : arg10.IsWhole)
  (x0 : Vec Ideal S1024x1024 .bf16) (x1 : Vec Ideal S1024x1024 .bf16) (x2 : Vec Ideal S1024x1024 .f32) (x3 : Vec Ideal S1x1024 .f32) (x4 : Vec Ideal S1024x1024 .f32)
  (xs0 : Vec Ideal S1024x1024 .f32) (xo6 : Vec Ideal S1x1024 .f32)

theorem acc_A (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 = k0_pay2 (F := Ideal) (k0_pay1 (F := Ideal)) x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]
theorem acc_B (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 x4 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0)]
  unfold kernelRun0_B
  dsimp only
  sl_unfold_words
  rw [View.canon_unit_zero hz]
  simp only [View.readAt_eq_ld, harg3.read_unread, harg4.read_unread, harg10.read_unread, View.ld_unit_zero (S := S1024x1024) hz]
theorem out_C (hc0 : ¬cond0_0 i) (hc1 : cond0_1 i) (hc2 : cond0_2 i) :
    out0_C_5 c i arg3 harg3 arg4 harg4 arg5 harg5 arg6 harg6 arg7 harg7 arg8 harg8 arg9 harg9 arg10 harg10 hc0 hc1 hc2 x0 x1 x2 x3 x4 xs0 = k0_pay7 (k0_pay2 xs0 x0 x1) x2 x3 x4 := by
  unfold out0_C_5
  rw [View.read_writes_eq_canon _ _ _ (cover0_C_5 c i arg3 harg3 arg4 harg4 arg5 harg5 arg6 harg6 arg7 harg7 arg8 harg8 arg9 harg9 arg10 harg10 hc0 hc1 hc2 x0 x1 x2 x3 x4 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg10.read_unread, View.ld_unit_zero (S := S1024x1024) hz, View.ld_unit_zero (S := S1x1024) hz]
theorem row_C (hc0 : ¬cond0_0 i) (hc1 : cond0_1 i) (hc2 : cond0_2 i) :
    out0_C_6 c i arg3 harg3 arg4 harg4 arg5 harg5 arg6 harg6 arg7 harg7 arg8 harg8 arg9 harg9 arg10 harg10 hc0 hc1 hc2 x0 x1 x2 x3 x4 xs0 = k0_pay6 (F := Ideal) (k0_pay2 xs0 x0 x1) x2 (k0_pay3 (F := Ideal)) := by
  unfold out0_C_6
  rw [View.read_writes_eq_canon _ _ _ (cover0_C_6 c i arg3 harg3 arg4 harg4 arg5 harg5 arg6 harg6 arg7 harg7 arg8 harg8 arg9 harg9 arg10 harg10 hc0 hc1 hc2 x0 x1 x2 x3 x4 xs0)]
  unfold kernelRun0_C
  dsimp only
  sl_unfold_words
  rw [View.canon_cons_unit_zero (S := S1x1024) hz, View.readCov_unit_zero (S := S1024x1024) _ hz, View.readCov_unit_zero (S := S1x1024) _ hz]
  simp only [View.readAt_eq_ld, harg3.read_unread, harg4.read_unread, harg5.read_unread, harg6.read_unread, harg7.read_unread, harg10.read_unread, View.ld_unit_zero (S := S1024x1024) hz, View.ld_unit_zero (S := S1x1024) hz]
theorem out_D (hc0 : ¬cond0_0 i) (hc1 : cond0_1 i) (hc2 : ¬cond0_2 i) :
    out0_D_5 c i arg3 harg3 arg4 harg4 arg5 harg5 arg6 harg6 arg7 harg7 arg8 harg8 arg9 harg9 arg10 harg10 hc0 hc1 hc2 x0 x1 x2 x3 x4 xo6 xs0 = k0_pay7 (k0_pay2 xs0 x0 x1) x2 x3 x4 := by
  unfold out0_D_5
  rw [View.read_writes_eq_canon _ _ _ (cover0_D_5 c i arg3 harg3 arg4 harg4 arg5 harg5 arg6 harg6 arg7 harg7 arg8 harg8 arg9 harg9 arg10 harg10 hc0 hc1 hc2 x0 x1 x2 x3 x4 xo6 xs0)]
  unfold kernelRun0_D
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg10.read_unread, View.ld_unit_zero (S := S1024x1024) hz, View.ld_unit_zero (S := S1x1024) hz]
theorem row_D (hc0 : ¬cond0_0 i) (hc1 : cond0_1 i) (hc2 : ¬cond0_2 i) :
    out0_D_6 c i arg3 harg3 arg4 harg4 arg5 harg5 arg6 harg6 arg7 harg7 arg8 harg8 arg9 harg9 arg10 harg10 hc0 hc1 hc2 x0 x1 x2 x3 x4 xo6 xs0 = k0_pay6 (F := Ideal) (k0_pay2 xs0 x0 x1) x2 xo6 := by
  unfold out0_D_6
  rw [View.read_writes_eq_canon _ _ _ (cover0_D_6 c i arg3 harg3 arg4 harg4 arg5 harg5 arg6 harg6 arg7 harg7 arg8 harg8 arg9 harg9 arg10 harg10 hc0 hc1 hc2 x0 x1 x2 x3 x4 xo6 xs0)]
  unfold kernelRun0_D
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg9.read_unread, harg10.read_unread, View.ld_unit_zero (S := S1024x1024) hz, View.ld_unit_zero (S := S1x1024) hz]
end Points

end Cert.Norm.Conf
-- ==== Proof.Norm.ConfRun.lean ====
/- The first projection's backward kernel over its whole grid: what each point leaves, by induction on the points, and the two result arrays. -/
module

public import proofs.«01_k».proof.Proof.Gen.Kernel2Ideal.Value
public import proofs.«01_k».proof.Proof.Norm.Conf
public import Idealize.ShloMosaic.Lib.Pipeline.ValueKit

@[expose] public section

noncomputable section

namespace Cert.Norm.Conf

open Idealize.ShloMosaic Idealize.ShloMosaic.TcCoe Cert.Kernel2Ideal Cert.Kernel2Ideal.Gen
open Idealize.ShloMosaic.Pipeline (Dat)
open scoped BigOperators

variable (f g x w dh : ℕ → ℕ → EReal) (m : (ℓ : Loc nD τ sig) → Buf (Elt Ideal) ℓ) (c : Dev nD)

/-- The operands' entries: the gradient of the projection, its weight, the layer's input, the scale and the gradient passed along. -/
structure Holds : Prop where
  f : V m c main_arg0 = (E2 f : S16384x6144.Idx → EReal)
  g : V m c main_arg1 = (E2 g : S1024x6144.Idx → EReal)
  x : V m c main_arg2 = (E2 x : S16384x1024.Idx → EReal)
  w : V m c main_arg3 = (E2 w : S1x1024.Idx → EReal)
  dh : V m c main_arg4 = (E2 dh : S16384x1024.Idx → EReal)

/-- The product over the first `n` columns, and over all of them. -/
def part (n r q : ℕ) : EReal := ∑ k ∈ Finset.range n, f r k * g q k
abbrev full : ℕ → ℕ → EReal := part f g (1024 * (5 + 1))

theorem idx : ∀ t : Fin cfg0.N, win0_0.index t = ![t.val / 6, t.val % 6] ∧ win0_1.index t = ![0, t.val % 6] ∧ win0_2.index t = ![t.val / 6, 0] ∧ win0_3.index t = ![0, 0]
    ∧ win0_4.index t = ![t.val / 6, 0] ∧ win0_5.index t = ![t.val / 6, 0] ∧ win0_6.index t = ![0, 0] :=
  (by decide +kernel : ∀ t : Fin grid0.N, _)

section Blocks
variable {f g x w dh m c} (H : Holds f g x w dh m c) (t : Fin cfg0.N)
include H

theorem iblk_f : iblk m c 0 t = (E2 fun r k => f (1024 * (t.val / 6) + r) (1024 * (t.val % 6) + k) : S1024x1024.Idx → EReal) := by
  obtain ⟨e0, e1, e2, e3, e4, e5, e6⟩ := idx t
  funext y
  show V m c main_arg0 (((cfg0.win 0).blk t).view.emb y) = _
  rw [H.f]
  refine at2 f ?_ ?_
  · blk_simp [e0]; omega
  · blk_simp [e0]; omega
theorem iblk_g : iblk m c 1 t = (E2 fun r k => g r (1024 * (t.val % 6) + k) : S1024x1024.Idx → EReal) := by
  obtain ⟨e0, e1, e2, e3, e4, e5, e6⟩ := idx t
  funext y
  show V m c main_arg1 (((cfg0.win 1).blk t).view.emb y) = _
  rw [H.g]
  refine at2 g ?_ ?_
  · blk_simp [e1]
  · blk_simp [e1]; omega
theorem iblk_x : iblk m c 2 t = (E2 fun r k => x (1024 * (t.val / 6) + r) k : S1024x1024.Idx → EReal) := by
  obtain ⟨e0, e1, e2, e3, e4, e5, e6⟩ := idx t
  funext y
  show V m c main_arg2 (((cfg0.win 2).blk t).view.emb y) = _
  rw [H.x]
  refine at2 x ?_ ?_
  · blk_simp [e2]; omega
  · blk_simp [e2]
theorem iblk_w : iblk m c 3 t = (E2 w : S1x1024.Idx → EReal) := by
  obtain ⟨e0, e1, e2, e3, e4, e5, e6⟩ := idx t
  funext y
  show V m c main_arg3 (((cfg0.win 3).blk t).view.emb y) = _
  rw [H.w]
  refine at2 w ?_ ?_
  · blk_simp [e3]
  · blk_simp [e3]
theorem iblk_dh : iblk m c 4 t = (E2 fun r k => dh (1024 * (t.val / 6) + r) k : S1024x1024.Idx → EReal) := by
  obtain ⟨e0, e1, e2, e3, e4, e5, e6⟩ := idx t
  funext y
  show V m c main_arg4 (((cfg0.win 4).blk t).view.emb y) = _
  rw [H.dh]
  refine at2 dh ?_ ?_
  · blk_simp [e4]; omega
  · blk_simp [e4]
end Blocks

/-- What point `n` leaves: the running product; after the first rows the scale's running sum; after a last step the rows' gradient. -/
structure Left (n : ℕ) (o : (S1024x1024.Idx → EReal) × (S1x1024.Idx → EReal) × (S1024x1024.Idx → EReal)) : Prop where
  acc : n % 6 ≠ 5 → o.2.2 = E2 fun r q => part f g (1024 * (n % 6 + 1)) (1024 * (n / 6) + r) q
  row : 5 ≤ n → o.2.1 = E2 fun _ q => ∑ r ∈ Finset.range (1024 * ((n + 1) / 6)), scaleK (full f g) x r q
  out : n % 6 = 5 → o.1 = E2 fun r q => gradK (full f g) x w dh (1024 * (n / 6) + r) q

/-- One step of the product. -/
theorem part_step (n r q : ℕ) : part f g (1024 * n) r q + ∑ k ∈ Finset.range 1024, f r (1024 * n + k) * g q (1024 * n + k) = part f g (1024 * (n + 1)) r q :=
  sum_block 1024 n fun k => f r k * g q k

section Point
variable {f g x w dh m c} (H : Holds f g x w dh m c) (t : Fin cfg0.N) (ih : ∀ h, t.val ≠ 0 → Left f g x w dh (t.val - 1) (outsAt0 (F := Ideal) m c (t.val - 1) h))
include H ih

theorem left_first (h0 : t.val % 6 = 0) : Left f g x w dh t.val (outsAt0 (F := Ideal) m c t.val t.isLt) := by
  have h1 : ¬t.val % 6 = 5 := by omega
  rw [outsAt0_A m c t h0 h1]
  refine ⟨fun _ => ?_, fun h5 => ?_, fun h => absurd h h1⟩
  · dsimp only
    rw [acc_A, iblk_f H, iblk_g H, pay_zero, pay_step, h0]
    refine congrArg E2 (funext fun r => funext fun q => ?_)
    exact part_step f g 0 (1024 * (t.val / 6) + r) q
  · dsimp only
    unfold out0_A_6
    rw [(ih _ (by omega)).row (by omega), show t.val - 1 + 1 = t.val by omega, show (t.val + 1) / 6 = t.val / 6 by omega]

theorem left_next (h0 : ¬t.val % 6 = 0) (h1 : ¬t.val % 6 = 5) : Left f g x w dh t.val (outsAt0 (F := Ideal) m c t.val t.isLt) := by
  rw [outsAt0_B m c t h0 h1]
  refine ⟨fun _ => ?_, fun h5 => ?_, fun h => absurd h h1⟩
  · dsimp only
    rw [acc_B, iblk_f H, iblk_g H, (ih _ (by omega)).acc (by omega), pay_step, show (t.val - 1) % 6 + 1 = t.val % 6 by omega, show (t.val - 1) / 6 = t.val / 6 by omega]
    refine congrArg E2 (funext fun r => funext fun q => ?_)
    exact part_step f g (t.val % 6) (1024 * (t.val / 6) + r) q
  · dsimp only
    unfold out0_B_6
    rw [(ih _ (by omega)).row (by omega), show t.val - 1 + 1 = t.val by omega, show (t.val + 1) / 6 = t.val / 6 by omega]

theorem left_last (h1 : t.val % 6 = 5) : Left f g x w dh t.val (outsAt0 (F := Ideal) m c t.val t.isLt) := by
  have h0 : ¬t.val % 6 = 0 := by omega
  have hprod (h) : k0_pay2 (F := Ideal) (outsAt0 (F := Ideal) m c (t.val - 1) h).2.2 (iblk m c 0 t) (iblk m c 1 t)
      = (E2 fun r q => full f g (1024 * (t.val / 6) + r) q : S1024x1024.Idx → EReal) := by
    rw [iblk_f H, iblk_g H, (ih _ (by omega)).acc (by omega), pay_step, show (t.val - 1) % 6 + 1 = 5 by omega, show (t.val - 1) / 6 = t.val / 6 by omega, h1]
    refine congrArg E2 (funext fun r => funext fun q => ?_)
    exact part_step f g 5 (1024 * (t.val / 6) + r) q
  have hrow (n : ℕ) (hn : n = t.val / 6) (q : ℕ) : (∑ r ∈ Finset.range (1024 * n), scaleK (full f g) x r q)
      + ∑ r ∈ Finset.range 1024, scaleK (fun r q => full f g (1024 * (t.val / 6) + r) q) (fun r k => x (1024 * (t.val / 6) + r) k) r q
      = ∑ r ∈ Finset.range (1024 * ((t.val + 1) / 6)), scaleK (full f g) x r q := by
    subst hn
    rw [show (t.val + 1) / 6 = t.val / 6 + 1 by omega]
    rw [← sum_block 1024 (t.val / 6)]
    exact congrArg _ (Finset.sum_congr rfl fun r _ => scaleK_shift _ _ r q _)
  by_cases h2 : t.val < 6
  · rw [outsAt0_C m c t h0 h1 h2]
    refine ⟨fun h => absurd h1 h, fun h5 => ?_, fun _ => ?_⟩
    · dsimp only
      rw [row_C, hprod, iblk_x H, pay_row, pay_scale]
      refine congrArg E2 (funext fun _ => funext fun q => ?_)
      exact hrow 0 (by omega) q
    · dsimp only
      rw [out_C, hprod, iblk_x H, iblk_w H, iblk_dh H, pay_grad]
      exact congrArg E2 (funext fun r => funext fun q => gradK_shift _ _ _ _ r q _)
  · rw [outsAt0_D m c t h0 h1 h2]
    refine ⟨fun h => absurd h1 h, fun h5 => ?_, fun _ => ?_⟩
    · dsimp only
      rw [row_D, hprod, iblk_x H, (ih _ (by omega)).row (by omega), pay_scale]
      refine congrArg E2 (funext fun _ => funext fun q => ?_)
      exact hrow ((t.val - 1 + 1) / 6) (by omega) q
    · dsimp only
      rw [out_D, hprod, iblk_x H, iblk_w H, iblk_dh H, pay_grad]
      exact congrArg E2 (funext fun r => funext fun q => gradK_shift _ _ _ _ r q _)
end Point

section Final
variable {f g x w dh m c} (H : Holds f g x w dh m c)
include H

theorem left : ∀ (n : ℕ) (h : n < cfg0.N), Left f g x w dh n (outsAt0 (F := Ideal) m c n h) := by
  intro n
  induction n with
  | zero => intro h; exact left_first H ⟨0, h⟩ (fun _ h0 => absurd rfl h0) rfl
  | succ n IH =>
    intro h
    have ih : ∀ h', (n + 1) ≠ 0 → Left f g x w dh (n + 1 - 1) (outsAt0 (F := Ideal) m c (n + 1 - 1) h') := fun h' _ => IH h'
    by_cases h0 : (n + 1) % 6 = 0
    · exact left_first H ⟨n + 1, h⟩ ih h0
    · by_cases h1 : (n + 1) % 6 = 5
      · exact left_last H ⟨n + 1, h⟩ ih h1
      · exact left_next H ⟨n + 1, h⟩ ih h0 h1

theorem final_grad : (dats m 0 c).arrAt 5 cfg0.N = (E2 (gradK (full f g) x w dh) : S16384x1024.Idx → EReal) := by
  refine (dats m 0 c).arrAt_eq_of_covers 5 _ (by decide +kernel) fun t hf y => ?_
  have ht : t.val % 6 = 5 := (flush0_5 t).mp hf
  obtain ⟨e0, e1, e2, e3, e4, e5, e6⟩ := idx t
  blk_simp
  rw [after0_5, (left H t.val t.isLt).out ht]
  refine at2 (gradK (full f g) x w dh) ?_ ?_
  · blk_simp [e5]; omega
  · blk_simp [e5]
theorem final_scale : (dats m 0 c).arrAt 6 cfg0.N = (E2 fun _ q => ∑ r ∈ Finset.range 16384, scaleK (full f g) x r q : S1x1024.Idx → EReal) := by
  refine (dats m 0 c).arrAt_eq_of_covers 6 _ (by decide +kernel) fun t hf y => ?_
  have hN : t.val < 96 := lt_of_lt_of_eq t.isLt N_0
  have ht : t.val = 95 := by have h := (flush0_6 t).mp hf; omega
  obtain ⟨e0, e1, e2, e3, e4, e5, e6⟩ := idx t
  blk_simp
  rw [after0_6, (left H t.val t.isLt).row (by omega), ht]
  refine congrArg (fun q => ∑ r ∈ Finset.range 16384, scaleK (full f g) x r q) ?_
  blk_simp [e6]
end Final

end Cert.Norm.Conf
-- ==== Proof.Norm.ConfRef.lean ====
/- The reference of the first projection's backward kernel, stage by stage, as arrays of functions of the indices. -/
module

public import proofs.«01_k».proof.Proof.Gen.Reference2Ideal.Read
public import proofs.«01_k».proof.Proof.Norm.ConfRun

@[expose] public section

noncomputable section

namespace Cert.Norm.Conf.Ref

open Idealize.ShloMosaic Idealize.ShloMosaic.TcCoe Cert.Reference2Ideal Cert.Reference2Ideal.Gen Cert.Reference2Ideal.Read
open scoped BigOperators

variable (f g x w dh : ℕ → ℕ → EReal)

theorem s1 : val_main_v1 (F := Ideal) (E2 x) = (E1 fun r => ∑ k ∈ Finset.range 1024, x r k * x r k : S16384.Idx → EReal) := by
  funext i
  rw [val_main_v1_apply]
  exact zero_sum 1024 fun k => x (i 0).val k * x (i 0).val k
theorem s6 : val_main_v6 (F := Ideal) (E2 x) = (E2 fun r _ => ms x r : S16384x1.Idx → EReal) := by
  funext i
  rw [val_main_v6_apply, val_main_v4_apply, val_main_v2_apply, s1, val_main_v3_apply, val_main_v5_apply]
  rfl
theorem s7 : val_main_v7 (F := Ideal) (E2 x) = (E2 fun r _ => rstd x r : S16384x1.Idx → EReal) := by
  funext i
  rw [val_main_v7_apply, s6]
  rfl
theorem s10 : val_main_v10 (F := Ideal) (E2 x) = (E2 fun r _ => half * Ideal.div (rstd x r) (ms x r) : S16384x1.Idx → EReal) := by
  funext i
  rw [val_main_v10_apply, val_main_v9_apply, val_main_v8_apply, s7, s6]
  rfl
theorem s12 : val_main_v12 (F := Ideal) (E2 x) = (E2 fun r c => x r c * rstd x r : S16384x1024.Idx → EReal) := by
  funext i
  rw [val_main_v12_apply, val_main_v11_apply, s7]
  rfl
theorem s18 : val_main_v18 (F := Ideal) (E2 f) (E2 g) = (E2 (full f g) : S16384x1024.Idx → EReal) := by
  funext i
  rw [val_main_v18_apply]
  exact fin_sum (show 6144 = 1024 * (5 + 1) by norm_num) fun k => f (i 0).val k * g (i 1).val k
theorem s20 : val_main_v20 (F := Ideal) (E2 f) (E2 g) (E2 x) = (E1 fun c => ∑ r ∈ Finset.range 16384, scaleK (full f g) x r c : S1024.Idx → EReal) := by
  funext i
  rw [val_main_v20_apply]
  refine Eq.trans ?_ (zero_sum 16384 fun r => scaleK (full f g) x r (i 0).val)
  refine congrArg (_ + ·) (Finset.sum_congr rfl fun k _ => ?_)
  rw [val_main_v19_apply, s12, s18]
  exact mul_comm _ _
theorem s21 : val_main_v21 (F := Ideal) (E2 f) (E2 g) (E2 x) = (E2 fun _ c => ∑ r ∈ Finset.range 16384, scaleK (full f g) x r c : S1x1024.Idx → EReal) := by
  funext i
  rw [val_main_v21_apply, s20]
  refine congrArg (fun c => ∑ r ∈ Finset.range 16384, scaleK (full f g) x r c) ?_
  have h : (i 0).val < 1 := (i 0).isLt
  show (i 0).val * 1024 + (i 1).val = (i 1).val
  omega
theorem s23 : val_main_v23 (F := Ideal) (E2 f) (E2 g) (E2 w) = (E2 fun r c => full f g r c * w 0 c : S16384x1024.Idx → EReal) := by
  funext i
  rw [val_main_v23_apply, s18, val_main_v22_apply]
  rfl
theorem s25 : val_main_v25 (F := Ideal) (E2 f) (E2 g) (E2 x) (E2 w)
    = (E1 fun r => ∑ k ∈ Finset.range 1024, x r k * (full f g r k * w 0 k) : S16384.Idx → EReal) := by
  funext i
  rw [val_main_v25_apply]
  refine Eq.trans ?_ (zero_sum 1024 fun k => x (i 0).val k * (full f g (i 0).val k * w 0 k))
  refine congrArg (_ + ·) (Finset.sum_congr rfl fun k _ => ?_)
  rw [val_main_v24_apply, s23]
  rfl
theorem s26 : val_main_v26 (F := Ideal) (E2 f) (E2 g) (E2 x) (E2 w)
    = (E2 fun r _ => ∑ k ∈ Finset.range 1024, x r k * (full f g r k * w 0 k) : S16384x1.Idx → EReal) := by
  funext i
  rw [val_main_v26_apply, s25]
  refine congrArg (fun r => ∑ k ∈ Finset.range 1024, x r k * (full f g r k * w 0 k)) ?_
  have h : (i 1).val < 1 := (i 1).isLt
  show (i 0).val * 1 + (i 1).val = (i 0).val
  omega
theorem s32 : val_main_v32 (F := Ideal) (E2 f) (E2 g) (E2 x) (E2 w) = (E2 fun r _ => coefR (full f g) x w r : S16384x1.Idx → EReal) := by
  funext i
  rw [val_main_v32_apply, val_main_v30_apply, s26, s10, val_main_v31_apply]
  rfl
theorem s34 : val_main_v34 (F := Ideal) (E2 f) (E2 g) (E2 x) (E2 w) = (E2 fun r _ => coefR (full f g) x w r : S16384x1024.Idx → EReal) := by
  funext i
  rw [val_main_v34_apply, val_main_v33_apply, s32]
  exact (zero_sum 1 fun _ => coefR (full f g) x w (i 0).val).trans (Finset.sum_range_one _)
theorem s38 : val_main_v38 (F := Ideal) (E2 f) (E2 g) (E2 x) (E2 w) (E2 dh) = (E2 (gradR (full f g) x w dh) : S16384x1024.Idx → EReal) := by
  funext i
  rw [val_main_v38_apply, val_main_v36_apply, val_main_v29_apply, val_main_v28_apply, val_main_v27_apply, val_main_v35_apply, val_main_v37_apply, s23, s7, s34]
  rfl

end Cert.Norm.Conf.Ref
-- ==== Proof.Norm.ConfFinal.lean ====
/- The first projection's backward kernel computes what its reference computes. -/
module

public import proofs.«01_k».proof.Defs
public import proofs.«01_k».proof.Proof.Gen.Reference2Ideal.Run
public import proofs.«01_k».proof.Proof.Norm.ConfRef

@[expose] public section

noncomputable section

namespace Cert.Norm.Conf

open Idealize.ShloMosaic Idealize.ShloMosaic.TcCoe Cert.Kernel2Ideal Cert.Kernel2Ideal.Gen Cert.Reference2Ideal.Read
open Idealize.SL.Sem

section Arrays
variable (m : (ℓ : Loc nD τ sig) → Buf (Elt Ideal) ℓ) (c : Dev nD)

/-- The operands are functions of their indices. -/
theorem holds : Holds (nat2 (V m c main_arg0)) (nat2 (V m c main_arg1)) (nat2 (V m c main_arg2)) (nat2 (V m c main_arg3)) (nat2 (V m c main_arg4)) m c where
  f := nat2_eq _
  g := nat2_eq _
  x := nat2_eq _
  w := nat2_eq _
  dh := nat2_eq _

section
variable {m c} {f g x w dh : ℕ → ℕ → EReal} (H : Holds f g x w dh m c)
include H

theorem eq_grad : (dats m 0 c).arrAt 5 cfg0.N
    = val_main_v38 (F := Ideal) (V m c main_arg0) (V m c main_arg1) (V m c main_arg2) (V m c main_arg3) (V m c main_arg4) := by
  rw [final_grad H, H.f, H.g, H.x, H.w, H.dh, Ref.s38]
  exact congrArg E2 (funext fun r => funext fun q => grad_eq _ _ _ _ r q)
theorem eq_scale : (dats m 0 c).arrAt 6 cfg0.N = val_main_v21 (F := Ideal) (V m c main_arg0) (V m c main_arg1) (V m c main_arg2) := by
  rw [final_scale H, H.f, H.g, H.x, Ref.s21]
end
end Arrays

theorem algebraic : Cert.algebraic_Kernel2Ideal_Reference2Ideal (hKernel2Ideal := Cert.Kernel2Ideal.Gen.facts) (hReference2Ideal := Cert.Reference2Ideal.Gen.facts) := by
  intro m g m' g' _ ha
  refine ⟨fun c => (dats m 0 c).arrAt 5 cfg0.N, fun c => (dats m 0 c).arrAt 6 cfg0.N, Cert.Kernel2Ideal.Value.run_blocks m g,
    θ_run_mono (Cert.Reference2Ideal.Value.run m' g') fun r h c => ?_⟩
  obtain ⟨a0, a1, a2, a3, a4⟩ := ha c
  obtain ⟨r0, r1, r2, r3, r4, r5, r6⟩ := h c
  refine ⟨(r0.trans (val_main_v38_eq _ _)).trans ?_, (r1.trans (val_main_v21_eq _ _ _)).trans ?_, r2, r3, r4, r5, r6⟩
  · rw [a0, a1, a2, a3, a4]
    exact (eq_grad (holds m c)).symm
  · rw [a0, a1, a2]
    exact (eq_scale (holds m c)).symm

end Cert.Norm.Conf
-- ==== Proof.Norm.Ssd.lean ====
/- The second projection's backward kernel: what its body leaves at each kind of grid point. Its normalisation is the first one's. -/
module

public import proofs.«01_k».proof.Proof.Gen.Kernel3Ideal.Frame
public import proofs.«01_k».proof.Proof.Norm.Conf
public import Idealize.ShloMosaic.Lib.Tactic

@[expose] public section

noncomputable section

namespace Cert.Norm.Ssd

open Idealize.ShloMosaic Idealize.ShloMosaic.TcCoe Cert.Kernel3Ideal Cert.Kernel3Ideal.Gen
open scoped BigOperators

section Body
variable (a e b f g R x w dh : ℕ → ℕ → EReal)

theorem pay_start : k0_pay1 (F := Ideal) (E2 e) (E2 b) = (E2 fun r c => ∑ k ∈ Finset.range 512, e r k * b k c : S1024x1024.Idx → EReal) := by
  unfold k0_pay1
  refine (shapeCast_self (s := S1024x1024) _ _).trans ?_
  exact mm_nn_E2 (M := 1024) (K := 512) (N := 1024) none e b
theorem pay_step : k0_pay2 (F := Ideal) (E2 a) (E2 f) (E2 g) = (E2 fun r c => a r c + ∑ k ∈ Finset.range 1024, f r k * g k c : S1024x1024.Idx → EReal) := by
  unfold k0_pay2
  refine (shapeCast_self (s := S1024x1024) _ _).trans ?_
  exact congrArg (addf (F := Ideal) (φ := .f32) (E2 a : S1024x1024.Idx → EReal)) (mm_nn_E2 (M := 1024) (K := 1024) (N := 1024) none f g)
theorem pay_row : k0_pay3 (F := Ideal) = (E2 fun _ _ => 0 : S1x1024.Idx → EReal) := Conf.pay_row
theorem pay_scale : k0_pay6 (F := Ideal) (E2 R) (E2 x) (E2 a) = (E2 fun _ c => a 0 c + ∑ r ∈ Finset.range 1024, scaleK R x r c : S1x1024.Idx → EReal) :=
  Conf.pay_scale a R x
theorem pay_grad : k0_pay7 (F := Ideal) (E2 R) (E2 x) (E2 w) (E2 dh) = (E2 fun r c => gradK R x w dh r c : S1024x1024.Idx → EReal) :=
  Conf.pay_grad R x w dh
end Body

open Conf (hz)

section Points
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x512 .f32) (harg5 : arg5.IsWhole) (arg6 : Memref sig .tc .vmem S512x1024 .bf16) (harg6 : arg6.IsWhole)
  (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole)
  (arg10 : Memref sig .tc .vmem S1024x1024 .f32) (harg10 : arg10.IsWhole) (arg11 : Memref sig .tc .vmem S1x1024 .f32) (harg11 : arg11.IsWhole) (arg12 : Memref sig .tc .vmem S1024x1024 .f32) (harg12 : arg12.IsWhole)
  (x0 : Vec Ideal S1024x1024 .bf16) (x1 : Vec Ideal S1024x1024 .bf16) (x2 : Vec Ideal S1024x512 .f32) (x3 : Vec Ideal S512x1024 .bf16) (x4 : Vec Ideal S1024x1024 .f32)
  (x5 : Vec Ideal S1x1024 .f32) (x6 : Vec Ideal S1024x1024 .f32) (xs0 : Vec Ideal S1024x1024 .f32) (xo8 : Vec Ideal S1x1024 .f32)

theorem acc_A (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6 = k0_pay2 (F := Ideal) (k0_pay1 x2 x3) x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, View.ld_unit_zero (S := S1024x1024) hz, View.ld_unit_zero (S := S1024x512) hz, View.ld_unit_zero (S := S512x1024) hz]
theorem acc_B (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  rw [View.canon_unit_zero hz]
  simp only [View.readAt_eq_ld, harg3.read_unread, harg4.read_unread, harg12.read_unread, View.ld_unit_zero (S := S1024x1024) hz]
theorem out_C (hc0 : ¬cond0_0 i) (hc1 : cond0_1 i) (hc2 : cond0_2 i) :
    out0_C_7 c i arg3 harg3 arg4 harg4 arg5 harg5 arg6 harg6 arg7 harg7 arg8 harg8 arg9 harg9 arg10 harg10 arg11 harg11 arg12 harg12 hc0 hc1 hc2 x0 x1 x2 x3 x4 x5 x6 xs0 = k0_pay7 (k0_pay2 xs0 x0 x1) x4 x5 x6 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg8.read_unread, harg9.read_unread, harg12.read_unread, View.ld_unit_zero (S := S1024x1024) hz, View.ld_unit_zero (S := S1x1024) hz]
theorem row_C (hc0 : ¬cond0_0 i) (hc1 : cond0_1 i) (hc2 : cond0_2 i) :
    out0_C_8 c i arg3 harg3 arg4 harg4 arg5 harg5 arg6 harg6 arg7 harg7 arg8 harg8 arg9 harg9 arg10 harg10 arg11 harg11 arg12 harg12 hc0 hc1 hc2 x0 x1 x2 x3 x4 x5 x6 xs0 = k0_pay6 (F := Ideal) (k0_pay2 xs0 x0 x1) x4 (k0_pay3 (F := Ideal)) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 hc2 x0 x1 x2 x3 x4 x5 x6 xs0)]
  unfold kernelRun0_C
  dsimp only
  sl_unfold_words
  rw [View.canon_cons_unit_zero (S := S1x1024) hz, View.readCov_unit_zero (S := S1024x1024) _ hz, View.readCov_unit_zero (S := S1x1024) _ hz]
  simp only [View.readAt_eq_ld, harg3.read_unread, harg4.read_unread, harg5.read_unread, harg6.read_unread, harg7.read_unread, harg8.read_unread, harg9.read_unread, harg12.read_unread, View.ld_unit_zero (S := S1024x1024) hz, View.ld_unit_zero (S := S1x1024) hz]
theorem out_D (hc0 : ¬cond0_0 i) (hc1 : cond0_1 i) (hc2 : ¬cond0_2 i) :
    out0_D_7 c i arg3 harg3 arg4 harg4 arg5 harg5 arg6 harg6 arg7 harg7 arg8 harg8 arg9 harg9 arg10 harg10 arg11 harg11 arg12 harg12 hc0 hc1 hc2 x0 x1 x2 x3 x4 x5 x6 xo8 xs0 = k0_pay7 (k0_pay2 xs0 x0 x1) x4 x5 x6 := by
  unfold out0_D_7
  rw [View.read_writes_eq_canon _ _ _ (cover0_D_7 c i arg3 harg3 arg4 harg4 arg5 harg5 arg6 harg6 arg7 harg7 arg8 harg8 arg9 harg9 arg10 harg10 arg11 harg11 arg12 harg12 hc0 hc1 hc2 x0 x1 x2 x3 x4 x5 x6 xo8 xs0)]
  unfold kernelRun0_D
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg8.read_unread, harg9.read_unread, harg12.read_unread, View.ld_unit_zero (S := S1024x1024) hz, View.ld_unit_zero (S := S1x1024) hz]
theorem row_D (hc0 : ¬cond0_0 i) (hc1 : cond0_1 i) (hc2 : ¬cond0_2 i) :
    out0_D_8 c i arg3 harg3 arg4 harg4 arg5 harg5 arg6 harg6 arg7 harg7 arg8 harg8 arg9 harg9 arg10 harg10 arg11 harg11 arg12 harg12 hc0 hc1 hc2 x0 x1 x2 x3 x4 x5 x6 xo8 xs0 = k0_pay6 (F := Ideal) (k0_pay2 xs0 x0 x1) x4 xo8 := by
  unfold out0_D_8
  rw [View.read_writes_eq_canon _ _ _ (cover0_D_8 c i arg3 harg3 arg4 harg4 arg5 harg5 arg6 harg6 arg7 harg7 arg8 harg8 arg9 harg9 arg10 harg10 arg11 harg11 arg12 harg12 hc0 hc1 hc2 x0 x1 x2 x3 x4 x5 x6 xo8 xs0)]
  unfold kernelRun0_D
  dsimp only
  sl_unfold_words
  rw [View.canon_unit_zero hz, View.readCov_unit_zero (S := S1024x1024) _ hz]
  simp only [View.readAt_eq_ld, harg3.read_unread, harg4.read_unread, harg5.read_unread, harg6.read_unread, harg7.read_unread, harg8.read_unread, harg9.read_unread, harg11.read_unread, harg12.read_unread, View.ld_unit_zero (S := S1024x1024) hz, View.ld_unit_zero (S := S1x1024) hz]
end Points

end Cert.Norm.Ssd
-- ==== Proof.Norm.SsdRun.lean ====
/- The second projection's backward kernel over its whole grid: what each point leaves, by induction on the points, and the two result arrays. -/
module

public import proofs.«01_k».proof.Proof.Gen.Kernel3Ideal.Value
public import proofs.«01_k».proof.Proof.Norm.Ssd
public import Idealize.ShloMosaic.Lib.Pipeline.ValueKit

@[expose] public section

noncomputable section

namespace Cert.Norm.Ssd

open Idealize.ShloMosaic Idealize.ShloMosaic.TcCoe Cert.Kernel3Ideal Cert.Kernel3Ideal.Gen
open Idealize.ShloMosaic.Pipeline (Dat)
open scoped BigOperators

variable (e b f g x w dh : ℕ → ℕ → EReal) (m : (ℓ : Loc nD τ sig) → Buf (Elt Ideal) ℓ) (c : Dev nD)

/-- The operands' entries: the gradient of the projection and of its extra columns, their weights, the layer's input, the scale and the gradient passed along. -/
structure Holds : Prop where
  f : V m c main_arg0 = (E2 f : S16384x5120.Idx → EReal)
  g : V m c main_arg1 = (E2 g : S5120x1024.Idx → EReal)
  e : V m c main_arg2 = (E2 e : S16384x512.Idx → EReal)
  b : V m c main_arg3 = (E2 b : S512x1024.Idx → EReal)
  x : V m c main_arg4 = (E2 x : S16384x1024.Idx → EReal)
  w : V m c main_arg5 = (E2 w : S1x1024.Idx → EReal)
  dh : V m c main_arg6 = (E2 dh : S16384x1024.Idx → EReal)

/-- The product over the extra columns and the first `n` others, and over all of them. -/
def part (n r q : ℕ) : EReal := (∑ k ∈ Finset.range 512, e r k * b k q) + ∑ k ∈ Finset.range n, f r k * g k q
abbrev full : ℕ → ℕ → EReal := part e b f g (1024 * (4 + 1))

theorem idx : ∀ t : Fin cfg0.N, win0_0.index t = ![t.val / 5, t.val % 5] ∧ win0_1.index t = ![t.val % 5, 0] ∧ win0_2.index t = ![t.val / 5, 0] ∧ win0_3.index t = ![0, 0]
    ∧ win0_4.index t = ![t.val / 5, 0] ∧ win0_5.index t = ![0, 0] ∧ win0_6.index t = ![t.val / 5, 0] ∧ win0_7.index t = ![t.val / 5, 0] ∧ win0_8.index t = ![0, 0] :=
  (by decide +kernel : ∀ t : Fin grid0.N, _)

section Blocks
variable {e b f g x w dh m c} (H : Holds e b f g x w dh m c) (t : Fin cfg0.N)
include H

theorem iblk_f : iblk m c 0 t = (E2 fun r k => f (1024 * (t.val / 5) + r) (1024 * (t.val % 5) + k) : S1024x1024.Idx → EReal) := by
  obtain ⟨e0, e1, e2, e3, e4, e5, e6, e7, e8⟩ := idx t
  funext y
  show V m c main_arg0 (((cfg0.win 0).blk t).view.emb y) = _
  rw [H.f]
  refine at2 f ?_ ?_
  · blk_simp [e0]; omega
  · blk_simp [e0]; omega
theorem iblk_g : iblk m c 1 t = (E2 fun k q => g (1024 * (t.val % 5) + k) q : S1024x1024.Idx → EReal) := by
  obtain ⟨e0, e1, e2, e3, e4, e5, e6, e7, e8⟩ := idx t
  funext y
  show V m c main_arg1 (((cfg0.win 1).blk t).view.emb y) = _
  rw [H.g]
  refine at2 g ?_ ?_
  · blk_simp [e1]; omega
  · blk_simp [e1]
theorem iblk_e : iblk m c 2 t = (E2 fun r k => e (1024 * (t.val / 5) + r) k : S1024x512.Idx → EReal) := by
  obtain ⟨e0, e1, e2, e3, e4, e5, e6, e7, e8⟩ := idx t
  funext y
  show V m c main_arg2 (((cfg0.win 2).blk t).view.emb y) = _
  rw [H.e]
  refine at2 e ?_ ?_
  · blk_simp [e2]; omega
  · blk_simp [e2]
theorem iblk_b : iblk m c 3 t = (E2 b : S512x1024.Idx → EReal) := by
  obtain ⟨e0, e1, e2, e3, e4, e5, e6, e7, e8⟩ := idx t
  funext y
  show V m c main_arg3 (((cfg0.win 3).blk t).view.emb y) = _
  rw [H.b]
  refine at2 b ?_ ?_
  · blk_simp [e3]
  · blk_simp [e3]
theorem iblk_x : iblk m c 4 t = (E2 fun r k => x (1024 * (t.val / 5) + r) k : S1024x1024.Idx → EReal) := by
  obtain ⟨e0, e1, e2, e3, e4, e5, e6, e7, e8⟩ := idx t
  funext y
  show V m c main_arg4 (((cfg0.win 4).blk t).view.emb y) = _
  rw [H.x]
  refine at2 x ?_ ?_
  · blk_simp [e4]; omega
  · blk_simp [e4]
theorem iblk_w : iblk m c 5 t = (E2 w : S1x1024.Idx → EReal) := by
  obtain ⟨e0, e1, e2, e3, e4, e5, e6, e7, e8⟩ := idx t
  funext y
  show V m c main_arg5 (((cfg0.win 5).blk t).view.emb y) = _
  rw [H.w]
  refine at2 w ?_ ?_
  · blk_simp [e5]
  · blk_simp [e5]
theorem iblk_dh : iblk m c 6 t = (E2 fun r k => dh (1024 * (t.val / 5) + r) k : S1024x1024.Idx → EReal) := by
  obtain ⟨e0, e1, e2, e3, e4, e5, e6, e7, e8⟩ := idx t
  funext y
  show V m c main_arg6 (((cfg0.win 6).blk t).view.emb y) = _
  rw [H.dh]
  refine at2 dh ?_ ?_
  · blk_simp [e6]; omega
  · blk_simp [e6]
end Blocks

/-- What point `n` leaves: the running product; after the first rows the scale's running sum; after a last step the rows' gradient. -/
structure Left (n : ℕ) (o : (S1024x1024.Idx → EReal) × (S1x1024.Idx → EReal) × (S1024x1024.Idx → EReal)) : Prop where
  acc : n % 5 ≠ 4 → o.2.2 = E2 fun r q => part e b f g (1024 * (n % 5 + 1)) (1024 * (n / 5) + r) q
  row : 4 ≤ n → o.2.1 = E2 fun _ q => ∑ r ∈ Finset.range (1024 * ((n + 1) / 5)), scaleK (full e b f g) x r q
  out : n % 5 = 4 → o.1 = E2 fun r q => gradK (full e b f g) x w dh (1024 * (n / 5) + r) q

/-- The start and one step of the product. -/
theorem part_zero (r q : ℕ) : part e b f g (1024 * 0) r q = ∑ k ∈ Finset.range 512, e r k * b k q := by
  unfold part
  rw [Nat.mul_zero, Finset.sum_range_zero, add_zero]
theorem part_step (n r q : ℕ) : part e b f g (1024 * n) r q + ∑ k ∈ Finset.range 1024, f r (1024 * n + k) * g (1024 * n + k) q = part e b f g (1024 * (n + 1)) r q := by
  unfold part
  rw [add_assoc, sum_block 1024 n fun k => f r k * g k q]

section Point
variable {e b f g x w dh m c} (H : Holds e b f g x w dh m c) (t : Fin cfg0.N) (ih : ∀ h, t.val ≠ 0 → Left e b f g x w dh (t.val - 1) (outsAt0 (F := Ideal) m c (t.val - 1) h))
include H ih

theorem left_first (h0 : t.val % 5 = 0) : Left e b f g x w dh t.val (outsAt0 (F := Ideal) m c t.val t.isLt) := by
  have h1 : ¬t.val % 5 = 4 := by omega
  rw [outsAt0_A m c t h0 h1]
  refine ⟨fun _ => ?_, fun h4 => ?_, fun h => absurd h h1⟩
  · dsimp only
    rw [acc_A, iblk_f H, iblk_g H, iblk_e H, iblk_b H, pay_start, pay_step, h0]
    refine congrArg E2 (funext fun r => funext fun q => ?_)
    rw [← part_zero e b f g]
    exact part_step e b f g 0 (1024 * (t.val / 5) + r) q
  · dsimp only
    unfold out0_A_8
    rw [(ih _ (by omega)).row (by omega), show t.val - 1 + 1 = t.val by omega, show (t.val + 1) / 5 = t.val / 5 by omega]

theorem left_next (h0 : ¬t.val % 5 = 0) (h1 : ¬t.val % 5 = 4) : Left e b f g x w dh t.val (outsAt0 (F := Ideal) m c t.val t.isLt) := by
  rw [outsAt0_B m c t h0 h1]
  refine ⟨fun _ => ?_, fun h4 => ?_, fun h => absurd h h1⟩
  · dsimp only
    rw [acc_B, iblk_f H, iblk_g H, (ih _ (by omega)).acc (by omega), pay_step, show (t.val - 1) % 5 + 1 = t.val % 5 by omega, show (t.val - 1) / 5 = t.val / 5 by omega]
    refine congrArg E2 (funext fun r => funext fun q => ?_)
    exact part_step e b f g (t.val % 5) (1024 * (t.val / 5) + r) q
  · dsimp only
    unfold out0_B_8
    rw [(ih _ (by omega)).row (by omega), show t.val - 1 + 1 = t.val by omega, show (t.val + 1) / 5 = t.val / 5 by omega]

theorem left_last (h1 : t.val % 5 = 4) : Left e b f g x w dh t.val (outsAt0 (F := Ideal) m c t.val t.isLt) := by
  have h0 : ¬t.val % 5 = 0 := by omega
  have hprod (h) : k0_pay2 (F := Ideal) (outsAt0 (F := Ideal) m c (t.val - 1) h).2.2 (iblk m c 0 t) (iblk m c 1 t)
      = (E2 fun r q => full e b f g (1024 * (t.val / 5) + r) q : S1024x1024.Idx → EReal) := by
    rw [iblk_f H, iblk_g H, (ih _ (by omega)).acc (by omega), pay_step, show (t.val - 1) % 5 + 1 = 4 by omega, show (t.val - 1) / 5 = t.val / 5 by omega, h1]
    refine congrArg E2 (funext fun r => funext fun q => ?_)
    exact part_step e b f g 4 (1024 * (t.val / 5) + r) q
  have hrow (n : ℕ) (hn : n = t.val / 5) (q : ℕ) : (∑ r ∈ Finset.range (1024 * n), scaleK (full e b f g) x r q)
      + ∑ r ∈ Finset.range 1024, scaleK (fun r q => full e b f g (1024 * (t.val / 5) + r) q) (fun r k => x (1024 * (t.val / 5) + r) k) r q
      = ∑ r ∈ Finset.range (1024 * ((t.val + 1) / 5)), scaleK (full e b f g) x r q := by
    subst hn
    rw [show (t.val + 1) / 5 = t.val / 5 + 1 by omega]
    rw [← sum_block 1024 (t.val / 5)]
    exact congrArg _ (Finset.sum_congr rfl fun r _ => scaleK_shift _ _ r q _)
  by_cases h2 : t.val < 5
  · rw [outsAt0_C m c t h0 h1 h2]
    refine ⟨fun h => absurd h1 h, fun h4 => ?_, fun _ => ?_⟩
    · dsimp only
      rw [row_C, hprod, iblk_x H, pay_row, pay_scale]
      refine congrArg E2 (funext fun _ => funext fun q => ?_)
      exact hrow 0 (by omega) q
    · dsimp only
      rw [out_C, hprod, iblk_x H, iblk_w H, iblk_dh H, pay_grad]
      exact congrArg E2 (funext fun r => funext fun q => gradK_shift _ _ _ _ r q _)
  · rw [outsAt0_D m c t h0 h1 h2]
    refine ⟨fun h => absurd h1 h, fun h4 => ?_, fun _ => ?_⟩
    · dsimp only
      rw [row_D, hprod, iblk_x H, (ih _ (by omega)).row (by omega), pay_scale]
      refine congrArg E2 (funext fun _ => funext fun q => ?_)
      exact hrow ((t.val - 1 + 1) / 5) (by omega) q
    · dsimp only
      rw [out_D, hprod, iblk_x H, iblk_w H, iblk_dh H, pay_grad]
      exact congrArg E2 (funext fun r => funext fun q => gradK_shift _ _ _ _ r q _)
end Point

section Final
variable {e b f g x w dh m c} (H : Holds e b f g x w dh m c)
include H

theorem left : ∀ (n : ℕ) (h : n < cfg0.N), Left e b f g x w dh n (outsAt0 (F := Ideal) m c n h) := by
  intro n
  induction n with
  | zero => intro h; exact left_first H ⟨0, h⟩ (fun _ h0 => absurd rfl h0) rfl
  | succ n IH =>
    intro h
    have ih : ∀ h', (n + 1) ≠ 0 → Left e b f g x w dh (n + 1 - 1) (outsAt0 (F := Ideal) m c (n + 1 - 1) h') := fun h' _ => IH h'
    by_cases h0 : (n + 1) % 5 = 0
    · exact left_first H ⟨n + 1, h⟩ ih h0
    · by_cases h1 : (n + 1) % 5 = 4
      · exact left_last H ⟨n + 1, h⟩ ih h1
      · exact left_next H ⟨n + 1, h⟩ ih h0 h1

theorem final_grad : (dats m 0 c).arrAt 7 cfg0.N = (E2 (gradK (full e b f g) x w dh) : S16384x1024.Idx → EReal) := by
  refine (dats m 0 c).arrAt_eq_of_covers 7 _ (by decide +kernel) fun t hf y => ?_
  have ht : t.val % 5 = 4 := (flush0_7 t).mp hf
  obtain ⟨e0, e1, e2, e3, e4, e5, e6, e7, e8⟩ := idx t
  blk_simp
  rw [after0_7, (left H t.val t.isLt).out ht]
  refine at2 (gradK (full e b f g) x w dh) ?_ ?_
  · blk_simp [e7]; omega
  · blk_simp [e7]
theorem final_scale : (dats m 0 c).arrAt 8 cfg0.N = (E2 fun _ q => ∑ r ∈ Finset.range 16384, scaleK (full e b f g) x r q : S1x1024.Idx → EReal) := by
  refine (dats m 0 c).arrAt_eq_of_covers 8 _ (by decide +kernel) fun t hf y => ?_
  have hN : t.val < 80 := lt_of_lt_of_eq t.isLt N_0
  have ht : t.val = 79 := by have h := (flush0_8 t).mp hf; omega
  obtain ⟨e0, e1, e2, e3, e4, e5, e6, e7, e8⟩ := idx t
  blk_simp
  rw [after0_8, (left H t.val t.isLt).row (by omega), ht]
  refine congrArg (fun q => ∑ r ∈ Finset.range 16384, scaleK (full e b f g) x r q) ?_
  blk_simp [e8]
end Final

end Cert.Norm.Ssd
-- ==== Proof.Norm.SsdRef.lean ====
/- The reference of the second projection's backward kernel, stage by stage, as arrays of functions of the indices. Up to the normalised rows it is the first one's. -/
module

public import proofs.«01_k».proof.Proof.Gen.Reference3Ideal.Read
public import proofs.«01_k».proof.Proof.Norm.ConfRef
public import proofs.«01_k».proof.Proof.Norm.SsdRun

@[expose] public section

noncomputable section

namespace Cert.Norm.Ssd.Ref

open Idealize.ShloMosaic Idealize.ShloMosaic.TcCoe Cert.Reference3Ideal Cert.Reference3Ideal.Gen Cert.Reference3Ideal.Read
open scoped BigOperators

variable (e b f g x w dh : ℕ → ℕ → EReal)

theorem s7 : val_main_v7 (F := Ideal) (E2 x) = (E2 fun r _ => rstd x r : S16384x1.Idx → EReal) := Conf.Ref.s7 x
theorem s10 : val_main_v10 (F := Ideal) (E2 x) = (E2 fun r _ => half * Ideal.div (rstd x r) (ms x r) : S16384x1.Idx → EReal) := Conf.Ref.s10 x
theorem s12 : val_main_v12 (F := Ideal) (E2 x) = (E2 fun r c => x r c * rstd x r : S16384x1024.Idx → EReal) := Conf.Ref.s12 x
/-- Both products together. -/
theorem s24 : val_main_v24 (F := Ideal) (E2 f) (E2 g) (E2 e) (E2 b) = (E2 (full e b f g) : S16384x1024.Idx → EReal) := by
  funext i
  rw [val_main_v24_apply, val_main_v22_apply, val_main_v23_apply]
  show _ + _ = full e b f g (i 0).val (i 1).val
  unfold full part
  rw [← fin_sum rfl, ← fin_sum (show 5120 = 1024 * (4 + 1) by norm_num)]
  refine congrArg₂ (· + ·) (Finset.sum_congr rfl fun k _ => ?_) (Finset.sum_congr rfl fun k _ => ?_)
  · rw [val_main_v19_apply]; rfl
  · rw [val_main_v16_apply]; rfl
theorem s26 : val_main_v26 (F := Ideal) (E2 f) (E2 g) (E2 e) (E2 b) (E2 x) = (E1 fun c => ∑ r ∈ Finset.range 16384, scaleK (full e b f g) x r c : S1024.Idx → EReal) := by
  funext i
  rw [val_main_v26_apply]
  refine Eq.trans ?_ (zero_sum 16384 fun r => scaleK (full e b f g) x r (i 0).val)
  refine congrArg (_ + ·) (Finset.sum_congr rfl fun k _ => ?_)
  rw [val_main_v25_apply, s12, s24]
  exact mul_comm _ _
theorem s27 : val_main_v27 (F := Ideal) (E2 f) (E2 g) (E2 e) (E2 b) (E2 x) = (E2 fun _ c => ∑ r ∈ Finset.range 16384, scaleK (full e b f g) x r c : S1x1024.Idx → EReal) := by
  funext i
  rw [val_main_v27_apply, s26]
  refine congrArg (fun c => ∑ r ∈ Finset.range 16384, scaleK (full e b f g) x r c) ?_
  have h : (i 0).val < 1 := (i 0).isLt
  show (i 0).val * 1024 + (i 1).val = (i 1).val
  omega
theorem s29 : val_main_v29 (F := Ideal) (E2 f) (E2 g) (E2 e) (E2 b) (E2 w) = (E2 fun r c => full e b f g r c * w 0 c : S16384x1024.Idx → EReal) := by
  funext i
  rw [val_main_v29_apply, s24, val_main_v28_apply]
  rfl
theorem s31 : val_main_v31 (F := Ideal) (E2 f) (E2 g) (E2 e) (E2 b) (E2 x) (E2 w)
    = (E1 fun r => ∑ k ∈ Finset.range 1024, x r k * (full e b f g r k * w 0 k) : S16384.Idx → EReal) := by
  funext i
  rw [val_main_v31_apply]
  refine Eq.trans ?_ (zero_sum 1024 fun k => x (i 0).val k * (full e b f g (i 0).val k * w 0 k))
  refine congrArg (_ + ·) (Finset.sum_congr rfl fun k _ => ?_)
  rw [val_main_v30_apply, s29]
  rfl
theorem s32 : val_main_v32 (F := Ideal) (E2 f) (E2 g) (E2 e) (E2 b) (E2 x) (E2 w)
    = (E2 fun r _ => ∑ k ∈ Finset.range 1024, x r k * (full e b f g r k * w 0 k) : S16384x1.Idx → EReal) := by
  funext i
  rw [val_main_v32_apply, s31]
  refine congrArg (fun r => ∑ k ∈ Finset.range 1024, x r k * (full e b f g r k * w 0 k)) ?_
  have h : (i 1).val < 1 := (i 1).isLt
  show (i 0).val * 1 + (i 1).val = (i 0).val
  omega
theorem s38 : val_main_v38 (F := Ideal) (E2 f) (E2 g) (E2 e) (E2 b) (E2 x) (E2 w) = (E2 fun r _ => coefR (full e b f g) x w r : S16384x1.Idx → EReal) := by
  funext i
  rw [val_main_v38_apply, val_main_v36_apply, s32, s10, val_main_v37_apply]
  rfl
theorem s40 : val_main_v40 (F := Ideal) (E2 f) (E2 g) (E2 e) (E2 b) (E2 x) (E2 w) = (E2 fun r _ => coefR (full e b f g) x w r : S16384x1024.Idx → EReal) := by
  funext i
  rw [val_main_v40_apply, val_main_v39_apply, s38]
  exact (zero_sum 1 fun _ => coefR (full e b f g) x w (i 0).val).trans (Finset.sum_range_one _)
theorem s44 : val_main_v44 (F := Ideal) (E2 f) (E2 g) (E2 e) (E2 b) (E2 x) (E2 w) (E2 dh) = (E2 (gradR (full e b f g) x w dh) : S16384x1024.Idx → EReal) := by
  funext i
  rw [val_main_v44_apply, val_main_v42_apply, val_main_v35_apply, val_main_v34_apply, val_main_v33_apply, val_main_v41_apply, val_main_v43_apply, s29, s7, s40]
  rfl

end Cert.Norm.Ssd.Ref
-- ==== Proof.Norm.SsdFinal.lean ====
/- The second projection's backward kernel computes what its reference computes. -/
module

public import proofs.«01_k».proof.Defs
public import proofs.«01_k».proof.Proof.Gen.Reference3Ideal.Run
public import proofs.«01_k».proof.Proof.Norm.SsdRef

@[expose] public section

noncomputable section

namespace Cert.Norm.Ssd

open Idealize.ShloMosaic Idealize.ShloMosaic.TcCoe Cert.Kernel3Ideal Cert.Kernel3Ideal.Gen Cert.Reference3Ideal.Read
open Idealize.SL.Sem

section Arrays
variable (m : (ℓ : Loc nD τ sig) → Buf (Elt Ideal) ℓ) (c : Dev nD)

/-- The operands are functions of their indices. -/
theorem holds : Holds (nat2 (V m c main_arg2)) (nat2 (V m c main_arg3)) (nat2 (V m c main_arg0)) (nat2 (V m c main_arg1)) (nat2 (V m c main_arg4)) (nat2 (V m c main_arg5)) (nat2 (V m c main_arg6)) m c where
  f := nat2_eq _
  g := nat2_eq _
  e := nat2_eq _
  b := nat2_eq _
  x := nat2_eq _
  w := nat2_eq _
  dh := nat2_eq _

section
variable {m c} {e b f g x w dh : ℕ → ℕ → EReal} (H : Holds e b f g x w dh m c)
include H

theorem eq_grad : (dats m 0 c).arrAt 7 cfg0.N
    = val_main_v44 (F := Ideal) (V m c main_arg0) (V m c main_arg1) (V m c main_arg2) (V m c main_arg3) (V m c main_arg4) (V m c main_arg5) (V m c main_arg6) := by
  rw [final_grad H, H.f, H.g, H.e, H.b, H.x, H.w, H.dh, Ref.s44]
  exact congrArg E2 (funext fun r => funext fun q => grad_eq _ _ _ _ r q)
theorem eq_scale : (dats m 0 c).arrAt 8 cfg0.N = val_main_v27 (F := Ideal) (V m c main_arg0) (V m c main_arg1) (V m c main_arg2) (V m c main_arg3) (V m c main_arg4) := by
  rw [final_scale H, H.f, H.g, H.e, H.b, H.x, Ref.s27]
end
end Arrays

theorem algebraic : Cert.algebraic_Kernel3Ideal_Reference3Ideal (hKernel3Ideal := Cert.Kernel3Ideal.Gen.facts) (hReference3Ideal := Cert.Reference3Ideal.Gen.facts) := by
  intro m g m' g' _ ha
  refine ⟨fun c => (dats m 0 c).arrAt 7 cfg0.N, fun c => (dats m 0 c).arrAt 8 cfg0.N, Cert.Kernel3Ideal.Value.run_blocks m g,
    θ_run_mono (Cert.Reference3Ideal.Value.run m' g') fun r h c => ?_⟩
  obtain ⟨a0, a1, a2, a3, a4, a5, a6⟩ := ha c
  obtain ⟨r0, r1, r2, r3, r4, r5, r6, r7, r8⟩ := h c
  refine ⟨(r0.trans (val_main_v44_eq _ _)).trans ?_, (r1.trans (val_main_v27_eq _ _ _ _ _)).trans ?_, r2, r3, r4, r5, r6, r7, r8⟩
  · rw [a0, a1, a2, a3, a4, a5, a6]
    exact (eq_grad (holds m c)).symm
  · rw [a0, a1, a2, a3, a4]
    exact (eq_scale (holds m c)).symm

end Cert.Norm.Ssd
-- ==== Proof.Mm.Base.lean ====
/- What the calls that multiply two matrices share: the products, and a block that a run of grid points sums up. -/
module

public import proofs.«01_k».proof.Proof.Norm.Base

@[expose] public section

noncomputable section

namespace Cert.Mm

open Idealize.ShloMosaic Cert.Norm
open scoped BigOperators

theorem hz : (![0, 0] : Fin 2 → Nat) = fun _ => 0 := funext fun a => by fin_cases a <;> rfl

/-- The products of two matrices, of the first transposed, and of the second transposed, over the first `n` terms. -/
def nn (n : ℕ) (a b : ℕ → ℕ → EReal) (r q : ℕ) : EReal := ∑ k ∈ Finset.range n, a r k * b k q
def tn (n : ℕ) (a b : ℕ → ℕ → EReal) (r q : ℕ) : EReal := ∑ k ∈ Finset.range n, a k r * b k q
def nt (n : ℕ) (a b : ℕ → ℕ → EReal) (r q : ℕ) : EReal := ∑ k ∈ Finset.range n, a r k * b q k

/-- A block that every run of `P` points sets to its first product and adds the others to holds, at each point, the product over the rows seen so far. -/
theorem runs {M K N P w : ℕ} (o : ∀ n, n < N → (⟨2, ![M, K]⟩ : Shape).Idx → EReal) (a b : ℕ → ℕ → EReal) (ra rb : ℕ → ℕ)
    (same : ∀ n, ¬(n + 1) % P = 0 → ra (n + 1) = ra n ∧ rb (n + 1) = rb n)
    (first : ∀ n h, n % P = 0 → o n h = E2 fun r q => ∑ k ∈ Finset.range w, a (w * (n % P) + k) (ra n + r) * b (w * (n % P) + k) (rb n + q))
    (next : ∀ n h h', ¬(n + 1) % P = 0 → ∀ z, o n h' = E2 z →
      o (n + 1) h = E2 fun r q => z r q + ∑ k ∈ Finset.range w, a (w * ((n + 1) % P) + k) (ra (n + 1) + r) * b (w * ((n + 1) % P) + k) (rb (n + 1) + q)) :
    ∀ n h, o n h = E2 fun r q => tn (w * (n % P + 1)) a b (ra n + r) (rb n + q) := by
  unfold tn
  have start (n) (h) (h0 : n % P = 0) : o n h = E2 fun r q => ∑ k ∈ Finset.range (w * (n % P + 1)), a k (ra n + r) * b k (rb n + q) := by
    rw [first n h h0, h0]
    refine congrArg E2 (funext fun r => funext fun q => ?_)
    rw [← sum_block, Nat.mul_zero, Finset.sum_range_zero, zero_add]
  intro n
  induction n with
  | zero => exact fun h => start 0 h (Nat.zero_mod P)
  | succ n ih =>
    intro h
    by_cases h0 : (n + 1) % P = 0
    · exact start _ h h0
    · have e : (n + 1) % P = n % P + 1 := by
        rcases Nat.eq_zero_or_pos P with rfl | hP
        · simp
        · rw [Nat.add_mod] at h0 ⊢
          rcases Nat.lt_or_ge 1 P with h1 | h1
          · rw [Nat.mod_eq_of_lt h1] at h0 ⊢
            have := Nat.mod_lt n hP
            rcases Nat.lt_or_ge (n % P + 1) P with h2 | h2
            · exact Nat.mod_eq_of_lt h2
            · rw [show n % P + 1 = P by omega, Nat.mod_self] at h0
              exact absurd rfl h0
          · rw [show P = 1 by omega, Nat.mod_one] at h0
            exact absurd rfl h0
      rw [next n h (by omega) h0 _ (ih (by omega)), (same n h0).1, (same n h0).2, e]
      refine congrArg E2 (funext fun r => funext fun q => ?_)
      exact sum_block w (n % P + 1) fun k => a k (ra n + r) * b k (rb n + q)

end Cert.Mm
-- ==== Proof.Mm.DwIn.lean ====
/- The gradient of the first projection's weights: the kernel sums a block of the product over eight blocks of rows; the reference is the same product. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Mm.Base
public import Idealize.ShloMosaic.Lib.Pipeline.ValueKit

@[expose] public section

noncomputable section

namespace Cert.Mm.DwIn

open Idealize.ShloMosaic Idealize.ShloMosaic.TcCoe Idealize.SL.Sem Cert.Kernel4Ideal Cert.Kernel4Ideal.Gen Cert.Reference4Ideal.Read Cert.Norm
open scoped BigOperators

variable (z a b : ℕ → ℕ → EReal) (m : (ℓ : Loc nD τ sig) → Buf (Elt Ideal) ℓ) (c : Dev nD)

/-- What a point adds: the product of its blocks of rows. -/
theorem pay_zero : k0_pay1 (F := Ideal) = (E2 fun _ _ => 0 : S1024x1024.Idx → EReal) := by
  funext i; exact Ideal.ofBits_zero_f32
theorem pay_step : k0_pay2 (F := Ideal) (E2 z) (E2 a) (E2 b) = (E2 fun r q => z r q + tn 2048 a b r q : S1024x1024.Idx → EReal) := by
  unfold k0_pay2
  refine congrArg₂ (addf (F := Ideal) (φ := .f32) (s := S1024x1024)) (shapeCast_self (s := S1024x1024) _ _) ?_
  refine mm_tn_E2 (M := 1024) (K := 2048) (N := 1024) none a b dot_S2048x1024_S2048x1024_S1024x1024_0_0_1_1_n_n rfl rfl
    (fun i q => DotDims.lhsIdx_val_of_single _ rfl i q) (fun i q => ?_) (fun i q => DotDims.rhsIdx_val_of_single _ rfl i q) (fun i q => ?_)
  · unfold DotDims.lhsIdx
    rw [dif_neg (by decide), dif_pos (by decide)]
    rfl
  · unfold DotDims.rhsIdx
    rw [dif_neg (by decide), dif_pos (by decide)]
    rfl

/-- The operands' entries. -/
structure Holds : Prop where
  a : V m c main_arg0 = (E2 a : S16384x1024.Idx → EReal)
  b : V m c main_arg1 = (E2 b : S16384x6144.Idx → EReal)

theorem idx : ∀ t : Fin cfg0.N, win0_0.index t = ![t.val % 8, t.val / 48] ∧ win0_1.index t = ![t.val % 8, t.val / 8 % 6] ∧ win0_2.index t = ![t.val / 48, t.val / 8 % 6] :=
  (by decide +kernel : ∀ t : Fin grid0.N, _)

section Run
variable {a b m c} (H : Holds a b m c)
include H

theorem iblk_a (t : Fin cfg0.N) : iblk m c 0 t = (E2 fun k r => a (2048 * (t.val % 8) + k) (1024 * (t.val / 48) + r) : S2048x1024.Idx → EReal) := by
  obtain ⟨e0, e1, e2⟩ := idx t
  funext y
  show V m c main_arg0 (((cfg0.win 0).blk t).view.emb y) = _
  rw [H.a]
  refine at2 a ?_ ?_
  · blk_simp [e0]; omega
  · blk_simp [e0]; omega
theorem iblk_b (t : Fin cfg0.N) : iblk m c 1 t = (E2 fun k q => b (2048 * (t.val % 8) + k) (1024 * (t.val / 8 % 6) + q) : S2048x1024.Idx → EReal) := by
  obtain ⟨e0, e1, e2⟩ := idx t
  funext y
  show V m c main_arg1 (((cfg0.win 1).blk t).view.emb y) = _
  rw [H.b]
  refine at2 b ?_ ?_
  · blk_simp [e1]; omega
  · blk_simp [e1]; omega

theorem left : ∀ n h, outsAt0 (F := Ideal) m c n h = (E2 fun r q => tn (2048 * (n % 8 + 1)) a b (1024 * (n / 48) + r) (1024 * (n / 8 % 6) + q) : S1024x1024.Idx → EReal) := by
  refine runs (P := 8) (fun n h => outsAt0 (F := Ideal) m c n h) a b (fun n => 1024 * (n / 48)) (fun n => 1024 * (n / 8 % 6)) (fun n h => ?_) (fun n h h0 => ?_) (fun n h h' h0 z e => ?_)
  · exact ⟨by omega, by omega⟩
  · refine (outsAt0_A m c ⟨n, h⟩ h0).trans ((Value.out_A_2_eq ..).trans ?_)
    rw [iblk_a H, iblk_b H, pay_zero, pay_step]
    exact congrArg E2 (funext fun r => funext fun q => zero_add _)
  · refine (outsAt0_B m c ⟨n + 1, h⟩ h0).trans ((Value.out_B_2_eq ..).trans ?_)
    refine (congrArg (fun o => k0_pay2 (F := Ideal) o (iblk m c 0 ⟨n + 1, h⟩) (iblk m c 1 ⟨n + 1, h⟩)) e).trans ?_
    rw [iblk_a H, iblk_b H, pay_step]
    rfl

theorem final : (dats m 0 c).arrAt 2 cfg0.N = (E2 (tn 16384 a b) : S1024x6144.Idx → EReal) := by
  refine (dats m 0 c).arrAt_eq_of_covers 2 _ (by decide +kernel) fun t hf y => ?_
  have ht : t.val % 8 = 7 := (flush0_2 t).mp hf
  obtain ⟨e0, e1, e2⟩ := idx t
  blk_simp
  rw [after0_2, left H, ht]
  refine at2 (tn 16384 a b) ?_ ?_
  · blk_simp [e2]; omega
  · blk_simp [e2]; omega
end Run

theorem ref : val_main_v3 (F := Ideal) (E2 a) (E2 b) = (E2 (tn 16384 a b) : S1024x6144.Idx → EReal) := by
  funext i
  rw [val_main_v3_apply, val_main_v2_apply]
  exact (Finset.sum_congr rfl fun k _ => mul_comm _ _).trans (fin_sum rfl fun k => a k (i 0).val * b k (i 1).val)

theorem eq_ref {a b m c} (H : Holds a b m c) : (dats m 0 c).arrAt 2 cfg0.N = val_main_v3 (F := Ideal) (V m c main_arg0) (V m c main_arg1) := by
  rw [final H, H.a, H.b, ref]

theorem algebraic : Cert.algebraic_Kernel4Ideal_Reference4Ideal (hKernel4Ideal := Cert.Kernel4Ideal.Gen.facts) (hReference4Ideal := Cert.Reference4Ideal.Gen.facts) := by
  intro m g m' g' _ ha
  refine ⟨fun c => (dats m 0 c).arrAt 2 cfg0.N, Cert.Kernel4Ideal.Value.run_blocks m g, θ_run_mono (Cert.Reference4Ideal.Value.run m' g') fun r h c => ?_⟩
  obtain ⟨a0, a1⟩ := ha c
  obtain ⟨r0, r1⟩ := h c
  refine ⟨(r0.trans (val_main_v3_eq _ _)).trans ?_, r1⟩
  rw [a0, a1]
  exact (eq_ref (⟨nat2_eq _, nat2_eq _⟩ : Holds (nat2 (V m c main_arg0)) (nat2 (V m c main_arg1)) m c)).symm

end Cert.Mm.DwIn
-- ==== Proof.Mm.DwZx.lean ====
/- The gradient of the second projection's packed weights: the kernel sums a block of the product over eight blocks of rows; the reference transposes the same product twice. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Mm.DwIn

@[expose] public section

noncomputable section

namespace Cert.Mm.DwZx

open Idealize.ShloMosaic Idealize.ShloMosaic.TcCoe Idealize.SL.Sem Cert.Kernel5Ideal Cert.Kernel5Ideal.Gen Cert.Reference5Ideal.Read Cert.Norm
open scoped BigOperators

variable (z a b : ℕ → ℕ → EReal) (m : (ℓ : Loc nD τ sig) → Buf (Elt Ideal) ℓ) (c : Dev nD)

/-- A point adds what one of the first projection's adds. -/
theorem pay_zero : k0_pay1 (F := Ideal) = (E2 fun _ _ => 0 : S1024x1024.Idx → EReal) := DwIn.pay_zero
theorem pay_step : k0_pay2 (F := Ideal) (E2 z) (E2 a) (E2 b) = (E2 fun r q => z r q + tn 2048 a b r q : S1024x1024.Idx → EReal) := DwIn.pay_step z a b

/-- The operands' entries. -/
structure Holds : Prop where
  a : V m c main_arg0 = (E2 a : S16384x5120.Idx → EReal)
  b : V m c main_arg1 = (E2 b : S16384x1024.Idx → EReal)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

section Run
variable {a b m c} (H : Holds a b m c)
include H

theorem iblk_a (t : Fin cfg0.N) : iblk m c 0 t = (E2 fun k r => a (2048 * (t.val % 8) + k) (1024 * (t.val / 8) + r) : S2048x1024.Idx → EReal) := by
  obtain ⟨e0, e1, e2⟩ := idx t
  funext y
  show V m c main_arg0 (((cfg0.win 0).blk t).view.emb y) = _
  rw [H.a]
  refine at2 a ?_ ?_
  · blk_simp [e0]; omega
  · blk_simp [e0]; omega
theorem iblk_b (t : Fin cfg0.N) : iblk m c 1 t = (E2 fun k q => b (2048 * (t.val % 8) + k) (0 + q) : S2048x1024.Idx → EReal) := by
  obtain ⟨e0, e1, e2⟩ := idx t
  funext y
  show V m c main_arg1 (((cfg0.win 1).blk t).view.emb y) = _
  rw [H.b]
  refine at2 b ?_ ?_
  · blk_simp [e1]; omega
  · blk_simp [e1]

theorem left : ∀ n h, outsAt0 (F := Ideal) m c n h = (E2 fun r q => tn (2048 * (n % 8 + 1)) a b (1024 * (n / 8) + r) (0 + q) : S1024x1024.Idx → EReal) := by
  refine runs (P := 8) (fun n h => outsAt0 (F := Ideal) m c n h) a b (fun n => 1024 * (n / 8)) (fun _ => 0) (fun n h => ?_) (fun n h h0 => ?_) (fun n h h' h0 z e => ?_)
  · exact ⟨by omega, rfl⟩
  · refine (outsAt0_A m c ⟨n, h⟩ h0).trans ((Value.out_A_2_eq ..).trans ?_)
    rw [iblk_a H, iblk_b H, pay_zero, pay_step]
    exact congrArg E2 (funext fun r => funext fun q => zero_add _)
  · refine (outsAt0_B m c ⟨n + 1, h⟩ h0).trans ((Value.out_B_2_eq ..).trans ?_)
    refine (congrArg (fun o => k0_pay2 (F := Ideal) o (iblk m c 0 ⟨n + 1, h⟩) (iblk m c 1 ⟨n + 1, h⟩)) e).trans ?_
    rw [iblk_a H, iblk_b H, pay_step]
    rfl

theorem final : (dats m 0 c).arrAt 2 cfg0.N = (E2 (tn 16384 a b) : S5120x1024.Idx → EReal) := by
  refine (dats m 0 c).arrAt_eq_of_covers 2 _ (by decide +kernel) fun t hf y => ?_
  have ht : t.val % 8 = 7 := (flush0_2 t).mp hf
  obtain ⟨e0, e1, e2⟩ := idx t
  blk_simp
  rw [after0_2, left H, ht]
  refine at2 (tn 16384 a b) ?_ ?_
  · blk_simp [e2]; omega
  · blk_simp [e2]
end Run

theorem ref : val_main_v4 (F := Ideal) (E2 a) (E2 b) = (E2 (tn 16384 a b) : S5120x1024.Idx → EReal) := by
  funext i
  rw [val_main_v4_apply, val_main_v3_apply, val_main_v2_apply]
  exact fin_sum rfl fun k => a k (i 0).val * b k (i 1).val

theorem eq_ref {a b m c} (H : Holds a b m c) : (dats m 0 c).arrAt 2 cfg0.N = val_main_v4 (F := Ideal) (V m c main_arg0) (V m c main_arg1) := by
  rw [final H, H.a, H.b, ref]

theorem algebraic : Cert.algebraic_Kernel5Ideal_Reference5Ideal (hKernel5Ideal := Cert.Kernel5Ideal.Gen.facts) (hReference5Ideal := Cert.Reference5Ideal.Gen.facts) := by
  intro m g m' g' _ ha
  refine ⟨fun c => (dats m 0 c).arrAt 2 cfg0.N, Cert.Kernel5Ideal.Value.run_blocks m g, θ_run_mono (Cert.Reference5Ideal.Value.run m' g') fun r h c => ?_⟩
  obtain ⟨a0, a1⟩ := ha c
  obtain ⟨r0, r1⟩ := h c
  refine ⟨(r0.trans (val_main_v4_eq _ _)).trans ?_, r1⟩
  rw [a0, a1]
  exact (eq_ref (⟨nat2_eq _, nat2_eq _⟩ : Holds (nat2 (V m c main_arg0)) (nat2 (V m c main_arg1)) m c)).symm

end Cert.Mm.DwZx
-- ==== Proof.Mm.DwOut.lean ====
/- The gradient of an output projection's weights: the kernel sums a block of the product over eight blocks of rows; the reference is the same product, transposed. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Mm.DwIn

@[expose] public section

noncomputable section

namespace Cert.Mm.DwOut

open Idealize.ShloMosaic Idealize.ShloMosaic.TcCoe Idealize.SL.Sem Cert.Kernel6Ideal Cert.Kernel6Ideal.Gen Cert.Reference6Ideal.Read Cert.Norm
open scoped BigOperators

variable (z a b : ℕ → ℕ → EReal) (m : (ℓ : Loc nD τ sig) → Buf (Elt Ideal) ℓ) (c : Dev nD)

/-- A point adds what one of the first projection's adds: rounding the second operand is the identity. -/
theorem pay_zero : k0_pay1 (F := Ideal) = (E2 fun _ _ => 0 : S1024x1024.Idx → EReal) := DwIn.pay_zero
theorem pay_step : k0_pay2 (F := Ideal) (E2 z) (E2 a) (E2 b) = (E2 fun r q => z r q + tn 2048 a b r q : S1024x1024.Idx → EReal) := DwIn.pay_step z a b

/-- The operands' entries. -/
structure Holds : Prop where
  a : V m c main_arg0 = (E2 a : S16384x2048.Idx → EReal)
  b : V m c main_arg1 = (E2 b : S16384x1024.Idx → EReal)

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

section Run
variable {a b m c} (H : Holds a b m c)
include H

theorem iblk_a (t : Fin cfg0.N) : iblk m c 0 t = (E2 fun k r => a (2048 * (t.val % 8) + k) (1024 * (t.val / 8) + r) : S2048x1024.Idx → EReal) := by
  obtain ⟨e0, e1, e2⟩ := idx t
  funext y
  show V m c main_arg0 (((cfg0.win 0).blk t).view.emb y) = _
  rw [H.a]
  refine at2 a ?_ ?_
  · blk_simp [e0]; omega
  · blk_simp [e0]; omega
theorem iblk_b (t : Fin cfg0.N) : iblk m c 1 t = (E2 fun k q => b (2048 * (t.val % 8) + k) (0 + q) : S2048x1024.Idx → EReal) := by
  obtain ⟨e0, e1, e2⟩ := idx t
  funext y
  show V m c main_arg1 (((cfg0.win 1).blk t).view.emb y) = _
  rw [H.b]
  refine at2 b ?_ ?_
  · blk_simp [e1]; omega
  · blk_simp [e1]

theorem left : ∀ n h, outsAt0 (F := Ideal) m c n h = (E2 fun r q => tn (2048 * (n % 8 + 1)) a b (1024 * (n / 8) + r) (0 + q) : S1024x1024.Idx → EReal) := by
  refine runs (P := 8) (fun n h => outsAt0 (F := Ideal) m c n h) a b (fun n => 1024 * (n / 8)) (fun _ => 0) (fun n h => ?_) (fun n h h0 => ?_) (fun n h h' h0 z e => ?_)
  · exact ⟨by omega, rfl⟩
  · refine (outsAt0_A m c ⟨n, h⟩ h0).trans ((Value.out_A_2_eq ..).trans ?_)
    rw [iblk_a H, iblk_b H, pay_zero, pay_step]
    exact congrArg E2 (funext fun r => funext fun q => zero_add _)
  · refine (outsAt0_B m c ⟨n + 1, h⟩ h0).trans ((Value.out_B_2_eq ..).trans ?_)
    refine (congrArg (fun o => k0_pay2 (F := Ideal) o (iblk m c 0 ⟨n + 1, h⟩) (iblk m c 1 ⟨n + 1, h⟩)) e).trans ?_
    rw [iblk_a H, iblk_b H, pay_step]
    rfl

theorem final : (dats m 0 c).arrAt 2 cfg0.N = (E2 (tn 16384 a b) : S2048x1024.Idx → EReal) := by
  refine (dats m 0 c).arrAt_eq_of_covers 2 _ (by decide +kernel) fun t hf y => ?_
  have ht : t.val % 8 = 7 := (flush0_2 t).mp hf
  obtain ⟨e0, e1, e2⟩ := idx t
  blk_simp
  rw [after0_2, left H, ht]
  refine at2 (tn 16384 a b) ?_ ?_
  · blk_simp [e2]; omega
  · blk_simp [e2]
end Run

theorem ref : val_main_v2 (F := Ideal) (E2 a) (E2 b) = (E2 (tn 16384 a b) : S2048x1024.Idx → EReal) := by
  funext i
  rw [val_main_v2_apply, val_main_v1_apply]
  exact (Finset.sum_congr rfl fun k _ => mul_comm _ _).trans (fin_sum rfl fun k => a k (i 0).val * b k (i 1).val)

theorem eq_ref {a b m c} (H : Holds a b m c) : (dats m 0 c).arrAt 2 cfg0.N = val_main_v2 (F := Ideal) (V m c main_arg0) (V m c main_arg1) := by
  rw [final H, H.a, H.b, ref]

theorem algebraic : Cert.algebraic_Kernel6Ideal_Reference6Ideal (hKernel6Ideal := Cert.Kernel6Ideal.Gen.facts) (hReference6Ideal := Cert.Reference6Ideal.Gen.facts) := by
  intro m g m' g' _ ha
  refine ⟨fun c => (dats m 0 c).arrAt 2 cfg0.N, Cert.Kernel6Ideal.Value.run_blocks m g, θ_run_mono (Cert.Reference6Ideal.Value.run m' g') fun r h c => ?_⟩
  obtain ⟨a0, a1⟩ := ha c
  obtain ⟨r0, r1⟩ := h c
  refine ⟨(r0.trans (val_main_v2_eq _ _)).trans ?_, r1⟩
  rw [a0, a1]
  exact (eq_ref (⟨nat2_eq _, nat2_eq _⟩ : Holds (nat2 (V m c main_arg0)) (nat2 (V m c main_arg1)) m c)).symm

end Cert.Mm.DwOut
-- ==== Proof.Mm.ProjZx.lean ====
/- The second projection, whose weights are transposed: one grid point computes one block of the product. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Mm.Base
public import Idealize.ShloMosaic.Lib.Pipeline.ValueKit

@[expose] public section

noncomputable section

namespace Cert.Mm.ProjZx

open Idealize.ShloMosaic Idealize.ShloMosaic.TcCoe Idealize.SL.Sem Cert.Kernel9Ideal Cert.Kernel9Ideal.Gen Cert.Reference9Ideal.Read Cert.Norm
open scoped BigOperators

variable (z a b : ℕ → ℕ → EReal) (m : (ℓ : Loc nD τ sig) → Buf (Elt Ideal) ℓ) (c : Dev nD)

/-- The zero a point starts from, and what it stores. -/
theorem pay_zero : k0_pay1 (F := Ideal) = (E2 fun _ _ => 0 : S1024x1024.Idx → EReal) := by
  unfold k0_pay1
  refine (shapeCast_self (s := S1024x1024) _ _).trans ?_
  funext i; exact Ideal.ofBits_zero_f32
theorem pay_step : k0_pay2 (F := Ideal) (E2 z) (E2 a) (E2 b) = (E2 fun r q => z r q + nt 1024 a b r q : S1024x1024.Idx → EReal) := by
  unfold k0_pay2
  refine (shapeCast_self (s := S1024x1024) _ _).trans ?_
  exact congrArg (addf (F := Ideal) (φ := .f32) (E2 z : S1024x1024.Idx → EReal)) (mm_nt_E2 (M := 1024) (K := 1024) (N := 1024) none a b)
theorem pay_out : k0_pay3 (F := Ideal) (k0_pay2 (F := Ideal) (k0_pay1 (F := Ideal)) (E2 a) (E2 b)) = (E2 (nt 1024 a b) : S1024x1024.Idx → EReal) := by
  rw [pay_zero, pay_step]
  exact congrArg E2 (funext fun r => funext fun q => zero_add _)

theorem out_A (i : grid0.Coords) (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole) (hc0 : cond0_0 i) (hc1 : cond0_1 i)
    (x0 : Vec Ideal S1024x1024 .bf16) (x1 : Vec Ideal S1024x1024 .bf16) :
    out0_A_2 c i arg3 harg3 arg4 harg4 arg5 harg5 arg6 harg6 hc0 hc1 x0 x1 = k0_pay3 (F := Ideal) (k0_pay2 (F := Ideal) (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, View.readCov_cons_unit_lit' (S := S1024x1024) _ _ _ _ _ (by decide) (by decide)]
  simp only [View.readCov_unit_zero (S := S1024x1024) _ hz, View.readAt_eq_ld, harg3.read_unread, harg4.read_unread, View.ld_unit_zero (S := S1024x1024) hz]

/-- The operands' entries. -/
structure Holds : Prop where
  a : V m c main_arg0 = (E2 a : S16384x1024.Idx → EReal)
  b : V m c main_arg1 = (E2 b : S5120x1024.Idx → EReal)

theorem idx : ∀ t : Fin cfg0.N, win0_0.index t = ![t.val / 5, 0] ∧ win0_1.index t = ![t.val % 5, 0] ∧ win0_2.index t = ![t.val / 5, t.val % 5] :=
  (by decide +kernel : ∀ t : Fin grid0.N, _)

section Run
variable {a b m c} (H : Holds a b m c)
include H

theorem iblk_a (t : Fin cfg0.N) : iblk m c 0 t = (E2 fun r k => a (1024 * (t.val / 5) + r) k : S1024x1024.Idx → EReal) := by
  obtain ⟨e0, e1, e2⟩ := idx t
  funext y
  show V m c main_arg0 (((cfg0.win 0).blk t).view.emb y) = _
  rw [H.a]
  refine at2 a ?_ ?_
  · blk_simp [e0]; omega
  · blk_simp [e0]
theorem iblk_b (t : Fin cfg0.N) : iblk m c 1 t = (E2 fun q k => b (1024 * (t.val % 5) + q) k : S1024x1024.Idx → EReal) := by
  obtain ⟨e0, e1, e2⟩ := idx t
  funext y
  show V m c main_arg1 (((cfg0.win 1).blk t).view.emb y) = _
  rw [H.b]
  refine at2 b ?_ ?_
  · blk_simp [e1]; omega
  · blk_simp [e1]

theorem left (t : Fin cfg0.N) : outsAt0 (F := Ideal) m c t = (E2 fun r q => nt 1024 a b (1024 * (t.val / 5) + r) (1024 * (t.val % 5) + q) : S1024x1024.Idx → EReal) := by
  unfold outsAt0
  rw [out_A, iblk_a H, iblk_b H, pay_out]
  rfl

theorem final : (dats m 0 c).arrAt 2 cfg0.N = (E2 (nt 1024 a b) : S16384x5120.Idx → EReal) := by
  refine (dats m 0 c).arrAt_eq_of_covers 2 _ (by decide +kernel) fun t hf y => ?_
  obtain ⟨e0, e1, e2⟩ := idx t
  blk_simp
  rw [after0_2, left H]
  refine at2 (nt 1024 a b) ?_ ?_
  · blk_simp [e2]; omega
  · blk_simp [e2]; omega
end Run

theorem ref : val_main_v4 (F := Ideal) (E2 a) (E2 b) = (E2 (nt 1024 a b) : S16384x5120.Idx → EReal) := by
  funext i
  rw [val_main_v4_apply, val_main_v3_apply]
  refine Eq.trans (Finset.sum_congr rfl fun k _ => ?_) (fin_sum rfl fun k => a (i 0).val k * b (i 1).val k)
  rw [val_main_v2_apply]
  rfl

theorem eq_ref {a b m c} (H : Holds a b m c) : (dats m 0 c).arrAt 2 cfg0.N = val_main_v4 (F := Ideal) (V m c main_arg0) (V m c main_arg1) := by
  rw [final H, H.a, H.b, ref]

theorem algebraic : Cert.algebraic_Kernel9Ideal_Reference9Ideal (hKernel9Ideal := Cert.Kernel9Ideal.Gen.facts) (hReference9Ideal := Cert.Reference9Ideal.Gen.facts) := by
  intro m g m' g' _ ha
  refine ⟨fun c => (dats m 0 c).arrAt 2 cfg0.N, Cert.Kernel9Ideal.Value.run_blocks m g, θ_run_mono (Cert.Reference9Ideal.Value.run m' g') fun r h c => ?_⟩
  obtain ⟨a0, a1⟩ := ha c
  obtain ⟨r0, r1⟩ := h c
  refine ⟨(r0.trans (val_main_v4_eq _ _)).trans ?_, r1⟩
  rw [a0, a1]
  exact (eq_ref (⟨nat2_eq _, nat2_eq _⟩ : Holds (nat2 (V m c main_arg0)) (nat2 (V m c main_arg1)) m c)).symm

end Cert.Mm.ProjZx
-- ==== Proof.Mm.DOut.lean ====
/- The gradient of what an output projection multiplies: one grid point computes one block of the product with the transposed weights. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Mm.ProjZx

@[expose] public section

noncomputable section

namespace Cert.Mm.DOut

open Idealize.ShloMosaic Idealize.ShloMosaic.TcCoe Idealize.SL.Sem Cert.Kernel7Ideal Cert.Kernel7Ideal.Gen Cert.Reference7Ideal.Read Cert.Norm
open scoped BigOperators

variable (a b : ℕ → ℕ → EReal) (m : (ℓ : Loc nD τ sig) → Buf (Elt Ideal) ℓ) (c : Dev nD)

/-- A point stores what one of the second projection's stores: rounding the first operand is the identity. -/
theorem pay_out : k0_pay3 (F := Ideal) (k0_pay2 (F := Ideal) (k0_pay1 (F := Ideal)) (E2 a) (E2 b)) = (E2 (nt 1024 a b) : S1024x1024.Idx → EReal) :=
  ProjZx.pay_out a b

theorem out_A (i : grid0.Coords) (arg3 : Memref sig .tc .vmem S1024x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole) (hc0 : cond0_0 i) (hc1 : cond0_1 i)
    (x0 : Vec Ideal S1024x1024 .f32) (x1 : Vec Ideal S1024x1024 .bf16) :
    out0_A_2 c i arg3 harg3 arg4 harg4 arg5 harg5 arg6 harg6 hc0 hc1 x0 x1 = k0_pay3 (F := Ideal) (k0_pay2 (F := Ideal) (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, View.readCov_cons_unit_lit' (S := S1024x1024) _ _ _ _ _ (by decide) (by decide)]
  simp only [View.readCov_unit_zero (S := S1024x1024) _ hz, View.readAt_eq_ld, harg3.read_unread, harg4.read_unread, View.ld_unit_zero (S := S1024x1024) hz]

/-- The operands' entries. -/
structure Holds : Prop where
  a : V m c main_arg0 = (E2 a : S16384x1024.Idx → EReal)
  b : V m c main_arg1 = (E2 b : S2048x1024.Idx → EReal)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

section Run
variable {a b m c} (H : Holds a b m c)
include H

theorem iblk_a (t : Fin cfg0.N) : iblk m c 0 t = (E2 fun r k => a (1024 * (t.val / 2) + r) k : S1024x1024.Idx → EReal) := by
  obtain ⟨e0, e1, e2⟩ := idx t
  funext y
  show V m c main_arg0 (((cfg0.win 0).blk t).view.emb y) = _
  rw [H.a]
  refine at2 a ?_ ?_
  · blk_simp [e0]; omega
  · blk_simp [e0]
theorem iblk_b (t : Fin cfg0.N) : iblk m c 1 t = (E2 fun q k => b (1024 * (t.val % 2) + q) k : S1024x1024.Idx → EReal) := by
  obtain ⟨e0, e1, e2⟩ := idx t
  funext y
  show V m c main_arg1 (((cfg0.win 1).blk t).view.emb y) = _
  rw [H.b]
  refine at2 b ?_ ?_
  · blk_simp [e1]; omega
  · blk_simp [e1]

theorem left (t : Fin cfg0.N) : outsAt0 (F := Ideal) m c t = (E2 fun r q => nt 1024 a b (1024 * (t.val / 2) + r) (1024 * (t.val % 2) + q) : S1024x1024.Idx → EReal) := by
  unfold outsAt0
  rw [out_A, iblk_a H, iblk_b H, pay_out]
  rfl

theorem final : (dats m 0 c).arrAt 2 cfg0.N = (E2 (nt 1024 a b) : S16384x2048.Idx → EReal) := by
  refine (dats m 0 c).arrAt_eq_of_covers 2 _ (by decide +kernel) fun t hf y => ?_
  obtain ⟨e0, e1, e2⟩ := idx t
  blk_simp
  rw [after0_2, left H]
  refine at2 (nt 1024 a b) ?_ ?_
  · blk_simp [e2]; omega
  · blk_simp [e2]; omega
end Run

theorem ref : val_main_v2 (F := Ideal) (E2 a) (E2 b) = (E2 (nt 1024 a b) : S16384x2048.Idx → EReal) := by
  funext i
  rw [val_main_v2_apply, val_main_v1_apply]
  exact fin_sum rfl fun k => a (i 0).val k * b (i 1).val k

theorem eq_ref {a b m c} (H : Holds a b m c) : (dats m 0 c).arrAt 2 cfg0.N = val_main_v2 (F := Ideal) (V m c main_arg0) (V m c main_arg1) := by
  rw [final H, H.a, H.b, ref]

theorem algebraic : Cert.algebraic_Kernel7Ideal_Reference7Ideal (hKernel7Ideal := Cert.Kernel7Ideal.Gen.facts) (hReference7Ideal := Cert.Reference7Ideal.Gen.facts) := by
  intro m g m' g' _ ha
  refine ⟨fun c => (dats m 0 c).arrAt 2 cfg0.N, Cert.Kernel7Ideal.Value.run_blocks m g, θ_run_mono (Cert.Reference7Ideal.Value.run m' g') fun r h c => ?_⟩
  obtain ⟨a0, a1⟩ := ha c
  obtain ⟨r0, r1⟩ := h c
  refine ⟨(r0.trans (val_main_v2_eq _ _)).trans ?_, r1⟩
  rw [a0, a1]
  exact (eq_ref (⟨nat2_eq _, nat2_eq _⟩ : Holds (nat2 (V m c main_arg0)) (nat2 (V m c main_arg1)) m c)).symm

end Cert.Mm.DOut
-- ==== Proof.Mm.Proj.lean ====
/- The first projection: one grid point computes one block of the product. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Mm.Base
public import Idealize.ShloMosaic.Lib.Pipeline.ValueKit

@[expose] public section

noncomputable section

namespace Cert.Mm.Proj

open Idealize.ShloMosaic Idealize.ShloMosaic.TcCoe Idealize.SL.Sem Cert.Kernel8Ideal Cert.Kernel8Ideal.Gen Cert.Reference8Ideal.Read Cert.Norm
open scoped BigOperators

variable (z a b : ℕ → ℕ → EReal) (m : (ℓ : Loc nD τ sig) → Buf (Elt Ideal) ℓ) (c : Dev nD)

/-- The zero a point starts from, and what it stores. -/
theorem pay_zero : k0_pay1 (F := Ideal) = (E2 fun _ _ => 0 : S1024x1024.Idx → EReal) := by
  unfold k0_pay1
  refine (shapeCast_self (s := S1024x1024) _ _).trans ?_
  funext i; exact Ideal.ofBits_zero_f32
theorem pay_step : k0_pay2 (F := Ideal) (E2 z) (E2 a) (E2 b) = (E2 fun r q => z r q + nn 1024 a b r q : S1024x1024.Idx → EReal) := by
  unfold k0_pay2
  refine (shapeCast_self (s := S1024x1024) _ _).trans ?_
  exact congrArg (addf (F := Ideal) (φ := .f32) (E2 z : S1024x1024.Idx → EReal)) (mm_nn_E2 (M := 1024) (K := 1024) (N := 1024) none a b)
theorem pay_out : k0_pay3 (F := Ideal) (k0_pay2 (F := Ideal) (k0_pay1 (F := Ideal)) (E2 a) (E2 b)) = (E2 (nn 1024 a b) : S1024x1024.Idx → EReal) := by
  rw [pay_zero, pay_step]
  exact congrArg E2 (funext fun r => funext fun q => zero_add _)

theorem out_A (i : grid0.Coords) (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .f32) (harg6 : arg6.IsWhole) (hc0 : cond0_0 i) (hc1 : cond0_1 i)
    (x0 : Vec Ideal S1024x1024 .bf16) (x1 : Vec Ideal S1024x1024 .bf16) :
    out0_A_2 c i arg3 harg3 arg4 harg4 arg5 harg5 arg6 harg6 hc0 hc1 x0 x1 = k0_pay3 (F := Ideal) (k0_pay2 (F := Ideal) (k0_pay1 (F := Ideal)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, View.readCov_cons_unit_lit' (S := S1024x1024) _ _ _ _ _ (by decide) (by decide)]
  simp only [View.readCov_unit_zero (S := S1024x1024) _ hz, View.readAt_eq_ld, harg3.read_unread, harg4.read_unread, View.ld_unit_zero (S := S1024x1024) hz]

/-- The operands' entries. -/
structure Holds : Prop where
  a : V m c main_arg0 = (E2 a : S16384x1024.Idx → EReal)
  b : V m c main_arg1 = (E2 b : S1024x6144.Idx → EReal)

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

section Run
variable {a b m c} (H : Holds a b m c)
include H

theorem iblk_a (t : Fin cfg0.N) : iblk m c 0 t = (E2 fun r k => a (1024 * (t.val / 6) + r) k : S1024x1024.Idx → EReal) := by
  obtain ⟨e0, e1, e2⟩ := idx t
  funext y
  show V m c main_arg0 (((cfg0.win 0).blk t).view.emb y) = _
  rw [H.a]
  refine at2 a ?_ ?_
  · blk_simp [e0]; omega
  · blk_simp [e0]
theorem iblk_b (t : Fin cfg0.N) : iblk m c 1 t = (E2 fun k q => b k (1024 * (t.val % 6) + q) : S1024x1024.Idx → EReal) := by
  obtain ⟨e0, e1, e2⟩ := idx t
  funext y
  show V m c main_arg1 (((cfg0.win 1).blk t).view.emb y) = _
  rw [H.b]
  refine at2 b ?_ ?_
  · blk_simp [e1]
  · blk_simp [e1]; omega

theorem left (t : Fin cfg0.N) : outsAt0 (F := Ideal) m c t = (E2 fun r q => nn 1024 a b (1024 * (t.val / 6) + r) (1024 * (t.val % 6) + q) : S1024x1024.Idx → EReal) := by
  unfold outsAt0
  rw [out_A, iblk_a H, iblk_b H, pay_out]
  rfl

theorem final : (dats m 0 c).arrAt 2 cfg0.N = (E2 (nn 1024 a b) : S16384x6144.Idx → EReal) := by
  refine (dats m 0 c).arrAt_eq_of_covers 2 _ (by decide +kernel) fun t hf y => ?_
  obtain ⟨e0, e1, e2⟩ := idx t
  blk_simp
  rw [after0_2, left H]
  refine at2 (nn 1024 a b) ?_ ?_
  · blk_simp [e2]; omega
  · blk_simp [e2]; omega
end Run

theorem ref : val_main_v3 (F := Ideal) (E2 a) (E2 b) = (E2 (nn 1024 a b) : S16384x6144.Idx → EReal) := by
  funext i
  rw [val_main_v3_apply, val_main_v2_apply]
  exact fin_sum rfl fun k => a (i 0).val k * b k (i 1).val

theorem eq_ref {a b m c} (H : Holds a b m c) : (dats m 0 c).arrAt 2 cfg0.N = val_main_v3 (F := Ideal) (V m c main_arg0) (V m c main_arg1) := by
  rw [final H, H.a, H.b, ref]

theorem algebraic : Cert.algebraic_Kernel8Ideal_Reference8Ideal (hKernel8Ideal := Cert.Kernel8Ideal.Gen.facts) (hReference8Ideal := Cert.Reference8Ideal.Gen.facts) := by
  intro m g m' g' _ ha
  refine ⟨fun c => (dats m 0 c).arrAt 2 cfg0.N, Cert.Kernel8Ideal.Value.run_blocks m g, θ_run_mono (Cert.Reference8Ideal.Value.run m' g') fun r h c => ?_⟩
  obtain ⟨a0, a1⟩ := ha c
  obtain ⟨r0, r1⟩ := h c
  refine ⟨(r0.trans (val_main_v3_eq _ _)).trans ?_, r1⟩
  rw [a0, a1]
  exact (eq_ref (⟨nat2_eq _, nat2_eq _⟩ : Holds (nat2 (V m c main_arg0)) (nat2 (V m c main_arg1)) m c)).symm

end Cert.Mm.Proj
-- ==== Proof.Mm.OutProj.lean ====
/- An output projection: one grid point computes one block of the product and adds the layer's input. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Mm.Proj

@[expose] public section

noncomputable section

namespace Cert.Mm.OutProj

open Idealize.ShloMosaic Idealize.ShloMosaic.TcCoe Idealize.SL.Sem Cert.Kernel10Ideal Cert.Kernel10Ideal.Gen Cert.Reference10Ideal.Read Cert.Norm
open scoped BigOperators

variable (z a b h : ℕ → ℕ → EReal) (m : (ℓ : Loc nD τ sig) → Buf (Elt Ideal) ℓ) (c : Dev nD)

/-- The layer's input and the product. -/
def plus (r q : ℕ) : EReal := h r q + nn 2048 a b r q

/-- The zero a point starts from, and what it stores. -/
theorem pay_zero : k0_pay1 (F := Ideal) = (E2 fun _ _ => 0 : S1024x1024.Idx → EReal) := Proj.pay_zero
theorem pay_step : k0_pay2 (F := Ideal) (E2 z) (E2 a) (E2 b) = (E2 fun r q => z r q + nn 2048 a b r q : S1024x1024.Idx → EReal) := by
  unfold k0_pay2
  refine (shapeCast_self (s := S1024x1024) _ _).trans ?_
  exact congrArg (addf (F := Ideal) (φ := .f32) (E2 z : S1024x1024.Idx → EReal)) (mm_nn_E2 (M := 1024) (K := 2048) (N := 1024) none a b)
theorem pay_out : k0_pay3 (F := Ideal) (k0_pay2 (F := Ideal) (k0_pay1 (F := Ideal)) (E2 a) (E2 b)) (E2 h) = (E2 (plus a b h) : S1024x1024.Idx → EReal) := by
  rw [pay_zero, pay_step]
  exact congrArg E2 (funext fun r => funext fun q => (congrArg (· + h r q) (zero_add _)).trans (add_comm _ _))

theorem out_A (i : grid0.Coords) (arg3 : Memref sig .tc .vmem S1024x2048 .bf16) (harg3 : arg3.IsWhole) (arg4 : Memref sig .tc .vmem S2048x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (hc0 : cond0_0 i) (hc1 : cond0_1 i) (x0 : Vec Ideal S1024x2048 .bf16) (x1 : Vec Ideal S2048x1024 .bf16) (x2 : Vec Ideal S1024x1024 .f32) :
    out0_A_3 c i arg3 harg3 arg4 harg4 arg5 harg5 arg6 harg6 arg7 harg7 hc0 hc1 x0 x1 x2 = k0_pay3 (F := Ideal) (k0_pay2 (F := Ideal) (k0_pay1 (F := Ideal)) x0 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  sl_unfold_words
  rw [View.canon_unit_zero hz, View.readCov_cons_unit_lit' (S := S1024x1024) _ _ _ _ _ (by decide) (by decide)]
  simp only [View.readCov_unit_zero (S := S1024x1024) _ hz, View.readAt_eq_ld, harg3.read_unread, harg4.read_unread, harg5.read_unread, View.ld_unit_zero (S := S1024x1024) hz, View.ld_unit_zero (S := S1024x2048) hz,
    View.ld_unit_zero (S := S2048x1024) hz]

/-- The operands' entries. -/
structure Holds : Prop where
  a : V m c main_arg0 = (E2 a : S16384x2048.Idx → EReal)
  b : V m c main_arg1 = (E2 b : S2048x1024.Idx → EReal)
  h : V m c main_arg2 = (E2 h : S16384x1024.Idx → EReal)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

section Run
variable {a b h m c} (H : Holds a b h m c)
include H

theorem iblk_a (t : Fin cfg0.N) : iblk m c 0 t = (E2 fun r k => a (1024 * t.val + r) k : S1024x2048.Idx → EReal) := by
  obtain ⟨e0, e1, e2, e3⟩ := idx t
  funext y
  show V m c main_arg0 (((cfg0.win 0).blk t).view.emb y) = _
  rw [H.a]
  refine at2 a ?_ ?_
  · blk_simp [e0]; omega
  · blk_simp [e0]
theorem iblk_b (t : Fin cfg0.N) : iblk m c 1 t = (E2 b : S2048x1024.Idx → EReal) := by
  obtain ⟨e0, e1, e2, e3⟩ := idx t
  funext y
  show V m c main_arg1 (((cfg0.win 1).blk t).view.emb y) = _
  rw [H.b]
  refine at2 b ?_ ?_
  · blk_simp [e1]
  · blk_simp [e1]
theorem iblk_h (t : Fin cfg0.N) : iblk m c 2 t = (E2 fun r q => h (1024 * t.val + r) q : S1024x1024.Idx → EReal) := by
  obtain ⟨e0, e1, e2, e3⟩ := idx t
  funext y
  show V m c main_arg2 (((cfg0.win 2).blk t).view.emb y) = _
  rw [H.h]
  refine at2 h ?_ ?_
  · blk_simp [e2]; omega
  · blk_simp [e2]

theorem left (t : Fin cfg0.N) : outsAt0 (F := Ideal) m c t = (E2 fun r q => plus a b h (1024 * t.val + r) q : S1024x1024.Idx → EReal) := by
  unfold outsAt0
  rw [out_A, iblk_a H, iblk_b H, iblk_h H, pay_out]
  rfl

theorem final : (dats m 0 c).arrAt 3 cfg0.N = (E2 (plus a b h) : S16384x1024.Idx → EReal) := by
  refine (dats m 0 c).arrAt_eq_of_covers 3 _ (by decide +kernel) fun t hf y => ?_
  obtain ⟨e0, e1, e2, e3⟩ := idx t
  blk_simp
  rw [after0_3, left H]
  refine at2 (plus a b h) ?_ ?_
  · blk_simp [e3]; omega
  · blk_simp [e3]
end Run

theorem ref : val_main_v3 (F := Ideal) (E2 a) (E2 b) (E2 h) = (E2 (plus a b h) : S16384x1024.Idx → EReal) := by
  funext i
  rw [val_main_v3_apply, val_main_v2_apply]
  exact congrArg (h (i 0).val (i 1).val + ·) (fin_sum rfl fun k => a (i 0).val k * b k (i 1).val)

theorem eq_ref {a b h m c} (H : Holds a b h m c) : (dats m 0 c).arrAt 3 cfg0.N = val_main_v3 (F := Ideal) (V m c main_arg0) (V m c main_arg1) (V m c main_arg2) := by
  rw [final H, H.a, H.b, H.h, ref]

theorem algebraic : Cert.algebraic_Kernel10Ideal_Reference10Ideal (hKernel10Ideal := Cert.Kernel10Ideal.Gen.facts) (hReference10Ideal := Cert.Reference10Ideal.Gen.facts) := by
  intro m g m' g' _ ha
  refine ⟨fun c => (dats m 0 c).arrAt 3 cfg0.N, Cert.Kernel10Ideal.Value.run_blocks m g, θ_run_mono (Cert.Reference10Ideal.Value.run m' g') fun r h c => ?_⟩
  obtain ⟨a0, a1, a2⟩ := ha c
  obtain ⟨r0, r1⟩ := h c
  refine ⟨(r0.trans (val_main_v3_eq _ _ _)).trans ?_, r1⟩
  rw [a0, a1, a2]
  exact (eq_ref (⟨nat2_eq _, nat2_eq _, nat2_eq _⟩ : Holds (nat2 (V m c main_arg0)) (nat2 (V m c main_arg1)) (nat2 (V m c main_arg2)) m c)).symm

end Cert.Mm.OutProj
-- ==== Proof.Mm.ProjDt.lean ====
/- The projection to the dt columns: one grid point multiplies a block of rows with all of the transposed weights, and stores the sum as it is. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Mm.Base
public import Idealize.ShloMosaic.Lib.Pipeline.ValueKit

@[expose] public section

noncomputable section

namespace Cert.Mm.ProjDt

open Idealize.ShloMosaic Idealize.ShloMosaic.TcCoe Idealize.SL.Sem Cert.Kernel11Ideal Cert.Kernel11Ideal.Gen Cert.Reference11Ideal.Read Cert.Norm
open scoped BigOperators

variable (a b : ℕ → ℕ → EReal) (m : (ℓ : Loc nD τ sig) → Buf (Elt Ideal) ℓ) (c : Dev nD)

/-- What a point stores: the product added to a zero. -/
theorem pay_out : k0_pay2 (F := Ideal) (k0_pay1 (F := Ideal)) (E2 a) (E2 b) = (E2 (nt 1024 a b) : S1024x512.Idx → EReal) := by
  have h0 : k0_pay1 (F := Ideal) = (E2 fun _ _ => 0 : S1024x512.Idx → EReal) :=
    (shapeCast_self (s := S1024x512) _ _).trans (funext fun _ => Ideal.ofBits_zero_f32)
  rw [h0]
  refine (shapeCast_self (s := S1024x512) _ _).trans ?_
  refine (congrArg (addf (F := Ideal) (φ := .f32) (E2 fun _ _ => 0 : S1024x512.Idx → EReal)) (mm_nt_E2 (M := 1024) (K := 1024) (N := 512) none a b)).trans ?_
  exact funext fun i => zero_add _

theorem out_A (i : grid0.Coords) (arg3 : Memref sig .tc .vmem S1024x1024 .bf16) (harg3 : arg3.IsWhole) (arg4 : Memref sig .tc .vmem S512x1024 .bf16) (harg4 : arg4.IsWhole)
    (arg5 : Memref sig .tc .vmem S1024x512 .f32) (harg5 : arg5.IsWhole) (arg6 : Memref sig .tc .vmem S1024x512 .f32) (harg6 : arg6.IsWhole) (hc0 : cond0_0 i) (hc1 : cond0_1 i)
    (x0 : Vec Ideal S1024x1024 .bf16) (x1 : Vec Ideal S512x1024 .bf16) :
    out0_A_2 c i arg3 harg3 arg4 harg4 arg5 harg5 arg6 harg6 hc0 hc1 x0 x1 = k0_pay2 (F := Ideal) (k0_pay1 (F := Ideal)) x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero hz, View.readCov_cons_unit_lit' (S := S1024x512) _ _ _ _ _ (by decide) (by decide)]
  simp only [View.readCov_unit_zero (S := S1024x512) _ hz, View.readAt_eq_ld, harg3.read_unread, harg4.read_unread, View.ld_unit_zero (S := S1024x1024) hz, View.ld_unit_zero (S := S512x1024) hz]

/-- The operands' entries. -/
structure Holds : Prop where
  a : V m c main_arg0 = (E2 a : S16384x1024.Idx → EReal)
  b : V m c main_arg1 = (E2 b : S512x1024.Idx → EReal)

theorem idx : ∀ t : Fin cfg0.N, win0_0.index t = ![t.val, 0] ∧ win0_1.index t = ![0, 0] ∧ win0_2.index t = ![t.val, 0] :=
  (by decide +kernel : ∀ t : Fin grid0.N, _)

theorem final {a b m c} (H : Holds a b m c) : (dats m 0 c).arrAt 2 cfg0.N = (E2 (nt 1024 a b) : S16384x512.Idx → EReal) := by
  refine (dats m 0 c).arrAt_eq_of_covers 2 _ (by decide +kernel) fun t hf y => ?_
  obtain ⟨e0, e1, e2⟩ := idx t
  have rows : iblk m c 0 t = (E2 fun r k => a (1024 * t.val + r) k : S1024x1024.Idx → EReal) := by
    funext y
    show V m c main_arg0 (((cfg0.win 0).blk t).view.emb y) = _
    rw [H.a]
    refine at2 a ?_ ?_
    · blk_simp [e0]; omega
    · blk_simp [e0]
  have weights : iblk m c 1 t = (E2 b : S512x1024.Idx → EReal) := by
    funext y
    show V m c main_arg1 (((cfg0.win 1).blk t).view.emb y) = _
    rw [H.b]
    refine at2 b ?_ ?_
    · blk_simp [e1]
    · blk_simp [e1]
  blk_simp
  rw [after0_2]
  unfold outsAt0
  rw [out_A, rows, weights, pay_out]
  refine at2 (nt 1024 a b) ?_ ?_
  · blk_simp [e2]; omega
  · blk_simp [e2]

theorem ref : val_main_v3 (F := Ideal) (E2 a) (E2 b) = (E2 (nt 1024 a b) : S16384x512.Idx → EReal) := by
  funext i
  rw [val_main_v3_apply]
  refine Eq.trans (Finset.sum_congr rfl fun k _ => ?_) (fin_sum rfl fun k => a (i 0).val k * b (i 1).val k)
  rw [val_main_v2_apply]
  rfl

theorem eq_ref {a b m c} (H : Holds a b m c) : (dats m 0 c).arrAt 2 cfg0.N = val_main_v3 (F := Ideal) (V m c main_arg0) (V m c main_arg1) := by
  rw [final H, H.a, H.b, ref]

theorem algebraic : Cert.algebraic_Kernel11Ideal_Reference11Ideal (hKernel11Ideal := Cert.Kernel11Ideal.Gen.facts) (hReference11Ideal := Cert.Reference11Ideal.Gen.facts) := by
  intro m g m' g' _ ha
  refine ⟨fun c => (dats m 0 c).arrAt 2 cfg0.N, Cert.Kernel11Ideal.Value.run_blocks m g, θ_run_mono (Cert.Reference11Ideal.Value.run m' g') fun r h c => ?_⟩
  obtain ⟨a0, a1⟩ := ha c
  obtain ⟨r0, r1⟩ := h c
  refine ⟨(r0.trans (val_main_v3_eq _ _)).trans ?_, r1⟩
  rw [a0, a1]
  exact (eq_ref (⟨nat2_eq _, nat2_eq _⟩ : Holds (nat2 (V m c main_arg0)) (nat2 (V m c main_arg1)) m c)).symm

end Cert.Mm.ProjDt
-- ==== Proof.Mm.DwDt.lean ====
/- The gradient of the dt columns' weights: one block, which is the whole result, sums the product over eight blocks of rows. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Mm.Base
public import Idealize.ShloMosaic.Lib.Pipeline.ValueKit

@[expose] public section

noncomputable section

namespace Cert.Mm.DwDt

open Idealize.ShloMosaic Idealize.ShloMosaic.TcCoe Idealize.SL.Sem Cert.Kernel12Ideal Cert.Kernel12Ideal.Gen Cert.Reference12Ideal.Read Cert.Norm
open scoped BigOperators

variable (z a b : ℕ → ℕ → EReal) (m : (ℓ : Loc nD τ sig) → Buf (Elt Ideal) ℓ) (c : Dev nD)

/-- What a point adds to the block; rounding the first operand is the identity. -/
theorem pay_step : k0_pay2 (F := Ideal) (E2 z) (E2 a) (E2 b) = (E2 fun r q => z r q + tn 2048 a b r q : S512x1024.Idx → EReal) := by
  unfold k0_pay2
  refine congrArg₂ (addf (F := Ideal) (φ := .f32) (s := S512x1024)) (shapeCast_self (s := S512x1024) _ _) ?_
  refine mm_tn_E2 (M := 512) (K := 2048) (N := 1024) none a b dot_S2048x512_S2048x1024_S512x1024_0_0_1_1_n_n rfl rfl
    (fun i q => DotDims.lhsIdx_val_of_single _ rfl i q) (fun i q => ?_) (fun i q => DotDims.rhsIdx_val_of_single _ rfl i q) (fun i q => ?_)
  · unfold DotDims.lhsIdx
    rw [dif_neg (by decide), dif_pos (by decide)]
    rfl
  · unfold DotDims.rhsIdx
    rw [dif_neg (by decide), dif_pos (by decide)]
    rfl
theorem pay_first : k0_pay2 (F := Ideal) (k0_pay1 (F := Ideal)) (E2 a) (E2 b) = (E2 (tn 2048 a b) : S512x1024.Idx → EReal) := by
  have h0 : k0_pay1 (F := Ideal) = (E2 fun _ _ => 0 : S512x1024.Idx → EReal) := funext fun _ => Ideal.ofBits_zero_f32
  rw [h0, pay_step]
  exact congrArg E2 (funext fun r => funext fun q => zero_add _)

/-- The operands' entries. -/
structure Holds : Prop where
  a : V m c main_arg0 = (E2 a : S16384x512.Idx → EReal)
  b : V m c main_arg1 = (E2 b : S16384x1024.Idx → EReal)

theorem idx : ∀ t : Fin cfg0.N, win0_0.index t = ![t.val % 8, 0] ∧ win0_1.index t = ![t.val % 8, 0] ∧ win0_2.index t = ![0, 0] :=
  (by decide +kernel : ∀ t : Fin grid0.N, _)

section Run
variable {a b m c} (H : Holds a b m c)
include H

theorem blocks (t : Fin cfg0.N) : iblk m c 0 t = (E2 fun k r => a (2048 * (t.val % 8) + k) (0 + r) : S2048x512.Idx → EReal)
    ∧ iblk m c 1 t = (E2 fun k q => b (2048 * (t.val % 8) + k) (0 + q) : S2048x1024.Idx → EReal) := by
  obtain ⟨e0, e1, e2⟩ := idx t
  constructor
  · funext y
    show V m c main_arg0 (((cfg0.win 0).blk t).view.emb y) = _
    rw [H.a]
    refine at2 a ?_ ?_
    · blk_simp [e0]; omega
    · blk_simp [e0]
  · funext y
    show V m c main_arg1 (((cfg0.win 1).blk t).view.emb y) = _
    rw [H.b]
    refine at2 b ?_ ?_
    · blk_simp [e1]; omega
    · blk_simp [e1]

theorem left : ∀ n h, outsAt0 (F := Ideal) m c n h = (E2 fun r q => tn (2048 * (n % 8 + 1)) a b (0 + r) (0 + q) : S512x1024.Idx → EReal) := by
  refine runs (P := 8) (fun n h => outsAt0 (F := Ideal) m c n h) a b (fun _ => 0) (fun _ => 0) (fun n h => ⟨rfl, rfl⟩) (fun n h h0 => ?_) (fun n h h' h0 z e => ?_)
  · refine (outsAt0_A m c ⟨n, h⟩ h0).trans ((Value.out_A_2_eq ..).trans ?_)
    rw [(blocks H _).1, (blocks H _).2]
    exact pay_first _ _
  · refine (outsAt0_B m c ⟨n + 1, h⟩ h0).trans ((Value.out_B_2_eq ..).trans ?_)
    refine (congrArg (fun o => k0_pay2 (F := Ideal) o (iblk m c 0 ⟨n + 1, h⟩) (iblk m c 1 ⟨n + 1, h⟩)) e).trans ?_
    rw [(blocks H _).1, (blocks H _).2]
    exact pay_step _ _ _

theorem final : (dats m 0 c).arrAt 2 cfg0.N = (E2 (tn 16384 a b) : S512x1024.Idx → EReal) := by
  refine (dats m 0 c).arrAt_eq_of_covers 2 _ (by decide +kernel) fun t hf y => ?_
  have ht : t.val % 8 = 7 := (flush0_2 t).mp hf
  obtain ⟨e0, e1, e2⟩ := idx t
  blk_simp
  rw [after0_2, left H, ht]
  refine at2 (tn 16384 a b) ?_ ?_
  · blk_simp [e2]
  · blk_simp [e2]
end Run

theorem ref : val_main_v3 (F := Ideal) (E2 a) (E2 b) = (E2 (tn 16384 a b) : S512x1024.Idx → EReal) := by
  funext i
  rw [val_main_v3_apply, val_main_v2_apply, val_main_v1_apply]
  exact fin_sum rfl fun k => a k (i 0).val * b k (i 1).val

theorem eq_ref {a b m c} (H : Holds a b m c) : (dats m 0 c).arrAt 2 cfg0.N = val_main_v3 (F := Ideal) (V m c main_arg0) (V m c main_arg1) := by
  rw [final H, H.a, H.b, ref]

theorem algebraic : Cert.algebraic_Kernel12Ideal_Reference12Ideal (hKernel12Ideal := Cert.Kernel12Ideal.Gen.facts) (hReference12Ideal := Cert.Reference12Ideal.Gen.facts) := by
  intro m g m' g' _ ha
  refine ⟨fun c => (dats m 0 c).arrAt 2 cfg0.N, Cert.Kernel12Ideal.Value.run_blocks m g, θ_run_mono (Cert.Reference12Ideal.Value.run m' g') fun r h c => ?_⟩
  obtain ⟨a0, a1⟩ := ha c
  obtain ⟨r0, r1⟩ := h c
  refine ⟨(r0.trans (val_main_v3_eq _ _)).trans ?_, r1⟩
  rw [a0, a1]
  exact (eq_ref (⟨nat2_eq _, nat2_eq _⟩ : Holds (nat2 (V m c main_arg0)) (nat2 (V m c main_arg1)) m c)).symm

end Cert.Mm.DwDt
-- ==== Proof.Norm.Fwd.lean ====
/- The norm before a layer as a call of its own: one grid point normalises a block of rows. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Norm.Base
public import Idealize.ShloMosaic.Lib.Pipeline.ValueKit

@[expose] public section

noncomputable section

namespace Cert.Norm.Fwd

open Idealize.ShloMosaic Idealize.ShloMosaic.TcCoe Idealize.SL.Sem Cert.Kernel13Ideal Cert.Kernel13Ideal.Gen Cert.Reference13Ideal.Read
open scoped BigOperators

variable (x w : ℕ → ℕ → EReal) (m : (ℓ : Loc nD τ sig) → Buf (Elt Ideal) ℓ) (c : Dev nD)

/-- The normalised and scaled rows. -/
def normed (r q : ℕ) : EReal := x r q * rstd x r * w 0 q

theorem pay : k0_pay1 (F := Ideal) (E2 x) (E2 w) = (E2 (normed x w) : S512x1024.Idx → EReal) := by
  have mean : shapeCast S512x1 (multiReduction (F := Ideal) .add [1] S512 (E2 fun r k => x r k * x r k : S512x1024.Idx → EReal) 0x00000000#32 reduces_S512x1024_S512 (.inl rfl) rfl) shapeCasts_S512_S512x1
      = E2 fun r _ => ∑ k ∈ Finset.range 1024, x r k * x r k :=
    (congrArg (fun v : FVec Ideal S512 .f32 => shapeCast S512x1 v shapeCasts_S512_S512x1) (sum_row (a := 512) (b := 1024) (φ := .f32) _ _ _ (.inl rfl) rfl)).trans (cast_col_E1 (a := 512) _ _)
  refine (congrArg (fun v : FVec Ideal S512x1 .f32 => truncf .bf16 (mulf (mulf (E2 x : S512x1024.Idx → EReal)
    (broadcastTo S512x1024 (rsqrt (addf (divf v (broadcast S512x1 (Scalar.ofBits .f32 0x44800000#32))) (broadcast S512x1 (Scalar.ofBits .f32 0x3727C5AC#32)))) broadcasts_S512x1_S512x1024))
    (broadcastTo S512x1024 (E2 w : S1x1024.Idx → EReal) broadcasts_S1x1024_S512x1024)) bitsLt_bf16_f32) mean).trans ?_
  exact congrArg₂ (fun u v : FVec Ideal S512x1024 .f32 => mulf (mulf (E2 x : S512x1024.Idx → EReal) u) v)
    (col_E2 (a := 512) (b' := 1024) (fun r _ => rstd x r) (by decide) _) (row_E2 (b := 1024) (a' := 512) w (by decide) _)

/-- The operands' entries. -/
structure Holds : Prop where
  x : V m c main_arg0 = (E2 x : S16384x1024.Idx → EReal)
  w : V m c main_arg1 = (E2 w : S1x1024.Idx → EReal)

theorem idx : ∀ t : Fin cfg0.N, win0_0.index t = ![t.val, 0] ∧ win0_1.index t = ![0, 0] ∧ win0_2.index t = ![t.val, 0] :=
  (by decide +kernel : ∀ t : Fin grid0.N, _)

theorem final {x w m c} (H : Holds x w m c) : (dats m 0 c).arrAt 2 cfg0.N = (E2 (normed x w) : S16384x1024.Idx → EReal) := by
  refine (dats m 0 c).arrAt_eq_of_covers 2 _ (by decide +kernel) fun t hf y => ?_
  obtain ⟨e0, e1, e2⟩ := idx t
  have rows : iblk m c 0 t = (E2 fun r k => x (512 * t.val + r) k : S512x1024.Idx → EReal) := by
    funext y
    show V m c main_arg0 (((cfg0.win 0).blk t).view.emb y) = _
    rw [H.x]
    refine at2 x ?_ ?_
    · blk_simp [e0]; omega
    · blk_simp [e0]
  have scale : iblk m c 1 t = (E2 w : S1x1024.Idx → EReal) := by
    funext y
    show V m c main_arg1 (((cfg0.win 1).blk t).view.emb y) = _
    rw [H.w]
    refine at2 w ?_ ?_
    · blk_simp [e1]
    · blk_simp [e1]
  have stored : out0_2 (F := Ideal) (iblk m c 0 t) (iblk m c 1 t) = (E2 fun r q => normed x w (512 * t.val + r) q : S512x1024.Idx → EReal) := by
    unfold out0_2
    have hz : (![0, 0] : Fin 2 → Nat) = fun _ => 0 := funext fun a => by fin_cases a <;> rfl
    rw [View.canon_unit_zero hz, rows, scale, View.ld_unit_zero (S := S512x1024) hz, View.ld_unit_zero (S := S1x1024) hz]
    refine (pay _ w).trans (congrArg E2 (funext fun r => funext fun q => ?_))
    unfold normed
    rw [rstd_shift]
  blk_simp
  rw [after0_2, stored]
  refine at2 (normed x w) ?_ ?_
  · blk_simp [e2]; omega
  · blk_simp [e2]

theorem sums : val_main_v1 (F := Ideal) (E2 x) = (E1 fun r => ∑ k ∈ Finset.range 1024, x r k * x r k : (⟨1, ![16384]⟩ : Shape).Idx → EReal) := by
  funext i
  rw [val_main_v1_apply]
  exact zero_sum 1024 fun k => x (i 0).val k * x (i 0).val k
theorem ref : val_main_v12 (F := Ideal) (E2 x) (E2 w) = (E2 (normed x w) : S16384x1024.Idx → EReal) := by
  funext i
  rw [val_main_v12_apply, val_main_v11_apply, val_main_v9_apply, val_main_v10_apply, val_main_v8_apply, val_main_v7_apply, val_main_v6_apply, val_main_v4_apply,
    val_main_v2_apply, sums, val_main_v3_apply, val_main_v5_apply]
  rfl

theorem eq_ref {x w m c} (H : Holds x w m c) : (dats m 0 c).arrAt 2 cfg0.N = val_main_v12 (F := Ideal) (V m c main_arg0) (V m c main_arg1) := by
  rw [final H, H.x, H.w, ref]

theorem algebraic : Cert.algebraic_Kernel13Ideal_Reference13Ideal (hKernel13Ideal := Cert.Kernel13Ideal.Gen.facts) (hReference13Ideal := Cert.Reference13Ideal.Gen.facts) := by
  intro m g m' g' _ ha
  refine ⟨fun c => (dats m 0 c).arrAt 2 cfg0.N, Cert.Kernel13Ideal.Value.run_blocks m g, θ_run_mono (Cert.Reference13Ideal.Value.run m' g') fun r h c => ?_⟩
  obtain ⟨a0, a1⟩ := ha c
  obtain ⟨r0, r1⟩ := h c
  refine ⟨(r0.trans (val_main_v12_eq _ _)).trans ?_, r1⟩
  rw [a0, a1]
  exact (eq_ref (⟨nat2_eq _, nat2_eq _⟩ : Holds (nat2 (V m c main_arg0)) (nat2 (V m c main_arg1)) m c)).symm

end Cert.Norm.Fwd
-- ==== Proof.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Scan.Final
public import proofs.«01_k».proof.Proof.Gen.Kernel2.Frame
public import proofs.«01_k».proof.Proof.Gen.Kernel2Ideal.Value
public import proofs.«01_k».proof.Proof.Norm.ConfFinal
public import proofs.«01_k».proof.Proof.Norm.SsdFinal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Defs
public import proofs.«01_k».proof.Proof.Mm.DwIn
public import proofs.«01_k».proof.Proof.Mm.DwZx
public import proofs.«01_k».proof.Proof.Mm.DwOut
public import proofs.«01_k».proof.Proof.Mm.DOut
public import proofs.«01_k».proof.Proof.Mm.Proj
public import proofs.«01_k».proof.Proof.Mm.ProjZx
public import proofs.«01_k».proof.Proof.Mm.OutProj
public import proofs.«01_k».proof.Proof.Mm.ProjDt
public import proofs.«01_k».proof.Proof.Mm.DwDt
public import proofs.«01_k».proof.Proof.Norm.Fwd
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := fun m ρ _ =>
  θ_run_mono (Cert.ReferenceIdeal.Value.run m ρ) fun r h =>
    ⟨fun c => ⟨(h c).2.2.2.2.1, (h c).2.2.2.2.2.1, (h c).2.2.2.2.2.2.1, (h c).2.2.2.2.2.2.2.1, (h c).2.2.2.2.2.2.2.2⟩,
      sem_eq_zero_of_no_sems rfl r.2⟩

theorem frame_reference2 : Cert.quiescent_Reference2Ideal (hReference2Ideal := Cert.Reference2Ideal.Gen.facts) := fun m ρ _ =>
  θ_run_mono (Cert.Reference2Ideal.Value.run m ρ) fun r h => ⟨fun c => (h c).2.2, sem_eq_zero_of_no_sems rfl r.2⟩

theorem frame_reference3 : Cert.quiescent_Reference3Ideal (hReference3Ideal := Cert.Reference3Ideal.Gen.facts) := fun m ρ _ =>
  θ_run_mono (Cert.Reference3Ideal.Value.run m ρ) fun r h => ⟨fun c => (h c).2.2, sem_eq_zero_of_no_sems rfl r.2⟩

theorem frame_reference4 : Cert.quiescent_Reference4Ideal (hReference4Ideal := Cert.Reference4Ideal.Gen.facts) := fun m ρ _ =>
  θ_run_mono (Cert.Reference4Ideal.Value.run m ρ) fun r h => ⟨fun c => (h c).2, sem_eq_zero_of_no_sems rfl r.2⟩

theorem frame_reference5 : Cert.quiescent_Reference5Ideal (hReference5Ideal := Cert.Reference5Ideal.Gen.facts) := fun m ρ _ =>
  θ_run_mono (Cert.Reference5Ideal.Value.run m ρ) fun r h => ⟨fun c => (h c).2, sem_eq_zero_of_no_sems rfl r.2⟩

theorem frame_reference6 : Cert.quiescent_Reference6Ideal (hReference6Ideal := Cert.Reference6Ideal.Gen.facts) := fun m ρ _ =>
  θ_run_mono (Cert.Reference6Ideal.Value.run m ρ) fun r h => ⟨fun c => (h c).2, sem_eq_zero_of_no_sems rfl r.2⟩

theorem frame_reference7 : Cert.quiescent_Reference7Ideal (hReference7Ideal := Cert.Reference7Ideal.Gen.facts) := fun m ρ _ =>
  θ_run_mono (Cert.Reference7Ideal.Value.run m ρ) fun r h => ⟨fun c => (h c).2, sem_eq_zero_of_no_sems rfl r.2⟩

theorem frame_reference8 : Cert.quiescent_Reference8Ideal (hReference8Ideal := Cert.Reference8Ideal.Gen.facts) := fun m ρ _ =>
  θ_run_mono (Cert.Reference8Ideal.Value.run m ρ) fun r h => ⟨fun c => (h c).2, sem_eq_zero_of_no_sems rfl r.2⟩

theorem frame_reference9 : Cert.quiescent_Reference9Ideal (hReference9Ideal := Cert.Reference9Ideal.Gen.facts) := fun m ρ _ =>
  θ_run_mono (Cert.Reference9Ideal.Value.run m ρ) fun r h => ⟨fun c => (h c).2, sem_eq_zero_of_no_sems rfl r.2⟩

theorem frame_reference10 : Cert.quiescent_Reference10Ideal (hReference10Ideal := Cert.Reference10Ideal.Gen.facts) := fun m ρ _ =>
  θ_run_mono (Cert.Reference10Ideal.Value.run m ρ) fun r h => ⟨fun c => (h c).2, sem_eq_zero_of_no_sems rfl r.2⟩

theorem frame_reference11 : Cert.quiescent_Reference11Ideal (hReference11Ideal := Cert.Reference11Ideal.Gen.facts) := fun m ρ _ =>
  θ_run_mono (Cert.Reference11Ideal.Value.run m ρ) fun r h => ⟨fun c => (h c).2, sem_eq_zero_of_no_sems rfl r.2⟩

theorem frame_reference12 : Cert.quiescent_Reference12Ideal (hReference12Ideal := Cert.Reference12Ideal.Gen.facts) := fun m ρ _ =>
  θ_run_mono (Cert.Reference12Ideal.Value.run m ρ) fun r h => ⟨fun c => (h c).2, sem_eq_zero_of_no_sems rfl r.2⟩

theorem frame_reference13 : Cert.quiescent_Reference13Ideal (hReference13Ideal := Cert.Reference13Ideal.Gen.facts) := fun m ρ _ =>
  θ_run_mono (Cert.Reference13Ideal.Value.run m ρ) fun r h => ⟨fun c => (h c).2, sem_eq_zero_of_no_sems rfl r.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Scan.Finite.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  trivial, Cert.Scan.algebraic, trivial, Cert.Norm.Conf.algebraic, trivial, Cert.Norm.Ssd.algebraic,
  trivial, Cert.Mm.DwIn.algebraic, trivial, Cert.Mm.DwZx.algebraic, trivial, Cert.Mm.DwOut.algebraic, trivial, Cert.Mm.DOut.algebraic,
  trivial, Cert.Mm.Proj.algebraic, trivial, Cert.Mm.ProjZx.algebraic, trivial, Cert.Mm.OutProj.algebraic,
  trivial, Cert.Mm.ProjDt.algebraic, trivial, Cert.Mm.DwDt.algebraic, trivial, Cert.Norm.Fwd.algebraic⟩

end Cert.Proof

end
